-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v20)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v20) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v183) = v0 c
          ∧ r.2.mem ((c.tc : Thread Cert.Reference4Ideal.nD Cert.Reference4Ideal.τ).loc Cert.Reference4Ideal.main_v184) = v1 c
          ∧ r.2.mem ((c.tc : Thread Cert.Reference4Ideal.nD Cert.Reference4Ideal.τ).loc Cert.Reference4Ideal.main_v185) = v2 c
          ∧ r.2.mem ((c.tc : Thread Cert.Reference4Ideal.nD Cert.Reference4Ideal.τ).loc Cert.Reference4Ideal.main_v182) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.bf16_pair.BufferStatement Cert.Kernel5Ideal.S33792x2x1024 Cert.Kernel5Ideal.S33792x1x1024
  ∧ IdealRules.bf16_pair.BufferStatement Cert.Kernel5Ideal.S256x2x1024 Cert.Kernel5Ideal.S256x1x1024
  ∧ IdealRules.bf16_pair.Statement Cert.Kernel5Ideal.S256x2x1024 Cert.Kernel5Ideal.S256x1x1024
  ∧ IdealRules.bf16_pack.Statement Cert.Kernel5Ideal.S256x1024

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v27_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8448x1536 : Shape := ⟨3, ![4, 8448, 1536]⟩
abbrev S4x8448x512 : Shape := ⟨3, ![4, 8448, 512]⟩
abbrev S_ : Shape := ⟨0, ![]⟩

class Facts : Prop where
  bcast_S_S4x8448x1536 : S_.BroadcastsInDim S4x8448x1536 (![] : Fin 0 → Fin S4x8448x1536.rank)
  reducesTo_S4x8448x1536_S_d0_1_2 : S4x8448x1536.ReducesTo [0, 1, 2] S_
  h_S_ : 0 < S_.numel
  bcast_S_S4x8448x512 : S_.BroadcastsInDim S4x8448x512 (![] : Fin 0 → Fin S4x8448x512.rank)
  reducesTo_S4x8448x512_S_d0_1_2 : S4x8448x512.ReducesTo [0, 1, 2] S_

variable [Facts]

def fn {F : FTy → Type} [FloatOps F] (main_arg0 : FVec F S4x8448x1536 .f32) (main_arg1 : FVec F S4x8448x512 .f32) (main_arg2 : FVec F S4x8448x512 .f32) : IVec S_ 1 :=
  let main_v0 : FVec F S4x8448x1536 .f32 := Host.absf main_arg0
  let main_cst : FVec F S_ .f32 := constant S_ .f32 0x7F800000#32
  let main_v1 : FVec F S4x8448x1536 .f32 := broadcastInDim S4x8448x1536 ![] bcast_S_S4x8448x1536 main_cst
  let main_v2 : IVec S4x8448x1536 1 := cmpf .olt main_v0 main_v1
  let main_c : IVec S_ 1 := constantI S_ 1 1#1
  let main_v3 : IVec S_ 1 := (fun x v => Host.reduce IntOp.andi x v reducesTo_S4x8448x1536_S_d0_1_2 h_S_) main_v2 main_c
  let main_v4 : FVec F S4x8448x512 .f32 := Host.absf main_arg1
  let main_cst_0 : FVec F S_ .f32 := constant S_ .f32 0x7F800000#32
  let main_v5 : FVec F S4x8448x512 .f32 := broadcastInDim S4x8448x512 ![] bcast_S_S4x8448x512 main_cst_0
  let main_v6 : IVec S4x8448x512 1 := cmpf .olt main_v4 main_v5
  let main_c_1 : IVec S_ 1 := constantI S_ 1 1#1
  let main_v7 : IVec S_ 1 := (fun x v => Host.reduce IntOp.andi x v reducesTo_S4x8448x512_S_d0_1_2 h_S_) main_v6 main_c_1
  let main_v8 : IVec S_ 1 := andi main_v3 main_v7
  let main_v9 : FVec F S4x8448x512 .f32 := Host.absf main_arg2
  let main_cst_2 : FVec F S_ .f32 := constant S_ .f32 0x7F800000#32
  let main_v10 : FVec F S4x8448x512 .f32 := broadcastInDim S4x8448x512 ![] bcast_S_S4x8448x512 main_cst_2
  let main_v11 : IVec S4x8448x512 1 := cmpf .olt main_v9 main_v10
  let main_c_3 : IVec S_ 1 := constantI S_ 1 1#1
  let main_v12 : IVec S_ 1 := (fun x v => Host.reduce IntOp.andi x v reducesTo_S4x8448x512_S_d0_1_2 h_S_) main_v11 main_c_3
  let main_v13 : IVec S_ 1 := andi main_v8 main_v12
  main_v13
-- ==== Kernel.lean ====
abbrev S4x8448x1536 : Shape := ⟨3, ![4, 8448, 1536]⟩
abbrev S4x8448x512 : Shape := ⟨3, ![4, 8448, 512]⟩
abbrev S_ : Shape := ⟨0, ![]⟩
abbrev S4x8448x4x128 : Shape := ⟨4, ![4, 8448, 4, 128]⟩
abbrev S4x4x128x8448 : Shape := ⟨4, ![4, 4, 128, 8448]⟩
abbrev S1x256x384 : Shape := ⟨3, ![1, 256, 384]⟩
abbrev S1x1x128x8448 : Shape := ⟨4, ![1, 1, 128, 8448]⟩
abbrev S1x8448x128 : Shape := ⟨3, ![1, 8448, 128]⟩
abbrev S768x1024 : Shape := ⟨2, ![768, 1024]⟩
abbrev S768x128 : Shape := ⟨2, ![768, 128]⟩
abbrev S768x256 : Shape := ⟨2, ![768, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S1x1x128x1024 : Shape := ⟨4, ![1, 1, 128, 1024]⟩
abbrev S128x1024 : Shape := ⟨2, ![128, 1024]⟩
abbrev S1x1024x128 : Shape := ⟨3, ![1, 1024, 128]⟩
abbrev S1024x128 : Shape := ⟨2, ![1024, 128]⟩
abbrev S1024x256 : Shape := ⟨2, ![1024, 256]⟩
abbrev S256x1024 : Shape := ⟨2, ![256, 1024]⟩

abbrev nBuf : Space → Nat
  | .hbm => 16
  | .vmem => 12
  | .smem => 0
  | _ => 0

abbrev bufTy : (tb : Table) → Fin (tcTables nBuf tb) → BufTy
  | .hbm, ⟨0, _⟩ => ⟨S4x8448x1536, .f32⟩
  | .hbm, ⟨1, _⟩ => ⟨S4x8448x512, .f32⟩
  | .hbm, ⟨2, _⟩ => ⟨S4x8448x512, .f32⟩
  | .hbm, ⟨3, _⟩ => ⟨S_, .f32⟩
  | .hbm, ⟨4, _⟩ => ⟨S4x8448x1536, .f32⟩
  | .hbm, ⟨5, _⟩ => ⟨S4x8448x1536, .f32⟩
  | .hbm, ⟨6, _⟩ => ⟨S_, .f32⟩
  | .hbm, ⟨7, _⟩ => ⟨S_, .f32⟩
  | .hbm, ⟨8, _⟩ => ⟨S4x8448x1536, .f32⟩
  | .hbm, ⟨9, _⟩ => ⟨S4x8448x1536, .f32⟩
  | .hbm, ⟨10, _⟩ => ⟨S4x8448x1536, .bf16⟩
  | .hbm, ⟨11, _⟩ => ⟨S4x8448x4x128, .f32⟩
  | .hbm, ⟨12, _⟩ => ⟨S4x4x128x8448, .f32⟩
  | .hbm, ⟨13, _⟩ => ⟨S4x4x128x8448, .bf16⟩
  | .hbm, ⟨14, _⟩ => ⟨S4x8448x512, .bf16⟩
  | .hbm, ⟨15, _⟩ => ⟨S4x8448x1536, .bf16⟩
  | .local _ .vmem, ⟨0, _⟩ => ⟨S1x256x384, .bf16⟩
  | .local _ .vmem, ⟨1, _⟩ => ⟨S1x256x384, .bf16⟩
  | .local _ .vmem, ⟨2, _⟩ => ⟨S1x1x128x8448, .bf16⟩
  | .local _ .vmem, ⟨3, _⟩ => ⟨S1x1x128x8448, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x256x384, .bf16⟩
  | .local _ .vmem, ⟨7, _⟩ => ⟨S1x256x384, .bf16⟩
  | .local _ .vmem, ⟨8, _⟩ => ⟨S768x1024, .f32⟩
  | .local _ .vmem, ⟨9, _⟩ => ⟨S768x1024, .f32⟩
  | .local _ .vmem, ⟨10, _⟩ => ⟨S768x128, .f32⟩
  | .local _ .vmem, ⟨11, _⟩ => ⟨S768x256, .f32⟩
  | _, _ => ⟨S4x8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 33], ![false, false, false]⟩

def k0_cond1 (i : grid0.Coords) : BitVec 1 :=
  let arg2 : BitVec 32 := BitVec.ofNat 32 (i 2).val
  let c0_i32 : BitVec 32 := 0#32
  let v133 : BitVec 1 := Scalar.cmpi .sgt arg2 c0_i32
  let v134 : BitVec 32 := Scalar.extui v133
  let c0_i32_61 : BitVec 32 := 0#32
  let v135 : BitVec 1 := Scalar.cmpi .ne v134 c0_i32_61
  v135

@[reducible] def k0_t1_loop : Scf.Loop 32 :=
  let c0_i32_90 : BitVec 32 := 0#32
  let c3_i32 : BitVec 32 := 3#32
  let v163 : BitVec 32 := Scalar.addi c0_i32_90 c3_i32
  let c1_i32 : BitVec 32 := 1#32
  ⟨c0_i32_90, v163, c1_i32⟩
def k0_mult1 (k0_t1 : Fin k0_t1_loop.trips) : BitVec 32 :=
  let c256_i32 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let c1_i32_201 : BitVec 32 := 1#32
  let v587 : BitVec 32 := Scalar.addi v586 c1_i32_201
  let c1024_i32 : BitVec 32 := 1024#32
  let v588 : BitVec 32 := Scalar.muli v587 c1024_i32
  let v589 : BitVec 32 := Scalar.addi c256_i32 v588
  v589
def k0_off1 (k0_t1 : Fin k0_t1_loop.trips) (c1_i32_201 : BitVec 32) : Fin 4 → Nat :=
  let c0_202 : Index := 0#32
  let c0_203 : Index := 0#32
  let c0_204 : Index := 0#32
  let c256_i32 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let v587 : BitVec 32 := Scalar.addi v586 c1_i32_201
  let c1024_i32 : BitVec 32 := 1024#32
  let v588 : BitVec 32 := Scalar.muli v587 c1024_i32
  let v589 : BitVec 32 := Scalar.addi c256_i32 v588
  let v590 : BitVec 32 := v589
  let v591 : Index := Scalar.indexCast v590
  ![0, 0, 0, v591.toNat]
def k0_mult2 (k0_t1 : Fin k0_t1_loop.trips) : BitVec 32 :=
  let c256_i32_209 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let c1024_i32_208 : BitVec 32 := 1024#32
  let v598 : BitVec 32 := Scalar.muli v586 c1024_i32_208
  let v599 : BitVec 32 := Scalar.addi c256_i32_209 v598
  v599
def k0_off2 (k0_t1 : Fin k0_t1_loop.trips) : Fin 3 → Nat :=
  let c0_210 : Index := 0#32
  let c256_i32_209 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let c1024_i32_208 : BitVec 32 := 1024#32
  let v598 : BitVec 32 := Scalar.muli v586 c1024_i32_208
  let v599 : BitVec 32 := Scalar.addi c256_i32_209 v598
  let v600 : BitVec 32 := v599
  let v601 : Index := Scalar.indexCast v600
  let c0_211 : Index := 0#32
  ![0, v601.toNat, 0]
def k0_mult3 (k0_t1 : Fin k0_t1_loop.trips) : BitVec 32 :=
  let c256_i32_263 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let c2_i32_261 : BitVec 32 := 2#32
  let v807 : BitVec 32 := Scalar.addi v586 c2_i32_261
  let c1024_i32_262 : BitVec 32 := 1024#32
  let v808 : BitVec 32 := Scalar.muli v807 c1024_i32_262
  let v809 : BitVec 32 := Scalar.addi c256_i32_263 v808
  v809
def k0_mult4 (k0_t1 : Fin k0_t1_loop.trips) : BitVec 32 :=
  let c256_i32_272 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let c1_i32_270 : BitVec 32 := 1#32
  let v818 : BitVec 32 := Scalar.addi v586 c1_i32_270
  let c1024_i32_271 : BitVec 32 := 1024#32
  let v819 : BitVec 32 := Scalar.muli v818 c1024_i32_271
  let v820 : BitVec 32 := Scalar.addi c256_i32_272 v819
  v820
def k0_off3 (k0_t1 : Fin k0_t1_loop.trips) : Fin 3 → Nat :=
  let c0_273 : Index := 0#32
  let c256_i32_272 : BitVec 32 := 256#32
  let c2_i32 : BitVec 32 := 2#32
  let c0_i32_90 : BitVec 32 := 0#32
  let c1_i32 : BitVec 32 := 1#32
  let arg11 : BitVec 32 := Scf.iv c0_i32_90 c1_i32 k0_t1
  let v586 : BitVec 32 := Scalar.muli c2_i32 arg11
  let c1_i32_270 : BitVec 32 := 1#32
  let v818 : BitVec 32 := Scalar.addi v586 c1_i32_270
  let c1024_i32_271 : BitVec 32 := 1024#32
  let v819 : BitVec 32 := Scalar.muli v818 c1024_i32_271
  let v820 : BitVec 32 := Scalar.addi c256_i32_272 v819
  let v821 : BitVec 32 := v820
  let v822 : Index := Scalar.indexCast v821
  let c0_274 : Index := 0#32
  ![0, v822.toNat, 0]
def k0_mult5 : BitVec 32 :=
  let c7424_i32 : BitVec 32 := 7424#32
  c7424_i32
def k0_mult6 : BitVec 32 :=
  let c6400_i32 : BitVec 32 := 6400#32
  c6400_i32
def k0_mult7 : BitVec 32 :=
  let c7424_i32_149 : BitVec 32 := 7424#32
  c7424_i32_149
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x8448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8448x1536 : Shape := ⟨3, ![4, 8448, 1536]⟩
abbrev S4x8448x512 : Shape := ⟨3, ![4, 8448, 512]⟩
abbrev S4x8448x12x128 : Shape := ⟨4, ![4, 8448, 12, 128]⟩
abbrev S4x8448x4x128 : Shape := ⟨4, ![4, 8448, 4, 128]⟩
abbrev S4x256x12x128 : Shape := ⟨4, ![4, 256, 12, 128]⟩
abbrev S4x256x4x128 : Shape := ⟨4, ![4, 256, 4, 128]⟩
abbrev S4x256x4x3x128 : Shape := ⟨5, ![4, 256, 4, 3, 128]⟩
abbrev S4x4x256x256x3 : Shape := ⟨5, ![4, 4, 256, 256, 3]⟩
abbrev S4x4x3x256x256 : Shape := ⟨5, ![4, 4, 3, 256, 256]⟩
abbrev S_ : Shape := ⟨0, ![]⟩
abbrev S4x4x3x256 : Shape := ⟨4, ![4, 4, 3, 256]⟩
abbrev S4x4x3x256x1 : Shape := ⟨5, ![4, 4, 3, 256, 1]⟩
abbrev S4x4x128x3x256 : Shape := ⟨5, ![4, 4, 128, 3, 256]⟩
abbrev S4x256x1536 : Shape := ⟨3, ![4, 256, 1536]⟩
abbrev S4x8192x12x128 : Shape := ⟨4, ![4, 8192, 12, 128]⟩
abbrev S4x8192x4x3x128 : Shape := ⟨5, ![4, 8192, 4, 3, 128]⟩
abbrev S4x4x8448x8192x3 : Shape := ⟨5, ![4, 4, 8448, 8192, 3]⟩
abbrev S4x4x3x8192x8448 : Shape := ⟨5, ![4, 4, 3, 8192, 8448]⟩
abbrev S4x4x3x8192 : Shape := ⟨4, ![4, 4, 3, 8192]⟩
abbrev S4x4x3x8192x1 : Shape := ⟨5, ![4, 4, 3, 8192, 1]⟩
abbrev S4x4x128x3x8192 : Shape := ⟨5, ![4, 4, 128, 3, 8192]⟩
abbrev S4x8192x1536 : Shape := ⟨3, ![4, 8192, 1536]⟩

abbrev nBuf : Space → Nat
  | .hbm => 58
  | .vmem => 0
  | .smem => 0
  | _ => 0

abbrev bufTy : (tb : Table) → Fin (tcTables nBuf tb) → BufTy
  | .hbm, ⟨0, _⟩ => ⟨S4x8448x1536, .f32⟩
  | .hbm, ⟨1, _⟩ => ⟨S4x8448x512, .f32⟩
  | .hbm, ⟨2, _⟩ => ⟨S4x8448x512, .f32⟩
  | .hbm, ⟨3, _⟩ => ⟨S4x8448x12x128, .f32⟩
  | .hbm, ⟨4, _⟩ => ⟨S4x8448x4x128, .f32⟩
  | .hbm, ⟨5, _⟩ => ⟨S4x8448x4x128, .f32⟩
  | .hbm, ⟨6, _⟩ => ⟨S4x256x12x128, .f32⟩
  | .hbm, ⟨7, _⟩ => ⟨S4x256x4x128, .f32⟩
  | .hbm, ⟨8, _⟩ => ⟨S4x256x4x128, .f32⟩
  | .hbm, ⟨9, _⟩ => ⟨S4x256x4x3x128, .f32⟩
  | .hbm, ⟨10, _⟩ => ⟨S4x4x256x256x3, .f32⟩
  | .hbm, ⟨11, _⟩ => ⟨S4x4x3x256x256, .f32⟩
  | .hbm, ⟨12, _⟩ => ⟨S_, .f32⟩
  | .hbm, ⟨13, _⟩ => ⟨S4x4x3x256x256, .f32⟩
  | .hbm, ⟨14, _⟩ => ⟨S4x4x3x256x256, .f32⟩
  | .hbm, ⟨15, _⟩ => ⟨S_, .f32⟩
  | .hbm, ⟨16, _⟩ => ⟨S4x4x3x256, .f32⟩
  | .hbm, ⟨17, _⟩ => ⟨S_, .f32⟩
  | .hbm, ⟨18, _⟩ => ⟨S4x4x3x256, .f32⟩
  | .hbm, ⟨19, _⟩ => ⟨S4x4x3x256, .f32⟩
  | .hbm, ⟨20, _⟩ => ⟨S4x4x3x256x1, .f32⟩
  | .hbm, ⟨21, _⟩ => ⟨S4x4x3x256x256, .f32⟩
  | .hbm, ⟨22, _⟩ => ⟨S4x4x3x256x256, .f32⟩
  | .hbm, ⟨23, _⟩ => ⟨S4x4x3x256x256, .f32⟩
  | .hbm, ⟨24, _⟩ => ⟨S_, .f32⟩
  | .hbm, ⟨25, _⟩ => ⟨S4x4x3x256, .f32⟩
  | .hbm, ⟨26, _⟩ => ⟨S4x4x3x256x1, .f32⟩
  | .hbm, ⟨27, _⟩ => ⟨S4x4x3x256x256, .f32⟩
  | .hbm, ⟨28, _⟩ => ⟨S4x4x3x256x256, .f32⟩
  | .hbm, ⟨29, _⟩ => ⟨S4x4x128x3x256, .f32⟩
  | .hbm, ⟨30, _⟩ => ⟨S4x256x4x3x128, .f32⟩
  | .hbm, ⟨31, _⟩ => ⟨S4x256x1536, .f32⟩
  | .hbm, ⟨32, _⟩ => ⟨S4x8192x12x128, .f32⟩
  | .hbm, ⟨33, _⟩ => ⟨S4x8192x4x3x128, .f32⟩
  | .hbm, ⟨34, _⟩ => ⟨S4x4x8448x8192x3, .f32⟩
  | .hbm, ⟨35, _⟩ => ⟨S4x4x3x8192x8448, .f32⟩
  | .hbm, ⟨36, _⟩ => ⟨S_, .f32⟩
  | .hbm, ⟨37, _⟩ => ⟨S4x4x3x8192x8448, .f32⟩
  | .hbm, ⟨38, _⟩ => ⟨S4x4x3x8192x8448, .f32⟩
  | .hbm, ⟨39, _⟩ => ⟨S_, .f32⟩
  | .hbm, ⟨40, _⟩ => ⟨S4x4x3x8192, .f32⟩
  | .hbm, ⟨41, _⟩ => ⟨S_, .f32⟩
  | .hbm, ⟨42, _⟩ => ⟨S4x4x3x8192, .f32⟩
  | .hbm, ⟨43, _⟩ => ⟨S4x4x3x8192, .f32⟩
  | .hbm, ⟨44, _⟩ => ⟨S4x4x3x8192x1, .f32⟩
  | .hbm, ⟨45, _⟩ => ⟨S4x4x3x8192x8448, .f32⟩
  | .hbm, ⟨46, _⟩ => ⟨S4x4x3x8192x8448, .f32⟩
  | .hbm, ⟨47, _⟩ => ⟨S4x4x3x8192x8448, .f32⟩
  | .hbm, ⟨48, _⟩ => ⟨S_, .f32⟩
  | .hbm, ⟨49, _⟩ => ⟨S4x4x3x8192, .f32⟩
  | .hbm, ⟨50, _⟩ => ⟨S4x4x3x8192x1, .f32⟩
  | .hbm, ⟨51, _⟩ => ⟨S4x4x3x8192x8448, .f32⟩
  | .hbm, ⟨52, _⟩ => ⟨S4x4x3x8192x8448, .f32⟩
  | .hbm, ⟨53, _⟩ => ⟨S4x4x128x3x8192, .f32⟩
  | .hbm, ⟨54, _⟩ => ⟨S4x8192x4x3x128, .f32⟩
  | .hbm, ⟨55, _⟩ => ⟨S4x8192x1536, .f32⟩
  | .hbm, ⟨56, _⟩ => ⟨S4x8448x1536, .f32⟩
  | .hbm, ⟨57, _⟩ => ⟨S4x8448x1536, .bf16⟩
  | _, _ => ⟨S4x8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Kernel2.lean ====
abbrev S32 : Shape := ⟨1, ![32]⟩
abbrev S151552x2048 : Shape := ⟨2, ![151552, 2048]⟩
abbrev S32x2048x1792 : Shape := ⟨3, ![32, 2048, 1792]⟩
abbrev S32x1792 : Shape := ⟨2, ![32, 1792]⟩
abbrev S32x896x2048 : Shape := ⟨3, ![32, 896, 2048]⟩
abbrev S32x2048 : Shape := ⟨2, ![32, 2048]⟩
abbrev S296 : Shape := ⟨1, ![296]⟩
abbrev S_ : Shape := ⟨0, ![]⟩
abbrev S1x32 : Shape := ⟨2, ![1, 32]⟩
abbrev S296x1 : Shape := ⟨2, ![296, 1]⟩
abbrev S296x32 : Shape := ⟨2, ![296, 32]⟩
abbrev S32x2048x896 : Shape := ⟨3, ![32, 2048, 896]⟩
abbrev S32x896 : Shape := ⟨2, ![32, 896]⟩
abbrev S1 : Shape := ⟨1, ![1]⟩
abbrev S128x512x1792 : Shape := ⟨3, ![128, 512, 1792]⟩
abbrev S32x1x1792 : Shape := ⟨3, ![32, 1, 1792]⟩
abbrev S32x1x2048 : Shape := ⟨3, ![32, 1, 2048]⟩
abbrev S512x2048 : Shape := ⟨2, ![512, 2048]⟩
abbrev S4x512x1792 : Shape := ⟨3, ![4, 512, 1792]⟩
abbrev S1x1x1792 : Shape := ⟨3, ![1, 1, 1792]⟩
abbrev S1x896x2048 : Shape := ⟨3, ![1, 896, 2048]⟩
abbrev S1x1x2048 : Shape := ⟨3, ![1, 1, 2048]⟩
abbrev S256x2048 : Shape := ⟨2, ![256, 2048]⟩
abbrev S1x1792 : Shape := ⟨2, ![1, 1792]⟩
abbrev S256x512 : Shape := ⟨2, ![256, 512]⟩
abbrev S1x512x1792 : Shape := ⟨3, ![1, 512, 1792]⟩
abbrev S512x1792 : Shape := ⟨2, ![512, 1792]⟩
abbrev S256x1792 : Shape := ⟨2, ![256, 1792]⟩
abbrev S256x896 : Shape := ⟨2, ![256, 896]⟩
abbrev S896x2048 : Shape := ⟨2, ![896, 2048]⟩
abbrev S1x2048 : Shape := ⟨2, ![1, 2048]⟩

abbrev nBuf : Space → Nat
  | .hbm => 51
  | .vmem => 12
  | .smem => 2
  | _ => 0

abbrev bufTy : (tb : Table) → Fin (tcTables nBuf tb) → BufTy
  | .hbm, ⟨0, _⟩ => ⟨S32, .i32⟩
  | .hbm, ⟨1, _⟩ => ⟨S151552x2048, .f32⟩
  | .hbm, ⟨2, _⟩ => ⟨S32x2048x1792, .f32⟩
  | .hbm, ⟨3, _⟩ => ⟨S32x1792, .f32⟩
  | .hbm, ⟨4, _⟩ => ⟨S32x896x2048, .f32⟩
  | .hbm, ⟨5, _⟩ => ⟨S32x2048, .f32⟩
  | .hbm, ⟨6, _⟩ => ⟨S296, .i32⟩
  | .hbm, ⟨7, _⟩ => ⟨S_, .i32⟩
  | .hbm, ⟨8, _⟩ => ⟨S296, .i32⟩
  | .hbm, ⟨9, _⟩ => ⟨S296, .i32⟩
  | .hbm, ⟨10, _⟩ => ⟨S1x32, .i32⟩
  | .hbm, ⟨11, _⟩ => ⟨S296x1, .i32⟩
  | .hbm, ⟨12, _⟩ => ⟨S296x32, .i32⟩
  | .hbm, ⟨13, _⟩ => ⟨S296x32, .i32⟩
  | .hbm, ⟨14, _⟩ => ⟨S296x32, .i1⟩
  | .hbm, ⟨15, _⟩ => ⟨S296x32, .i32⟩
  | .hbm, ⟨16, _⟩ => ⟨S_, .i32⟩
  | .hbm, ⟨17, _⟩ => ⟨S296, .i32⟩
  | .hbm, ⟨18, _⟩ => ⟨S_, .i32⟩
  | .hbm, ⟨19, _⟩ => ⟨S296, .i32⟩
  | .hbm, ⟨20, _⟩ => ⟨S32x2048x896, .f32⟩
  | .hbm, ⟨21, _⟩ => ⟨S32x2048x896, .f32⟩
  | .hbm, ⟨22, _⟩ => ⟨S32x2048x1792, .f32⟩
  | .hbm, ⟨23, _⟩ => ⟨S32x2048x1792, .bf16⟩
  | .hbm, ⟨24, _⟩ => ⟨S32x896, .f32⟩
  | .hbm, ⟨25, _⟩ => ⟨S32x896, .f32⟩
  | .hbm, ⟨26, _⟩ => ⟨S32x1792, .f32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S1, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S1, .i1⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S151552x2048, .bf16⟩
  | .hbm, ⟨46, _⟩ => ⟨S128x512x1792, .bf16⟩
  | .hbm, ⟨47, _⟩ => ⟨S32x1x1792, .f32⟩
  | .hbm, ⟨48, _⟩ => ⟨S32x896x2048, .bf16⟩
  | .hbm, ⟨49, _⟩ => ⟨S32x1x2048, .f32⟩
  | .hbm, ⟨50, _⟩ => ⟨S151552x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x1792, .bf16⟩
  | .local _ .vmem, ⟨3, _⟩ => ⟨S4x512x1792, .bf16⟩
  | .local _ .vmem, ⟨4, _⟩ => ⟨S1x1x1792, .f32⟩
  | .local _ .vmem, ⟨5, _⟩ => ⟨S1x1x1792, .f32⟩
  | .local _ .vmem, ⟨6, _⟩ => ⟨S1x896x2048, .bf16⟩
  | .local _ .vmem, ⟨7, _⟩ => ⟨S1x896x2048, .bf16⟩
  | .local _ .vmem, ⟨8, _⟩ => ⟨S1x1x2048, .f32⟩
  | .local _ .vmem, ⟨9, _⟩ => ⟨S1x1x2048, .f32⟩
  | .local _ .vmem, ⟨10, _⟩ => ⟨S512x2048, .bf16⟩
  | .local _ .vmem, ⟨11, _⟩ => ⟨S512x2048, .bf16⟩
  | .local _ .smem, ⟨0, _⟩ => ⟨S296, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v11 : Ref sig .tc := ⟨.smem, 0, rfl⟩
abbrev main_v20 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_v11.idx, main_v20.idx], fun | 0 => main_v11.names | 1 => main_v20.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x896x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S151552x2048 : Shape := ⟨2, ![151552, 2048]⟩
abbrev S32x2048x1792 : Shape := ⟨3, ![32, 2048, 1792]⟩
abbrev S32x1792 : Shape := ⟨2, ![32, 1792]⟩
abbrev S32x896x2048 : Shape := ⟨3, ![32, 896, 2048]⟩
abbrev S32x2048 : Shape := ⟨2, ![32, 2048]⟩
abbrev S296 : Shape := ⟨1, ![296]⟩
abbrev S_ : Shape := ⟨0, ![]⟩
abbrev S1x32 : Shape := ⟨2, ![1, 32]⟩
abbrev S296x1 : Shape := ⟨2, ![296, 1]⟩
abbrev S296x32 : Shape := ⟨2, ![296, 32]⟩
abbrev S1 : Shape := ⟨1, ![1]⟩
abbrev S296x512x2048 : Shape := ⟨3, ![296, 512, 2048]⟩
abbrev S296x2048x1792 : Shape := ⟨3, ![296, 2048, 1792]⟩
abbrev S296x1792 : Shape := ⟨2, ![296, 1792]⟩
abbrev S296x896x2048 : Shape := ⟨3, ![296, 896, 2048]⟩
abbrev S296x2048 : Shape := ⟨2, ![296, 2048]⟩
abbrev S296x512x1792 : Shape := ⟨3, ![296, 512, 1792]⟩
abbrev S296x1x1792 : Shape := ⟨3, ![296, 1, 1792]⟩
abbrev S296x512x896 : Shape := ⟨3, ![296, 512, 896]⟩
abbrev S296x1x2048 : Shape := ⟨3, ![296, 1, 2048]⟩
abbrev S296x1x1 : Shape := ⟨3, ![296, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S32, .i32⟩
  | .hbm, ⟨1, _⟩ => ⟨S151552x2048, .f32⟩
  | .hbm, ⟨2, _⟩ => ⟨S32x2048x1792, .f32⟩
  | .hbm, ⟨3, _⟩ => ⟨S32x1792, .f32⟩
  | .hbm, ⟨4, _⟩ => ⟨S32x896x2048, .f32⟩
  | .hbm, ⟨5, _⟩ => ⟨S32x2048, .f32⟩
  | .hbm, ⟨6, _⟩ => ⟨S296, .i32⟩
  | .hbm, ⟨7, _⟩ => ⟨S_, .i32⟩
  | .hbm, ⟨8, _⟩ => ⟨S296, .i32⟩
  | .hbm, ⟨9, _⟩ => ⟨S296, .i32⟩
  | .hbm, ⟨10, _⟩ => ⟨S1x32, .i32⟩
  | .hbm, ⟨11, _⟩ => ⟨S296x1, .i32⟩
  | .hbm, ⟨12, _⟩ => ⟨S296x32, .i32⟩
  | .hbm, ⟨13, _⟩ => ⟨S296x32, .i32⟩
  | .hbm, ⟨14, _⟩ => ⟨S296x32, .i1⟩
  | .hbm, ⟨15, _⟩ => ⟨S296x32, .i32⟩
  | .hbm, ⟨16, _⟩ => ⟨S_, .i32⟩
  | .hbm, ⟨17, _⟩ => ⟨S296, .i32⟩
  | .hbm, ⟨18, _⟩ => ⟨S_, .i32⟩
  | .hbm, ⟨19, _⟩ => ⟨S296, .i32⟩
  | .hbm, ⟨20, _⟩ => ⟨S296, .i32⟩
  | .hbm, ⟨21, _⟩ => ⟨S296, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S1, .i1⟩
  | .hbm, ⟨31, _⟩ => ⟨S1, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S1, .i1⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S296, .i32⟩
  | .hbm, ⟨42, _⟩ => ⟨S296, .i1⟩
  | .hbm, ⟨43, _⟩ => ⟨S296x512x2048, .f32⟩
  | .hbm, ⟨44, _⟩ => ⟨S_, .i32⟩
  | .hbm, ⟨45, _⟩ => ⟨S296, .i32⟩
  | .hbm, ⟨46, _⟩ => ⟨S296, .i1⟩
  | .hbm, ⟨47, _⟩ => ⟨S_, .i32⟩
  | .hbm, ⟨48, _⟩ => ⟨S296, .i32⟩
  | .hbm, ⟨49, _⟩ => ⟨S296, .i32⟩
  | .hbm, ⟨50, _⟩ => ⟨S296, .i32⟩
  | .hbm, ⟨51, _⟩ => ⟨S296x1, .i32⟩
  | .hbm, ⟨52, _⟩ => ⟨S296x2048x1792, .f32⟩
  | .hbm, ⟨53, _⟩ => ⟨S_, .i32⟩
  | .hbm, ⟨54, _⟩ => ⟨S296, .i32⟩
  | .hbm, ⟨55, _⟩ => ⟨S296, .i1⟩
  | .hbm, ⟨56, _⟩ => ⟨S_, .i32⟩
  | .hbm, ⟨57, _⟩ => ⟨S296, .i32⟩
  | .hbm, ⟨58, _⟩ => ⟨S296, .i32⟩
  | .hbm, ⟨59, _⟩ => ⟨S296, .i32⟩
  | .hbm, ⟨60, _⟩ => ⟨S296x1, .i32⟩
  | .hbm, ⟨61, _⟩ => ⟨S296x1792, .f32⟩
  | .hbm, ⟨62, _⟩ => ⟨S_, .i32⟩
  | .hbm, ⟨63, _⟩ => ⟨S296, .i32⟩
  | .hbm, ⟨64, _⟩ => ⟨S296, .i1⟩
  | .hbm, ⟨65, _⟩ => ⟨S_, .i32⟩
  | .hbm, ⟨66, _⟩ => ⟨S296, .i32⟩
  | .hbm, ⟨67, _⟩ => ⟨S296, .i32⟩
  | .hbm, ⟨68, _⟩ => ⟨S296, .i32⟩
  | .hbm, ⟨69, _⟩ => ⟨S296x1, .i32⟩
  | .hbm, ⟨70, _⟩ => ⟨S296x896x2048, .f32⟩
  | .hbm, ⟨71, _⟩ => ⟨S_, .i32⟩
  | .hbm, ⟨72, _⟩ => ⟨S296, .i32⟩
  | .hbm, ⟨73, _⟩ => ⟨S296, .i1⟩
  | .hbm, ⟨74, _⟩ => ⟨S_, .i32⟩
  | .hbm, ⟨75, _⟩ => ⟨S296, .i32⟩
  | .hbm, ⟨76, _⟩ => ⟨S296, .i32⟩
  | .hbm, ⟨77, _⟩ => ⟨S296, .i32⟩
  | .hbm, ⟨78, _⟩ => ⟨S296x1, .i32⟩
  | .hbm, ⟨79, _⟩ => ⟨S296x2048, .f32⟩
  | .hbm, ⟨80, _⟩ => ⟨S296x512x1792, .f32⟩
  | .hbm, ⟨81, _⟩ => ⟨S296x1x1792, .f32⟩
  | .hbm, ⟨82, _⟩ => ⟨S296x512x1792, .f32⟩
  | .hbm, ⟨83, _⟩ => ⟨S296x512x1792, .f32⟩
  | .hbm, ⟨84, _⟩ => ⟨S296x512x896, .f32⟩
  | .hbm, ⟨85, _⟩ => ⟨S296x512x896, .f32⟩
  | .hbm, ⟨86, _⟩ => ⟨S_, .f32⟩
  | .hbm, ⟨87, _⟩ => ⟨S296x512x896, .f32⟩
  | .hbm, ⟨88, _⟩ => ⟨S296x512x896, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S296x512x896, .f32⟩
  | .hbm, ⟨93, _⟩ => ⟨S296x512x896, .f32⟩
  | .hbm, ⟨94, _⟩ => ⟨S_, .f32⟩
  | .hbm, ⟨95, _⟩ => ⟨S296x512x896, .f32⟩
  | .hbm, ⟨96, _⟩ => ⟨S296x512x896, .f32⟩
  | .hbm, ⟨97, _⟩ => ⟨S_, .f32⟩
  | .hbm, ⟨98, _⟩ => ⟨S296x512x896, .f32⟩
  | .hbm, ⟨99, _⟩ => ⟨S296x512x896, .f32⟩
  | .hbm, ⟨100, _⟩ => ⟨S_, .f32⟩
  | .hbm, ⟨101, _⟩ => ⟨S296x512x896, .f32⟩
  | .hbm, ⟨102, _⟩ => ⟨S296x512x896, .f32⟩
  | .hbm, ⟨103, _⟩ => ⟨S296x512x896, .f32⟩
  | .hbm, ⟨104, _⟩ => ⟨S296x512x896, .f32⟩
  | .hbm, ⟨105, _⟩ => ⟨S_, .f32⟩
  | .hbm, ⟨106, _⟩ => ⟨S296x512x896, .f32⟩
  | .hbm, ⟨107, _⟩ => ⟨S296x512x896, .f32⟩
  | .hbm, ⟨108, _⟩ => ⟨S_, .f32⟩
  | .hbm, ⟨109, _⟩ => ⟨S296x512x896, .f32⟩
  | .hbm, ⟨110, _⟩ => ⟨S296x512x896, .f32⟩
  | .hbm, ⟨111, _⟩ => ⟨S296x512x896, .f32⟩
  | .hbm, ⟨112, _⟩ => ⟨S296x512x896, .f32⟩
  | .hbm, ⟨113, _⟩ => ⟨S296x512x2048, .f32⟩
  | .hbm, ⟨114, _⟩ => ⟨S296x1x2048, .f32⟩
  | .hbm, ⟨115, _⟩ => ⟨S296x512x2048, .f32⟩
  | .hbm, ⟨116, _⟩ => ⟨S296x512x2048, .f32⟩
  | .hbm, ⟨117, _⟩ => ⟨S296x1x1, .i1⟩
  | .hbm, ⟨118, _⟩ => ⟨S_, .i32⟩
  | .hbm, ⟨119, _⟩ => ⟨S_, .f32⟩
  | .hbm, ⟨120, _⟩ => ⟨S296x512x2048, .i1⟩
  | .hbm, ⟨121, _⟩ => ⟨S296x512x2048, .f32⟩
  | .hbm, ⟨122, _⟩ => ⟨S296x512x2048, .f32⟩
  | .hbm, ⟨123, _⟩ => ⟨S151552x2048, .f32⟩
  | .hbm, ⟨124, _⟩ => ⟨S151552x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_9 : Ref sig .tc := ⟨.hbm, 71, rfl⟩
abbrev main_v39 : Ref sig .tc := ⟨.hbm, 72, rfl⟩
abbrev main_v40 : Ref sig .tc := ⟨.hbm, 73, rfl⟩
abbrev main_c_10 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v54 : Ref sig .tc := ⟨.hbm, 96, rfl⟩
abbrev main_cst_13 : Ref sig .tc := ⟨.hbm, 97, rfl⟩
abbrev main_v55 : Ref sig .tc := ⟨.hbm, 98, rfl⟩
abbrev main_v56 : Ref sig .tc := ⟨.hbm, 99, rfl⟩
abbrev main_cst_14 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_15 : Ref sig .tc := ⟨.hbm, 105, rfl⟩
abbrev main_v61 : Ref sig .tc := ⟨.hbm, 106, rfl⟩
abbrev main_v62 : Ref sig .tc := ⟨.hbm, 107, rfl⟩
abbrev main_cst_16 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_17 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩

abbrev nD : Nat := 1
abbrev τ : Topo := Topo.v7x

variable {F : FTy → Type} [FloatOps F]
-- ==== Kernel3.lean ====
abbrev S4x8448x2048 : Shape := ⟨3, ![4, 8448, 2048]⟩
abbrev S8x6x2048 : Shape := ⟨3, ![8, 6, 2048]⟩
abbrev S2048x5376 : Shape := ⟨2, ![2048, 5376]⟩
abbrev S1x6x2048 : Shape := ⟨3, ![1, 6, 2048]⟩
abbrev S6x2048 : Shape := ⟨2, ![6, 2048]⟩
abbrev S4x6x2048 : Shape := ⟨3, ![4, 6, 2048]⟩
abbrev S1x4x6x2048 : Shape := ⟨4, ![1, 4, 6, 2048]⟩
abbrev S2x4x6x2048 : Shape := ⟨4, ![2, 4, 6, 2048]⟩
abbrev S2048x2688 : Shape := ⟨2, ![2048, 2688]⟩
abbrev S4x8448x2688 : Shape := ⟨3, ![4, 8448, 2688]⟩
abbrev S1x256x2048 : Shape := ⟨3, ![1, 256, 2048]⟩
abbrev S1x1x6x2048 : Shape := ⟨4, ![1, 1, 6, 2048]⟩
abbrev S1x256x2688 : Shape := ⟨3, ![1, 256, 2688]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x256 : Shape := ⟨2, ![256, 256]⟩
abbrev S256x2688 : Shape := ⟨2, ![256, 2688]⟩
abbrev S4x33x32x8x2688 : Shape := ⟨5, ![4, 33, 32, 8, 2688]⟩
abbrev S4x33x8x32x2688 : Shape := ⟨5, ![4, 33, 8, 32, 2688]⟩

abbrev nBuf : Space → Nat
  | .hbm => 17
  | .vmem => 7
  | .smem => 0
  | _ => 0

abbrev bufTy : (tb : Table) → Fin (tcTables nBuf tb) → BufTy
  | .hbm, ⟨0, _⟩ => ⟨S4x8448x2048, .f32⟩
  | .hbm, ⟨1, _⟩ => ⟨S8x6x2048, .f32⟩
  | .hbm, ⟨2, _⟩ => ⟨S2048x5376, .f32⟩
  | .hbm, ⟨3, _⟩ => ⟨S1x6x2048, .f32⟩
  | .hbm, ⟨4, _⟩ => ⟨S6x2048, .f32⟩
  | .hbm, ⟨5, _⟩ => ⟨S1x6x2048, .f32⟩
  | .hbm, ⟨6, _⟩ => ⟨S4x6x2048, .f32⟩
  | .hbm, ⟨7, _⟩ => ⟨S4x6x2048, .f32⟩
  | .hbm, ⟨8, _⟩ => ⟨S1x4x6x2048, .f32⟩
  | .hbm, ⟨9, _⟩ => ⟨S1x4x6x2048, .f32⟩
  | .hbm, ⟨10, _⟩ => ⟨S2x4x6x2048, .f32⟩
  | .hbm, ⟨11, _⟩ => ⟨S2048x5376, .bf16⟩
  | .hbm, ⟨12, _⟩ => ⟨S2048x2688, .bf16⟩
  | .hbm, ⟨13, _⟩ => ⟨S4x8448x2688, .f32⟩
  | .hbm, ⟨14, _⟩ => ⟨S4x33x32x8x2688, .f32⟩
  | .hbm, ⟨15, _⟩ => ⟨S4x33x8x32x2688, .f32⟩
  | .hbm, ⟨16, _⟩ => ⟨S4x8448x2688, .f32⟩
  | .local _ .vmem, ⟨0, _⟩ => ⟨S1x256x2048, .f32⟩
  | .local _ .vmem, ⟨1, _⟩ => ⟨S1x256x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S2048x2688, .bf16⟩
  | .local _ .vmem, ⟨5, _⟩ => ⟨S1x256x2688, .f32⟩
  | .local _ .vmem, ⟨6, _⟩ => ⟨S1x256x2688, .f32⟩
  | _, _ => ⟨S4x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x8448x2048 : Shape := ⟨3, ![4, 8448, 2048]⟩
abbrev S8x6x2048 : Shape := ⟨3, ![8, 6, 2048]⟩
abbrev S2048x5376 : Shape := ⟨2, ![2048, 5376]⟩
abbrev S4x256x2048 : Shape := ⟨3, ![4, 256, 2048]⟩
abbrev S4x8192x2048 : Shape := ⟨3, ![4, 8192, 2048]⟩
abbrev S4x1x2048 : Shape := ⟨3, ![4, 1, 2048]⟩
abbrev S4x2048 : Shape := ⟨2, ![4, 2048]⟩
abbrev S1x1x2048 : Shape := ⟨3, ![1, 1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S4x256 : Shape := ⟨2, ![4, 256]⟩
abbrev S4x256x1 : Shape := ⟨3, ![4, 256, 1]⟩
abbrev S4x8192x5376 : Shape := ⟨3, ![4, 8192, 5376]⟩
abbrev S4x8192x2688 : Shape := ⟨3, ![4, 8192, 2688]⟩
abbrev S4x256x5376 : Shape := ⟨3, ![4, 256, 5376]⟩
abbrev S4x256x2688 : Shape := ⟨3, ![4, 256, 2688]⟩
abbrev S4x8448x2688 : Shape := ⟨3, ![4, 8448, 2688]⟩

abbrev nBuf : Space → Nat
  | .hbm => 64
  | .vmem => 0
  | .smem => 0
  | _ => 0

abbrev bufTy : (tb : Table) → Fin (tcTables nBuf tb) → BufTy
  | .hbm, ⟨0, _⟩ => ⟨S4x8448x2048, .f32⟩
  | .hbm, ⟨1, _⟩ => ⟨S8x6x2048, .f32⟩
  | .hbm, ⟨2, _⟩ => ⟨S2048x5376, .f32⟩
  | .hbm, ⟨3, _⟩ => ⟨S4x256x2048, .f32⟩
  | .hbm, ⟨4, _⟩ => ⟨S4x8192x2048, .f32⟩
  | .hbm, ⟨5, _⟩ => ⟨S4x1x2048, .f32⟩
  | .hbm, ⟨6, _⟩ => ⟨S4x2048, .f32⟩
  | .hbm, ⟨7, _⟩ => ⟨S4x1x2048, .f32⟩
  | .hbm, ⟨8, _⟩ => ⟨S4x1x2048, .f32⟩
  | .hbm, ⟨9, _⟩ => ⟨S4x2048, .f32⟩
  | .hbm, ⟨10, _⟩ => ⟨S4x1x2048, .f32⟩
  | .hbm, ⟨11, _⟩ => ⟨S1x1x2048, .f32⟩
  | .hbm, ⟨12, _⟩ => ⟨S2048, .f32⟩
  | .hbm, ⟨13, _⟩ => ⟨S1x1x2048, .f32⟩
  | .hbm, ⟨14, _⟩ => ⟨S2048, .f32⟩
  | .hbm, ⟨15, _⟩ => ⟨S4x8192x2048, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S4x256x2048, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256x1, .f32⟩
  | .hbm, ⟨46, _⟩ => ⟨S4x256x2048, .f32⟩
  | .hbm, ⟨47, _⟩ => ⟨S4x256x2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S1x1x2048, .f32⟩
  | .hbm, ⟨52, _⟩ => ⟨S4x256x2048, .f32⟩
  | .hbm, ⟨53, _⟩ => ⟨S4x256x2048, .f32⟩
  | .hbm, ⟨54, _⟩ => ⟨S1x1x2048, .f32⟩
  | .hbm, ⟨55, _⟩ => ⟨S4x256x2048, .f32⟩
  | .hbm, ⟨56, _⟩ => ⟨S4x256x2048, .f32⟩
  | .hbm, ⟨57, _⟩ => ⟨S4x8192x5376, .f32⟩
  | .hbm, ⟨58, _⟩ => ⟨S4x8192x2688, .f32⟩
  | .hbm, ⟨59, _⟩ => ⟨S4x8192x2688, .f32⟩
  | .hbm, ⟨60, _⟩ => ⟨S4x256x5376, .f32⟩
  | .hbm, ⟨61, _⟩ => ⟨S4x256x2688, .f32⟩
  | .hbm, ⟨62, _⟩ => ⟨S4x256x2688, .f32⟩
  | .hbm, ⟨63, _⟩ => ⟨S4x8448x2688, .f32⟩
  | _, _ => ⟨S4x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Kernel4.lean ====
abbrev S4x8448x2048 : Shape := ⟨3, ![4, 8448, 2048]⟩
abbrev S8x6x2048 : Shape := ⟨3, ![8, 6, 2048]⟩
abbrev S2048x3072 : Shape := ⟨2, ![2048, 3072]⟩
abbrev S128 : Shape := ⟨1, ![128]⟩
abbrev S8192x32 : Shape := ⟨2, ![8192, 32]⟩
abbrev S1x6x2048 : Shape := ⟨3, ![1, 6, 2048]⟩
abbrev S6x2048 : Shape := ⟨2, ![6, 2048]⟩
abbrev S4x6x2048 : Shape := ⟨3, ![4, 6, 2048]⟩
abbrev S1x4x6x2048 : Shape := ⟨4, ![1, 4, 6, 2048]⟩
abbrev S2x4x6x2048 : Shape := ⟨4, ![2, 4, 6, 2048]⟩
abbrev S8192x128 : Shape := ⟨2, ![8192, 128]⟩
abbrev S_ : Shape := ⟨0, ![]⟩
abbrev S256x128 : Shape := ⟨2, ![256, 128]⟩
abbrev S8448x128 : Shape := ⟨2, ![8448, 128]⟩
abbrev S1x128 : Shape := ⟨2, ![1, 128]⟩
abbrev S4x8448x1536 : Shape := ⟨3, ![4, 8448, 1536]⟩
abbrev S4x4x128x8448 : Shape := ⟨4, ![4, 4, 128, 8448]⟩
abbrev S4x8448x512 : Shape := ⟨3, ![4, 8448, 512]⟩
abbrev S1x256x2048 : Shape := ⟨3, ![1, 256, 2048]⟩
abbrev S1x1x6x2048 : Shape := ⟨4, ![1, 1, 6, 2048]⟩
abbrev S1x256x1536 : Shape := ⟨3, ![1, 256, 1536]⟩
abbrev S1x4x128x256 : Shape := ⟨4, ![1, 4, 128, 256]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x3072 : Shape := ⟨2, ![256, 3072]⟩
abbrev S1x256x128 : Shape := ⟨3, ![1, 256, 128]⟩
abbrev S128x256 : Shape := ⟨2, ![128, 256]⟩
abbrev S1x1x128x256 : Shape := ⟨4, ![1, 1, 128, 256]⟩
abbrev S256x512 : Shape := ⟨2, ![256, 512]⟩
abbrev S4x8448x4x128 : Shape := ⟨4, ![4, 8448, 4, 128]⟩

abbrev nBuf : Space → Nat
  | .hbm => 35
  | .vmem => 19
  | .smem => 0
  | _ => 0

abbrev bufTy : (tb : Table) → Fin (tcTables nBuf tb) → BufTy
  | .hbm, ⟨0, _⟩ => ⟨S4x8448x2048, .f32⟩
  | .hbm, ⟨1, _⟩ => ⟨S8x6x2048, .f32⟩
  | .hbm, ⟨2, _⟩ => ⟨S2048x3072, .f32⟩
  | .hbm, ⟨3, _⟩ => ⟨S128, .f32⟩
  | .hbm, ⟨4, _⟩ => ⟨S128, .f32⟩
  | .hbm, ⟨5, _⟩ => ⟨S8192x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S1x6x2048, .f32⟩
  | .hbm, ⟨10, _⟩ => ⟨S6x2048, .f32⟩
  | .hbm, ⟨11, _⟩ => ⟨S1x6x2048, .f32⟩
  | .hbm, ⟨12, _⟩ => ⟨S4x6x2048, .f32⟩
  | .hbm, ⟨13, _⟩ => ⟨S4x6x2048, .f32⟩
  | .hbm, ⟨14, _⟩ => ⟨S1x4x6x2048, .f32⟩
  | .hbm, ⟨15, _⟩ => ⟨S1x4x6x2048, .f32⟩
  | .hbm, ⟨16, _⟩ => ⟨S2x4x6x2048, .f32⟩
  | .hbm, ⟨17, _⟩ => ⟨S8192x128, .f32⟩
  | .hbm, ⟨18, _⟩ => ⟨S8192x32, .f32⟩
  | .hbm, ⟨19, _⟩ => ⟨S8192x32, .f32⟩
  | .hbm, ⟨20, _⟩ => ⟨S8192x128, .f32⟩
  | .hbm, ⟨21, _⟩ => ⟨S_, .f32⟩
  | .hbm, ⟨22, _⟩ => ⟨S256x128, .f32⟩
  | .hbm, ⟨23, _⟩ => ⟨S8448x128, .f32⟩
  | .hbm, ⟨24, _⟩ => ⟨S_, .f32⟩
  | .hbm, ⟨25, _⟩ => ⟨S256x128, .f32⟩
  | .hbm, ⟨26, _⟩ => ⟨S8448x128, .f32⟩
  | .hbm, ⟨27, _⟩ => ⟨S2048x3072, .bf16⟩
  | .hbm, ⟨28, _⟩ => ⟨S1x128, .f32⟩
  | .hbm, ⟨29, _⟩ => ⟨S1x128, .f32⟩
  | .hbm, ⟨30, _⟩ => ⟨S4x8448x1536, .bf16⟩
  | .hbm, ⟨31, _⟩ => ⟨S4x4x128x8448, .bf16⟩
  | .hbm, ⟨32, _⟩ => ⟨S4x8448x512, .bf16⟩
  | .hbm, ⟨33, _⟩ => ⟨S4x8448x512, .f32⟩
  | .hbm, ⟨34, _⟩ => ⟨S4x8448x4x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S2048x3072, .bf16⟩
  | .local _ .vmem, ⟨5, _⟩ => ⟨S1x128, .f32⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x256x1536, .bf16⟩
  | .local _ .vmem, ⟨12, _⟩ => ⟨S1x256x1536, .bf16⟩
  | .local _ .vmem, ⟨13, _⟩ => ⟨S1x4x128x256, .bf16⟩
  | .local _ .vmem, ⟨14, _⟩ => ⟨S1x4x128x256, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .f32⟩
  | .local _ .vmem, ⟨18, _⟩ => ⟨S1x256x512, .f32⟩
  | _, _ => ⟨S4x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S4x8448x2048 : Shape := ⟨3, ![4, 8448, 2048]⟩
abbrev S8x6x2048 : Shape := ⟨3, ![8, 6, 2048]⟩
abbrev S2048x3072 : Shape := ⟨2, ![2048, 3072]⟩
abbrev S128 : Shape := ⟨1, ![128]⟩
abbrev S8192x32 : Shape := ⟨2, ![8192, 32]⟩
abbrev S4x256x2048 : Shape := ⟨3, ![4, 256, 2048]⟩
abbrev S4x8192x2048 : Shape := ⟨3, ![4, 8192, 2048]⟩
abbrev S4x1x2048 : Shape := ⟨3, ![4, 1, 2048]⟩
abbrev S4x2048 : Shape := ⟨2, ![4, 2048]⟩
abbrev S1x1x2048 : Shape := ⟨3, ![1, 1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S4x256 : Shape := ⟨2, ![4, 256]⟩
abbrev S4x256x1 : Shape := ⟨3, ![4, 256, 1]⟩
abbrev S4x8192x3072 : Shape := ⟨3, ![4, 8192, 3072]⟩
abbrev S4x8192x1536 : Shape := ⟨3, ![4, 8192, 1536]⟩
abbrev S4x8192x512 : Shape := ⟨3, ![4, 8192, 512]⟩
abbrev S4x8192x12x128 : Shape := ⟨4, ![4, 8192, 12, 128]⟩
abbrev S4x8192x12 : Shape := ⟨3, ![4, 8192, 12]⟩
abbrev S4x8192x12x1 : Shape := ⟨4, ![4, 8192, 12, 1]⟩
abbrev S1x1x1x128 : Shape := ⟨4, ![1, 1, 1, 128]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S4x256x3072 : Shape := ⟨3, ![4, 256, 3072]⟩
abbrev S4x256x1536 : Shape := ⟨3, ![4, 256, 1536]⟩
abbrev S4x256x512 : Shape := ⟨3, ![4, 256, 512]⟩
abbrev S4x256x12x128 : Shape := ⟨4, ![4, 256, 12, 128]⟩
abbrev S4x256x12 : Shape := ⟨3, ![4, 256, 12]⟩
abbrev S4x256x12x1 : Shape := ⟨4, ![4, 256, 12, 1]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x8192x12x64 : Shape := ⟨4, ![4, 8192, 12, 64]⟩
abbrev S4x8192x12x32 : Shape := ⟨4, ![4, 8192, 12, 32]⟩
abbrev S1x8192x1x32 : Shape := ⟨4, ![1, 8192, 1, 32]⟩
abbrev S4x8192x4x64 : Shape := ⟨4, ![4, 8192, 4, 64]⟩
abbrev S4x8192x4x32 : Shape := ⟨4, ![4, 8192, 4, 32]⟩
abbrev S4x8448x12x128 : Shape := ⟨4, ![4, 8448, 12, 128]⟩
abbrev S4x8448x1536 : Shape := ⟨3, ![4, 8448, 1536]⟩
abbrev S4x8448x4x128 : Shape := ⟨4, ![4, 8448, 4, 128]⟩
abbrev S4x8448x512 : Shape := ⟨3, ![4, 8448, 512]⟩

abbrev nBuf : Space → Nat
  | .hbm => 215
  | .vmem => 0
  | .smem => 0
  | _ => 0

abbrev hbmTy0_0 (i : Nat) : BufTy := match i % 128 with
  | 0 => ⟨S4x8448x2048, .f32⟩
  | 1 => ⟨S8x6x2048, .f32⟩
  | 2 => ⟨S2048x3072, .f32⟩
  | 3 => ⟨S128, .f32⟩
  | 4 => ⟨S128, .f32⟩
  | 5 => ⟨S8192x32, .f32⟩
  | 6 => ⟨S8192x32, .f32⟩
  | 7 => ⟨S8192x32, .f32⟩
  | 8 => ⟨S8192x32, .f32⟩
  | 9 => ⟨S4x256x2048, .f32⟩
  | 10 => ⟨S4x8192x2048, .f32⟩
  | 11 => ⟨S4x1x2048, .f32⟩
  | 12 => ⟨S4x2048, .f32⟩
  | 13 => ⟨S4x1x2048, .f32⟩
  | 14 => ⟨S4x1x2048, .f32⟩
  | 15 => ⟨S4x2048, .f32⟩
  | 16 => ⟨S4x1x2048, .f32⟩
  | 17 => ⟨S1x1x2048, .f32⟩
  | 18 => ⟨S2048, .f32⟩
  | 19 => ⟨S1x1x2048, .f32⟩
  | 20 => ⟨S2048, .f32⟩
  | 21 => ⟨S4x8192x2048, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S_, .f32⟩
  | 29 => ⟨S4x8192x1, .f32⟩
  | 30 => ⟨S4x8192x1, .f32⟩
  | 31 => ⟨S4x8192x1, .f32⟩
  | 32 => ⟨S4x8192x2048, .f32⟩
  | 33 => ⟨S4x8192x2048, .f32⟩
  | 34 => ⟨S_, .f32⟩
  | 35 => ⟨S4x1x2048, .f32⟩
  | 36 => ⟨S4x1x2048, .f32⟩
  | 37 => ⟨S4x8192x2048, .f32⟩
  | 38 => ⟨S4x8192x2048, .f32⟩
  | 39 => ⟨S4x8192x2048, .f32⟩
  | 40 => ⟨S4x8192x2048, .f32⟩
  | 41 => ⟨S4x256x2048, .f32⟩
  | 42 => ⟨S_, .f32⟩
  | 43 => ⟨S4x256, .f32⟩
  | 44 => ⟨S4x256x1, .f32⟩
  | 45 => ⟨S_, .f32⟩
  | 46 => ⟨S4x256x1, .f32⟩
  | 47 => ⟨S4x256x1, .f32⟩
  | 48 => ⟨S_, .f32⟩
  | 49 => ⟨S4x256x1, .f32⟩
  | 50 => ⟨S4x256x1, .f32⟩
  | 51 => ⟨S4x256x1, .f32⟩
  | 52 => ⟨S4x256x2048, .f32⟩
  | 53 => ⟨S4x256x2048, .f32⟩
  | 54 => ⟨S_, .f32⟩
  | 55 => ⟨S2048, .f32⟩
  | 56 => ⟨S2048, .f32⟩
  | 57 => ⟨S1x1x2048, .f32⟩
  | 58 => ⟨S4x256x2048, .f32⟩
  | 59 => ⟨S4x256x2048, .f32⟩
  | 60 => ⟨S1x1x2048, .f32⟩
  | 61 => ⟨S4x256x2048, .f32⟩
  | 62 => ⟨S4x256x2048, .f32⟩
  | 63 => ⟨S4x8192x3072, .f32⟩
  | 64 => ⟨S4x8192x1536, .f32⟩
  | 65 => ⟨S4x8192x512, .f32⟩
  | 66 => ⟨S4x8192x512, .f32⟩
  | 67 => ⟨S4x8192x512, .f32⟩
  | 68 => ⟨S4x8192x12x128, .f32⟩
  | 69 => ⟨S4x8192x12x128, .f32⟩
  | 70 => ⟨S_, .f32⟩
  | 71 => ⟨S4x8192x12, .f32⟩
  | 72 => ⟨S4x8192x12x1, .f32⟩
  | 73 => ⟨S_, .f32⟩
  | 74 => ⟨S4x8192x12x1, .f32⟩
  | 75 => ⟨S4x8192x12x1, .f32⟩
  | 76 => ⟨S_, .f32⟩
  | 77 => ⟨S4x8192x12x1, .f32⟩
  | 78 => ⟨S4x8192x12x1, .f32⟩
  | 79 => ⟨S4x8192x12x1, .f32⟩
  | 80 => ⟨S4x8192x12x128, .f32⟩
  | 81 => ⟨S4x8192x12x128, .f32⟩
  | 82 => ⟨S1x1x1x128, .f32⟩
  | 83 => ⟨S4x8192x12x128, .f32⟩
  | 84 => ⟨S4x8192x12x128, .f32⟩
  | 85 => ⟨S4x8192x4x128, .f32⟩
  | 86 => ⟨S4x8192x4x128, .f32⟩
  | 87 => ⟨S_, .f32⟩
  | 88 => ⟨S4x8192x4, .f32⟩
  | 89 => ⟨S4x8192x4x1, .f32⟩
  | 90 => ⟨S_, .f32⟩
  | 91 => ⟨S4x8192x4x1, .f32⟩
  | 92 => ⟨S4x8192x4x1, .f32⟩
  | 93 => ⟨S_, .f32⟩
  | 94 => ⟨S4x8192x4x1, .f32⟩
  | 95 => ⟨S4x8192x4x1, .f32⟩
  | 96 => ⟨S4x8192x4x1, .f32⟩
  | 97 => ⟨S4x8192x4x128, .f32⟩
  | 98 => ⟨S4x8192x4x128, .f32⟩
  | 99 => ⟨S1x1x1x128, .f32⟩
  | 100 => ⟨S4x8192x4x128, .f32⟩
  | 101 => ⟨S4x8192x4x128, .f32⟩
  | 102 => ⟨S4x256x3072, .f32⟩
  | 103 => ⟨S4x256x1536, .f32⟩
  | 104 => ⟨S4x256x512, .f32⟩
  | 105 => ⟨S4x256x512, .f32⟩
  | 106 => ⟨S4x256x512, .f32⟩
  | 107 => ⟨S4x256x12x128, .f32⟩
  | 108 => ⟨S4x256x12x128, .f32⟩
  | 109 => ⟨S_, .f32⟩
  | 110 => ⟨S4x256x12, .f32⟩
  | 111 => ⟨S4x256x12x1, .f32⟩
  | 112 => ⟨S_, .f32⟩
  | 113 => ⟨S4x256x12x1, .f32⟩
  | 114 => ⟨S4x256x12x1, .f32⟩
  | 115 => ⟨S_, .f32⟩
  | 116 => ⟨S4x256x12x1, .f32⟩
  | 117 => ⟨S4x256x12x1, .f32⟩
  | 118 => ⟨S4x256x12x1, .f32⟩
  | 119 => ⟨S4x256x12x128, .f32⟩
  | 120 => ⟨S4x256x12x128, .f32⟩
  | 121 => ⟨S1x1x1x128, .f32⟩
  | 122 => ⟨S4x256x12x128, .f32⟩
  | 123 => ⟨S4x256x12x128, .f32⟩
  | 124 => ⟨S4x256x4x128, .f32⟩
  | 125 => ⟨S4x256x4x128, .f32⟩
  | 126 => ⟨S_, .f32⟩
  | 127 => ⟨S4x256x4, .f32⟩
  | _ => ⟨S4x8448x2048, .f32⟩

abbrev hbmTy0_1 (i : Nat) : BufTy := match i % 128 with
  | 0 => ⟨S4x256x4x1, .f32⟩
  | 1 => ⟨S_, .f32⟩
  | 2 => ⟨S4x256x4x1, .f32⟩
  | 3 => ⟨S4x256x4x1, .f32⟩
  | 4 => ⟨S_, .f32⟩
  | 5 => ⟨S4x256x4x1, .f32⟩
  | 6 => ⟨S4x256x4x1, .f32⟩
  | 7 => ⟨S4x256x4x1, .f32⟩
  | 8 => ⟨S4x256x4x128, .f32⟩
  | 9 => ⟨S4x256x4x128, .f32⟩
  | 10 => ⟨S1x1x1x128, .f32⟩
  | 11 => ⟨S4x256x4x128, .f32⟩
  | 12 => ⟨S4x256x4x128, .f32⟩
  | 13 => ⟨S4x8192x12x64, .f32⟩
  | 14 => ⟨S4x8192x12x32, .f32⟩
  | 15 => ⟨S4x8192x12x32, .f32⟩
  | 16 => ⟨S1x8192x1x32, .f32⟩
  | 17 => ⟨S1x8192x1x32, .f32⟩
  | 18 => ⟨S4x8192x12x32, .f32⟩
  | 19 => ⟨S4x8192x12x32, .f32⟩
  | 20 => ⟨S4x8192x12x32, .f32⟩
  | 21 => ⟨S4x8192x12x32, .f32⟩
  | 22 => ⟨S4x8192x12x32, .f32⟩
  | 23 => ⟨S4x8192x12x32, .f32⟩
  | 24 => ⟨S4x8192x12x32, .f32⟩
  | 25 => ⟨S4x8192x12x32, .f32⟩
  | 26 => ⟨S4x8192x12x32, .f32⟩
  | 27 => ⟨S4x8192x12x32, .f32⟩
  | 28 => ⟨S4x8192x12x64, .f32⟩
  | 29 => ⟨S4x8192x12x64, .f32⟩
  | 30 => ⟨S4x8192x12x32, .f32⟩
  | 31 => ⟨S4x8192x12x32, .f32⟩
  | 32 => ⟨S1x8192x1x32, .f32⟩
  | 33 => ⟨S1x8192x1x32, .f32⟩
  | 34 => ⟨S4x8192x12x32, .f32⟩
  | 35 => ⟨S4x8192x12x32, .f32⟩
  | 36 => ⟨S4x8192x12x32, .f32⟩
  | 37 => ⟨S4x8192x12x32, .f32⟩
  | 38 => ⟨S4x8192x12x32, .f32⟩
  | 39 => ⟨S4x8192x12x32, .f32⟩
  | 40 => ⟨S4x8192x12x32, .f32⟩
  | 41 => ⟨S4x8192x12x32, .f32⟩
  | 42 => ⟨S4x8192x12x32, .f32⟩
  | 43 => ⟨S4x8192x12x32, .f32⟩
  | 44 => ⟨S4x8192x12x64, .f32⟩
  | 45 => ⟨S4x8192x12x128, .f32⟩
  | 46 => ⟨S4x8192x4x64, .f32⟩
  | 47 => ⟨S4x8192x4x32, .f32⟩
  | 48 => ⟨S4x8192x4x32, .f32⟩
  | 49 => ⟨S1x8192x1x32, .f32⟩
  | 50 => ⟨S1x8192x1x32, .f32⟩
  | 51 => ⟨S4x8192x4x32, .f32⟩
  | 52 => ⟨S4x8192x4x32, .f32⟩
  | 53 => ⟨S4x8192x4x32, .f32⟩
  | 54 => ⟨S4x8192x4x32, .f32⟩
  | 55 => ⟨S4x8192x4x32, .f32⟩
  | 56 => ⟨S4x8192x4x32, .f32⟩
  | 57 => ⟨S4x8192x4x32, .f32⟩
  | 58 => ⟨S4x8192x4x32, .f32⟩
  | 59 => ⟨S4x8192x4x32, .f32⟩
  | 60 => ⟨S4x8192x4x32, .f32⟩
  | 61 => ⟨S4x8192x4x64, .f32⟩
  | 62 => ⟨S4x8192x4x64, .f32⟩
  | 63 => ⟨S4x8192x4x32, .f32⟩
  | 64 => ⟨S4x8192x4x32, .f32⟩
  | 65 => ⟨S1x8192x1x32, .f32⟩
  | 66 => ⟨S1x8192x1x32, .f32⟩
  | 67 => ⟨S4x8192x4x32, .f32⟩
  | 68 => ⟨S4x8192x4x32, .f32⟩
  | 69 => ⟨S4x8192x4x32, .f32⟩
  | 70 => ⟨S4x8192x4x32, .f32⟩
  | 71 => ⟨S4x8192x4x32, .f32⟩
  | 72 => ⟨S4x8192x4x32, .f32⟩
  | 73 => ⟨S4x8192x4x32, .f32⟩
  | 74 => ⟨S4x8192x4x32, .f32⟩
  | 75 => ⟨S4x8192x4x32, .f32⟩
  | 76 => ⟨S4x8192x4x32, .f32⟩
  | 77 => ⟨S4x8192x4x64, .f32⟩
  | 78 => ⟨S4x8192x4x128, .f32⟩
  | 79 => ⟨S4x8448x12x128, .f32⟩
  | 80 => ⟨S4x8448x1536, .f32⟩
  | 81 => ⟨S4x8448x4x128, .f32⟩
  | 82 => ⟨S4x8448x512, .f32⟩
  | 83 => ⟨S4x8448x512, .f32⟩
  | 84 => ⟨S4x8448x1536, .bf16⟩
  | 85 => ⟨S4x8448x4x128, .bf16⟩
  | 86 => ⟨S4x8448x512, .bf16⟩
  | _ => ⟨S4x8448x2048, .f32⟩

abbrev hbmTy (i : Nat) : BufTy := match i / 128 with
  | 0 => hbmTy0_0 i
  | 1 => hbmTy0_1 i
  | _ => ⟨S4x8448x2048, .f32⟩

abbrev bufTy : (tb : Table) → Fin (tcTables nBuf tb) → BufTy
  | .hbm, ⟨i, _⟩ => hbmTy i
  | _, _ => ⟨S4x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_16 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_v102 : Ref sig .tc := ⟨.hbm, 130, rfl⟩
abbrev main_v103 : Ref sig .tc := ⟨.hbm, 131, rfl⟩
abbrev main_cst_18 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩

abbrev nD : Nat := 1
abbrev τ : Topo := Topo.v7x

variable {F : FTy → Type} [FloatOps F]
-- ==== Kernel5.lean ====
abbrev S4x8448x2048 : Shape := ⟨3, ![4, 8448, 2048]⟩
abbrev S8x6x2048 : Shape := ⟨3, ![8, 6, 2048]⟩
abbrev S4x8448x2688 : Shape := ⟨3, ![4, 8448, 2688]⟩
abbrev S2688x2048 : Shape := ⟨2, ![2688, 2048]⟩
abbrev S2048x32 : Shape := ⟨2, ![2048, 32]⟩
abbrev S32 : Shape := ⟨1, ![32]⟩
abbrev S1x6x2048 : Shape := ⟨3, ![1, 6, 2048]⟩
abbrev S6x2048 : Shape := ⟨2, ![6, 2048]⟩
abbrev S4x6x2048 : Shape := ⟨3, ![4, 6, 2048]⟩
abbrev S1x4x6x2048 : Shape := ⟨4, ![1, 4, 6, 2048]⟩
abbrev S2x4x6x2048 : Shape := ⟨4, ![2, 4, 6, 2048]⟩
abbrev S2048x64 : Shape := ⟨2, ![2048, 64]⟩
abbrev S4x33x8x32x2688 : Shape := ⟨5, ![4, 33, 8, 32, 2688]⟩
abbrev S4x33x32x8x2688 : Shape := ⟨5, ![4, 33, 32, 8, 2688]⟩
abbrev S1x32 : Shape := ⟨2, ![1, 32]⟩
abbrev S33792x1024 : Shape := ⟨2, ![33792, 1024]⟩
abbrev S33792x128 : Shape := ⟨2, ![33792, 128]⟩
abbrev S1x256x2048 : Shape := ⟨3, ![1, 256, 2048]⟩
abbrev S1x1x6x2048 : Shape := ⟨4, ![1, 1, 6, 2048]⟩
abbrev S1x256x2688 : Shape := ⟨3, ![1, 256, 2688]⟩
abbrev S256x1024 : Shape := ⟨2, ![256, 1024]⟩
abbrev S256x128 : Shape := ⟨2, ![256, 128]⟩
abbrev S256x2688 : Shape := ⟨2, ![256, 2688]⟩
abbrev S256x256 : Shape := ⟨2, ![256, 256]⟩
abbrev S256x32 : Shape := ⟨2, ![256, 32]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S256x64 : Shape := ⟨2, ![256, 64]⟩

abbrev nBuf : Space → Nat
  | .hbm => 39
  | .vmem => 21
  | .smem => 0
  | _ => 0

abbrev bufTy : (tb : Table) → Fin (tcTables nBuf tb) → BufTy
  | .hbm, ⟨0, _⟩ => ⟨S4x8448x2048, .f32⟩
  | .hbm, ⟨1, _⟩ => ⟨S8x6x2048, .f32⟩
  | .hbm, ⟨2, _⟩ => ⟨S4x8448x2688, .f32⟩
  | .hbm, ⟨3, _⟩ => ⟨S4x8448x2688, .f32⟩
  | .hbm, ⟨4, _⟩ => ⟨S4x8448x2688, .f32⟩
  | .hbm, ⟨5, _⟩ => ⟨S2688x2048, .f32⟩
  | .hbm, ⟨6, _⟩ => ⟨S2048x32, .f32⟩
  | .hbm, ⟨7, _⟩ => ⟨S32, .f32⟩
  | .hbm, ⟨8, _⟩ => ⟨S1x6x2048, .f32⟩
  | .hbm, ⟨9, _⟩ => ⟨S6x2048, .f32⟩
  | .hbm, ⟨10, _⟩ => ⟨S1x6x2048, .f32⟩
  | .hbm, ⟨11, _⟩ => ⟨S4x6x2048, .f32⟩
  | .hbm, ⟨12, _⟩ => ⟨S4x6x2048, .f32⟩
  | .hbm, ⟨13, _⟩ => ⟨S1x4x6x2048, .f32⟩
  | .hbm, ⟨14, _⟩ => ⟨S1x4x6x2048, .f32⟩
  | .hbm, ⟨15, _⟩ => ⟨S2x4x6x2048, .f32⟩
  | .hbm, ⟨16, _⟩ => ⟨S2048x32, .bf16⟩
  | .hbm, ⟨17, _⟩ => ⟨S2048x32, .f32⟩
  | .hbm, ⟨18, _⟩ => ⟨S2048x32, .f32⟩
  | .hbm, ⟨19, _⟩ => ⟨S2048x32, .bf16⟩
  | .hbm, ⟨20, _⟩ => ⟨S2048x64, .bf16⟩
  | .hbm, ⟨21, _⟩ => ⟨S4x33x8x32x2688, .f32⟩
  | .hbm, ⟨22, _⟩ => ⟨S4x33x32x8x2688, .f32⟩
  | .hbm, ⟨23, _⟩ => ⟨S4x8448x2688, .f32⟩
  | .hbm, ⟨24, _⟩ => ⟨S4x8448x2688, .bf16⟩
  | .hbm, ⟨25, _⟩ => ⟨S4x33x8x32x2688, .f32⟩
  | .hbm, ⟨26, _⟩ => ⟨S4x33x32x8x2688, .f32⟩
  | .hbm, ⟨27, _⟩ => ⟨S4x8448x2688, .f32⟩
  | .hbm, ⟨28, _⟩ => ⟨S4x8448x2688, .bf16⟩
  | .hbm, ⟨29, _⟩ => ⟨S4x33x8x32x2688, .f32⟩
  | .hbm, ⟨30, _⟩ => ⟨S4x33x32x8x2688, .f32⟩
  | .hbm, ⟨31, _⟩ => ⟨S4x8448x2688, .f32⟩
  | .hbm, ⟨32, _⟩ => ⟨S4x8448x2688, .bf16⟩
  | .hbm, ⟨33, _⟩ => ⟨S2688x2048, .bf16⟩
  | .hbm, ⟨34, _⟩ => ⟨S1x32, .f32⟩
  | .hbm, ⟨35, _⟩ => ⟨S4x8448x2048, .f32⟩
  | .hbm, ⟨36, _⟩ => ⟨S33792x1024, .i32⟩
  | .hbm, ⟨37, _⟩ => ⟨S33792x128, .f32⟩
  | .hbm, ⟨38, _⟩ => ⟨S1x32, .f32⟩
  | .local _ .vmem, ⟨0, _⟩ => ⟨S1x256x2048, .f32⟩
  | .local _ .vmem, ⟨1, _⟩ => ⟨S1x256x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S1x256x2688, .bf16⟩
  | .local _ .vmem, ⟨5, _⟩ => ⟨S1x256x2688, .bf16⟩
  | .local _ .vmem, ⟨6, _⟩ => ⟨S1x256x2688, .bf16⟩
  | .local _ .vmem, ⟨7, _⟩ => ⟨S1x256x2688, .bf16⟩
  | .local _ .vmem, ⟨8, _⟩ => ⟨S1x256x2688, .bf16⟩
  | .local _ .vmem, ⟨9, _⟩ => ⟨S1x256x2688, .bf16⟩
  | .local _ .vmem, ⟨10, _⟩ => ⟨S2688x2048, .bf16⟩
  | .local _ .vmem, ⟨11, _⟩ => ⟨S2048x64, .bf16⟩
  | .local _ .vmem, ⟨12, _⟩ => ⟨S1x32, .f32⟩
  | .local _ .vmem, ⟨13, _⟩ => ⟨S1x256x2048, .f32⟩
  | .local _ .vmem, ⟨14, _⟩ => ⟨S1x256x2048, .f32⟩
  | .local _ .vmem, ⟨15, _⟩ => ⟨S256x1024, .i32⟩
  | .local _ .vmem, ⟨16, _⟩ => ⟨S256x1024, .i32⟩
  | .local _ .vmem, ⟨17, _⟩ => ⟨S256x128, .f32⟩
  | .local _ .vmem, ⟨18, _⟩ => ⟨S256x128, .f32⟩
  | .local _ .vmem, ⟨19, _⟩ => ⟨S1x32, .f32⟩
  | .local _ .vmem, ⟨20, _⟩ => ⟨S1x32, .f32⟩
  | _, _ => ⟨S4x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [BitOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2688x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Kernel5Ideal.lean ====
abbrev S4x8448x2048 : Shape := ⟨3, ![4, 8448, 2048]⟩
abbrev S8x6x2048 : Shape := ⟨3, ![8, 6, 2048]⟩
abbrev S4x8448x2688 : Shape := ⟨3, ![4, 8448, 2688]⟩
abbrev S2688x2048 : Shape := ⟨2, ![2688, 2048]⟩
abbrev S2048x32 : Shape := ⟨2, ![2048, 32]⟩
abbrev S32 : Shape := ⟨1, ![32]⟩
abbrev S1x6x2048 : Shape := ⟨3, ![1, 6, 2048]⟩
abbrev S6x2048 : Shape := ⟨2, ![6, 2048]⟩
abbrev S4x6x2048 : Shape := ⟨3, ![4, 6, 2048]⟩
abbrev S1x4x6x2048 : Shape := ⟨4, ![1, 4, 6, 2048]⟩
abbrev S2x4x6x2048 : Shape := ⟨4, ![2, 4, 6, 2048]⟩
abbrev S2048x64 : Shape := ⟨2, ![2048, 64]⟩
abbrev S4x33x8x32x2688 : Shape := ⟨5, ![4, 33, 8, 32, 2688]⟩
abbrev S4x33x32x8x2688 : Shape := ⟨5, ![4, 33, 32, 8, 2688]⟩
abbrev S1x32 : Shape := ⟨2, ![1, 32]⟩
abbrev S33792x2x1024 : Shape := ⟨3, ![33792, 2, 1024]⟩
abbrev S33792x128 : Shape := ⟨2, ![33792, 128]⟩
abbrev S33792x1x1024 : Shape := ⟨3, ![33792, 1, 1024]⟩
abbrev S33792x1024 : Shape := ⟨2, ![33792, 1024]⟩
abbrev S1x256x2048 : Shape := ⟨3, ![1, 256, 2048]⟩
abbrev S1x1x6x2048 : Shape := ⟨4, ![1, 1, 6, 2048]⟩
abbrev S1x256x2688 : Shape := ⟨3, ![1, 256, 2688]⟩
abbrev S256x1024 : Shape := ⟨2, ![256, 1024]⟩
abbrev S256x2x1024 : Shape := ⟨3, ![256, 2, 1024]⟩
abbrev S256x1x1024 : Shape := ⟨3, ![256, 1, 1024]⟩
abbrev S256x128 : Shape := ⟨2, ![256, 128]⟩
abbrev S256x2688 : Shape := ⟨2, ![256, 2688]⟩
abbrev S256x256 : Shape := ⟨2, ![256, 256]⟩
abbrev S256x32 : Shape := ⟨2, ![256, 32]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S256x64 : Shape := ⟨2, ![256, 64]⟩

abbrev nBuf : Space → Nat
  | .hbm => 39
  | .vmem => 21
  | .smem => 0
  | _ => 0

abbrev bufTy : (tb : Table) → Fin (tcTables nBuf tb) → BufTy
  | .hbm, ⟨0, _⟩ => ⟨S4x8448x2048, .f32⟩
  | .hbm, ⟨1, _⟩ => ⟨S8x6x2048, .f32⟩
  | .hbm, ⟨2, _⟩ => ⟨S4x8448x2688, .f32⟩
  | .hbm, ⟨3, _⟩ => ⟨S4x8448x2688, .f32⟩
  | .hbm, ⟨4, _⟩ => ⟨S4x8448x2688, .f32⟩
  | .hbm, ⟨5, _⟩ => ⟨S2688x2048, .f32⟩
  | .hbm, ⟨6, _⟩ => ⟨S2048x32, .f32⟩
  | .hbm, ⟨7, _⟩ => ⟨S32, .f32⟩
  | .hbm, ⟨8, _⟩ => ⟨S1x6x2048, .f32⟩
  | .hbm, ⟨9, _⟩ => ⟨S6x2048, .f32⟩
  | .hbm, ⟨10, _⟩ => ⟨S1x6x2048, .f32⟩
  | .hbm, ⟨11, _⟩ => ⟨S4x6x2048, .f32⟩
  | .hbm, ⟨12, _⟩ => ⟨S4x6x2048, .f32⟩
  | .hbm, ⟨13, _⟩ => ⟨S1x4x6x2048, .f32⟩
  | .hbm, ⟨14, _⟩ => ⟨S1x4x6x2048, .f32⟩
  | .hbm, ⟨15, _⟩ => ⟨S2x4x6x2048, .f32⟩
  | .hbm, ⟨16, _⟩ => ⟨S2048x32, .bf16⟩
  | .hbm, ⟨17, _⟩ => ⟨S2048x32, .f32⟩
  | .hbm, ⟨18, _⟩ => ⟨S2048x32, .f32⟩
  | .hbm, ⟨19, _⟩ => ⟨S2048x32, .bf16⟩
  | .hbm, ⟨20, _⟩ => ⟨S2048x64, .bf16⟩
  | .hbm, ⟨21, _⟩ => ⟨S4x33x8x32x2688, .f32⟩
  | .hbm, ⟨22, _⟩ => ⟨S4x33x32x8x2688, .f32⟩
  | .hbm, ⟨23, _⟩ => ⟨S4x8448x2688, .f32⟩
  | .hbm, ⟨24, _⟩ => ⟨S4x8448x2688, .bf16⟩
  | .hbm, ⟨25, _⟩ => ⟨S4x33x8x32x2688, .f32⟩
  | .hbm, ⟨26, _⟩ => ⟨S4x33x32x8x2688, .f32⟩
  | .hbm, ⟨27, _⟩ => ⟨S4x8448x2688, .f32⟩
  | .hbm, ⟨28, _⟩ => ⟨S4x8448x2688, .bf16⟩
  | .hbm, ⟨29, _⟩ => ⟨S4x33x8x32x2688, .f32⟩
  | .hbm, ⟨30, _⟩ => ⟨S4x33x32x8x2688, .f32⟩
  | .hbm, ⟨31, _⟩ => ⟨S4x8448x2688, .f32⟩
  | .hbm, ⟨32, _⟩ => ⟨S4x8448x2688, .bf16⟩
  | .hbm, ⟨33, _⟩ => ⟨S2688x2048, .bf16⟩
  | .hbm, ⟨34, _⟩ => ⟨S1x32, .f32⟩
  | .hbm, ⟨35, _⟩ => ⟨S4x8448x2048, .f32⟩
  | .hbm, ⟨36, _⟩ => ⟨S33792x2x1024, .bf16⟩
  | .hbm, ⟨37, _⟩ => ⟨S33792x128, .f32⟩
  | .hbm, ⟨38, _⟩ => ⟨S1x32, .f32⟩
  | .local _ .vmem, ⟨0, _⟩ => ⟨S1x256x2048, .f32⟩
  | .local _ .vmem, ⟨1, _⟩ => ⟨S1x256x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S1x256x2688, .bf16⟩
  | .local _ .vmem, ⟨5, _⟩ => ⟨S1x256x2688, .bf16⟩
  | .local _ .vmem, ⟨6, _⟩ => ⟨S1x256x2688, .bf16⟩
  | .local _ .vmem, ⟨7, _⟩ => ⟨S1x256x2688, .bf16⟩
  | .local _ .vmem, ⟨8, _⟩ => ⟨S1x256x2688, .bf16⟩
  | .local _ .vmem, ⟨9, _⟩ => ⟨S1x256x2688, .bf16⟩
  | .local _ .vmem, ⟨10, _⟩ => ⟨S2688x2048, .bf16⟩
  | .local _ .vmem, ⟨11, _⟩ => ⟨S2048x64, .bf16⟩
  | .local _ .vmem, ⟨12, _⟩ => ⟨S1x32, .f32⟩
  | .local _ .vmem, ⟨13, _⟩ => ⟨S1x256x2048, .f32⟩
  | .local _ .vmem, ⟨14, _⟩ => ⟨S1x256x2048, .f32⟩
  | .local _ .vmem, ⟨15, _⟩ => ⟨S256x2x1024, .bf16⟩
  | .local _ .vmem, ⟨16, _⟩ => ⟨S256x2x1024, .bf16⟩
  | .local _ .vmem, ⟨17, _⟩ => ⟨S256x128, .f32⟩
  | .local _ .vmem, ⟨18, _⟩ => ⟨S256x128, .f32⟩
  | .local _ .vmem, ⟨19, _⟩ => ⟨S1x32, .f32⟩
  | .local _ .vmem, ⟨20, _⟩ => ⟨S1x32, .f32⟩
  | _, _ => ⟨S4x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, 0, c0_i32.toNat]

def cc0_transform_10 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2688x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference5Ideal.lean ====
abbrev S4x8448x2048 : Shape := ⟨3, ![4, 8448, 2048]⟩
abbrev S8x6x2048 : Shape := ⟨3, ![8, 6, 2048]⟩
abbrev S4x8448x2688 : Shape := ⟨3, ![4, 8448, 2688]⟩
abbrev S2688x2048 : Shape := ⟨2, ![2688, 2048]⟩
abbrev S2048x32 : Shape := ⟨2, ![2048, 32]⟩
abbrev S32 : Shape := ⟨1, ![32]⟩
abbrev S4x256x2048 : Shape := ⟨3, ![4, 256, 2048]⟩
abbrev S1x1x2048 : Shape := ⟨3, ![1, 1, 2048]⟩
abbrev S2048 : Shape := ⟨1, ![2048]⟩
abbrev S4x256x2688 : Shape := ⟨3, ![4, 256, 2688]⟩
abbrev S4x8192x2048 : Shape := ⟨3, ![4, 8192, 2048]⟩
abbrev S4x1x2048 : Shape := ⟨3, ![4, 1, 2048]⟩
abbrev S4x2048 : Shape := ⟨2, ![4, 2048]⟩
abbrev S4x8192x2688 : Shape := ⟨3, ![4, 8192, 2688]⟩

abbrev nBuf : Space → Nat
  | .hbm => 35
  | .vmem => 0
  | .smem => 0
  | _ => 0

abbrev bufTy : (tb : Table) → Fin (tcTables nBuf tb) → BufTy
  | .hbm, ⟨0, _⟩ => ⟨S4x8448x2048, .f32⟩
  | .hbm, ⟨1, _⟩ => ⟨S8x6x2048, .f32⟩
  | .hbm, ⟨2, _⟩ => ⟨S4x8448x2688, .f32⟩
  | .hbm, ⟨3, _⟩ => ⟨S4x8448x2688, .f32⟩
  | .hbm, ⟨4, _⟩ => ⟨S4x8448x2688, .f32⟩
  | .hbm, ⟨5, _⟩ => ⟨S2688x2048, .f32⟩
  | .hbm, ⟨6, _⟩ => ⟨S2048x32, .f32⟩
  | .hbm, ⟨7, _⟩ => ⟨S32, .f32⟩
  | .hbm, ⟨8, _⟩ => ⟨S4x256x2048, .f32⟩
  | .hbm, ⟨9, _⟩ => ⟨S1x1x2048, .f32⟩
  | .hbm, ⟨10, _⟩ => ⟨S2048, .f32⟩
  | .hbm, ⟨11, _⟩ => ⟨S4x256x2688, .f32⟩
  | .hbm, ⟨12, _⟩ => ⟨S4x256x2688, .f32⟩
  | .hbm, ⟨13, _⟩ => ⟨S4x256x2688, .f32⟩
  | .hbm, ⟨14, _⟩ => ⟨S4x256x2688, .f32⟩
  | .hbm, ⟨15, _⟩ => ⟨S4x256x2688, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S4x8192x2048, .f32⟩
  | .hbm, ⟨22, _⟩ => ⟨S4x1x2048, .f32⟩
  | .hbm, ⟨23, _⟩ => ⟨S4x2048, .f32⟩
  | .hbm, ⟨24, _⟩ => ⟨S4x1x2048, .f32⟩
  | .hbm, ⟨25, _⟩ => ⟨S4x8192x2688, .f32⟩
  | .hbm, ⟨26, _⟩ => ⟨S4x8192x2688, .f32⟩
  | .hbm, ⟨27, _⟩ => ⟨S4x8192x2688, .f32⟩
  | .hbm, ⟨28, _⟩ => ⟨S4x8192x2688, .f32⟩
  | .hbm, ⟨29, _⟩ => ⟨S4x8192x2688, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S4x8448x2048, .f32⟩
  | _, _ => ⟨S4x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.FrameKernelIdeal.lean ====
/-
  The frame of the attention call: the body is run once by the executor, its output block kept at some contents,
  the four scratches at some contents; the launch hands the argument arrays back as they were.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body, on any memrefs: it hands back the three input blocks as they were, the output block and the four
    scratches at some contents. -/
theorem body_run (c : Dev nD) (i : grid0.Coords)
    (a3 : Memref sig .tc .vmem S1x256x384 .bf16) (h3 : a3.IsWhole)
    (a4 : Memref sig .tc .vmem S1x1x128x8448 .bf16) (h4 : a4.IsWhole)
    (a5 : Memref sig .tc .vmem S1x8448x128 .bf16) (h5 : a5.IsWhole)
    (a6 : Memref sig .tc .vmem S1x256x384 .bf16) (h6 : a6.IsWhole)
    (a7 : Memref sig .tc .vmem S768x1024 .f32) (h7 : a7.IsWhole)
    (a8 : Memref sig .tc .vmem S768x1024 .f32) (h8 : a8.IsWhole)
    (a9 : Memref sig .tc .vmem S768x128 .f32) (h9 : a9.IsWhole)
    (a10 : Memref sig .tc .vmem S768x256 .f32) (h10 : a10.IsWhole)
    (x3 x4 x5) (K : PUnit → sProp 𝕄) :
    iprop(owns (c : Thread nD τ) a3 fullShare x3
        ∗ owns (c : Thread nD τ) a4 fullShare x4
        ∗ owns (c : Thread nD τ) a5 fullShare x5
        ∗ (∃ d, owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (∃ d, owns (c : Thread nD τ) a10 fullShare d)
        ∗ ((owns (c : Thread nD τ) a3 fullShare x3
            ∗ owns (c : Thread nD τ) a4 fullShare x4
            ∗ owns (c : Thread nD τ) a5 fullShare x5
            ∗ (∃ d, owns (c : Thread nD τ) a6 fullShare d)
            ∗ (∃ d, owns (c : Thread nD τ) a7 fullShare d)
            ∗ (∃ d, owns (c : Thread nD τ) a8 fullShare d)
            ∗ (∃ d, owns (c : Thread nD τ) a9 fullShare d)
            ∗ (∃ d, owns (c : Thread nD τ) a10 fullShare d)) -∗ K ⟨⟩))
      ⊢ wp frame (wpE (defs₀ (F := F)) Variants.none c none) Set.univ
          (cc0_attention i a3 h3 a4 h4 a5 h5 a6 h6 a7 h7 a8 h8 a9 h9 a10 h10) K := by
  simp only [cc0_attention_eq_skeleton]
  unfold cc0_attention_skel
  unfold owns
  by_cases hc : k0_cond1 i = 1#1
  all_goals
    iintro ⟨⟨%g3, %e3, H3⟩, ⟨%g4, %e4, H4⟩, ⟨%g5, %e5, H5⟩, ⟨%d6, %g6, %e6, H6⟩, ⟨%d7, %g7, %e7, H7⟩, ⟨%d8, %g8, %e8, H8⟩, ⟨%d9, %g9, %e9, H9⟩, ⟨%d10, %g10, %e10, H10⟩, Hk⟩
    sl_exec
    sl_step
    iapply Hk
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

/-! ## The proof data and the body obligation -/

/-- Only the output's block is left unnamed. -/
def forgets0 : Fin 4 → Bool := ![false, false, false, true]

/-- The proof data on core `c`: the arrays as the region finds them, each input block left as fetched, the output
    unnamed, the scratches and the generator register at some contents between points. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points, conjunct by conjunct. -/
theorem inv_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA
  rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  simp only [before0_0_of m (dats m 0 c) (A_eq m c 0) (fun _ => rfl), before0_1_of m (dats m 0 c) (A_eq m c 1) (fun _ => rfl),
    before0_2_of m (dats m 0 c) (A_eq m c 2) (fun _ => rfl)]
  iintro ⟨⟨⟨H7, H8, H9, H10⟩, Hg⟩, HO, ⟨%d0, H3⟩, ⟨%d1, H4⟩, ⟨%d2, H5⟩, H6⟩
  iapply (body_run c (grid0.coords t) _ _ _ _ _ _ _ _ _ _ _ _ _ _ _ _ (iblk m c 0 t) (iblk m c 1 t) (iblk m c 2 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H3, H4, H5, H6, H7, H8, H9, H10⟩
  isplitl [H7 H8 H9 H10 Hg]
  · isplitr [Hg]
    · isplitl [H7]; · iexact H7
      isplitl [H8]; · iexact H8
      isplitl [H9]; · iexact H9
      iexact H10
    iexact Hg
  isplitl [HO]; · iexact HO
  isplitl [H3]; · iexact H3
  isplitl [H4]; · iexact H4
  isplitl [H5]; · iexact H5
  iexact H6

/-- The body table's row at the point is the body as the kit spells it. -/
theorem defs₀_row (t : Fin cfg0.N) : defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters @main terminates, with every buffer that is no window's array at its
    contents on entry to the region and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends with the three argument arrays as they were and every counter at zero. -/
theorem frame_run :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun _ h =>
    ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

end Cert.KernelIdeal.Hand

end
-- ==== Proof.Reference.lean ====
/-
  The reference's run.
-/
module

public import proofs.«01_k».proof.Proof.Gen.ReferenceIdeal.Run
public import proofs.«01_k».proof.Proof.Gen.ReferenceIdeal.Read
-- ==== Proof.Spec.lean ====
/-
  The attention over the reals: what the kernel and the reference both come to.
-/
module

public import Mathlib.Analysis.SpecialFunctions.Pow.Real
public import Mathlib.Analysis.SpecialFunctions.Exp

@[expose] public section

noncomputable section

namespace Cert.Attention

open scoped BigOperators

/-- The score of query row `i`, output channel `ch` (its head is `ch / 128`, its keys' head `ch / 384`) at key `j`. -/
def score (s : ℝ) (Q : Fin 4 → Fin 8448 → Fin 1536 → ℝ) (K : Fin 4 → ℕ → Fin 512 → ℝ) (b : Fin 4) (i : Fin 8448) (ch : Fin 1536) (j : ℕ) : ℝ :=
  (∑ e : Fin 128, Q b i ⟨128 * (ch.val / 128) + e.val, by omega⟩ * K b j ⟨128 * (ch.val / 384) + e.val, by omega⟩) * s

/-- How many keys a row sees: a context row the context's, any other all. -/
def seen (i : Fin 8448) : ℕ := if i.val < 256 then 256 else 8448

/-- The attention's entry. -/
def att (s : ℝ) (Q : Fin 4 → Fin 8448 → Fin 1536 → ℝ) (K V : Fin 4 → ℕ → Fin 512 → ℝ) (b : Fin 4) (i : Fin 8448) (ch : Fin 1536) : ℝ :=
  (∑ j ∈ Finset.range (seen i), Real.exp (score s Q K b i ch j) * V b j ⟨128 * (ch.val / 384) + ch.val % 128, by omega⟩)
    / ∑ j ∈ Finset.range (seen i), Real.exp (score s Q K b i ch j)

end Cert.Attention

end
-- ==== Proof.RefValue.lean ====
/-
  The reference's result, entry by entry: the attention over the reals.
-/
module

public import proofs.«01_k».proof.Proof.Reference
public import proofs.«01_k».proof.Proof.Spec
public import Idealize.ShloMosaic.Lib.Pipeline.ValueKit
public import Idealize.ShloMosaic.Lib.ValueIdx
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Cert.Attention
open Idealize.ShloMosaic hiding ix0 ix1 ix2 ix3 ix4 ix5 maximumf_apply mulf_apply addf_apply subf_apply divf_apply truncf_apply extf_apply
open Idealize.ShloMosaic.ValueIdx
open scoped BigOperators

/-- A real sum, coerced. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The greatest of finitely many reals along an axis is a real. -/
theorem max_real {s t u : Shape} {a : Fin s.rank} (x : FVec Ideal s .f32) (init : u.Idx → Ideal .f32) (h' : s.ReducesTo [a] t)
    (h : s.Reduces [a] t) (hu : 0 < u.numel) (j : t.Idx) (hi : init (Shape.Idx.first hu) = (⊥ : EReal)) (k0 : Fin (s.size a))
    (hx : ∀ k, ∃ r : ℝ, x (h.lift j k) = (r : EReal)) :
    ∃ r : ℝ, Host.reduce (FloatOps.maximumf : Ideal .f32 → Ideal .f32 → Ideal .f32) x init h' hu j = (r : EReal) := by
  have e : Host.reduce (FloatOps.maximumf : Ideal .f32 → Ideal .f32 → Ideal .f32) x init h' hu j
      = (Finset.univ : Finset (Fin (s.size a))).fold (max : EReal → EReal → EReal) ⊥ (x ∘ h.lift j) := by
    rw [← hi]
    exact Host.reduce_eq_fold_single (max : EReal → EReal → EReal) x init h' h hu j
  rw [e]
  generalize hz : (Finset.univ : Finset (Fin (s.size a))).fold (max : EReal → EReal → EReal) ⊥ (x ∘ h.lift j) = z
  have h1 : z < ⊤ := by
    rw [← hz, Finset.fold_max_lt]
    refine ⟨bot_lt_top, fun k _ => ?_⟩
    obtain ⟨r, hr⟩ := hx k
    rw [Function.comp_apply, hr]; exact EReal.coe_lt_top r
  have h2 : ⊥ < z := by
    rw [← hz, Finset.lt_fold_max]
    obtain ⟨r, hr⟩ := hx k0
    exact Or.inr ⟨k0, Finset.mem_univ _, by rw [Function.comp_apply, hr]; exact EReal.bot_lt_coe r⟩
  exact ⟨z.toReal, (EReal.coe_toReal h1.ne h2.ne').symm⟩

/-- The shift of the exponents cancels. -/
theorem softmax_shift (n : ℕ) (S W : ℕ → ℝ) (μ : ℝ) :
    (∑ j ∈ Finset.range n, W j * (Real.exp (S j - μ) / ∑ i ∈ Finset.range n, Real.exp (S i - μ)))
      = (∑ j ∈ Finset.range n, Real.exp (S j) * W j) / ∑ j ∈ Finset.range n, Real.exp (S j) := by
  have e : ∀ j, Real.exp (S j - μ) = Real.exp (S j) * Real.exp (-μ) := fun j => by rw [← Real.exp_add]; rfl
  have hz : Real.exp (-μ) ≠ 0 := (Real.exp_pos _).ne'
  simp only [e, ← Finset.sum_mul]
  rw [Finset.sum_div]
  refine Finset.sum_congr rfl fun j _ => ?_
  rw [mul_div_mul_right _ _ hz]
  ring

/-- The scale, a real. -/
def scale : ℝ := (Ideal.ofBits .f32 0x3DB504F3#32).toReal

theorem scale_eq : Ideal.ofBits .f32 0x3DB504F3#32 = (scale : EReal) := by
  have h : ∃ r : ℝ, Ideal.ofBits .f32 0x3DB504F3#32 = (r : EReal) := by
    simp only [Ideal.ofBits, Ideal.ieee]
    exact ⟨_, rfl⟩
  obtain ⟨r, hr⟩ := h
  unfold scale
  rw [hr, EReal.toReal_coe]

theorem low_eq : Ideal.ofBits .f32 0xFF800000#32 = ⊥ := by simp [Ideal.ofBits, Ideal.ieee]
theorem nil_eq : Ideal.ofBits .f32 0x00000000#32 = 0 := by simp [Ideal.ofBits, Ideal.ieee]

variable (x0 : (⟨S4x8448x1536, .f32⟩ : BufTy).Contents (Elt Ideal)) (x1 x2 : (⟨S4x8448x512, .f32⟩ : BufTy).Contents (Elt Ideal))
variable (Q : Fin 4 → Fin 8448 → Fin 1536 → ℝ) (K V : Fin 4 → ℕ → Fin 512 → ℝ)

/-- The arguments' entries are these reals. -/
structure Reals : Prop where
  q : ∀ b i ch, x0 (ix3 b i ch) = (Q b i ch : EReal)
  k : ∀ b (j : Fin 8448) ch, x1 (ix3 b j ch) = (K b j.val ch : EReal)
  v : ∀ b (j : Fin 8448) ch, x2 (ix3 b j ch) = (V b j.val ch : EReal)

variable {x0 x1 x2 Q K V}

theorem q_heads (H : Reals x0 x1 x2 Q K V) (b : Fin 4) (i : Fin 8448) (n : Fin 12) (e : Fin 128) :
    val_main_v0 (F := Ideal) x0 (ix4 b i n e) = (Q b i ⟨128 * n.val + e.val, by omega⟩ : EReal) := by
  rw [val_main_v0_apply, ← H.q]
  refine congrArg x0 (funext fun a => Fin.ext ?_)
  match a with
  | ⟨0, _⟩ => show (((b.val * 8448 + i.val) * 12 + n.val) * 128 + e.val) / 12976128 = b.val; omega
  | ⟨1, _⟩ => show (((b.val * 8448 + i.val) * 12 + n.val) * 128 + e.val) / 1536 % 8448 = i.val; omega
  | ⟨2, _⟩ => show (((b.val * 8448 + i.val) * 12 + n.val) * 128 + e.val) % 1536 = 128 * n.val + e.val; omega

theorem k_heads (H : Reals x0 x1 x2 Q K V) (b : Fin 4) (i : Fin 8448) (n : Fin 4) (e : Fin 128) :
    val_main_v1 (F := Ideal) x1 (ix4 b i n e) = (K b i.val ⟨128 * n.val + e.val, by omega⟩ : EReal) := by
  rw [val_main_v1_apply, ← H.k]
  refine congrArg x1 (funext fun a => Fin.ext ?_)
  match a with
  | ⟨0, _⟩ => show (((b.val * 8448 + i.val) * 4 + n.val) * 128 + e.val) / 4325376 = b.val; omega
  | ⟨1, _⟩ => show (((b.val * 8448 + i.val) * 4 + n.val) * 128 + e.val) / 512 % 8448 = i.val; omega
  | ⟨2, _⟩ => show (((b.val * 8448 + i.val) * 4 + n.val) * 128 + e.val) % 512 = 128 * n.val + e.val; omega

theorem v_heads (H : Reals x0 x1 x2 Q K V) (b : Fin 4) (i : Fin 8448) (n : Fin 4) (e : Fin 128) :
    val_main_v2 (F := Ideal) x2 (ix4 b i n e) = (V b i.val ⟨128 * n.val + e.val, by omega⟩ : EReal) := by
  rw [val_main_v2_apply, ← H.v]
  refine congrArg x2 (funext fun a => Fin.ext ?_)
  match a with
  | ⟨0, _⟩ => show (((b.val * 8448 + i.val) * 4 + n.val) * 128 + e.val) / 4325376 = b.val; omega
  | ⟨1, _⟩ => show (((b.val * 8448 + i.val) * 4 + n.val) * 128 + e.val) / 512 % 8448 = i.val; omega
  | ⟨2, _⟩ => show (((b.val * 8448 + i.val) * 4 + n.val) * 128 + e.val) % 512 = 128 * n.val + e.val; omega

/-! ### The context rows -/

theorem q_ctx (H : Reals x0 x1 x2 Q K V) (b : Fin 4) (i : Fin 256) (h : Fin 4) (g : Fin 3) (e : Fin 128) (I : Fin 8448)
    (hI : I.val = 0 + i.val) (c : Fin 1536) (hc : c.val = 128 * (3 * h.val + g.val) + e.val) :
    val_main_v6 (F := Ideal) x0 (ix5 b i h g e) = (Q b I c : EReal) := by
  rw [val_main_v6_apply, show idx_main_v6 (ix5 b i h g e) = ix4 b i ⟨3 * h.val + g.val, by omega⟩ e from funext fun a => Fin.ext (match a with
    | ⟨0, _⟩ => by show ((((b.val * 256 + i.val) * 4 + h.val) * 3 + g.val) * 128 + e.val) / 393216 = b.val; omega
    | ⟨1, _⟩ => by show ((((b.val * 256 + i.val) * 4 + h.val) * 3 + g.val) * 128 + e.val) / 1536 % 256 = i.val; omega
    | ⟨2, _⟩ => by show ((((b.val * 256 + i.val) * 4 + h.val) * 3 + g.val) * 128 + e.val) / 128 % 12 = 3 * h.val + g.val; omega
    | ⟨3, _⟩ => by show ((((b.val * 256 + i.val) * 4 + h.val) * 3 + g.val) * 128 + e.val) % 128 = e.val; omega),
    val_main_v3_apply, show idx_main_v3 (ix4 b i ⟨3 * h.val + g.val, by omega⟩ e) = ix4 b I ⟨3 * h.val + g.val, by omega⟩ e from
      funext fun a => Fin.ext (match a with
        | ⟨0, _⟩ => rfl
        | ⟨1, _⟩ => by show i.val = I.val; omega
        | ⟨2, _⟩ => rfl
        | ⟨3, _⟩ => rfl), q_heads H]
  exact congrArg (fun z => ((Q b I z : ℝ) : EReal)) (Fin.ext hc.symm)

theorem k_ctx (H : Reals x0 x1 x2 Q K V) (b : Fin 4) (j : Fin 256) (h : Fin 4) (e : Fin 128) :
    val_main_v4 (F := Ideal) x1 (ix4 b j h e) = (K b j.val ⟨128 * h.val + e.val, by omega⟩ : EReal) := by
  rw [val_main_v4_apply, show idx_main_v4 (ix4 b j h e) = ix4 b ⟨j.val, by omega⟩ h e from
    funext fun a => match a with
      | ⟨0, _⟩ => rfl | ⟨1, _⟩ => rfl | ⟨2, _⟩ => rfl | ⟨3, _⟩ => rfl]
  exact k_heads H b ⟨j.val, by omega⟩ h e

theorem v_ctx (H : Reals x0 x1 x2 Q K V) (b : Fin 4) (j : Fin 256) (h : Fin 4) (e : Fin 128) :
    val_main_v5 (F := Ideal) x2 (ix4 b j h e) = (V b j.val ⟨128 * h.val + e.val, by omega⟩ : EReal) := by
  rw [val_main_v5_apply, show idx_main_v5 (ix4 b j h e) = ix4 b ⟨j.val, by omega⟩ h e from
    funext fun a => match a with
      | ⟨0, _⟩ => rfl | ⟨1, _⟩ => rfl | ⟨2, _⟩ => rfl | ⟨3, _⟩ => rfl]
  exact v_heads H b ⟨j.val, by omega⟩ h e

theorem score_ctx (H : Reals x0 x1 x2 Q K V) (b h : Fin 4) (g : Fin 3) (i : Fin 256) (j : Fin 256) (I : Fin 8448)
    (hI : I.val = 0 + i.val) (ch : Fin 1536) (hc : ch.val / 128 = 3 * h.val + g.val) :
    val_main_v10 (F := Ideal) x0 x1 (ix5 b h g i j) = (score scale Q K b I ch j.val : EReal) := by
  have hm : val_main_v8 (F := Ideal) x0 x1 (ix5 b h g i j)
      = ((∑ e : Fin 128, Q b I ⟨128 * (ch.val / 128) + e.val, by omega⟩ * K b j.val ⟨128 * (ch.val / 384) + e.val, by omega⟩ : ℝ) : EReal) := by
    rw [val_main_v8_apply, val_main_v7_apply, coe_sum]
    refine Finset.sum_congr rfl fun e _ => ?_
    rw [EReal.coe_mul, mul_comm]
    have er : ridx_main_v7 (idx_main_v8 (ix5 b h g i j)) e = ix5 b i h g e := funext fun a => match a with
      | ⟨0, _⟩ => rfl | ⟨1, _⟩ => rfl | ⟨2, _⟩ => rfl | ⟨3, _⟩ => rfl | ⟨4, _⟩ => rfl
    have el : lidx_main_v7 (idx_main_v8 (ix5 b h g i j)) e = ix4 b j h e := funext fun a => match a with
      | ⟨0, _⟩ => rfl | ⟨1, _⟩ => rfl | ⟨2, _⟩ => rfl | ⟨3, _⟩ => rfl
    rw [er, el, q_ctx H b i h g e I hI ⟨128 * (ch.val / 128) + e.val, by omega⟩ (by show 128 * (ch.val / 128) + e.val = _; rw [hc]), k_ctx H]
    exact congrArg (fun z => ((Q b I ⟨128 * (ch.val / 128) + e.val, by omega⟩ : ℝ) : EReal) * ((K b j.val z : ℝ) : EReal))
      (Fin.ext (by show 128 * h.val + e.val = 128 * (ch.val / 384) + e.val; omega))
  show (val_main_v8 (F := Ideal) x0 x1 (ix5 b h g i j) : EReal) * val_main_v9 (F := Ideal) (ix5 b h g i j) = _
  rw [hm, val_main_v9_apply, val_main_cst_apply]
  show _ * Ideal.ofBits .f32 0x3DB504F3#32 = _
  rw [scale_eq, ← EReal.coe_mul]
  rfl

theorem max_ctx (H : Reals x0 x1 x2 Q K V) (b h : Fin 4) (g : Fin 3) (i : Fin 256) :
    ∃ μ : ℝ, val_main_v13 (F := Ideal) x0 x1 (ix4 b h g i) = (μ : EReal) := by
  have hr : (⟨5, ![4, 4, 3, 256, 256]⟩ : Shape).Reduces [4] (⟨4, ![4, 4, 3, 256]⟩ : Shape) := by decide
  obtain ⟨r, e⟩ : ∃ r : ℝ, val_main_v11 (F := Ideal) x0 x1 (ix4 b h g i) = (r : EReal) := by
    unfold val_main_v11
    refine max_real (s := ⟨5, ![4, 4, 3, 256, 256]⟩) (a := 4) _ _ _ hr _ _ low_eq (⟨0, by decide⟩ : Fin 256) fun k => ?_
    obtain ⟨b', h', g', i', j', e'⟩ : ∃ (b' h' : Fin 4) (g' : Fin 3) (i' : Fin 256) (j' : Fin 256), hr.lift (ix4 b h g i) k = ix5 b' h' g' i' j' :=
      ⟨_, _, _, _, _, ValueIdx.eq_ix5 (n0 := 4) (n1 := 4) (n2 := 3) (n3 := 256) (n4 := 256) (hr.lift (ix4 b h g i) k)⟩
    exact ⟨_, (congrArg (val_main_v10 (F := Ideal) x0 x1) e').trans (score_ctx H b' h' g' i' j' ⟨0 + i'.val, by omega⟩ rfl
      ⟨128 * (3 * h'.val + g'.val), by omega⟩ (by show 128 * (3 * h'.val + g'.val) / 128 = _; omega))⟩
  refine ⟨r, ?_⟩
  rw [val_main_v13_apply, e, val_main_v12_apply, val_main_cst_1_apply]
  show max (Ideal.ofBits .f32 0xFF800000#32) (r : EReal) = r
  rw [low_eq]
  exact max_eq_right bot_le

theorem out_ctx (H : Reals x0 x1 x2 Q K V) (b h : Fin 4) (g : Fin 3) (i : Fin 256) (d : Fin 128) (I : Fin 8448)
    (hI : I.val = 0 + i.val) (ch : Fin 1536) (hc : ch.val = 128 * (3 * h.val + g.val) + d.val) :
    val_main_v22 (F := Ideal) x0 x1 x2 (ix5 b h d g i) = (att scale Q K V b I ch : EReal) := by
  obtain ⟨μ, hμ⟩ := max_ctx H b h g i
  have hp : ∀ j : Fin 256, val_main_v17 (F := Ideal) x0 x1 (ix5 b h g i j) = (Real.exp (score scale Q K b I ch j.val - μ) : EReal) := by
    intro j
    have ei : idx_main_v14 (idx_main_v15 (ix5 b h g i j)) = ix4 b h g i := funext fun a => match a with
      | ⟨0, _⟩ => rfl | ⟨1, _⟩ => rfl | ⟨2, _⟩ => rfl | ⟨3, _⟩ => rfl
    rw [val_main_v17_apply, val_main_v16_apply, val_main_v15_apply, val_main_v14_apply, ei, hμ,
      score_ctx H b h g i j I hI ch (by omega)]
    show Ideal.exp ((score scale Q K b I ch j.val : EReal) - (μ : EReal)) = _
    rw [← EReal.coe_sub]; rfl
  have hd : val_main_v18 (F := Ideal) x0 x1 (ix4 b h g i) = ((∑ j ∈ Finset.range 256, Real.exp (score scale Q K b I ch j - μ) : ℝ) : EReal) := by
    rw [val_main_v18_apply, val_main_cst_2_apply]
    show Ideal.ofBits .f32 0x00000000#32 + _ = _
    rw [nil_eq, zero_add, ← Fin.sum_univ_eq_sum_range (fun j => Real.exp (score scale Q K b I ch j - μ)), coe_sum]
    refine Finset.sum_congr rfl fun j _ => ?_
    rw [show idx_main_v18 (ix4 b h g i) j = ix5 b h g i j from funext fun a => match a with
      | ⟨0, _⟩ => rfl | ⟨1, _⟩ => rfl | ⟨2, _⟩ => rfl | ⟨3, _⟩ => rfl | ⟨4, _⟩ => rfl]
    exact hp j
  have hpos : (∑ j ∈ Finset.range 256, Real.exp (score scale Q K b I ch j - μ)) ≠ 0 :=
    (Finset.sum_pos (fun j _ => Real.exp_pos _) ⟨0, Finset.mem_range.2 (by decide)⟩).ne'
  have hw : ∀ j : Fin 256, val_main_v21 (F := Ideal) x0 x1 (ix5 b h g i j)
      = ((Real.exp (score scale Q K b I ch j.val - μ) / ∑ j ∈ Finset.range 256, Real.exp (score scale Q K b I ch j - μ) : ℝ) : EReal) := by
    intro j
    have ei : idx_main_v19 (idx_main_v20 (ix5 b h g i j)) = ix4 b h g i := funext fun a => match a with
      | ⟨0, _⟩ => rfl | ⟨1, _⟩ => rfl | ⟨2, _⟩ => rfl | ⟨3, _⟩ => rfl
    rw [val_main_v21_apply, val_main_v20_apply, val_main_v19_apply, ei, hd, hp j]
    refine (Ideal.div_coe hpos _).trans ?_
    rw [← EReal.coe_mul, mul_one_div]
  have hs : seen I = 256 := by unfold seen; rw [if_pos (by omega)]
  rw [val_main_v22_apply]
  unfold att
  rw [hs, ← softmax_shift 256 (score scale Q K b I ch) (fun j => V b j ⟨128 * (ch.val / 384) + ch.val % 128, by omega⟩) μ,
    ← Fin.sum_univ_eq_sum_range (fun j => V b j ⟨128 * (ch.val / 384) + ch.val % 128, by omega⟩ * (Real.exp (score scale Q K b I ch j - μ)
      / ∑ j ∈ Finset.range 256, Real.exp (score scale Q K b I ch j - μ))), coe_sum]
  refine Finset.sum_congr rfl fun j _ => ?_
  have er : ridx_main_v22 (ix5 b h d g i) j = ix5 b h g i j := funext fun a => match a with
    | ⟨0, _⟩ => rfl | ⟨1, _⟩ => rfl | ⟨2, _⟩ => rfl | ⟨3, _⟩ => rfl | ⟨4, _⟩ => rfl
  have el : lidx_main_v22 (ix5 b h d g i) j = ix4 b j h d := funext fun a => match a with
    | ⟨0, _⟩ => rfl | ⟨1, _⟩ => rfl | ⟨2, _⟩ => rfl | ⟨3, _⟩ => rfl
  rw [er, el, hw j, v_ctx H, EReal.coe_mul]
  exact congrArg (fun z => ((V b j.val z : ℝ) : EReal) * ((Real.exp (score scale Q K b I ch j.val - μ)
      / ∑ j ∈ Finset.range 256, Real.exp (score scale Q K b I ch j - μ) : ℝ) : EReal))
    (Fin.ext (by show 128 * h.val + d.val = 128 * (ch.val / 384) + ch.val % 128; omega))

theorem rows_ctx (H : Reals x0 x1 x2 Q K V) (b : Fin 4) (i : Fin 256) (ch : Fin 1536) (I : Fin 8448) (hI : I.val = 0 + i.val) :
    val_main_v24 (F := Ideal) x0 x1 x2 (ix3 b i ch) = (att scale Q K V b I ch : EReal) := by
  rw [val_main_v24_apply, val_main_v23_apply,
    show idx_main_v23 (idx_main_v24 (ix3 b i ch)) = ix5 b ⟨ch.val / 384, by omega⟩ ⟨ch.val % 128, by omega⟩ ⟨ch.val / 128 % 3, by omega⟩ i from
      funext fun a => Fin.ext (match a with
        | ⟨0, _⟩ => by show ((b.val * 256 + i.val) * 1536 + ch.val) / 393216 = b.val; omega
        | ⟨1, _⟩ => by show ((b.val * 256 + i.val) * 1536 + ch.val) / 384 % 4 = ch.val / 384; omega
        | ⟨2, _⟩ => by show ((b.val * 256 + i.val) * 1536 + ch.val) % 128 = ch.val % 128; omega
        | ⟨3, _⟩ => by show ((b.val * 256 + i.val) * 1536 + ch.val) / 128 % 3 = ch.val / 128 % 3; omega
        | ⟨4, _⟩ => by show ((b.val * 256 + i.val) * 1536 + ch.val) / 1536 % 256 = i.val; omega)]
  exact out_ctx H b _ _ i _ I hI ch (by show ch.val = 128 * (3 * (ch.val / 384) + ch.val / 128 % 3) + ch.val % 128; omega)

/-! ### The other rows -/

theorem q_lat (H : Reals x0 x1 x2 Q K V) (b : Fin 4) (i : Fin 8192) (h : Fin 4) (g : Fin 3) (e : Fin 128) (I : Fin 8448)
    (hI : I.val = 256 + i.val) (c : Fin 1536) (hc : c.val = 128 * (3 * h.val + g.val) + e.val) :
    val_main_v26 (F := Ideal) x0 (ix5 b i h g e) = (Q b I c : EReal) := by
  rw [val_main_v26_apply, show idx_main_v26 (ix5 b i h g e) = ix4 b i ⟨3 * h.val + g.val, by omega⟩ e from funext fun a => Fin.ext (match a with
    | ⟨0, _⟩ => by show ((((b.val * 8192 + i.val) * 4 + h.val) * 3 + g.val) * 128 + e.val) / 12582912 = b.val; omega
    | ⟨1, _⟩ => by show ((((b.val * 8192 + i.val) * 4 + h.val) * 3 + g.val) * 128 + e.val) / 1536 % 8192 = i.val; omega
    | ⟨2, _⟩ => by show ((((b.val * 8192 + i.val) * 4 + h.val) * 3 + g.val) * 128 + e.val) / 128 % 12 = 3 * h.val + g.val; omega
    | ⟨3, _⟩ => by show ((((b.val * 8192 + i.val) * 4 + h.val) * 3 + g.val) * 128 + e.val) % 128 = e.val; omega),
    val_main_v25_apply, show idx_main_v25 (ix4 b i ⟨3 * h.val + g.val, by omega⟩ e) = ix4 b I ⟨3 * h.val + g.val, by omega⟩ e from
      funext fun a => Fin.ext (match a with
        | ⟨0, _⟩ => rfl
        | ⟨1, _⟩ => by show 256 + i.val = I.val; omega
        | ⟨2, _⟩ => rfl
        | ⟨3, _⟩ => rfl), q_heads H]
  exact congrArg (fun z => ((Q b I z : ℝ) : EReal)) (Fin.ext hc.symm)

theorem k_lat (H : Reals x0 x1 x2 Q K V) (b : Fin 4) (j : Fin 8448) (h : Fin 4) (e : Fin 128) :
    val_main_v1 (F := Ideal) x1 (ix4 b j h e) = (K b j.val ⟨128 * h.val + e.val, by omega⟩ : EReal) := k_heads H b j h e

theorem v_lat (H : Reals x0 x1 x2 Q K V) (b : Fin 4) (j : Fin 8448) (h : Fin 4) (e : Fin 128) :
    val_main_v2 (F := Ideal) x2 (ix4 b j h e) = (V b j.val ⟨128 * h.val + e.val, by omega⟩ : EReal) := v_heads H b j h e

theorem score_lat (H : Reals x0 x1 x2 Q K V) (b h : Fin 4) (g : Fin 3) (i : Fin 8192) (j : Fin 8448) (I : Fin 8448)
    (hI : I.val = 256 + i.val) (ch : Fin 1536) (hc : ch.val / 128 = 3 * h.val + g.val) :
    val_main_v30 (F := Ideal) x0 x1 (ix5 b h g i j) = (score scale Q K b I ch j.val : EReal) := by
  have hm : val_main_v28 (F := Ideal) x0 x1 (ix5 b h g i j)
      = ((∑ e : Fin 128, Q b I ⟨128 * (ch.val / 128) + e.val, by omega⟩ * K b j.val ⟨128 * (ch.val / 384) + e.val, by omega⟩ : ℝ) : EReal) := by
    rw [val_main_v28_apply, val_main_v27_apply, coe_sum]
    refine Finset.sum_congr rfl fun e _ => ?_
    rw [EReal.coe_mul, mul_comm]
    have er : ridx_main_v27 (idx_main_v28 (ix5 b h g i j)) e = ix5 b i h g e := funext fun a => match a with
      | ⟨0, _⟩ => rfl | ⟨1, _⟩ => rfl | ⟨2, _⟩ => rfl | ⟨3, _⟩ => rfl | ⟨4, _⟩ => rfl
    have el : lidx_main_v27 (idx_main_v28 (ix5 b h g i j)) e = ix4 b j h e := funext fun a => match a with
      | ⟨0, _⟩ => rfl | ⟨1, _⟩ => rfl | ⟨2, _⟩ => rfl | ⟨3, _⟩ => rfl
    rw [er, el, q_lat H b i h g e I hI ⟨128 * (ch.val / 128) + e.val, by omega⟩ (by show 128 * (ch.val / 128) + e.val = _; rw [hc]), k_lat H]
    exact congrArg (fun z => ((Q b I ⟨128 * (ch.val / 128) + e.val, by omega⟩ : ℝ) : EReal) * ((K b j.val z : ℝ) : EReal))
      (Fin.ext (by show 128 * h.val + e.val = 128 * (ch.val / 384) + e.val; omega))
  show (val_main_v28 (F := Ideal) x0 x1 (ix5 b h g i j) : EReal) * val_main_v29 (F := Ideal) (ix5 b h g i j) = _
  rw [hm, val_main_v29_apply, val_main_cst_3_apply]
  show _ * Ideal.ofBits .f32 0x3DB504F3#32 = _
  rw [scale_eq, ← EReal.coe_mul]
  rfl

theorem max_lat (H : Reals x0 x1 x2 Q K V) (b h : Fin 4) (g : Fin 3) (i : Fin 8192) :
    ∃ μ : ℝ, val_main_v33 (F := Ideal) x0 x1 (ix4 b h g i) = (μ : EReal) := by
  have hr : (⟨5, ![4, 4, 3, 8192, 8448]⟩ : Shape).Reduces [4] (⟨4, ![4, 4, 3, 8192]⟩ : Shape) := by decide
  obtain ⟨r, e⟩ : ∃ r : ℝ, val_main_v31 (F := Ideal) x0 x1 (ix4 b h g i) = (r : EReal) := by
    unfold val_main_v31
    refine max_real (s := ⟨5, ![4, 4, 3, 8192, 8448]⟩) (a := 4) _ _ _ hr _ _ low_eq (⟨0, by decide⟩ : Fin 8448) fun k => ?_
    obtain ⟨b', h', g', i', j', e'⟩ : ∃ (b' h' : Fin 4) (g' : Fin 3) (i' : Fin 8192) (j' : Fin 8448), hr.lift (ix4 b h g i) k = ix5 b' h' g' i' j' :=
      ⟨_, _, _, _, _, ValueIdx.eq_ix5 (n0 := 4) (n1 := 4) (n2 := 3) (n3 := 8192) (n4 := 8448) (hr.lift (ix4 b h g i) k)⟩
    exact ⟨_, (congrArg (val_main_v30 (F := Ideal) x0 x1) e').trans (score_lat H b' h' g' i' j' ⟨256 + i'.val, by omega⟩ rfl
      ⟨128 * (3 * h'.val + g'.val), by omega⟩ (by show 128 * (3 * h'.val + g'.val) / 128 = _; omega))⟩
  refine ⟨r, ?_⟩
  rw [val_main_v33_apply, e, val_main_v32_apply, val_main_cst_5_apply]
  show max (Ideal.ofBits .f32 0xFF800000#32) (r : EReal) = r
  rw [low_eq]
  exact max_eq_right bot_le

theorem out_lat (H : Reals x0 x1 x2 Q K V) (b h : Fin 4) (g : Fin 3) (i : Fin 8192) (d : Fin 128) (I : Fin 8448)
    (hI : I.val = 256 + i.val) (ch : Fin 1536) (hc : ch.val = 128 * (3 * h.val + g.val) + d.val) :
    val_main_v42 (F := Ideal) x0 x1 x2 (ix5 b h d g i) = (att scale Q K V b I ch : EReal) := by
  obtain ⟨μ, hμ⟩ := max_lat H b h g i
  have hp : ∀ j : Fin 8448, val_main_v37 (F := Ideal) x0 x1 (ix5 b h g i j) = (Real.exp (score scale Q K b I ch j.val - μ) : EReal) := by
    intro j
    have ei : idx_main_v34 (idx_main_v35 (ix5 b h g i j)) = ix4 b h g i := funext fun a => match a with
      | ⟨0, _⟩ => rfl | ⟨1, _⟩ => rfl | ⟨2, _⟩ => rfl | ⟨3, _⟩ => rfl
    rw [val_main_v37_apply, val_main_v36_apply, val_main_v35_apply, val_main_v34_apply, ei, hμ,
      score_lat H b h g i j I hI ch (by omega)]
    show Ideal.exp ((score scale Q K b I ch j.val : EReal) - (μ : EReal)) = _
    rw [← EReal.coe_sub]; rfl
  have hd : val_main_v38 (F := Ideal) x0 x1 (ix4 b h g i) = ((∑ j ∈ Finset.range 8448, Real.exp (score scale Q K b I ch j - μ) : ℝ) : EReal) := by
    rw [val_main_v38_apply, val_main_cst_6_apply]
    show Ideal.ofBits .f32 0x00000000#32 + _ = _
    rw [nil_eq, zero_add, ← Fin.sum_univ_eq_sum_range (fun j => Real.exp (score scale Q K b I ch j - μ)), coe_sum]
    refine Finset.sum_congr rfl fun j _ => ?_
    rw [show idx_main_v38 (ix4 b h g i) j = ix5 b h g i j from funext fun a => match a with
      | ⟨0, _⟩ => rfl | ⟨1, _⟩ => rfl | ⟨2, _⟩ => rfl | ⟨3, _⟩ => rfl | ⟨4, _⟩ => rfl]
    exact hp j
  have hpos : (∑ j ∈ Finset.range 8448, Real.exp (score scale Q K b I ch j - μ)) ≠ 0 :=
    (Finset.sum_pos (fun j _ => Real.exp_pos _) ⟨0, Finset.mem_range.2 (by decide)⟩).ne'
  have hw : ∀ j : Fin 8448, val_main_v41 (F := Ideal) x0 x1 (ix5 b h g i j)
      = ((Real.exp (score scale Q K b I ch j.val - μ) / ∑ j ∈ Finset.range 8448, Real.exp (score scale Q K b I ch j - μ) : ℝ) : EReal) := by
    intro j
    have ei : idx_main_v39 (idx_main_v40 (ix5 b h g i j)) = ix4 b h g i := funext fun a => match a with
      | ⟨0, _⟩ => rfl | ⟨1, _⟩ => rfl | ⟨2, _⟩ => rfl | ⟨3, _⟩ => rfl
    rw [val_main_v41_apply, val_main_v40_apply, val_main_v39_apply, ei, hd, hp j]
    refine (Ideal.div_coe hpos _).trans ?_
    rw [← EReal.coe_mul, mul_one_div]
  have hs : seen I = 8448 := by unfold seen; rw [if_neg (by omega)]
  rw [val_main_v42_apply]
  unfold att
  rw [hs, ← softmax_shift 8448 (score scale Q K b I ch) (fun j => V b j ⟨128 * (ch.val / 384) + ch.val % 128, by omega⟩) μ,
    ← Fin.sum_univ_eq_sum_range (fun j => V b j ⟨128 * (ch.val / 384) + ch.val % 128, by omega⟩ * (Real.exp (score scale Q K b I ch j - μ)
      / ∑ j ∈ Finset.range 8448, Real.exp (score scale Q K b I ch j - μ))), coe_sum]
  refine Finset.sum_congr rfl fun j _ => ?_
  have er : ridx_main_v42 (ix5 b h d g i) j = ix5 b h g i j := funext fun a => match a with
    | ⟨0, _⟩ => rfl | ⟨1, _⟩ => rfl | ⟨2, _⟩ => rfl | ⟨3, _⟩ => rfl | ⟨4, _⟩ => rfl
  have el : lidx_main_v42 (ix5 b h d g i) j = ix4 b j h d := funext fun a => match a with
    | ⟨0, _⟩ => rfl | ⟨1, _⟩ => rfl | ⟨2, _⟩ => rfl | ⟨3, _⟩ => rfl
  rw [er, el, hw j, v_lat H, EReal.coe_mul]
  exact congrArg (fun z => ((V b j.val z : ℝ) : EReal) * ((Real.exp (score scale Q K b I ch j.val - μ)
      / ∑ j ∈ Finset.range 8448, Real.exp (score scale Q K b I ch j - μ) : ℝ) : EReal))
    (Fin.ext (by show 128 * h.val + d.val = 128 * (ch.val / 384) + ch.val % 128; omega))

theorem rows_lat (H : Reals x0 x1 x2 Q K V) (b : Fin 4) (i : Fin 8192) (ch : Fin 1536) (I : Fin 8448) (hI : I.val = 256 + i.val) :
    val_main_v44 (F := Ideal) x0 x1 x2 (ix3 b i ch) = (att scale Q K V b I ch : EReal) := by
  rw [val_main_v44_apply, val_main_v43_apply,
    show idx_main_v43 (idx_main_v44 (ix3 b i ch)) = ix5 b ⟨ch.val / 384, by omega⟩ ⟨ch.val % 128, by omega⟩ ⟨ch.val / 128 % 3, by omega⟩ i from
      funext fun a => Fin.ext (match a with
        | ⟨0, _⟩ => by show ((b.val * 8192 + i.val) * 1536 + ch.val) / 12582912 = b.val; omega
        | ⟨1, _⟩ => by show ((b.val * 8192 + i.val) * 1536 + ch.val) / 384 % 4 = ch.val / 384; omega
        | ⟨2, _⟩ => by show ((b.val * 8192 + i.val) * 1536 + ch.val) % 128 = ch.val % 128; omega
        | ⟨3, _⟩ => by show ((b.val * 8192 + i.val) * 1536 + ch.val) / 128 % 3 = ch.val / 128 % 3; omega
        | ⟨4, _⟩ => by show ((b.val * 8192 + i.val) * 1536 + ch.val) / 1536 % 8192 = i.val; omega)]
  exact out_lat H b _ _ i _ I hI ch (by show ch.val = 128 * (3 * (ch.val / 384) + ch.val / 128 % 3) + ch.val % 128; omega)

/-- The reference's result. -/
theorem ref_value (H : Reals x0 x1 x2 Q K V) (b : Fin 4) (i : Fin 8448) (ch : Fin 1536) :
    val_main_v46 (F := Ideal) x0 x1 x2 (ix3 b i ch) = (att scale Q K V b i ch : EReal) := by
  show val_main_v45 (F := Ideal) x0 x1 x2 (ix3 b i ch) = _
  unfold val_main_v45
  by_cases hi : i.val < 256
  · refine (concatenate_pair_apply_left (t := S4x8448x1536) (s₁ := S4x256x1536) (s₂ := S4x8192x1536) 1 _ _
      concatenates_S4x256x1536_S4x8192x1536_S4x8448x1536_d1 (ix3 b i ch) rfl (ix3 b ⟨i.val, hi⟩ ch) (fun a => match a with
        | ⟨0, _⟩ => rfl | ⟨1, _⟩ => rfl | ⟨2, _⟩ => rfl)).trans ?_
    exact rows_ctx H b ⟨i.val, hi⟩ ch i (by show i.val = 0 + i.val; omega)
  · refine (concatenate_pair_apply_right (t := S4x8448x1536) (s₁ := S4x256x1536) (s₂ := S4x8192x1536) 1 _ _
      concatenates_S4x256x1536_S4x8192x1536_S4x8448x1536_d1 (ix3 b i ch) rfl rfl (ix3 b ⟨i.val - 256, by omega⟩ ch) (fun a => match a with
        | ⟨0, _⟩ => fun _ => rfl | ⟨1, _⟩ => fun h => absurd rfl h | ⟨2, _⟩ => fun _ => rfl)
      (by show i.val - 256 + 256 = i.val; omega)).trans ?_
    exact rows_lat H b ⟨i.val - 256, by omega⟩ ch i (by show i.val = 256 + (i.val - 256); omega)

end Cert.ReferenceIdeal.Hand

end
-- ==== Proof.Steps.lean ====
/-
  The attention body restated by its steps: scores of a chunk of keys into a buffer, and one step of the running
  softmax per group of 256 rows and chunk of keys. The printed body is this one.
-/
module

public import proofs.«01_k».proof.Proof.Gen.KernelIdeal.Skeleton
public import proofs.«01_k».proof.Proof.Gen.KernelIdeal.Frame
public import Idealize.ShloMosaic.Lib.Tactic

@[expose] public section

set_option maxRecDepth 65536
set_option synthInstance.maxSize 4096

noncomputable section

namespace Cert.KernelIdeal.Hand

open Cert.KernelIdeal Cert.KernelIdeal.Gen
open Idealize.ShloMosaic Idealize.SL.Sem

variable {F : FTy → Type} [FloatOps F]

/-! ## The vectors of one step -/

/-- The running maximum of 256 rows after a block of maxima `mc` per lane. -/
def newMax (mc m : FVec F S256x128 .f32) : FVec F S256x128 .f32 :=
  maximumf m (broadcastTo S256x128 (shapeCast S256x1 (shapeCast S256x1
    (multiReduction .maximumf [1] S256 mc 0xFF800000#32 reduces_S256x128_S256 (.inl rfl) rfl)
    shapeCasts_S256_S256x1) shapeCasts_S256x1_S256x1) broadcasts_S256x1_S256x128)

/-- The weights of 128 keys. -/
def wt (s m : FVec F S256x128 .f32) : FVec F S256x128 .bf16 := truncf .bf16 (exp2 (subf s m)) bitsLt_bf16_f32

/-- The lanes' maxima of a chunk of 1024 scores. -/
def maxL (s : FVec F S256x1024 .f32) : FVec F S256x128 .f32 := maximumf (maximumf (maximumf (maximumf (maximumf (maximumf (maximumf (extractStridedSlice S256x128 ![0, 0] s slices_S256x1024_o0_0_S256x128) (extractStridedSlice S256x128 ![0, 128] s slices_S256x1024_o0_128_S256x128)) (extractStridedSlice S256x128 ![0, 256] s slices_S256x1024_o0_256_S256x128)) (extractStridedSlice S256x128 ![0, 384] s slices_S256x1024_o0_384_S256x128)) (extractStridedSlice S256x128 ![0, 512] s slices_S256x1024_o0_512_S256x128)) (extractStridedSlice S256x128 ![0, 640] s slices_S256x1024_o0_640_S256x128)) (extractStridedSlice S256x128 ![0, 768] s slices_S256x1024_o0_768_S256x128)) (extractStridedSlice S256x128 ![0, 896] s slices_S256x1024_o0_896_S256x128)

/-- The lanes' maxima of the 256 context scores. -/
def maxC (s : FVec F S256x256 .f32) : FVec F S256x128 .f32 := maximumf (extractStridedSlice S256x128 ![0, 0] s slices_S256x256_o0_0_S256x128) (extractStridedSlice S256x128 ![0, 128] s slices_S256x256_o0_128_S256x128)

/-- The weights of a chunk of 1024 keys. -/
def wL (s : FVec F S256x1024 .f32) (m : FVec F S256x128 .f32) : FVec F S256x1024 .bf16 :=
  concatenate S256x1024 1 [⟨S256x128, wt (extractStridedSlice S256x128 ![0, 0] s slices_S256x1024_o0_0_S256x128) m⟩, ⟨S256x128, wt (extractStridedSlice S256x128 ![0, 128] s slices_S256x1024_o0_128_S256x128) m⟩, ⟨S256x128, wt (extractStridedSlice S256x128 ![0, 256] s slices_S256x1024_o0_256_S256x128) m⟩, ⟨S256x128, wt (extractStridedSlice S256x128 ![0, 384] s slices_S256x1024_o0_384_S256x128) m⟩, ⟨S256x128, wt (extractStridedSlice S256x128 ![0, 512] s slices_S256x1024_o0_512_S256x128) m⟩, ⟨S256x128, wt (extractStridedSlice S256x128 ![0, 640] s slices_S256x1024_o0_640_S256x128) m⟩, ⟨S256x128, wt (extractStridedSlice S256x128 ![0, 768] s slices_S256x1024_o0_768_S256x128) m⟩, ⟨S256x128, wt (extractStridedSlice S256x128 ![0, 896] s slices_S256x1024_o0_896_S256x128) m⟩]
    concatenates_S256x128_S256x128_S256x128_S256x128_S256x128_S256x128_S256x128_S256x128_S256x1024_d1

/-- The weights of the 256 context keys. -/
def wC (s : FVec F S256x256 .f32) (m : FVec F S256x128 .f32) : FVec F S256x256 .bf16 :=
  concatenate S256x256 1 [⟨S256x128, wt (extractStridedSlice S256x128 ![0, 0] s slices_S256x256_o0_0_S256x128) m⟩, ⟨S256x128, wt (extractStridedSlice S256x128 ![0, 128] s slices_S256x256_o0_128_S256x128) m⟩] concatenates_S256x128_S256x128_S256x256_d1

/-- The weighted values of a chunk of 1024 keys. -/
def pvL (s : FVec F S256x1024 .f32) (vx : FVec F S1024x256 .bf16) (m : FVec F S256x128 .f32) : FVec F S256x256 .f32 :=
  matmul dot_S256x1024_S1024x256_S256x256_1_0_0_1_n_n none (wL s m) vx (constant S256x256 .f32 0x00000000#32)

/-- The weighted values of the 256 context keys. -/
def pvC (s : FVec F S256x256 .f32) (vx : FVec F S256x256 .bf16) (m : FVec F S256x128 .f32) : FVec F S256x256 .f32 :=
  matmul dot_S256x256_S256x256_S256x256_1_0_0_1_n_n none (wC s m) vx (constant S256x256 .f32 0x00000000#32)

/-- The values of a chunk with a column of ones beside each. -/
def vxL (x : Vec F S1x1024x128 .bf16) : FVec F S1024x256 .bf16 :=
  concatenate S1024x256 1 [⟨S1024x128, shapeCast S1024x128 x shapeCasts_S1x1024x128_S1024x128⟩,
    ⟨S1024x128, broadcast S1024x128 (Scalar.ofBits .bf16 0x3F80#16)⟩] concatenates_S1024x128_S1024x128_S1024x256_d1

/-- The values of the context with a column of ones beside each. -/
def vxC (x : Vec F S1x256x128 .bf16) : FVec F S256x256 .bf16 :=
  concatenate S256x256 1 [⟨S256x128, shapeCast S256x128 x shapeCasts_S1x256x128_S256x128⟩,
    ⟨S256x128, broadcast S256x128 (Scalar.ofBits .bf16 0x3F80#16)⟩] concatenates_S256x128_S256x128_S256x256_d1

/-- The three groups of queries, one under the other. -/
def qcat (x0 x1 x2 : Vec F S1x256x128 .bf16) : FVec F S768x128 .bf16 :=
  concatenate S768x128 0 [⟨S256x128, shapeCast S256x128 x0 shapeCasts_S1x256x128_S256x128⟩,
    ⟨S256x128, shapeCast S256x128 x1 shapeCasts_S1x256x128_S256x128⟩,
    ⟨S256x128, shapeCast S256x128 x2 shapeCasts_S1x256x128_S256x128⟩] concatenates_S256x128_S256x128_S256x128_S768x128_d0

/-- The scores of all rows at a chunk of 1024 keys. -/
def scL (q : FVec F S768x128 .bf16) (kt : Vec F S1x1x128x1024 .bf16) : FVec F S768x1024 .f32 :=
  shapeCast S768x1024 (matmul dot_S768x128_S128x1024_S768x1024_1_0_0_1_n_n none q
    (shapeCast S128x1024 kt shapeCasts_S1x1x128x1024_S128x1024) (constant S768x1024 .f32 0x00000000#32)) shapeCasts_S768x1024_S768x1024

/-- The scores of all rows at the 256 context keys. -/
def scC (q : FVec F S768x128 .bf16) (kt : Vec F S1x1x128x256 .bf16) : FVec F S768x256 .f32 :=
  matmul dot_S768x128_S128x256_S768x256_1_0_0_1_n_n none q
    (shapeCast S128x256 kt shapeCasts_S1x1x128x256_S128x256) (constant S768x256 .f32 0x00000000#32)

/-- Half of the new accumulator. -/
def accL (m mN acc : FVec F S256x128 .f32) (pv : FVec F S256x256 .f32) : FVec F S256x128 .f32 :=
  shapeCast S256x128 (addf (mulf (exp2 (subf m mN)) acc) (extractStridedSlice S256x128 ![0, 0] pv slices_S256x256_o0_0_S256x128)) shapeCasts_S256x128_S256x128
/-- The other half. -/
def accR (m mN acc : FVec F S256x128 .f32) (pv : FVec F S256x256 .f32) : FVec F S256x128 .f32 :=
  shapeCast S256x128 (addf (mulf (exp2 (subf m mN)) acc) (extractStridedSlice S256x128 ![0, 128] pv slices_S256x256_o0_128_S256x128)) shapeCasts_S256x128_S256x128

/-- What goes out. -/
def outV (x y : FVec F S256x128 .f32) : FVec F S1x256x128 .bf16 :=
  shapeCast S1x256x128 (truncf .bf16 (divf x y) bitsLt_bf16_f32) shapeCasts_S256x128_S1x256x128

/-! ## The steps -/

/-- One step of the running softmax on the 256 rows from `o` on: the lanes' maxima `mc`, the weighted values `pv` at
the new maximum. -/
def stepG (o : ℕ) (p9 : ∀ a, (![o, 0] : Fin 2 → ℕ) a + S256x128.size a ≤ S768x128.size a)
    (pL : ∀ a, (![o, 0] : Fin 2 → ℕ) a + S256x128.size a ≤ S768x256.size a)
    (pR : ∀ a, (![o, 128] : Fin 2 → ℕ) a + S256x128.size a ≤ S768x256.size a)
    (mc : FVec F S256x128 .f32) (pv : FVec F S256x128 .f32 → FVec F S256x256 .f32)
    (a9 : Memref sig .tc .vmem S768x128 .f32) (a10 : Memref sig .tc .vmem S768x256 .f32) :
    Prog (TpuEff nD τ sig (Elt F) Λ₀ .tc) PUnit := do
  let m : Vec F S256x128 .f32 ← Prog.lift (.load a9 (Rect.unit (s := S768x128) ![o, 0] S256x128.size p9).toLoadRect (View.loadsAt_vmem h_S256x128))
  let aL : Vec F S256x128 .f32 ← Prog.lift (.load a10 (Rect.unit (s := S768x256) ![o, 0] S256x128.size pL).toLoadRect (View.loadsAt_vmem h_S256x128))
  let _x : Vec F S256x128 .f32 ← Prog.lift (.load a10 (Rect.unit (s := S768x256) ![o, 0] S256x128.size pL).toLoadRect (View.loadsAt_vmem h_S256x128))
  Prog.lift (.store a10 (Rect.unit (s := S768x256) ![o, 0] S256x128.size pL) (accL m (newMax mc m) aL (pv (newMax mc m))) Finset.univ (View.stores_vmem_bits_univ h_S256x128 rfl) (.inl rfl))
  let aR : Vec F S256x128 .f32 ← Prog.lift (.load a10 (Rect.unit (s := S768x256) ![o, 128] S256x128.size pR).toLoadRect (View.loadsAt_vmem h_S256x128))
  let _x : Vec F S256x128 .f32 ← Prog.lift (.load a10 (Rect.unit (s := S768x256) ![o, 128] S256x128.size pR).toLoadRect (View.loadsAt_vmem h_S256x128))
  Prog.lift (.store a10 (Rect.unit (s := S768x256) ![o, 128] S256x128.size pR) (accR m (newMax mc m) aR (pv (newMax mc m))) Finset.univ (View.stores_vmem_bits_univ h_S256x128 rfl) (.inl rfl))
  let _x : Vec F S256x128 .f32 ← Prog.lift (.load a9 (Rect.unit (s := S768x128) ![o, 0] S256x128.size p9).toLoadRect (View.loadsAt_vmem h_S256x128))
  Prog.lift (.store a9 (Rect.unit (s := S768x128) ![o, 0] S256x128.size p9) (shapeCast S256x128 (newMax mc m) shapeCasts_S256x128_S256x128) Finset.univ (View.stores_vmem_bits_univ h_S256x128 rfl) (.inl rfl))
  pure ⟨⟩

/-- The same with the 256 rows of scores read from a buffer. -/
def stepS (o : ℕ) (pS : ∀ a, (![o, 0] : Fin 2 → ℕ) a + S256x1024.size a ≤ S768x1024.size a)
    (p9 : ∀ a, (![o, 0] : Fin 2 → ℕ) a + S256x128.size a ≤ S768x128.size a)
    (pL : ∀ a, (![o, 0] : Fin 2 → ℕ) a + S256x128.size a ≤ S768x256.size a)
    (pR : ∀ a, (![o, 128] : Fin 2 → ℕ) a + S256x128.size a ≤ S768x256.size a)
    (vx : FVec F S1024x256 .bf16) (a7 : Memref sig .tc .vmem S768x1024 .f32)
    (a9 : Memref sig .tc .vmem S768x128 .f32) (a10 : Memref sig .tc .vmem S768x256 .f32) :
    Prog (TpuEff nD τ sig (Elt F) Λ₀ .tc) PUnit := do
  let s : Vec F S256x1024 .f32 ← Prog.lift (.load a7 (Rect.unit (s := S768x1024) ![o, 0] S256x1024.size pS).toLoadRect (View.loadsAt_vmem h_S256x1024))
  stepG o p9 pL pR (maxL s) (pvL s vx) a9 a10

/-- The step on every row, over a chunk of 1024 keys whose values are read at `off`. -/
def chunk (off : Fin 3 → ℕ) (pV : ∀ a, off a + S1x1024x128.size a ≤ S1x8448x128.size a)
    (a5 : Memref sig .tc .vmem S1x8448x128 .bf16) (a7 : Memref sig .tc .vmem S768x1024 .f32)
    (a9 : Memref sig .tc .vmem S768x128 .f32) (a10 : Memref sig .tc .vmem S768x256 .f32) :
    Prog (TpuEff nD τ sig (Elt F) Λ₀ .tc) PUnit := do
  let x : Vec F S1x1024x128 .bf16 ← Prog.lift (.load a5 (Rect.unit (s := S1x8448x128) off S1x1024x128.size pV).toLoadRect (View.loadsAt_vmem h_S1x1024x128))
  stepS 0 inb_S768x1024_S256x1024_0_0 inb_S768x128_S256x128_0_0 inb_S768x256_S256x128_0_0 inb_S768x256_S256x128_0_128 (vxL x) a7 a9 a10
  stepS 256 inb_S768x1024_S256x1024_256_0 inb_S768x128_S256x128_256_0 inb_S768x256_S256x128_256_0 inb_S768x256_S256x128_256_128 (vxL x) a7 a9 a10
  stepS 512 inb_S768x1024_S256x1024_512_0 inb_S768x128_S256x128_512_0 inb_S768x256_S256x128_512_0 inb_S768x256_S256x128_512_128 (vxL x) a7 a9 a10

/-- The scores of a chunk of 1024 keys, read at `off`, into a buffer. -/
def scoreTo (off : Fin 4 → ℕ) (pK : ∀ a, off a + S1x1x128x1024.size a ≤ S1x1x128x8448.size a) (q : FVec F S768x128 .bf16)
    (a4 : Memref sig .tc .vmem S1x1x128x8448 .bf16) (a7 : Memref sig .tc .vmem S768x1024 .f32) :
    Prog (TpuEff nD τ sig (Elt F) Λ₀ .tc) PUnit := do
  let x : Vec F S1x1x128x1024 .bf16 ← Prog.lift (.load a4 (Rect.unit (s := S1x1x128x8448) off S1x1x128x1024.size pK).toLoadRect (View.loadsAt_vmem h_S1x1x128x1024))
  let _x : Vec F S768x1024 .f32 ← Prog.lift (.load a7 (Rect.unit (s := S768x1024) ![0, 0] S768x1024.size inb_S768x1024_S768x1024_0_0).toLoadRect (View.loadsAt_vmem h_S768x1024))
  Prog.lift (.store a7 (Rect.unit (s := S768x1024) ![0, 0] S768x1024.size inb_S768x1024_S768x1024_0_0) (scL q x) Finset.univ (View.stores_vmem_bits_univ h_S768x1024 rfl) (.inl rfl))
  pure ⟨⟩

/-- One trip: two chunks, the scores one chunk ahead. -/
def trip (i : grid0.Coords) (a4 : Memref sig .tc .vmem S1x1x128x8448 .bf16) (a5 : Memref sig .tc .vmem S1x8448x128 .bf16)
    (a7 a8 : Memref sig .tc .vmem S768x1024 .f32) (a9 : Memref sig .tc .vmem S768x128 .f32) (a10 : Memref sig .tc .vmem S768x256 .f32)
    (q : FVec F S768x128 .bf16) (hc : k0_cond1 i = 1#1) (k : Fin k0_t1_loop.trips) :
    Prog (TpuEff nD τ sig (Elt F) Λ₀ .tc) Unit := do
  scoreTo (k0_off1 k 1#32) (k0_off1_inb i k hc 0) q a4 a8
  chunk (k0_off2 k) (k0_off2_inb i k hc) a5 a7 a9 a10
  scoreTo (k0_off1 k 2#32) (k0_off1_inb i k hc 1) q a4 a7
  chunk (k0_off3 k) (k0_off3_inb i k hc) a5 a8 a9 a10

/-- The queries, the fresh maximum and accumulator, and the context's 256 keys. -/
def pro (a3 : Memref sig .tc .vmem S1x256x384 .bf16) (a4 : Memref sig .tc .vmem S1x1x128x8448 .bf16) (a5 : Memref sig .tc .vmem S1x8448x128 .bf16)
    (a9 : Memref sig .tc .vmem S768x128 .f32) (a10 : Memref sig .tc .vmem S768x256 .f32) :
    Prog (TpuEff nD τ sig (Elt F) Λ₀ .tc) (FVec F S768x128 .bf16) := do
  let x0 : Vec F S1x256x128 .bf16 ← Prog.lift (.load a3 (Rect.unit (s := S1x256x384) ![0, 0, 0] S1x256x128.size inb_S1x256x384_S1x256x128_0_0_0).toLoadRect (View.loadsAt_vmem h_S1x256x128))
  let x1 : Vec F S1x256x128 .bf16 ← Prog.lift (.load a3 (Rect.unit (s := S1x256x384) ![0, 0, 128] S1x256x128.size inb_S1x256x384_S1x256x128_0_0_128).toLoadRect (View.loadsAt_vmem h_S1x256x128))
  let x2 : Vec F S1x256x128 .bf16 ← Prog.lift (.load a3 (Rect.unit (s := S1x256x384) ![0, 0, 256] S1x256x128.size inb_S1x256x384_S1x256x128_0_0_256).toLoadRect (View.loadsAt_vmem h_S1x256x128))
  let _x : Vec F S768x128 .f32 ← Prog.lift (.load a9 (Rect.unit (s := S768x128) ![0, 0] S768x128.size inb_S768x128_S768x128_0_0).toLoadRect (View.loadsAt_vmem h_S768x128))
  Prog.lift (.store a9 (Rect.unit (s := S768x128) ![0, 0] S768x128.size inb_S768x128_S768x128_0_0) (shapeCast S768x128 (broadcast S768x128 (Scalar.ofBits .f32 0xF149F2CA#32)) shapeCasts_S768x128_S768x128) Finset.univ (View.stores_vmem_bits_univ h_S768x128 rfl) (.inl rfl))
  let _x : Vec F S768x256 .f32 ← Prog.lift (.load a10 (Rect.unit (s := S768x256) ![0, 0] S768x256.size inb_S768x256_S768x256_0_0).toLoadRect (View.loadsAt_vmem h_S768x256))
  Prog.lift (.store a10 (Rect.unit (s := S768x256) ![0, 0] S768x256.size inb_S768x256_S768x256_0_0) (shapeCast S768x256 (broadcast S768x256 (Scalar.ofBits .f32 0x00000000#32)) shapeCasts_S768x256_S768x256) Finset.univ (View.stores_vmem_bits_univ h_S768x256 rfl) (.inl rfl))
  let y : Vec F S1x1x128x256 .bf16 ← Prog.lift (.load a4 (Rect.unit (s := S1x1x128x8448) ![0, 0, 0, 0] S1x1x128x256.size inb_S1x1x128x8448_S1x1x128x256_0_0_0_0).toLoadRect (View.loadsAt_vmem h_S1x1x128x256))
  let x : Vec F S1x256x128 .bf16 ← Prog.lift (.load a5 (Rect.unit (s := S1x8448x128) ![0, 0, 0] S1x256x128.size inb_S1x8448x128_S1x256x128_0_0_0).toLoadRect (View.loadsAt_vmem h_S1x256x128))
  stepG 0 inb_S768x128_S256x128_0_0 inb_S768x256_S256x128_0_0 inb_S768x256_S256x128_0_128
    (maxC (extractStridedSlice S256x256 ![0, 0] (scC (qcat x0 x1 x2) y) slices_S768x256_o0_0_S256x256))
    (pvC (extractStridedSlice S256x256 ![0, 0] (scC (qcat x0 x1 x2) y) slices_S768x256_o0_0_S256x256) (vxC x)) a9 a10
  stepG 256 inb_S768x128_S256x128_256_0 inb_S768x256_S256x128_256_0 inb_S768x256_S256x128_256_128
    (maxC (extractStridedSlice S256x256 ![256, 0] (scC (qcat x0 x1 x2) y) slices_S768x256_o256_0_S256x256))
    (pvC (extractStridedSlice S256x256 ![256, 0] (scC (qcat x0 x1 x2) y) slices_S768x256_o256_0_S256x256) (vxC x)) a9 a10
  stepG 512 inb_S768x128_S256x128_512_0 inb_S768x256_S256x128_512_0 inb_S768x256_S256x128_512_128
    (maxC (extractStridedSlice S256x256 ![512, 0] (scC (qcat x0 x1 x2) y) slices_S768x256_o512_0_S256x256))
    (pvC (extractStridedSlice S256x256 ![512, 0] (scC (qcat x0 x1 x2) y) slices_S768x256_o512_0_S256x256) (vxC x)) a9 a10
  pure (qcat x0 x1 x2)

/-- The last two chunks. -/
def lastPair (a4 : Memref sig .tc .vmem S1x1x128x8448 .bf16) (a5 : Memref sig .tc .vmem S1x8448x128 .bf16)
    (a7 a8 : Memref sig .tc .vmem S768x1024 .f32) (a9 : Memref sig .tc .vmem S768x128 .f32) (a10 : Memref sig .tc .vmem S768x256 .f32)
    (q : FVec F S768x128 .bf16) : Prog (TpuEff nD τ sig (Elt F) Λ₀ .tc) PUnit := do
  scoreTo ![0, 0, 0, 7424] inb_S1x1x128x8448_S1x1x128x1024_0_0_0_7424 q a4 a8
  chunk ![0, 6400, 0] inb_S1x8448x128_S1x1024x128_0_6400_0 a5 a7 a9 a10
  chunk ![0, 7424, 0] inb_S1x8448x128_S1x1024x128_0_7424_0 a5 a8 a9 a10

/-- The quotients out. -/
def epi (a6 : Memref sig .tc .vmem S1x256x384 .bf16) (h6 : a6.IsWhole) (a10 : Memref sig .tc .vmem S768x256 .f32) :
    Prog (TpuEff nD τ sig (Elt F) Λ₀ .tc) PUnit := do
  let x0 : Vec F S256x128 .f32 ← Prog.lift (.load a10 (Rect.unit (s := S768x256) ![0, 0] S256x128.size inb_S768x256_S256x128_0_0).toLoadRect (View.loadsAt_vmem h_S256x128))
  let y0 : Vec F S256x128 .f32 ← Prog.lift (.load a10 (Rect.unit (s := S768x256) ![0, 128] S256x128.size inb_S768x256_S256x128_0_128).toLoadRect (View.loadsAt_vmem h_S256x128))
  let _x : Vec F S1x256x128 .bf16 ← Prog.lift (.load a6 (Rect.unit (s := S1x256x384) ![0, 0, 0] S1x256x128.size inb_S1x256x384_S1x256x128_0_0_0).toLoadRect (View.loadsAt_vmem h_S1x256x128))
  Prog.lift (.store a6 (Rect.unit (s := S1x256x384) ![0, 0, 0] S1x256x128.size inb_S1x256x384_S1x256x128_0_0_0) (outV x0 y0) Finset.univ (View.stores_vmem h_S1x256x128 (h6.storeExact_slice rfl _ packedbf16_S1x256x384_S1x256x128_0_0_0) (fun _ => rfl)) (.inl rfl))
  let x1 : Vec F S256x128 .f32 ← Prog.lift (.load a10 (Rect.unit (s := S768x256) ![256, 0] S256x128.size inb_S768x256_S256x128_256_0).toLoadRect (View.loadsAt_vmem h_S256x128))
  let y1 : Vec F S256x128 .f32 ← Prog.lift (.load a10 (Rect.unit (s := S768x256) ![256, 128] S256x128.size inb_S768x256_S256x128_256_128).toLoadRect (View.loadsAt_vmem h_S256x128))
  let _x : Vec F S1x256x128 .bf16 ← Prog.lift (.load a6 (Rect.unit (s := S1x256x384) ![0, 0, 128] S1x256x128.size inb_S1x256x384_S1x256x128_0_0_128).toLoadRect (View.loadsAt_vmem h_S1x256x128))
  Prog.lift (.store a6 (Rect.unit (s := S1x256x384) ![0, 0, 128] S1x256x128.size inb_S1x256x384_S1x256x128_0_0_128) (outV x1 y1) Finset.univ (View.stores_vmem h_S1x256x128 (h6.storeExact_slice rfl _ packedbf16_S1x256x384_S1x256x128_0_0_128) (fun _ => rfl)) (.inl rfl))
  let x2 : Vec F S256x128 .f32 ← Prog.lift (.load a10 (Rect.unit (s := S768x256) ![512, 0] S256x128.size inb_S768x256_S256x128_512_0).toLoadRect (View.loadsAt_vmem h_S256x128))
  let y2 : Vec F S256x128 .f32 ← Prog.lift (.load a10 (Rect.unit (s := S768x256) ![512, 128] S256x128.size inb_S768x256_S256x128_512_128).toLoadRect (View.loadsAt_vmem h_S256x128))
  let _x : Vec F S1x256x128 .bf16 ← Prog.lift (.load a6 (Rect.unit (s := S1x256x384) ![0, 0, 256] S1x256x128.size inb_S1x256x384_S1x256x128_0_0_256).toLoadRect (View.loadsAt_vmem h_S1x256x128))
  Prog.lift (.store a6 (Rect.unit (s := S1x256x384) ![0, 0, 256] S1x256x128.size inb_S1x256x384_S1x256x128_0_0_256) (outV x2 y2) Finset.univ (View.stores_vmem h_S1x256x128 (h6.storeExact_slice rfl _ packedbf16_S1x256x384_S1x256x128_0_0_256) (fun _ => rfl)) (.inl rfl))
  pure ⟨⟩

/-! ## The printed body is these steps -/

variable (i : grid0.Coords) (a3 : Memref sig .tc .vmem S1x256x384 .bf16) (h3 : a3.IsWhole) (a4 : Memref sig .tc .vmem S1x1x128x8448 .bf16) (h4 : a4.IsWhole) (a5 : Memref sig .tc .vmem S1x8448x128 .bf16) (h5 : a5.IsWhole)
    (a6 : Memref sig .tc .vmem S1x256x384 .bf16) (h6 : a6.IsWhole) (a7 : Memref sig .tc .vmem S768x1024 .f32) (h7 : a7.IsWhole) (a8 : Memref sig .tc .vmem S768x1024 .f32) (h8 : a8.IsWhole)
    (a9 : Memref sig .tc .vmem S768x128 .f32) (h9 : a9.IsWhole) (a10 : Memref sig .tc .vmem S768x256 .f32) (h10 : a10.IsWhole)

/-- A trip's region. -/
theorem trip_eq (q : FVec F S768x128 .bf16) (hc : k0_cond1 i = 1#1) (k : Fin k0_t1_loop.trips) (u : Unit) :
    k0_t1_body (F := F) i a3 h3 a4 h4 a5 h5 a6 h6 a7 h7 a8 h8 a9 h9 a10 h10 q hc k u = trip i a4 a5 a7 a8 a9 a10 q hc k := by
  rfl

/-- The body at a row block of the context only. -/
theorem body_neg (hc : ¬ k0_cond1 i = 1#1) :
    cc0_attention (F := F) i a3 h3 a4 h4 a5 h5 a6 h6 a7 h7 a8 h8 a9 h9 a10 h10 = (pro a3 a4 a5 a9 a10 >>= fun _ => epi a6 h6 a10) := by
  simp only [cc0_attention_eq_skeleton, cc0_attention_skel, k0_part22_eq_skeleton, k0_part22_skel, dif_neg hc]
  rfl

/-- The body at the other row blocks. -/
theorem body_pos (hc : k0_cond1 i = 1#1) :
    cc0_attention (F := F) i a3 h3 a4 h4 a5 h5 a6 h6 a7 h7 a8 h8 a9 h9 a10 h10 = (pro a3 a4 a5 a9 a10 >>= fun q =>
      scoreTo ![0, 0, 0, 256] inb_S1x1x128x8448_S1x1x128x1024_0_0_0_256 q a4 a7 >>= fun _ =>
      Scf.Loop.for k0_t1_loop (k0_t1_ok i hc) ⟨⟩ (fun k u => trip i a4 a5 a7 a8 a9 a10 q hc k) >>= fun _ =>
      lastPair a4 a5 a7 a8 a9 a10 q >>= fun _ => epi a6 h6 a10) := by
  simp only [cc0_attention_eq_skeleton, cc0_attention_skel, k0_part22_eq_skeleton, k0_part22_skel, dif_pos hc,
    k0_part10_eq_skeleton, k0_part10_skel, bind_assoc]
  rfl

end Cert.KernelIdeal.Hand

end
-- ==== Proof.StepRun.lean ====
/-
  Each step of the attention body run once: what it leaves in the maximum and the accumulator.
-/
module

public import proofs.«01_k».proof.Proof.Steps
public import Idealize.ShloMosaic.Lib.VecWindow
public import Idealize.ShloMosaic.Lib.Pipeline.Value
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- 256 rows of the maximum. -/
abbrev win9 (o : ℕ) (p9 : ∀ a, (![o, 0] : Fin 2 → ℕ) a + S256x128.size a ≤ S768x128.size a) (x9 : Vec F S768x128 .f32) : Vec F S256x128 .f32 :=
  VecWindow.window x9 ![o, 0] S256x128.size p9
/-- 256 rows of one half of the accumulator. -/
abbrev win10 (off : Fin 2 → ℕ) (p : ∀ a, off a + S256x128.size a ≤ S768x256.size a) (x10 : Vec F S768x256 .f32) : Vec F S256x128 .f32 :=
  VecWindow.window x10 off S256x128.size p

/-- The maximum after a step. -/
def next9 (o : ℕ) (p9 : ∀ a, (![o, 0] : Fin 2 → ℕ) a + S256x128.size a ≤ S768x128.size a) (mc : FVec F S256x128 .f32)
    (x9 : Vec F S768x128 .f32) : Vec F S768x128 .f32 :=
  VecWindow.put x9 ![o, 0] S256x128.size (newMax mc (win9 o p9 x9))

/-- The accumulator after a step. -/
def next10 (o : ℕ) (p9 : ∀ a, (![o, 0] : Fin 2 → ℕ) a + S256x128.size a ≤ S768x128.size a)
    (pL : ∀ a, (![o, 0] : Fin 2 → ℕ) a + S256x128.size a ≤ S768x256.size a)
    (pR : ∀ a, (![o, 128] : Fin 2 → ℕ) a + S256x128.size a ≤ S768x256.size a)
    (mc : FVec F S256x128 .f32) (pv : FVec F S256x128 .f32 → FVec F S256x256 .f32)
    (x9 : Vec F S768x128 .f32) (x10 : Vec F S768x256 .f32) : Vec F S768x256 .f32 :=
  VecWindow.put (VecWindow.put x10 ![o, 0] S256x128.size
      (accL (win9 o p9 x9) (newMax mc (win9 o p9 x9)) (win10 _ pL x10) (pv (newMax mc (win9 o p9 x9)))))
    ![o, 128] S256x128.size
    (accR (win9 o p9 x9) (newMax mc (win9 o p9 x9)) (win10 _ pR x10) (pv (newMax mc (win9 o p9 x9))))

/-- A load of a box of a buffer held. -/
theorem load_run (c : Dev nD) {s : Shape} {e : EltTy} (a : Memref sig .tc .vmem s e) (off size : Fin s.rank → ℕ)
    (p : ∀ i, off i + size i ≤ s.size i) (ev) (x) (K : _ → sProp 𝕄) :
    iprop(owns (c : Thread nD τ) a fullShare x ∗ (owns (c : Thread nD τ) a fullShare x -∗ K (VecWindow.window x off size p)))
      ⊢ wp frame (wpE (defs₀ (F := F)) Variants.none c none) Set.univ
          (Prog.lift (.load a (Rect.unit (s := s) off size p).toLoadRect ev)) K := by
  unfold owns Prog.lift
  iintro ⟨⟨%g, %eg, H⟩, Hk⟩
  subst eg
  sl_step
  sl_step
  rw [← View.readAt_unit a.view g p rfl p]
  iapply Hk
  iexists _; isplitr; swap; · iexact H
  ipureintro; rfl

/-- A store of a box into a buffer held. -/
theorem store_run (c : Dev nD) {s : Shape} {e : EltTy} (a : Memref sig .tc .vmem s e) (off size : Fin s.rank → ℕ)
    (p : ∀ i, off i + size i ≤ s.size i) (w) (ev) (ev') (x) (K : PUnit → sProp 𝕄) :
    iprop(owns (c : Thread nD τ) a fullShare x ∗ (owns (c : Thread nD τ) a fullShare (VecWindow.put x off size w) -∗ K ⟨⟩))
      ⊢ wp frame (wpE (defs₀ (F := F)) Variants.none c none) Set.univ
          (Prog.lift (.store a (Rect.unit (s := s) off size p) w Finset.univ ev ev')) K := by
  unfold owns Prog.lift
  iintro ⟨⟨%g, %eg, H⟩, Hk⟩
  subst eg
  sl_step
  sl_step
  iapply Hk
  iexists _; isplitr; swap; · iexact H
  ipureintro
  exact View.read_writes_cons_put a.view g p w [] rfl

theorem stepG_run (c : Dev nD) (o : ℕ) (p9 : ∀ a, (![o, 0] : Fin 2 → ℕ) a + S256x128.size a ≤ S768x128.size a)
    (pL : ∀ a, (![o, 0] : Fin 2 → ℕ) a + S256x128.size a ≤ S768x256.size a)
    (pR : ∀ a, (![o, 128] : Fin 2 → ℕ) a + S256x128.size a ≤ S768x256.size a)
    (mc : FVec F S256x128 .f32) (pv : FVec F S256x128 .f32 → FVec F S256x256 .f32)
    (a9 : Memref sig .tc .vmem S768x128 .f32) (a10 : Memref sig .tc .vmem S768x256 .f32)
    (x9 x10) (K : PUnit → sProp 𝕄) :
    iprop(owns (c : Thread nD τ) a9 fullShare x9
        ∗ owns (c : Thread nD τ) a10 fullShare x10
        ∗ ((owns (c : Thread nD τ) a9 fullShare (next9 o p9 mc x9)
            ∗ owns (c : Thread nD τ) a10 fullShare (next10 o p9 pL pR mc pv x9 x10)) -∗ K ⟨⟩))
      ⊢ wp frame (wpE (defs₀ (F := F)) Variants.none c none) Set.univ
          (stepG o p9 pL pR mc pv a9 a10) K := by
  unfold stepG owns
  iintro ⟨⟨%g9, %e9, H9⟩, ⟨%g10, %e10, H10⟩, Hk⟩
  sl_exec
  sl_step
  iapply Hk
  isplitl [H9]
  · iexists _; isplitr; swap; · iexact H9
    ipureintro
    rw [View.read_writes_cons_put _ _ _ _ _ rfl, View.readAt_unit _ _ _ rfl p9, View.writes_nil, e9, shapeCast_self]
    rfl
  iexists _; isplitr; swap; · iexact H10
  ipureintro
  unfold stepG_run.sl.aR
  rw [View.read_writes_cons_put _ _ _ _ _ rfl, View.read_writes_cons_put _ _ _ _ _ rfl, View.readAt_unit _ _ _ rfl p9,
    View.readAt_unit _ _ _ rfl pL, View.readAt_unit _ _ _ rfl pR, View.writes_nil, e9, e10]
  rfl

theorem stepS_run (c : Dev nD) (o : ℕ) (pS : ∀ a, (![o, 0] : Fin 2 → ℕ) a + S256x1024.size a ≤ S768x1024.size a)
    (p9 : ∀ a, (![o, 0] : Fin 2 → ℕ) a + S256x128.size a ≤ S768x128.size a)
    (pL : ∀ a, (![o, 0] : Fin 2 → ℕ) a + S256x128.size a ≤ S768x256.size a)
    (pR : ∀ a, (![o, 128] : Fin 2 → ℕ) a + S256x128.size a ≤ S768x256.size a)
    (vx : FVec F S1024x256 .bf16)
    (a7 : Memref sig .tc .vmem S768x1024 .f32) (a9 : Memref sig .tc .vmem S768x128 .f32) (a10 : Memref sig .tc .vmem S768x256 .f32)
    (x7 x9 x10) (K : PUnit → sProp 𝕄) :
    iprop(owns (c : Thread nD τ) a7 fullShare x7
        ∗ owns (c : Thread nD τ) a9 fullShare x9
        ∗ owns (c : Thread nD τ) a10 fullShare x10
        ∗ ((owns (c : Thread nD τ) a7 fullShare x7
            ∗ owns (c : Thread nD τ) a9 fullShare (next9 o p9 (maxL (VecWindow.window x7 ![o, 0] S256x1024.size pS)) x9)
            ∗ owns (c : Thread nD τ) a10 fullShare (next10 o p9 pL pR (maxL (VecWindow.window x7 ![o, 0] S256x1024.size pS))
                (pvL (VecWindow.window x7 ![o, 0] S256x1024.size pS) vx) x9 x10)) -∗ K ⟨⟩))
      ⊢ wp frame (wpE (defs₀ (F := F)) Variants.none c none) Set.univ
          (stepS o pS p9 pL pR vx a7 a9 a10) K := by
  unfold stepS
  rw [wp_bind]
  iintro ⟨H7, H9, H10, Hk⟩
  iapply (load_run c a7 ![o, 0] S256x1024.size pS _ x7 _)
  isplitl [H7]; · iexact H7
  iintro H7
  iapply (stepG_run c o p9 pL pR _ _ a9 a10 x9 x10 _)
  isplitl [H9]; · iexact H9
  isplitl [H10]; · iexact H10
  iintro ⟨H9, H10⟩
  iapply Hk
  isplitl [H7]; · iexact H7
  isplitl [H9]; · iexact H9
  iexact H10

/-- Maximum and accumulator after a group of keys, all rows. -/
def chunkSt (x7 : Vec F S768x1024 .f32) (vx : FVec F S1024x256 .bf16) (x : Vec F S768x128 .f32 × Vec F S768x256 .f32) : Vec F S768x128 .f32 × Vec F S768x256 .f32 :=
  let x1 := (next9 0 inb_S768x128_S256x128_0_0 (maxL (VecWindow.window x7 ![0, 0] S256x1024.size inb_S768x1024_S256x1024_0_0)) x.1, next10 0 inb_S768x128_S256x128_0_0 inb_S768x256_S256x128_0_0 inb_S768x256_S256x128_0_128 (maxL (VecWindow.window x7 ![0, 0] S256x1024.size inb_S768x1024_S256x1024_0_0)) (pvL (VecWindow.window x7 ![0, 0] S256x1024.size inb_S768x1024_S256x1024_0_0) vx) x.1 x.2)
  let x2 := (next9 256 inb_S768x128_S256x128_256_0 (maxL (VecWindow.window x7 ![256, 0] S256x1024.size inb_S768x1024_S256x1024_256_0)) x1.1, next10 256 inb_S768x128_S256x128_256_0 inb_S768x256_S256x128_256_0 inb_S768x256_S256x128_256_128 (maxL (VecWindow.window x7 ![256, 0] S256x1024.size inb_S768x1024_S256x1024_256_0)) (pvL (VecWindow.window x7 ![256, 0] S256x1024.size inb_S768x1024_S256x1024_256_0) vx) x1.1 x1.2)
  (next9 512 inb_S768x128_S256x128_512_0 (maxL (VecWindow.window x7 ![512, 0] S256x1024.size inb_S768x1024_S256x1024_512_0)) x2.1, next10 512 inb_S768x128_S256x128_512_0 inb_S768x256_S256x128_512_0 inb_S768x256_S256x128_512_128 (maxL (VecWindow.window x7 ![512, 0] S256x1024.size inb_S768x1024_S256x1024_512_0)) (pvL (VecWindow.window x7 ![512, 0] S256x1024.size inb_S768x1024_S256x1024_512_0) vx) x2.1 x2.2)

/-- Maximum and accumulator after a group of keys, all rows. -/
def ctxSt (s : FVec F S768x256 .f32) (vx : FVec F S256x256 .bf16) (x : Vec F S768x128 .f32 × Vec F S768x256 .f32) : Vec F S768x128 .f32 × Vec F S768x256 .f32 :=
  let x1 := (next9 0 inb_S768x128_S256x128_0_0 (maxC (extractStridedSlice S256x256 ![0, 0] s slices_S768x256_o0_0_S256x256)) x.1, next10 0 inb_S768x128_S256x128_0_0 inb_S768x256_S256x128_0_0 inb_S768x256_S256x128_0_128 (maxC (extractStridedSlice S256x256 ![0, 0] s slices_S768x256_o0_0_S256x256)) (pvC (extractStridedSlice S256x256 ![0, 0] s slices_S768x256_o0_0_S256x256) vx) x.1 x.2)
  let x2 := (next9 256 inb_S768x128_S256x128_256_0 (maxC (extractStridedSlice S256x256 ![256, 0] s slices_S768x256_o256_0_S256x256)) x1.1, next10 256 inb_S768x128_S256x128_256_0 inb_S768x256_S256x128_256_0 inb_S768x256_S256x128_256_128 (maxC (extractStridedSlice S256x256 ![256, 0] s slices_S768x256_o256_0_S256x256)) (pvC (extractStridedSlice S256x256 ![256, 0] s slices_S768x256_o256_0_S256x256) vx) x1.1 x1.2)
  (next9 512 inb_S768x128_S256x128_512_0 (maxC (extractStridedSlice S256x256 ![512, 0] s slices_S768x256_o512_0_S256x256)) x2.1, next10 512 inb_S768x128_S256x128_512_0 inb_S768x256_S256x128_512_0 inb_S768x256_S256x128_512_128 (maxC (extractStridedSlice S256x256 ![512, 0] s slices_S768x256_o512_0_S256x256)) (pvC (extractStridedSlice S256x256 ![512, 0] s slices_S768x256_o512_0_S256x256) vx) x2.1 x2.2)

theorem chunk_run (c : Dev nD) (off : Fin 3 → ℕ) (pV : ∀ a, off a + S1x1024x128.size a ≤ S1x8448x128.size a)
    (a5 : Memref sig .tc .vmem S1x8448x128 .bf16) (a7 : Memref sig .tc .vmem S768x1024 .f32)
    (a9 : Memref sig .tc .vmem S768x128 .f32) (a10 : Memref sig .tc .vmem S768x256 .f32)
    (x5 x7 x9 x10) (K : PUnit → sProp 𝕄) :
    iprop(owns (c : Thread nD τ) a5 fullShare x5
        ∗ owns (c : Thread nD τ) a7 fullShare x7
        ∗ owns (c : Thread nD τ) a9 fullShare x9
        ∗ owns (c : Thread nD τ) a10 fullShare x10
        ∗ ((owns (c : Thread nD τ) a5 fullShare x5
            ∗ owns (c : Thread nD τ) a7 fullShare x7
            ∗ owns (c : Thread nD τ) a9 fullShare (chunkSt x7 (vxL (VecWindow.window x5 off S1x1024x128.size pV)) (x9, x10)).1
            ∗ owns (c : Thread nD τ) a10 fullShare (chunkSt x7 (vxL (VecWindow.window x5 off S1x1024x128.size pV)) (x9, x10)).2) -∗ K ⟨⟩))
      ⊢ wp frame (wpE (defs₀ (F := F)) Variants.none c none) Set.univ
          (chunk off pV a5 a7 a9 a10) K := by
  unfold chunk
  simp only [wp_bind]
  iintro ⟨H5, H7, H9, H10, Hk⟩
  iapply (load_run c a5 off S1x1024x128.size pV _ x5 _)
  isplitl [H5]; · iexact H5
  iintro H5
  iapply (stepS_run c 0 inb_S768x1024_S256x1024_0_0 inb_S768x128_S256x128_0_0 inb_S768x256_S256x128_0_0 inb_S768x256_S256x128_0_128 _ a7 a9 a10 x7 _ _ _)
  isplitl [H7]; · iexact H7
  isplitl [H9]; · iexact H9
  isplitl [H10]; · iexact H10
  iintro ⟨H7, H9, H10⟩
  iapply (stepS_run c 256 inb_S768x1024_S256x1024_256_0 inb_S768x128_S256x128_256_0 inb_S768x256_S256x128_256_0 inb_S768x256_S256x128_256_128 _ a7 a9 a10 x7 _ _ _)
  isplitl [H7]; · iexact H7
  isplitl [H9]; · iexact H9
  isplitl [H10]; · iexact H10
  iintro ⟨H7, H9, H10⟩
  iapply (stepS_run c 512 inb_S768x1024_S256x1024_512_0 inb_S768x128_S256x128_512_0 inb_S768x256_S256x128_512_0 inb_S768x256_S256x128_512_128 _ a7 a9 a10 x7 _ _ _)
  isplitl [H7]; · iexact H7
  isplitl [H9]; · iexact H9
  isplitl [H10]; · iexact H10
  iintro ⟨H7, H9, H10⟩
  iapply Hk
  isplitl [H5]; · iexact H5
  isplitl [H7]; · iexact H7
  isplitl [H9]; · iexact H9
  iexact H10

/-- A box put over a whole buffer leaves the box. -/
theorem put_whole {s : Shape} {α : Type} (x : s.Idx → α) (off : Fin s.rank → ℕ) (h0 : ∀ a, off a = 0) (w : s.Idx → α) :
    VecWindow.put x off s.size w = w := by
  obtain rfl : off = fun _ => 0 := funext h0
  funext y
  unfold VecWindow.put
  rw [dif_pos fun a => ⟨Nat.zero_le _, by simpa using (y a).isLt⟩]
  refine congrArg w (funext fun a => Fin.ext ?_)
  simp [Rect.unitLocal_val]

theorem scoreTo_run (c : Dev nD) (off : Fin 4 → ℕ) (pK : ∀ a, off a + S1x1x128x1024.size a ≤ S1x1x128x8448.size a) (q : FVec F S768x128 .bf16)
    (a4 : Memref sig .tc .vmem S1x1x128x8448 .bf16) (a7 : Memref sig .tc .vmem S768x1024 .f32)
    (x4 x7) (K : PUnit → sProp 𝕄) :
    iprop(owns (c : Thread nD τ) a4 fullShare x4
        ∗ owns (c : Thread nD τ) a7 fullShare x7
        ∗ ((owns (c : Thread nD τ) a4 fullShare x4
            ∗ owns (c : Thread nD τ) a7 fullShare (scL q (VecWindow.window x4 off S1x1x128x1024.size pK))) -∗ K ⟨⟩))
      ⊢ wp frame (wpE (defs₀ (F := F)) Variants.none c none) Set.univ
          (scoreTo off pK q a4 a7) K := by
  unfold scoreTo
  simp only [wp_bind]
  iintro ⟨H4, H7, Hk⟩
  iapply (load_run c a4 off S1x1x128x1024.size pK _ x4 _)
  isplitl [H4]; · iexact H4
  iintro H4
  iapply (load_run c a7 ![0, 0] S768x1024.size _ _ x7 _)
  isplitl [H7]; · iexact H7
  iintro H7
  iapply (store_run c a7 ![0, 0] S768x1024.size _ _ _ _ x7 _)
  isplitl [H7]; · iexact H7
  iintro H7
  sl_step
  iapply Hk
  isplitl [H4]; · iexact H4
  rw [put_whole _ _ (by decide)]
  iexact H7

end Cert.KernelIdeal.Hand

end
-- ==== Proof.BodyRun.lean ====
/-
  The attention body run once: the steps in their order, the loop by an invariant on the scores buffer, the maximum
  and the accumulator.
-/
module

public import proofs.«01_k».proof.Proof.StepRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- Maximum and accumulator. -/
abbrev MA (F : FTy → Type) [FloatOps F] := Vec F S768x128 .f32 × Vec F S768x256 .f32

/-- The queries of a block. -/
abbrev qOf (x3 : Vec F S1x256x384 .bf16) : FVec F S768x128 .bf16 :=
  qcat (VecWindow.window x3 ![0, 0, 0] S1x256x128.size inb_S1x256x384_S1x256x128_0_0_0)
    (VecWindow.window x3 ![0, 0, 128] S1x256x128.size inb_S1x256x384_S1x256x128_0_0_128)
    (VecWindow.window x3 ![0, 0, 256] S1x256x128.size inb_S1x256x384_S1x256x128_0_0_256)

/-- Fresh. -/
def fresh : MA F := (shapeCast S768x128 (broadcast S768x128 (Scalar.ofBits .f32 0xF149F2CA#32)) shapeCasts_S768x128_S768x128,
  shapeCast S768x256 (broadcast S768x256 (Scalar.ofBits .f32 0x00000000#32)) shapeCasts_S768x256_S768x256)

/-- After the context's keys. -/
def afterCtx (x3 : Vec F S1x256x384 .bf16) (x4 : Vec F S1x1x128x8448 .bf16) (x5 : Vec F S1x8448x128 .bf16) : MA F :=
  ctxSt (scC (qOf x3) (VecWindow.window x4 ![0, 0, 0, 0] S1x1x128x256.size inb_S1x1x128x8448_S1x1x128x256_0_0_0_0))
    (vxC (VecWindow.window x5 ![0, 0, 0] S1x256x128.size inb_S1x8448x128_S1x256x128_0_0_0)) fresh

/-- The scores at the 1024 keys from `off` on. -/
def scAt (x3 : Vec F S1x256x384 .bf16) (x4 : Vec F S1x1x128x8448 .bf16) (off : Fin 4 → ℕ)
    (p : ∀ a, off a + S1x1x128x1024.size a ≤ S1x1x128x8448.size a) : FVec F S768x1024 .f32 :=
  scL (qOf x3) (VecWindow.window x4 off S1x1x128x1024.size p)

/-- The values of the 1024 keys from `off` on. -/
def vxAt (x5 : Vec F S1x8448x128 .bf16) (off : Fin 3 → ℕ) (p : ∀ a, off a + S1x1024x128.size a ≤ S1x8448x128.size a) :
    FVec F S1024x256 .bf16 := vxL (VecWindow.window x5 off S1x1024x128.size p)

/-- What a block of the output holds at the end. -/
def outSt (x10 : Vec F S768x256 .f32) (x6 : Vec F S1x256x384 .bf16) : Vec F S1x256x384 .bf16 :=
  VecWindow.put (VecWindow.put (VecWindow.put x6 ![0, 0, 0] S1x256x128.size
      (outV (win10 ![0, 0] inb_S768x256_S256x128_0_0 x10) (win10 ![0, 128] inb_S768x256_S256x128_0_128 x10)))
      ![0, 0, 128] S1x256x128.size (outV (win10 ![256, 0] inb_S768x256_S256x128_256_0 x10) (win10 ![256, 128] inb_S768x256_S256x128_256_128 x10)))
    ![0, 0, 256] S1x256x128.size (outV (win10 ![512, 0] inb_S768x256_S256x128_512_0 x10) (win10 ![512, 128] inb_S768x256_S256x128_512_128 x10))

/-- The start of a point. -/
theorem pro_run (c : Dev nD)  (a3 : Memref sig .tc .vmem S1x256x384 .bf16) (a4 : Memref sig .tc .vmem S1x1x128x8448 .bf16) (a5 : Memref sig .tc .vmem S1x8448x128 .bf16) (a9 : Memref sig .tc .vmem S768x128 .f32) (a10 : Memref sig .tc .vmem S768x256 .f32)
    (x3 x4 x5 x9 x10) (K : _ → sProp 𝕄) :
    iprop(owns (c : Thread nD τ) a3 fullShare x3
        ∗ owns (c : Thread nD τ) a4 fullShare x4
        ∗ owns (c : Thread nD τ) a5 fullShare x5
        ∗ owns (c : Thread nD τ) a9 fullShare x9
        ∗ owns (c : Thread nD τ) a10 fullShare x10
        ∗ ((owns (c : Thread nD τ) a3 fullShare x3
            ∗ owns (c : Thread nD τ) a4 fullShare x4
            ∗ owns (c : Thread nD τ) a5 fullShare x5
            ∗ owns (c : Thread nD τ) a9 fullShare (afterCtx x3 x4 x5).1
            ∗ owns (c : Thread nD τ) a10 fullShare (afterCtx x3 x4 x5).2) -∗ K (qOf x3)))
      ⊢ wp frame (wpE (defs₀ (F := F)) Variants.none c none) Set.univ
          (pro a3 a4 a5 a9 a10) K := by
  unfold pro
  simp only [wp_bind]
  iintro ⟨H3, H4, H5, H9, H10, Hk⟩
  iapply (load_run c a3 ![0, 0, 0] _ _ _ _ _)
  isplitl [H3]; · iexact H3
  iintro H3
  iapply (load_run c a3 ![0, 0, 128] _ _ _ _ _)
  isplitl [H3]; · iexact H3
  iintro H3
  iapply (load_run c a3 ![0, 0, 256] _ _ _ _ _)
  isplitl [H3]; · iexact H3
  iintro H3
  iapply (load_run c a9 ![0, 0] _ _ _ _ _)
  isplitl [H9]; · iexact H9
  iintro H9
  iapply (store_run c a9 ![0, 0] _ _ _ _ _ _ _)
  isplitl [H9]; · iexact H9
  iintro H9
  iapply (load_run c a10 ![0, 0] _ _ _ _ _)
  isplitl [H10]; · iexact H10
  iintro H10
  iapply (store_run c a10 ![0, 0] _ _ _ _ _ _ _)
  isplitl [H10]; · iexact H10
  iintro H10
  rw [put_whole _ _ (by decide), put_whole _ _ (by decide)]
  iapply (load_run c a4 ![0, 0, 0, 0] _ _ _ _ _)
  isplitl [H4]; · iexact H4
  iintro H4
  iapply (load_run c a5 ![0, 0, 0] _ _ _ _ _)
  isplitl [H5]; · iexact H5
  iintro H5
  iapply (stepG_run c 0 inb_S768x128_S256x128_0_0 inb_S768x256_S256x128_0_0 inb_S768x256_S256x128_0_128 _ _ a9 a10 _ _ _)
  isplitl [H9]; · iexact H9
  isplitl [H10]; · iexact H10
  iintro ⟨H9, H10⟩
  iapply (stepG_run c 256 inb_S768x128_S256x128_256_0 inb_S768x256_S256x128_256_0 inb_S768x256_S256x128_256_128 _ _ a9 a10 _ _ _)
  isplitl [H9]; · iexact H9
  isplitl [H10]; · iexact H10
  iintro ⟨H9, H10⟩
  iapply (stepG_run c 512 inb_S768x128_S256x128_512_0 inb_S768x256_S256x128_512_0 inb_S768x256_S256x128_512_128 _ _ a9 a10 _ _ _)
  isplitl [H9]; · iexact H9
  isplitl [H10]; · iexact H10
  iintro ⟨H9, H10⟩
  sl_step
  iapply Hk
  isplitl [H3]; · iexact H3
  isplitl [H4]; · iexact H4
  isplitl [H5]; · iexact H5
  isplitl [H9]; · iexact H9
  iexact H10

/-- Maximum and accumulator after a trip. -/
def tripSt (i : grid0.Coords) (hc : k0_cond1 i = 1#1) (k : Fin k0_t1_loop.trips) (x3 : Vec F S1x256x384 .bf16)
    (x4 : Vec F S1x1x128x8448 .bf16) (x5 : Vec F S1x8448x128 .bf16) (x7 : FVec F S768x1024 .f32) (x : MA F) : MA F :=
  chunkSt (scAt x3 x4 (k0_off1 k 1#32) (k0_off1_inb i k hc 0)) (vxAt x5 (k0_off3 k) (k0_off3_inb i k hc))
    (chunkSt x7 (vxAt x5 (k0_off2 k) (k0_off2_inb i k hc)) x)

/-- Maximum and accumulator after the last two chunks. -/
def lastSt (x3 : Vec F S1x256x384 .bf16)
    (x4 : Vec F S1x1x128x8448 .bf16) (x5 : Vec F S1x8448x128 .bf16) (x7 : FVec F S768x1024 .f32) (x : MA F) : MA F :=
  chunkSt (scAt x3 x4 ![0, 0, 0, 7424] inb_S1x1x128x8448_S1x1x128x1024_0_0_0_7424) (vxAt x5 ![0, 7424, 0] inb_S1x8448x128_S1x1024x128_0_7424_0)
    (chunkSt x7 (vxAt x5 ![0, 6400, 0] inb_S1x8448x128_S1x1024x128_0_6400_0) x)

/-- A trip. -/
theorem trip_run (c : Dev nD) (i : grid0.Coords) (hc : k0_cond1 i = 1#1) (k : Fin k0_t1_loop.trips) (x3 : Vec F S1x256x384 .bf16) (a4 : Memref sig .tc .vmem S1x1x128x8448 .bf16) (a5 : Memref sig .tc .vmem S1x8448x128 .bf16) (a7 : Memref sig .tc .vmem S768x1024 .f32) (a8 : Memref sig .tc .vmem S768x1024 .f32) (a9 : Memref sig .tc .vmem S768x128 .f32) (a10 : Memref sig .tc .vmem S768x256 .f32)
    (x4 x5 x7 x8 x9 x10) (K : _ → sProp 𝕄) :
    iprop(owns (c : Thread nD τ) a4 fullShare x4
        ∗ owns (c : Thread nD τ) a5 fullShare x5
        ∗ owns (c : Thread nD τ) a7 fullShare x7
        ∗ owns (c : Thread nD τ) a8 fullShare x8
        ∗ owns (c : Thread nD τ) a9 fullShare x9
        ∗ owns (c : Thread nD τ) a10 fullShare x10
        ∗ ((owns (c : Thread nD τ) a4 fullShare x4
            ∗ owns (c : Thread nD τ) a5 fullShare x5
            ∗ owns (c : Thread nD τ) a7 fullShare (scAt x3 x4 (k0_off1 k 2#32) (k0_off1_inb i k hc 1))
            ∗ owns (c : Thread nD τ) a8 fullShare (scAt x3 x4 (k0_off1 k 1#32) (k0_off1_inb i k hc 0))
            ∗ owns (c : Thread nD τ) a9 fullShare (tripSt i hc k x3 x4 x5 x7 (x9, x10)).1
            ∗ owns (c : Thread nD τ) a10 fullShare (tripSt i hc k x3 x4 x5 x7 (x9, x10)).2) -∗ K ⟨⟩))
      ⊢ wp frame (wpE (defs₀ (F := F)) Variants.none c none) Set.univ
          (trip i a4 a5 a7 a8 a9 a10 (qOf x3) hc k) K := by
  unfold trip
  simp only [wp_bind]
  iintro ⟨H4, H5, H7, H8, H9, H10, Hk⟩
  iapply (scoreTo_run c (k0_off1 k 1#32) (k0_off1_inb i k hc 0) _ a4 a8 _ _ _)
  isplitl [H4]; · iexact H4
  isplitl [H8]; · iexact H8
  iintro ⟨H4, H8⟩
  iapply (chunk_run c (k0_off2 k) (k0_off2_inb i k hc) a5 a7 a9 a10 _ _ _ _ _)
  isplitl [H5]; · iexact H5
  isplitl [H7]; · iexact H7
  isplitl [H9]; · iexact H9
  isplitl [H10]; · iexact H10
  iintro ⟨H5, H7, H9, H10⟩
  iapply (scoreTo_run c (k0_off1 k 2#32) (k0_off1_inb i k hc 1) _ a4 a7 _ _ _)
  isplitl [H4]; · iexact H4
  isplitl [H7]; · iexact H7
  iintro ⟨H4, H7⟩
  iapply (chunk_run c (k0_off3 k) (k0_off3_inb i k hc) a5 a8 a9 a10 _ _ _ _ _)
  isplitl [H5]; · iexact H5
  isplitl [H8]; · iexact H8
  isplitl [H9]; · iexact H9
  isplitl [H10]; · iexact H10
  iintro ⟨H5, H8, H9, H10⟩
  iapply Hk
  isplitl [H4]; · iexact H4
  isplitl [H5]; · iexact H5
  isplitl [H7]; · iexact H7
  isplitl [H8]; · iexact H8
  isplitl [H9]; · iexact H9
  iexact H10

/-- The last two chunks. -/
theorem lastPair_run (c : Dev nD) (x3 : Vec F S1x256x384 .bf16) (a4 : Memref sig .tc .vmem S1x1x128x8448 .bf16) (a5 : Memref sig .tc .vmem S1x8448x128 .bf16) (a7 : Memref sig .tc .vmem S768x1024 .f32) (a8 : Memref sig .tc .vmem S768x1024 .f32) (a9 : Memref sig .tc .vmem S768x128 .f32) (a10 : Memref sig .tc .vmem S768x256 .f32)
    (x4 x5 x7 x8 x9 x10) (K : _ → sProp 𝕄) :
    iprop(owns (c : Thread nD τ) a4 fullShare x4
        ∗ owns (c : Thread nD τ) a5 fullShare x5
        ∗ owns (c : Thread nD τ) a7 fullShare x7
        ∗ owns (c : Thread nD τ) a8 fullShare x8
        ∗ owns (c : Thread nD τ) a9 fullShare x9
        ∗ owns (c : Thread nD τ) a10 fullShare x10
        ∗ ((owns (c : Thread nD τ) a4 fullShare x4
            ∗ owns (c : Thread nD τ) a5 fullShare x5
            ∗ owns (c : Thread nD τ) a7 fullShare x7
            ∗ owns (c : Thread nD τ) a8 fullShare (scAt x3 x4 ![0, 0, 0, 7424] inb_S1x1x128x8448_S1x1x128x1024_0_0_0_7424)
            ∗ owns (c : Thread nD τ) a9 fullShare (lastSt x3 x4 x5 x7 (x9, x10)).1
            ∗ owns (c : Thread nD τ) a10 fullShare (lastSt x3 x4 x5 x7 (x9, x10)).2) -∗ K ⟨⟩))
      ⊢ wp frame (wpE (defs₀ (F := F)) Variants.none c none) Set.univ
          (lastPair a4 a5 a7 a8 a9 a10 (qOf x3)) K := by
  unfold lastPair
  simp only [wp_bind]
  iintro ⟨H4, H5, H7, H8, H9, H10, Hk⟩
  iapply (scoreTo_run c ![0, 0, 0, 7424] inb_S1x1x128x8448_S1x1x128x1024_0_0_0_7424 _ a4 a8 _ _ _)
  isplitl [H4]; · iexact H4
  isplitl [H8]; · iexact H8
  iintro ⟨H4, H8⟩
  iapply (chunk_run c ![0, 6400, 0] inb_S1x8448x128_S1x1024x128_0_6400_0 a5 a7 a9 a10 _ _ _ _ _)
  isplitl [H5]; · iexact H5
  isplitl [H7]; · iexact H7
  isplitl [H9]; · iexact H9
  isplitl [H10]; · iexact H10
  iintro ⟨H5, H7, H9, H10⟩
  iapply (chunk_run c ![0, 7424, 0] inb_S1x8448x128_S1x1024x128_0_7424_0 a5 a8 a9 a10 _ _ _ _ _)
  isplitl [H5]; · iexact H5
  isplitl [H8]; · iexact H8
  isplitl [H9]; · iexact H9
  isplitl [H10]; · iexact H10
  iintro ⟨H5, H8, H9, H10⟩
  iapply Hk
  isplitl [H4]; · iexact H4
  isplitl [H5]; · iexact H5
  isplitl [H7]; · iexact H7
  isplitl [H8]; · iexact H8
  isplitl [H9]; · iexact H9
  iexact H10

/-- The end of a point. -/
theorem epi_run (c : Dev nD)  (a6 : Memref sig .tc .vmem S1x256x384 .bf16) (h6 : a6.IsWhole) (a10 : Memref sig .tc .vmem S768x256 .f32)
    (x6 x10) (K : _ → sProp 𝕄) :
    iprop(owns (c : Thread nD τ) a6 fullShare x6
        ∗ owns (c : Thread nD τ) a10 fullShare x10
        ∗ ((owns (c : Thread nD τ) a6 fullShare (outSt x10 x6)
            ∗ owns (c : Thread nD τ) a10 fullShare x10) -∗ K ⟨⟩))
      ⊢ wp frame (wpE (defs₀ (F := F)) Variants.none c none) Set.univ
          (epi a6 h6 a10) K := by
  unfold epi
  simp only [wp_bind]
  iintro ⟨H6, H10, Hk⟩
  iapply (load_run c a10 ![0, 0] _ _ _ _ _)
  isplitl [H10]; · iexact H10
  iintro H10
  iapply (load_run c a10 ![0, 128] _ _ _ _ _)
  isplitl [H10]; · iexact H10
  iintro H10
  iapply (load_run c a6 ![0, 0, 0] _ _ _ _ _)
  isplitl [H6]; · iexact H6
  iintro H6
  iapply (store_run c a6 ![0, 0, 0] _ _ _ _ _ _ _)
  isplitl [H6]; · iexact H6
  iintro H6
  iapply (load_run c a10 ![256, 0] _ _ _ _ _)
  isplitl [H10]; · iexact H10
  iintro H10
  iapply (load_run c a10 ![256, 128] _ _ _ _ _)
  isplitl [H10]; · iexact H10
  iintro H10
  iapply (load_run c a6 ![0, 0, 128] _ _ _ _ _)
  isplitl [H6]; · iexact H6
  iintro H6
  iapply (store_run c a6 ![0, 0, 128] _ _ _ _ _ _ _)
  isplitl [H6]; · iexact H6
  iintro H6
  iapply (load_run c a10 ![512, 0] _ _ _ _ _)
  isplitl [H10]; · iexact H10
  iintro H10
  iapply (load_run c a10 ![512, 128] _ _ _ _ _)
  isplitl [H10]; · iexact H10
  iintro H10
  iapply (load_run c a6 ![0, 0, 256] _ _ _ _ _)
  isplitl [H6]; · iexact H6
  iintro H6
  iapply (store_run c a6 ![0, 0, 256] _ _ _ _ _ _ _)
  isplitl [H6]; · iexact H6
  iintro H6
  sl_step
  iapply Hk
  isplitl [H6]; · iexact H6
  iexact H10

/-- The whole body: what it leaves in the output block satisfies `Q`, given that `Q` holds of the quotients after the
    context's keys at a context point, and after an invariant run over the chunks at any other. -/
theorem attention_run (c : Dev nD) (i : grid0.Coords) (a3 : Memref sig .tc .vmem S1x256x384 .bf16) (h3 : a3.IsWhole) (a4 : Memref sig .tc .vmem S1x1x128x8448 .bf16) (h4 : a4.IsWhole) (a5 : Memref sig .tc .vmem S1x8448x128 .bf16) (h5 : a5.IsWhole)
    (a6 : Memref sig .tc .vmem S1x256x384 .bf16) (h6 : a6.IsWhole) (a7 : Memref sig .tc .vmem S768x1024 .f32) (h7 : a7.IsWhole) (a8 : Memref sig .tc .vmem S768x1024 .f32) (h8 : a8.IsWhole)
    (a9 : Memref sig .tc .vmem S768x128 .f32) (h9 : a9.IsWhole) (a10 : Memref sig .tc .vmem S768x256 .f32) (h10 : a10.IsWhole)
    (x3 x4 x5) (Q : Vec F S1x256x384 .bf16 → Prop) (I : ℕ → FVec F S768x1024 .f32 → MA F → Prop)
    (hneg : ¬ k0_cond1 i = 1#1 → ∀ x6, Q (outSt (afterCtx x3 x4 x5).2 x6))
    (h0 : k0_cond1 i = 1#1 → I 0 (scAt x3 x4 ![0, 0, 0, 256] inb_S1x1x128x8448_S1x1x128x1024_0_0_0_256) (afterCtx x3 x4 x5))
    (hs : ∀ (hc : k0_cond1 i = 1#1) (k : Fin k0_t1_loop.trips) (x7 : FVec F S768x1024 .f32) (x : MA F), I k.val x7 x →
      I (k.val + 1) (scAt x3 x4 (k0_off1 k 2#32) (k0_off1_inb i k hc 1)) (tripSt i hc k x3 x4 x5 x7 x))
    (hl : k0_cond1 i = 1#1 → ∀ (x7 : FVec F S768x1024 .f32) (x : MA F) x6, I k0_t1_loop.trips x7 x → Q (outSt (lastSt x3 x4 x5 x7 x).2 x6))
    (K : PUnit → sProp 𝕄) :
    iprop(owns (c : Thread nD τ) a3 fullShare x3
        ∗ owns (c : Thread nD τ) a4 fullShare x4
        ∗ owns (c : Thread nD τ) a5 fullShare x5
        ∗ (∃ d, owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (∃ d, owns (c : Thread nD τ) a10 fullShare d)
        ∗ ((owns (c : Thread nD τ) a3 fullShare x3
        ∗ owns (c : Thread nD τ) a4 fullShare x4
        ∗ owns (c : Thread nD τ) a5 fullShare x5
        ∗ (∃ d, ⌜Q d⌝ ∗ owns (c : Thread nD τ) a6 fullShare d)
        ∗ (∃ d, owns (c : Thread nD τ) a7 fullShare d)
        ∗ (∃ d, owns (c : Thread nD τ) a8 fullShare d)
        ∗ (∃ d, owns (c : Thread nD τ) a9 fullShare d)
        ∗ (∃ d, owns (c : Thread nD τ) a10 fullShare d)) -∗ K ⟨⟩))
      ⊢ wp frame (wpE (defs₀ (F := F)) Variants.none c none) Set.univ (cc0_attention i a3 h3 a4 h4 a5 h5 a6 h6 a7 h7 a8 h8 a9 h9 a10 h10) K := by
  by_cases hc : k0_cond1 i = 1#1
  · rw [body_pos (hc := hc)]
    simp only [wp_bind]
    iintro ⟨H3, H4, H5, ⟨%x6, H6⟩, ⟨%x7, H7⟩, ⟨%x8, H8⟩, ⟨%x9, H9⟩, ⟨%x10, H10⟩, Hk⟩
    iapply (pro_run c a3 a4 a5 a9 a10 x3 x4 x5 x9 x10 _)
    isplitl [H3]; · iexact H3
    isplitl [H4]; · iexact H4
    isplitl [H5]; · iexact H5
    isplitl [H9]; · iexact H9
    isplitl [H10]; · iexact H10
    iintro ⟨H3, H4, H5, H9, H10⟩
    iapply (scoreTo_run c ![0, 0, 0, 256] inb_S1x1x128x8448_S1x1x128x1024_0_0_0_256 _ a4 a7 x4 x7 _)
    isplitl [H4]; · iexact H4
    isplitl [H7]; · iexact H7
    iintro ⟨H4, H7⟩
    iapply (Scf.wp_for frame (wpE (defs₀ (F := F)) Variants.none c none) Set.univ k0_t1_loop.lb k0_t1_loop.ub k0_t1_loop.st
      (k0_t1_ok i hc) () (fun k u => trip i a4 a5 a7 a8 a9 a10 (qOf x3) hc k)
      (fun k _ => iprop(owns (c : Thread nD τ) a4 fullShare x4 ∗ owns (c : Thread nD τ) a5 fullShare x5
        ∗ (∃ x7 x9 x10, ⌜I k x7 (x9, x10)⌝ ∗ owns (c : Thread nD τ) a7 fullShare x7 ∗ owns (c : Thread nD τ) a9 fullShare x9 ∗ owns (c : Thread nD τ) a10 fullShare x10) ∗ (∃ d, owns (c : Thread nD τ) a8 fullShare d)))
      ?_)

    · intro k _
      iintro ⟨H4, H5, ⟨%y7, %y9, %y10, %hI, H7, H9, H10⟩, ⟨%y8, H8⟩⟩
      iapply (trip_run c i hc k x3 a4 a5 a7 a8 a9 a10 x4 x5 y7 y8 y9 y10 _)
      isplitl [H4]; · iexact H4
      isplitl [H5]; · iexact H5
      isplitl [H7]; · iexact H7
      isplitl [H8]; · iexact H8
      isplitl [H9]; · iexact H9
      isplitl [H10]; · iexact H10
      iintro ⟨H4, H5, H7, H8, H9, H10⟩
      isplitl [H4]; · iexact H4
      isplitl [H5]; · iexact H5
      isplitl [H7 H9 H10]
      · iexists _, _, _
        isplitr
        swap
        · isplitl [H7]; · iexact H7
          isplitl [H9]; · iexact H9
          iexact H10
        ipureintro; exact hs hc k y7 (y9, y10) hI
      iexists _; iexact H8
    isplitl [H4 H5 H7 H8 H9 H10]
    · isplitl [H4]; · iexact H4
      isplitl [H5]; · iexact H5
      isplitl [H7 H9 H10]
      · iexists _, _, _
        isplitr
        swap
        · isplitl [H7]; · iexact H7
          isplitl [H9]; · iexact H9
          iexact H10
        ipureintro; exact h0 hc
      iexists _; iexact H8
    iintro %u ⟨H4, H5, ⟨%y7, %y9, %y10, %hI, H7, H9, H10⟩, ⟨%y8, H8⟩⟩
    iapply (lastPair_run c x3 a4 a5 a7 a8 a9 a10 x4 x5 y7 y8 y9 y10 _)
    isplitl [H4]; · iexact H4
    isplitl [H5]; · iexact H5
    isplitl [H7]; · iexact H7
    isplitl [H8]; · iexact H8
    isplitl [H9]; · iexact H9
    isplitl [H10]; · iexact H10
    iintro ⟨H4, H5, H7, H8, H9, H10⟩
    iapply (epi_run c a6 h6 a10 x6 _ _)
    isplitl [H6]; · iexact H6
    isplitl [H10]; · iexact H10
    iintro ⟨H6, H10⟩
    iapply Hk
    isplitl [H3]; · iexact H3
    isplitl [H4]; · iexact H4
    isplitl [H5]; · iexact H5
    isplitl [H6]
    · iexists _; isplitr; swap; · iexact H6
      ipureintro; exact hl hc y7 (y9, y10) x6 hI
    isplitl [H7]; · iexists _; iexact H7
    isplitl [H8]; · iexists _; iexact H8
    isplitl [H9]; · iexists _; iexact H9
    iexists _; iexact H10
  · rw [body_neg (hc := hc)]
    simp only [wp_bind]
    iintro ⟨H3, H4, H5, ⟨%x6, H6⟩, H7, H8, ⟨%x9, H9⟩, ⟨%x10, H10⟩, Hk⟩
    iapply (pro_run c a3 a4 a5 a9 a10 x3 x4 x5 x9 x10 _)
    isplitl [H3]; · iexact H3
    isplitl [H4]; · iexact H4
    isplitl [H5]; · iexact H5
    isplitl [H9]; · iexact H9
    isplitl [H10]; · iexact H10
    iintro ⟨H3, H4, H5, H9, H10⟩
    iapply (epi_run c a6 h6 a10 x6 _ _)
    isplitl [H6]; · iexact H6
    isplitl [H10]; · iexact H10
    iintro ⟨H6, H10⟩
    iapply Hk
    isplitl [H3]; · iexact H3
    isplitl [H4]; · iexact H4
    isplitl [H5]; · iexact H5
    isplitl [H6]
    · iexists _; isplitr; swap; · iexact H6
      ipureintro; exact hneg hc x6
    isplitl [H7]; · iexact H7
    isplitl [H8]; · iexact H8
    isplitl [H9]; · iexists _; iexact H9
    iexists _; iexact H10

end Cert.KernelIdeal.Hand

end
-- ==== Proof.Softmax.lean ====
/-
  The running softmax of one row, over the reals: a step takes the sums over the first keys at any maximum to the sums
  over more keys at the next maximum.
-/
module

public import proofs.«01_k».proof.Proof.BodyRun
public import Idealize.ShloMosaic.Lib.Pipeline.ValueKit
public import Idealize.ShloMosaic.Lib.ValueIdx
public import Idealize.ShloMosaic.Lib.MatmulPlain

@[expose] public section

set_option maxRecDepth 16384

noncomputable section

namespace Cert.KernelIdeal.Hand

open Cert.KernelIdeal Cert.KernelIdeal.Gen
open Idealize.ShloMosaic hiding ix0 ix1 ix2 ix3 ix4 ix5 maximumf_apply mulf_apply addf_apply subf_apply divf_apply truncf_apply extf_apply
open Idealize.ShloMosaic.ValueIdx
open scoped BigOperators

/-- Every entry is a real number. -/
def IsReal {s : Shape} (x : s.Idx → EReal) : Prop := ∀ i, ∃ r : ℝ, x i = (r : EReal)

theorem IsReal.max {s : Shape} {φ : FTy} {x y : FVec Ideal s φ} (hx : IsReal x) (hy : IsReal y) : IsReal (maximumf x y) := by
  intro i
  obtain ⟨a, ha⟩ := hx i
  obtain ⟨b, hb⟩ := hy i
  exact ⟨Max.max a b, by rw [maximumf_apply, ha, hb]; exact (EReal.coe_strictMono.monotone.map_max (a := a) (b := b)).symm⟩

theorem IsReal.slice {s t : Shape} {x : s.Idx → EReal} (hx : IsReal x) (off : Fin s.rank → ℕ) (h : s.Slices off t) :
    IsReal (extractStridedSlice t off x h) := fun i => hx _

/-- A sum of reals. -/
theorem esum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The next maximum is one real number per row. -/
theorem newMax_real (mc m : FVec Ideal S256x128 .f32) (hmc : IsReal mc) (μ : Fin 256 → ℝ)
    (hm : ∀ p l, m (ix2 p l) = (μ p : EReal)) :
    ∃ μ' : Fin 256 → ℝ, ∀ p l, newMax mc m (ix2 p l) = (μ' p : EReal) := by
  have key : ∀ p : Fin 256, ∃ a : ℝ, ∀ l, newMax mc m (ix2 p l) = (a : EReal) := by
    intro p
    have e : ∀ l : Fin 128, newMax mc m (ix2 p l) = max (μ p : EReal)
        (multiReduction .maximumf [1] S256 mc 0xFF800000#32 reduces_S256x128_S256 (.inl rfl) rfl (ix1 p)) := by
      intro l
      unfold newMax
      rw [maximumf_apply, hm, broadcastTo_apply _ _ _ (ix2 p 0) (by intro a; fin_cases a <;> rfl), shapeCast_self,
        shapeCast_apply _ _ _ (ix1 p) (by rw [Shape.rowMajor_val_one, Shape.rowMajor_val_two]; simp [ix1, ix2])]
    have hlt : multiReduction .maximumf [1] S256 mc 0xFF800000#32 reduces_S256x128_S256 (.inl rfl) rfl (ix1 p) < ⊤ := by
      refine lt_of_eq_of_lt (Ideal.multiReduction_maximumf_single (φ := .f32) mc _ reduces_S256x128_S256 (.inl rfl) rfl (ix1 p)) ?_
      rw [Finset.fold_max_lt]
      refine ⟨?_, fun k _ => ?_⟩
      · show Ideal.ofBits .f32 0xFF800000#32 < ⊤
        have : Ideal.ofBits .f32 0xFF800000#32 = ⊥ := by simp [Ideal.ofBits, Ideal.ieee]
        rw [this]; exact bot_lt_top
      · obtain ⟨r, hr⟩ := hmc (reduces_S256x128_S256.lift (ix1 p) k)
        rw [Function.comp_apply, hr]; exact EReal.coe_lt_top r
    generalize multiReduction .maximumf [1] S256 mc 0xFF800000#32 reduces_S256x128_S256 (.inl rfl) rfl (ix1 p) = z at e hlt
    have h1 : max (μ p : EReal) z ≠ ⊤ := (max_lt (EReal.coe_lt_top _) hlt).ne
    have h2 : max (μ p : EReal) z ≠ ⊥ := (lt_of_lt_of_le (EReal.bot_lt_coe _) (le_max_left _ _)).ne'
    exact ⟨(max (μ p : EReal) z).toReal, fun l => (e l).trans (EReal.coe_toReal h1 h2).symm⟩
  choose μ' h using key
  exact ⟨μ', h⟩

theorem maxL_real (s : FVec Ideal S256x1024 .f32) (hs : IsReal s) : IsReal (maxL s) := by
  unfold maxL
  repeat' first | exact IsReal.slice hs _ _ | apply IsReal.max

theorem maxC_real (s : FVec Ideal S256x256 .f32) (hs : IsReal s) : IsReal (maxC s) := by
  unfold maxC
  repeat' first | exact IsReal.slice hs _ _ | apply IsReal.max

/-- A weight. -/
theorem wt_at (s m : FVec Ideal S256x128 .f32) (i : S256x128.Idx) (a b : ℝ) (hs : s i = (a : EReal)) (hm : m i = (b : EReal)) :
    wt s m i = ((2 : ℝ) ^ (a - b) : ℝ) := by
  show Ideal.exp2 (s i - m i) = _
  rw [hs, hm, ← EReal.coe_sub, Ideal.exp2_coe]; rfl

/-- The pieces of 128 columns side by side. -/
theorem cat_at {W N : ℕ} {α : Type} (f : Fin N → (S256x128.Idx → α)) (xs : List ((s : Shape) × (s.Idx → α)))
    (e : xs = List.ofFn fun n => (⟨S256x128, f n⟩ : (s : Shape) × (s.Idx → α)))
    (h : Shape.Concatenates (xs.map (·.1)) (⟨2, ![256, W]⟩ : Shape) 1) (p : Fin 256) (c : Fin N) (l : Fin 128)
    (hj : 128 * c.val + l.val < W) :
    concatenate (⟨2, ![256, W]⟩ : Shape) 1 xs h (ix2 p ⟨128 * c.val + l.val, hj⟩) = f c (ix2 p l) := by
  subst e
  refine concatenate_ofFn_apply 1 f h rfl 128 rfl _ c ?_ (ix2 p l) ?_ ?_
  · show (128 * c.val + l.val) / 128 = c.val
    omega
  · show l.val = (128 * c.val + l.val) % 128
    omega
  · intro b hb
    fin_cases b
    · rfl
    · exact absurd rfl hb

theorem slicesL : ∀ c : Fin 8, S256x1024.Slices ![0, 128 * c.val] S256x128 := by decide
theorem slicesC : ∀ c : Fin 2, S256x256.Slices ![0, 128 * c.val] S256x128 := by decide

theorem wL_at (s : FVec Ideal S256x1024 .f32) (m : FVec Ideal S256x128 .f32) (p : Fin 256) (μ : ℝ) (hm : ∀ l, m (ix2 p l) = (μ : EReal))
    (j : Fin 1024) (a : ℝ) (hs : s (ix2 p j) = (a : EReal)) : wL s m (ix2 p j) = ((2 : ℝ) ^ (a - μ) : ℝ) := by
  obtain ⟨c, l, hj, rfl⟩ : ∃ (c : Fin 8) (l : Fin 128) (h : 128 * c.val + l.val < 1024), j = ⟨128 * c.val + l.val, h⟩ :=
    ⟨⟨j.val / 128, by omega⟩, ⟨j.val % 128, by omega⟩, by simp; omega, Fin.ext (by simp; omega)⟩
  refine (cat_at (fun c => wt (extractStridedSlice S256x128 ![0, 128 * c.val] s (slicesL c)) m) _ rfl _ p c l hj).trans ?_
  refine wt_at _ _ _ _ _ ?_ (hm l)
  rw [← hs]
  exact extractStridedSlice_apply _ _ _ _ _ (by intro b; fin_cases b <;> simp [ix2])

theorem wC_at (s : FVec Ideal S256x256 .f32) (m : FVec Ideal S256x128 .f32) (p : Fin 256) (μ : ℝ) (hm : ∀ l, m (ix2 p l) = (μ : EReal))
    (j : Fin 256) (a : ℝ) (hs : s (ix2 p j) = (a : EReal)) : wC s m (ix2 p j) = ((2 : ℝ) ^ (a - μ) : ℝ) := by
  obtain ⟨c, l, hj, rfl⟩ : ∃ (c : Fin 2) (l : Fin 128) (h : 128 * c.val + l.val < 256), j = ⟨128 * c.val + l.val, h⟩ :=
    ⟨⟨j.val / 128, by omega⟩, ⟨j.val % 128, by omega⟩, by simp; omega, Fin.ext (by simp; omega)⟩
  refine (cat_at (fun c => wt (extractStridedSlice S256x128 ![0, 128 * c.val] s (slicesC c)) m) _ rfl _ p c l hj).trans ?_
  refine wt_at _ _ _ _ _ ?_ (hm l)
  rw [← hs]
  exact extractStridedSlice_apply _ _ _ _ _ (by intro b; fin_cases b <;> simp [ix2])

theorem zero_f32 : Ideal.ofBits .f32 0x00000000#32 = 0 := by simp [Ideal.ofBits, Ideal.ieee]
theorem one_bf16 : Ideal.ofBits .bf16 0x3F80#16 = ((1 : ℝ) : EReal) := by simp [Ideal.ofBits, Ideal.ieee, -EReal.coe_mul]; norm_num
theorem low_f32 : ∃ μ : ℝ, Ideal.ofBits .f32 0xF149F2CA#32 = (μ : EReal) := by
  simp only [Ideal.ofBits, Ideal.ieee]
  exact ⟨_, rfl⟩

/-- The weighted values of a chunk, over the reals. -/
theorem pvL_at (s : FVec Ideal S256x1024 .f32) (vx : FVec Ideal S1024x256 .bf16) (m : FVec Ideal S256x128 .f32) (p : Fin 256) (μ : ℝ)
    (hm : ∀ l, m (ix2 p l) = (μ : EReal)) (a : ℕ → ℝ) (hs : ∀ j : Fin 1024, s (ix2 p j) = (a j.val : EReal))
    (d : Fin 256) (b : ℕ → ℝ) (hv : ∀ j : Fin 1024, vx (ix2 j d) = (b j.val : EReal)) :
    pvL s vx m (ix2 p d) = ((∑ j ∈ Finset.range 1024, (2 : ℝ) ^ (a j - μ) * b j : ℝ) : EReal) := by
  refine (Ideal.matmul_plain_apply (M := 256) (K := 1024) (N := 256) none (wL s m) vx (constant S256x256 .f32 0x00000000#32) p d).trans ?_
  rw [constant_apply, zero_f32, zero_add, ← Fin.sum_univ_eq_sum_range (fun j => (2 : ℝ) ^ (a j - μ) * b j), ← esum]
  refine Finset.sum_congr rfl fun j _ => ?_
  rw [wL_at s m p μ hm j _ (hs j), hv j, ← EReal.coe_mul]

theorem pvC_at (s : FVec Ideal S256x256 .f32) (vx : FVec Ideal S256x256 .bf16) (m : FVec Ideal S256x128 .f32) (p : Fin 256) (μ : ℝ)
    (hm : ∀ l, m (ix2 p l) = (μ : EReal)) (a : ℕ → ℝ) (hs : ∀ j : Fin 256, s (ix2 p j) = (a j.val : EReal))
    (d : Fin 256) (b : ℕ → ℝ) (hv : ∀ j : Fin 256, vx (ix2 j d) = (b j.val : EReal)) :
    pvC s vx m (ix2 p d) = ((∑ j ∈ Finset.range 256, (2 : ℝ) ^ (a j - μ) * b j : ℝ) : EReal) := by
  refine (Ideal.matmul_plain_apply (M := 256) (K := 256) (N := 256) none (wC s m) vx (constant S256x256 .f32 0x00000000#32) p d).trans ?_
  rw [constant_apply, zero_f32, zero_add, ← Fin.sum_univ_eq_sum_range (fun j => (2 : ℝ) ^ (a j - μ) * b j), ← esum]
  refine Finset.sum_congr rfl fun j _ => ?_
  rw [wC_at s m p μ hm j _ (hs j), hv j, ← EReal.coe_mul]

/-- One row's state after `n` keys: some real maximum, and the sums at it. -/
def Good (S : Fin 768 → ℕ → ℝ) (V : ℕ → Fin 256 → ℝ) (n : ℕ) (x : MA Ideal) (r : Fin 768) : Prop :=
  ∃ μ : ℝ, (∀ l, x.1 (ix2 r l) = (μ : EReal))
    ∧ ∀ d, x.2 (ix2 r d) = ((∑ j ∈ Finset.range n, (2 : ℝ) ^ (S r j - μ) * V j d : ℝ) : EReal)

/-- The sums moved to another maximum, and more keys added. -/
theorem sums_step (S : ℕ → ℝ) (V : ℕ → ℝ) (n W : ℕ) (μ μ' : ℝ) :
    (2 : ℝ) ^ (μ - μ') * (∑ j ∈ Finset.range n, (2 : ℝ) ^ (S j - μ) * V j)
      + ∑ j ∈ Finset.range W, (2 : ℝ) ^ (S (n + j) - μ') * V (n + j)
      = ∑ j ∈ Finset.range (n + W), (2 : ℝ) ^ (S j - μ') * V j := by
  rw [Finset.sum_range_add, Finset.mul_sum]
  congr 1
  refine Finset.sum_congr rfl fun j _ => ?_
  rw [← mul_assoc, ← Real.rpow_add (by norm_num)]
  congr 2; ring

/-- An entry of a half of the accumulator after a step. -/
theorem acc_at (m mN acc : FVec Ideal S256x128 .f32) (pv : FVec Ideal S256x256 .f32) (p : Fin 256) (l : Fin 128) (μ μ' A P : ℝ)
    (hm : m (ix2 p l) = (μ : EReal)) (hN : mN (ix2 p l) = (μ' : EReal)) (hA : acc (ix2 p l) = (A : EReal)) :
    (pv (ix2 p ⟨l.val, by omega⟩) = (P : EReal) → accL m mN acc pv (ix2 p l) = (((2 : ℝ) ^ (μ - μ') * A + P : ℝ) : EReal))
    ∧ (pv (ix2 p ⟨128 + l.val, by omega⟩) = (P : EReal) → accR m mN acc pv (ix2 p l) = (((2 : ℝ) ^ (μ - μ') * A + P : ℝ) : EReal)) := by
  have e : mulf (exp2 (subf m mN)) acc (ix2 p l) = (((2 : ℝ) ^ (μ - μ') * A : ℝ) : EReal) := by
    show Ideal.exp2 (m (ix2 p l) - mN (ix2 p l)) * acc (ix2 p l) = _
    rw [hm, hN, hA, ← EReal.coe_sub, Ideal.exp2_coe, ← EReal.coe_mul]; rfl
  constructor
  · intro hP
    unfold accL
    rw [shapeCast_self, addf_apply, e, extractStridedSlice_apply _ _ _ _ (ix2 p ⟨l.val, by omega⟩) (by intro b; fin_cases b <;> simp [ix2]), hP,
      ← EReal.coe_add]
  · intro hP
    unfold accR
    rw [shapeCast_self, addf_apply, e, extractStridedSlice_apply _ _ _ _ (ix2 p ⟨128 + l.val, by omega⟩) (by intro b; fin_cases b <;> simp [ix2]), hP,
      ← EReal.coe_add]

/-- A put read inside its box. -/
theorem put_in {a b h w : ℕ} {α : Type} (x : (⟨2, ![a, b]⟩ : Shape).Idx → α) (o c : ℕ) (v : (⟨2, ![h, w]⟩ : Shape).Idx → α)
    (i : Fin a) (j : Fin b) (p : Fin h) (q : Fin w) (hi : i.val = o + p.val) (hj : j.val = c + q.val) :
    VecWindow.put (s := ⟨2, ![a, b]⟩) x ![o, c] (⟨2, ![h, w]⟩ : Shape).size v (ix2 i j) = v (ix2 p q) := by
  unfold VecWindow.put
  rw [dif_pos (by intro k; fin_cases k <;> simp [ix2] <;> omega)]
  refine congrArg v (funext fun k => Fin.ext ?_)
  rw [Rect.unitLocal_val]
  fin_cases k <;> simp [ix2] <;> omega

/-- … and outside it. -/
theorem put_out {a b h w : ℕ} {α : Type} (x : (⟨2, ![a, b]⟩ : Shape).Idx → α) (o c : ℕ) (v : (⟨2, ![h, w]⟩ : Shape).Idx → α)
    (i : Fin a) (j : Fin b) (hij : i.val < o ∨ o + h ≤ i.val ∨ j.val < c ∨ c + w ≤ j.val) :
    VecWindow.put (s := ⟨2, ![a, b]⟩) x ![o, c] (⟨2, ![h, w]⟩ : Shape).size v (ix2 i j) = x (ix2 i j) := by
  unfold VecWindow.put
  rw [dif_neg]
  intro hk
  have h0 : o ≤ i.val ∧ i.val < o + h := hk 0
  have h1 : c ≤ j.val ∧ j.val < c + w := hk 1
  omega

/-- A window at an index. -/
theorem window_at {a b h w : ℕ} {α : Type} (x : (⟨2, ![a, b]⟩ : Shape).Idx → α) (o c : ℕ)
    (pr : ∀ k, (![o, c] : Fin 2 → ℕ) k + (⟨2, ![h, w]⟩ : Shape).size k ≤ (⟨2, ![a, b]⟩ : Shape).size k)
    (p : Fin h) (q : Fin w) (i : Fin a) (j : Fin b) (hi : i.val = o + p.val) (hj : j.val = c + q.val) :
    VecWindow.window (s := ⟨2, ![a, b]⟩) x ![o, c] (⟨2, ![h, w]⟩ : Shape).size pr (ix2 p q) = x (ix2 i j) := by
  refine congrArg x (funext fun k => Fin.ext ?_)
  show (![o, c] : Fin 2 → ℕ) k + 1 * (ix2 p q k).val = _
  fin_cases k <;> simp [ix2] <;> omega

end Cert.KernelIdeal.Hand

end
-- ==== Proof.GroupStep.lean ====
/-
  The groups' steps carry the rows' sums on: over a chunk, over the context, and from the fresh state.
-/
module

public import proofs.«01_k».proof.Proof.Softmax

@[expose] public section

set_option maxRecDepth 16384

noncomputable section

namespace Cert.KernelIdeal.Hand

open Cert.KernelIdeal Cert.KernelIdeal.Gen
open Idealize.ShloMosaic hiding eq_ix2 ix0 ix1 ix2 ix3 ix4 ix5 maximumf_apply mulf_apply addf_apply subf_apply divf_apply truncf_apply extf_apply
open Idealize.ShloMosaic.ValueIdx
open scoped BigOperators

variable (S : Fin 768 → ℕ → ℝ) (V : ℕ → Fin 256 → ℝ)

section Group
variable (o : ℕ) (p9 : ∀ a, (![o, 0] : Fin 2 → ℕ) a + S256x128.size a ≤ S768x128.size a)
    (pL : ∀ a, (![o, 0] : Fin 2 → ℕ) a + S256x128.size a ≤ S768x256.size a)
    (pR : ∀ a, (![o, 128] : Fin 2 → ℕ) a + S256x128.size a ≤ S768x256.size a)
    (mc : FVec Ideal S256x128 .f32) (pv : FVec Ideal S256x128 .f32 → FVec Ideal S256x256 .f32)

/-- Rows of other groups are left alone. -/
theorem step_other (x : MA Ideal) (n : ℕ) (r : Fin 768) (hr : r.val < o ∨ o + 256 ≤ r.val) (h : Good S V n x r) :
    Good S V n (next9 o p9 mc x.1, next10 o p9 pL pR mc pv x.1 x.2) r := by
  obtain ⟨μ, h1, h2⟩ := h
  refine ⟨μ, fun l => ?_, fun d => ?_⟩
  · show next9 o p9 mc x.1 (ix2 r l) = _
    unfold next9
    rw [put_out (a := 768) (b := 128) (h := 256) (w := 128) _ _ _ _ _ _ (by omega), h1]
  · show next10 o p9 pL pR mc pv x.1 x.2 (ix2 r d) = _
    unfold next10
    rw [put_out (a := 768) (b := 256) (h := 256) (w := 128) _ _ _ _ _ _ (by omega),
      put_out (a := 768) (b := 256) (h := 256) (w := 128) _ _ _ _ _ _ (by omega), h2]

/-- The group's own rows. -/
theorem step_own (x : MA Ideal) (n W : ℕ) (ho : o + 256 ≤ 768) (hmc : IsReal mc)
    (hpv : ∀ (m : FVec Ideal S256x128 .f32) (p : Fin 256) (μ : ℝ), (∀ l, m (ix2 p l) = (μ : EReal)) → ∀ d,
      pv m (ix2 p d) = ((∑ j ∈ Finset.range W, (2 : ℝ) ^ (S ⟨o + p.val, by omega⟩ (n + j) - μ) * V (n + j) d : ℝ) : EReal))
    (h : ∀ r : Fin 768, o ≤ r.val → r.val < o + 256 → Good S V n x r) (r : Fin 768) (h0 : o ≤ r.val) (h1 : r.val < o + 256) :
    Good S V (n + W) (next9 o p9 mc x.1, next10 o p9 pL pR mc pv x.1 x.2) r := by
  have hg : ∀ p : Fin 256, Good S V n x ⟨o + p.val, by omega⟩ := fun p => h _ (by simp) (by simp)
  choose μ hμ hacc using hg
  have hw : ∀ p l, win9 o p9 x.1 (ix2 p l) = (μ p : EReal) := fun p l =>
    (window_at (a := 768) (b := 128) (h := 256) (w := 128) x.1 o 0 p9 p l ⟨o + p.val, by omega⟩ l rfl (by simp)).trans (hμ p l)
  obtain ⟨μ', hμ'⟩ := newMax_real mc (win9 o p9 x.1) hmc μ hw
  obtain ⟨p, hp⟩ : ∃ p : Fin 256, r.val = o + p.val := ⟨⟨r.val - o, by omega⟩, by simp; omega⟩
  obtain rfl : r = ⟨o + p.val, lt_of_lt_of_le (Nat.add_lt_add_left p.isLt o) ho⟩ := Fin.ext hp
  refine ⟨μ' p, fun l => ?_, fun d => ?_⟩
  · show next9 o p9 mc x.1 (ix2 _ l) = _
    unfold next9
    rw [put_in (a := 768) (b := 128) (h := 256) (w := 128) _ _ _ _ _ _ p l rfl (by simp), hμ']
  · show next10 o p9 pL pR mc pv x.1 x.2 (ix2 _ d) = _
    unfold next10
    rw [← sums_step (S ⟨o + p.val, by omega⟩) (fun j => V j d) n W (μ p) (μ' p)]
    by_cases hd : d.val < 128
    · rw [put_out (a := 768) (b := 256) (h := 256) (w := 128) _ _ _ _ _ _ (by omega),
        put_in (a := 768) (b := 256) (h := 256) (w := 128) _ _ _ _ _ _ p ⟨d.val, hd⟩ rfl (by simp)]
      refine (acc_at _ _ _ _ p ⟨d.val, hd⟩ (μ p) (μ' p) _ _ (hw p _) (hμ' p _) ?_).1 (hpv _ p (μ' p) (hμ' p) _)
      exact (window_at (a := 768) (b := 256) (h := 256) (w := 128) x.2 o 0 pL p ⟨d.val, hd⟩ ⟨o + p.val, by omega⟩ d rfl (by simp)).trans (hacc p d)
    · rw [put_in (a := 768) (b := 256) (h := 256) (w := 128) _ _ _ _ _ _ p ⟨d.val - 128, by omega⟩ rfl (by simp; omega)]
      have e : (⟨128 + (d.val - 128), by omega⟩ : Fin 256) = d := Fin.ext (by simp; omega)
      refine (acc_at _ _ _ _ p ⟨d.val - 128, by omega⟩ (μ p) (μ' p) _ _ (hw p _) (hμ' p _) ?_).2 ?_
      · exact (window_at (a := 768) (b := 256) (h := 256) (w := 128) x.2 o 128 pR p ⟨d.val - 128, by omega⟩ ⟨o + p.val, by omega⟩ d rfl (by simp; omega)).trans (hacc p d)
      · rw [e]; exact hpv _ p (μ' p) (hμ' p) _

end Group

/-- A chunk's three groups. -/
theorem chunk_good (n : ℕ) (x7 : FVec Ideal S768x1024 .f32) (vx : FVec Ideal S1024x256 .bf16) (x : MA Ideal)
    (hs : ∀ r (j : Fin 1024), x7 (ix2 r j) = (S r (n + j.val) : EReal)) (hv : ∀ (j : Fin 1024) d, vx (ix2 j d) = (V (n + j.val) d : EReal))
    (h : ∀ r, Good S V n x r) : ∀ r, Good S V (n + 1024) (chunkSt x7 vx x) r := by
  have hreal : IsReal x7 := fun i => by
    rw [eq_ix2 (n0 := 768) (n1 := 1024) i]; exact ⟨_, hs _ _⟩
  have own : ∀ (o : ℕ) (pS : ∀ a, (![o, 0] : Fin 2 → ℕ) a + S256x1024.size a ≤ S768x1024.size a) (p9) (pL) (pR) (y : MA Ideal),
      o + 256 ≤ 768 → (∀ r : Fin 768, o ≤ r.val → r.val < o + 256 → Good S V n y r) →
      ∀ r : Fin 768, o ≤ r.val → r.val < o + 256 → Good S V (n + 1024)
        (next9 o p9 (maxL (VecWindow.window x7 ![o, 0] S256x1024.size pS)) y.1,
          next10 o p9 pL pR (maxL (VecWindow.window x7 ![o, 0] S256x1024.size pS)) (pvL (VecWindow.window x7 ![o, 0] S256x1024.size pS) vx) y.1 y.2) r := by
    intro o pS p9 pL pR y ho hy r h0 h1
    refine step_own S V o p9 pL pR _ _ y n 1024 ho (maxL_real _ fun i => hreal _) ?_ hy r h0 h1
    intro m p μ hm d
    refine pvL_at _ _ m p μ hm (fun j => S ⟨o + p.val, by omega⟩ (n + j)) (fun j => ?_) d (fun j => V (n + j) d) (fun j => hv j d)
    exact (window_at (a := 768) (b := 1024) (h := 256) (w := 1024) x7 o 0 pS p j ⟨o + p.val, by omega⟩ j rfl (by simp)).trans (hs _ j)
  intro r
  unfold chunkSt
  dsimp only
  by_cases r1 : r.val < 256
  · refine step_other S V 512 _ _ _ _ _ (_, _) _ r (by omega) (step_other S V 256 _ _ _ _ _ (_, _) _ r (by omega) ?_)
    exact own 0 _ _ _ _ x (by omega) (fun r _ _ => h r) r (by omega) (by omega)
  · by_cases r2 : r.val < 512
    · refine step_other S V 512 _ _ _ _ _ (_, _) _ r (by omega) ?_
      refine own 256 _ _ _ _ (_, _) (by omega) (fun r _ _ => ?_) r (by omega) (by omega)
      exact step_other S V 0 _ _ _ _ _ x _ r (by omega) (h r)
    · refine own 512 _ _ _ _ (_, _) (by omega) (fun r _ _ => ?_) r (by omega) (by omega)
      refine step_other S V 256 _ _ _ _ _ (_, _) _ r (by omega) ?_
      exact step_other S V 0 _ _ _ _ _ x _ r (by omega) (h r)

/-- The context's three groups. -/
theorem ctx_good (n : ℕ) (s : FVec Ideal S768x256 .f32) (vx : FVec Ideal S256x256 .bf16) (x : MA Ideal)
    (hs : ∀ r (j : Fin 256), s (ix2 r j) = (S r (n + j.val) : EReal)) (hv : ∀ (j : Fin 256) d, vx (ix2 j d) = (V (n + j.val) d : EReal))
    (h : ∀ r, Good S V n x r) : ∀ r, Good S V (n + 256) (ctxSt s vx x) r := by
  have hreal : IsReal s := fun i => by
    rw [eq_ix2 (n0 := 768) (n1 := 256) i]; exact ⟨_, hs _ _⟩
  have own : ∀ (o : ℕ) (sl : S768x256.Slices ![o, 0] S256x256) (p9) (pL) (pR) (y : MA Ideal),
      o + 256 ≤ 768 → (∀ r : Fin 768, o ≤ r.val → r.val < o + 256 → Good S V n y r) →
      ∀ r : Fin 768, o ≤ r.val → r.val < o + 256 → Good S V (n + 256)
        (next9 o p9 (maxC (extractStridedSlice S256x256 ![o, 0] s sl)) y.1,
          next10 o p9 pL pR (maxC (extractStridedSlice S256x256 ![o, 0] s sl)) (pvC (extractStridedSlice S256x256 ![o, 0] s sl) vx) y.1 y.2) r := by
    intro o sl p9 pL pR y ho hy r h0 h1
    refine step_own S V o p9 pL pR _ _ y n 256 ho (maxC_real _ (hreal.slice _ _)) ?_ hy r h0 h1
    intro m p μ hm d
    refine pvC_at _ _ m p μ hm (fun j => S ⟨o + p.val, by omega⟩ (n + j)) (fun j => ?_) d (fun j => V (n + j) d) (fun j => hv j d)
    exact (extractStridedSlice_apply _ _ _ _ (ix2 ⟨o + p.val, by omega⟩ j) (by intro b; fin_cases b <;> simp [ix2])).trans (hs _ j)
  intro r
  unfold ctxSt
  dsimp only
  by_cases r1 : r.val < 256
  · refine step_other S V 512 _ _ _ _ _ (_, _) _ r (by omega) (step_other S V 256 _ _ _ _ _ (_, _) _ r (by omega) ?_)
    exact own 0 _ _ _ _ x (by omega) (fun r _ _ => h r) r (by omega) (by omega)
  · by_cases r2 : r.val < 512
    · refine step_other S V 512 _ _ _ _ _ (_, _) _ r (by omega) ?_
      refine own 256 _ _ _ _ (_, _) (by omega) (fun r _ _ => ?_) r (by omega) (by omega)
      exact step_other S V 0 _ _ _ _ _ x _ r (by omega) (h r)
    · refine own 512 _ _ _ _ (_, _) (by omega) (fun r _ _ => ?_) r (by omega) (by omega)
      refine step_other S V 256 _ _ _ _ _ (_, _) _ r (by omega) ?_
      exact step_other S V 0 _ _ _ _ _ x _ r (by omega) (h r)

/-- Fresh: no keys, at the low maximum. -/
theorem fresh_good (r : Fin 768) : Good S V 0 (fresh (F := Ideal)) r := by
  obtain ⟨μ, hμ⟩ := low_f32
  refine ⟨μ, fun l => ?_, fun d => ?_⟩
  · show fresh (F := Ideal).1 (ix2 r l) = _
    unfold fresh
    rw [shapeCast_self]; exact hμ
  · show fresh (F := Ideal).2 (ix2 r d) = _
    unfold fresh
    rw [shapeCast_self, Finset.sum_range_zero]; exact zero_f32

end Cert.KernelIdeal.Hand

end
-- ==== Proof.Block.lean ====
/-
  What the body computes in a block, over the reals: the scores and the values read from the three input blocks, the
  sums carried over the context and the chunks, and the quotients at the end.
-/
module

public import proofs.«01_k».proof.Proof.GroupStep

@[expose] public section

set_option maxRecDepth 16384

noncomputable section

namespace Cert.KernelIdeal.Hand

open Cert.KernelIdeal Cert.KernelIdeal.Gen
open Idealize.ShloMosaic hiding eq_ix2 ix0 ix1 ix2 ix3 ix4 ix5 maximumf_apply mulf_apply addf_apply subf_apply divf_apply truncf_apply extf_apply
open Idealize.ShloMosaic.ValueIdx
open scoped BigOperators

/-- The real scores: row `r` is query `r % 256` of head `r / 256`. -/
def scoreR (fq : Fin 256 → Fin 384 → ℝ) (fk : Fin 128 → ℕ → ℝ) (r : Fin 768) (j : ℕ) : ℝ :=
  ∑ e : Fin 128, fq ⟨r.val % 256, by omega⟩ ⟨128 * (r.val / 256) + e.val, by omega⟩ * fk e j

/-- The values, with ones beside. -/
def valueR (fv : ℕ → Fin 128 → ℝ) (j : ℕ) (d : Fin 256) : ℝ := if h : d.val < 128 then fv j ⟨d.val, h⟩ else 1

/-- The row of a query and a head. -/
abbrev rowOf (p : Fin 256) (g : Fin 3) : Fin 768 := ⟨256 * g.val + p.val, by omega⟩

/-- An entry of the output block over `n` keys. -/
def outR (fq : Fin 256 → Fin 384 → ℝ) (fk : Fin 128 → ℕ → ℝ) (fv : ℕ → Fin 128 → ℝ) (n : ℕ) (p : Fin 256) (g : Fin 3) (d : Fin 128) : ℝ :=
  (∑ j ∈ Finset.range n, (2 : ℝ) ^ scoreR fq fk (rowOf p g) j * fv j d)
    / ∑ j ∈ Finset.range n, (2 : ℝ) ^ scoreR fq fk (rowOf p g) j

/-- A window on the last axis of a rank-4 block. -/
theorem window4_at {w b : ℕ} {α : Type} (x : S1x1x128x8448.Idx → α) (c : ℕ)
    (pr : ∀ k, (![0, 0, 0, c] : Fin 4 → ℕ) k + (⟨4, ![1, 1, 128, w]⟩ : Shape).size k ≤ S1x1x128x8448.size k)
    (e : Fin 128) (q : Fin w) (j : Fin 8448) (hj : j.val = c + q.val) :
    VecWindow.window (s := S1x1x128x8448) x ![0, 0, 0, c] (⟨4, ![1, 1, 128, w]⟩ : Shape).size pr (ix4 0 0 e q) = x (ix4 0 0 e j) := by
  refine congrArg x (funext fun k => Fin.ext ?_)
  show (![0, 0, 0, c] : Fin 4 → ℕ) k + 1 * (ix4 0 0 e q k).val = _
  fin_cases k <;> simp [ix4] <;> omega

/-- A window of a rank-3 block. -/
theorem window3_at {a b h w : ℕ} {α : Type} (x : (⟨3, ![1, a, b]⟩ : Shape).Idx → α) (o c : ℕ)
    (pr : ∀ k, (![0, o, c] : Fin 3 → ℕ) k + (⟨3, ![1, h, w]⟩ : Shape).size k ≤ (⟨3, ![1, a, b]⟩ : Shape).size k)
    (p : Fin h) (q : Fin w) (i : Fin a) (j : Fin b) (hi : i.val = o + p.val) (hj : j.val = c + q.val) :
    VecWindow.window (s := ⟨3, ![1, a, b]⟩) x ![0, o, c] (⟨3, ![1, h, w]⟩ : Shape).size pr (ix3 0 p q) = x (ix3 0 i j) := by
  refine congrArg x (funext fun k => Fin.ext ?_)
  show (![0, o, c] : Fin 3 → ℕ) k + 1 * (ix3 0 p q k).val = _
  fin_cases k <;> simp [ix3] <;> omega

/-- A put of a rank-3 block read inside. -/
theorem put3_in {a b h w : ℕ} {α : Type} (x : (⟨3, ![1, a, b]⟩ : Shape).Idx → α) (o c : ℕ) (v : (⟨3, ![1, h, w]⟩ : Shape).Idx → α)
    (i : Fin a) (j : Fin b) (p : Fin h) (q : Fin w) (hi : i.val = o + p.val) (hj : j.val = c + q.val) :
    VecWindow.put (s := ⟨3, ![1, a, b]⟩) x ![0, o, c] (⟨3, ![1, h, w]⟩ : Shape).size v (ix3 0 i j) = v (ix3 0 p q) := by
  unfold VecWindow.put
  rw [dif_pos (by intro k; fin_cases k <;> simp [ix3] <;> omega)]
  refine congrArg v (funext fun k => Fin.ext ?_)
  rw [Rect.unitLocal_val]
  fin_cases k <;> simp [ix3] <;> omega

/-- … and outside. -/
theorem put3_out {a b h w : ℕ} {α : Type} (x : (⟨3, ![1, a, b]⟩ : Shape).Idx → α) (o c : ℕ) (v : (⟨3, ![1, h, w]⟩ : Shape).Idx → α)
    (i : Fin a) (j : Fin b) (hij : i.val < o ∨ o + h ≤ i.val ∨ j.val < c ∨ c + w ≤ j.val) :
    VecWindow.put (s := ⟨3, ![1, a, b]⟩) x ![0, o, c] (⟨3, ![1, h, w]⟩ : Shape).size v (ix3 0 i j) = x (ix3 0 i j) := by
  unfold VecWindow.put
  rw [dif_neg]
  intro hk
  have h0 : o ≤ i.val ∧ i.val < o + h := hk 1
  have h1 : c ≤ j.val ∧ j.val < c + w := hk 2
  omega

/-- Dropping a leading unit axis. -/
theorem drop_at {a b : ℕ} {α : Type} (x : (⟨3, ![1, a, b]⟩ : Shape).Idx → α) (h : (⟨3, ![1, a, b]⟩ : Shape).ShapeCasts ⟨2, ![a, b]⟩)
    (p : Fin a) (q : Fin b) : shapeCast ⟨2, ![a, b]⟩ x h (ix2 p q) = x (ix3 0 p q) := by
  refine shapeCast_apply x h _ _ ?_
  rw [Shape.rowMajor_val_two, Shape.rowMajor_val_three]
  simp [ix2, ix3]
  rfl

/-- Adding it. -/
theorem add_at {a b : ℕ} {α : Type} (x : (⟨2, ![a, b]⟩ : Shape).Idx → α) (h : (⟨2, ![a, b]⟩ : Shape).ShapeCasts ⟨3, ![1, a, b]⟩)
    (p : Fin a) (q : Fin b) : shapeCast ⟨3, ![1, a, b]⟩ x h (ix3 0 p q) = x (ix2 p q) := by
  refine shapeCast_apply x h _ _ ?_
  rw [Shape.rowMajor_val_two, Shape.rowMajor_val_three]
  simp [ix2, ix3]
  rfl

/-- Dropping two. -/
theorem drop2_at {a b : ℕ} {α : Type} (x : (⟨4, ![1, 1, a, b]⟩ : Shape).Idx → α) (h : (⟨4, ![1, 1, a, b]⟩ : Shape).ShapeCasts ⟨2, ![a, b]⟩)
    (p : Fin a) (q : Fin b) : shapeCast ⟨2, ![a, b]⟩ x h (ix2 p q) = x (ix4 0 0 p q) := by
  refine shapeCast_apply x h _ _ ?_
  rw [Shape.rowMajor_val_two, Shape.rowMajor_val_four]
  simp [ix2, ix4]
  rfl

theorem inb_q : ∀ g : Fin 3, ∀ a, (![0, 0, 128 * g.val] : Fin 3 → ℕ) a + S1x256x128.size a ≤ S1x256x384.size a := by decide

section Block
variable (x3 : Vec Ideal S1x256x384 .bf16) (x4 : Vec Ideal S1x1x128x8448 .bf16) (x5 : Vec Ideal S1x8448x128 .bf16)
    (fq : Fin 256 → Fin 384 → ℝ) (fk : Fin 128 → ℕ → ℝ) (fv : ℕ → Fin 128 → ℝ)

/-- The queries' rows. -/
theorem q_at (r : Fin 768) (e : Fin 128) :
    qOf x3 (ix2 r e) = x3 (ix3 0 ⟨r.val % 256, by omega⟩ ⟨128 * (r.val / 256) + e.val, by omega⟩) := by
  refine (concatenate_ofFn_apply (t := S768x128) (s₁ := S256x128) 0
    (fun g : Fin 3 => shapeCast S256x128 (VecWindow.window x3 ![0, 0, 128 * g.val] S1x256x128.size (inb_q g)) shapeCasts_S1x256x128_S256x128)
    concatenates_S256x128_S256x128_S256x128_S768x128_d0 rfl 256 rfl (ix2 r e) ⟨r.val / 256, by omega⟩ rfl
    (ix2 ⟨r.val % 256, by omega⟩ e) rfl ?_).trans ?_
  · intro b hb
    fin_cases b
    · exact absurd rfl hb
    · rfl
  · refine (drop_at (a := 256) (b := 128) _ _ _ _).trans ?_
    exact window3_at (a := 256) (b := 384) (h := 256) (w := 128) x3 0 (128 * (r.val / 256)) _ _ _ _ _ (by simp) (by simp)

variable (hq : ∀ p c, x3 (ix3 0 p c) = (fq p c : EReal)) (hk : ∀ e (j : Fin 8448), x4 (ix4 0 0 e j) = (fk e j.val : EReal))
    (hv : ∀ (j : Fin 8448) d, x5 (ix3 0 j d) = (fv j.val d : EReal))

include hq hk in
/-- The scores at a chunk. -/
theorem scAt_at (n : ℕ) (off : Fin 4 → ℕ) (ho : off = ![0, 0, 0, n]) (p : ∀ a, off a + S1x1x128x1024.size a ≤ S1x1x128x8448.size a)
    (r : Fin 768) (j : Fin 1024) : scAt x3 x4 off p (ix2 r j) = (scoreR fq fk r (n + j.val) : EReal) := by
  subst ho
  have hn : n + 1024 ≤ 8448 := p 3
  unfold scAt scL
  rw [shapeCast_self]
  refine (Ideal.matmul_plain_apply (M := 768) (K := 128) (N := 1024) none (qOf x3) _ (constant S768x1024 .f32 0x00000000#32) r j).trans ?_
  rw [constant_apply, zero_f32, zero_add]
  unfold scoreR
  rw [← esum]
  refine Finset.sum_congr rfl fun e _ => ?_
  rw [q_at, hq, EReal.coe_mul]
  congr 1
  refine (drop2_at (a := 128) (b := 1024) _ _ e j).trans ?_
  exact (window4_at (b := 0) x4 n _ e j ⟨n + j.val, by omega⟩ rfl).trans (hk _ _)

include hq hk in
/-- The scores at the context. -/
theorem scC_at (r : Fin 768) (j : Fin 256) :
    scC (qOf x3) (VecWindow.window x4 ![0, 0, 0, 0] S1x1x128x256.size inb_S1x1x128x8448_S1x1x128x256_0_0_0_0) (ix2 r j)
      = (scoreR fq fk r (0 + j.val) : EReal) := by
  unfold scC
  refine (Ideal.matmul_plain_apply (M := 768) (K := 128) (N := 256) none (qOf x3) _ (constant S768x256 .f32 0x00000000#32) r j).trans ?_
  rw [constant_apply, zero_f32, zero_add]
  unfold scoreR
  rw [← esum]
  refine Finset.sum_congr rfl fun e _ => ?_
  rw [q_at, hq, EReal.coe_mul]
  congr 1
  refine (drop2_at (a := 128) (b := 256) _ _ e j).trans ?_
  exact (window4_at (b := 0) x4 0 _ e j ⟨0 + j.val, by omega⟩ rfl).trans (hk _ _)

/-- Values beside ones. -/
theorem vcat_at {W : ℕ} (x : FVec Ideal (⟨2, ![W, 128]⟩ : Shape) .bf16)
    (h : Shape.Concatenates [(⟨2, ![W, 128]⟩ : Shape), ⟨2, ![W, 128]⟩] ⟨2, ![W, 256]⟩ 1) (j : Fin W) (d : Fin 256) (b : Fin 128 → ℝ)
    (hx : ∀ l, x (ix2 j l) = (b l : EReal)) :
    concatenate (⟨2, ![W, 256]⟩ : Shape) 1 [⟨⟨2, ![W, 128]⟩, x⟩, ⟨⟨2, ![W, 128]⟩, broadcast ⟨2, ![W, 128]⟩ (Scalar.ofBits (F := Ideal) .bf16 0x3F80#16)⟩] h (ix2 j d)
      = ((if h : d.val < 128 then b ⟨d.val, h⟩ else 1 : ℝ) : EReal) := by
  by_cases hd : d.val < 128
  · rw [dif_pos hd]
    refine (concatenate_pair_apply_left (t := ⟨2, ![W, 256]⟩) (s₁ := ⟨2, ![W, 128]⟩) (s₂ := ⟨2, ![W, 128]⟩) 1 _ _ h (ix2 j d) rfl (ix2 j ⟨d.val, hd⟩) ?_).trans (hx _)
    intro b; fin_cases b <;> rfl
  · rw [dif_neg hd]
    refine (concatenate_pair_apply_right (t := ⟨2, ![W, 256]⟩) (s₁ := ⟨2, ![W, 128]⟩) (s₂ := ⟨2, ![W, 128]⟩) 1 _ _ h (ix2 j d) rfl rfl (ix2 j ⟨d.val - 128, by omega⟩) ?_ ?_).trans one_bf16
    · intro b hb
      fin_cases b
      · rfl
      · exact absurd rfl hb
    · show d.val - 128 + 128 = d.val
      omega

include hv in
/-- The values at a chunk. -/
theorem vxAt_at (n : ℕ) (off : Fin 3 → ℕ) (ho : off = ![0, n, 0]) (p : ∀ a, off a + S1x1024x128.size a ≤ S1x8448x128.size a)
    (j : Fin 1024) (d : Fin 256) : vxAt x5 off p (ix2 j d) = (valueR fv (n + j.val) d : EReal) := by
  subst ho
  have hn : n + 1024 ≤ 8448 := p 1
  refine vcat_at (W := 1024) _ concatenates_S1024x128_S1024x128_S1024x256_d1 j d (fun d => fv (n + j.val) d) fun l => ?_
  refine (drop_at (a := 1024) (b := 128) _ _ j l).trans ?_
  exact (window3_at (a := 8448) (b := 128) (h := 1024) (w := 128) x5 n 0 p j l ⟨n + j.val, by omega⟩ l rfl (by simp)).trans (hv _ _)

include hv in
/-- The values at the context. -/
theorem vxC_at (j : Fin 256) (d : Fin 256) :
    vxC (VecWindow.window x5 ![0, 0, 0] S1x256x128.size inb_S1x8448x128_S1x256x128_0_0_0) (ix2 j d) = (valueR fv (0 + j.val) d : EReal) := by
  refine vcat_at (W := 256) _ concatenates_S256x128_S256x128_S256x256_d1 j d (fun d => fv (0 + j.val) d) fun l => ?_
  refine (drop_at (a := 256) (b := 128) _ _ j l).trans ?_
  exact (window3_at (a := 8448) (b := 128) (h := 256) (w := 128) x5 0 0 _ j l ⟨0 + j.val, by omega⟩ l rfl (by simp)).trans (hv _ _)

include hq hk hv in
/-- After the context. -/
theorem afterCtx_good (r : Fin 768) : Good (scoreR fq fk) (valueR fv) 256 (afterCtx x3 x4 x5) r := by
  have := ctx_good (scoreR fq fk) (valueR fv) 0 _ _ fresh (scC_at x3 x4 fq fk hq hk) (vxC_at x5 fv hv) (fresh_good _ _) r
  rwa [Nat.zero_add] at this

/-- An entry of a stored quotient. -/
theorem outV_at (x y : FVec Ideal S256x128 .f32) (p : Fin 256) (l : Fin 128) (A B : ℝ) (hx : x (ix2 p l) = (A : EReal))
    (hy : y (ix2 p l) = (B : EReal)) (hB : B ≠ 0) : outV x y (ix3 0 p l) = ((A / B : ℝ) : EReal) := by
  unfold outV
  refine (add_at (a := 256) (b := 128) _ _ p l).trans ?_
  show Ideal.div (x (ix2 p l)) (y (ix2 p l)) = _
  rw [hx, hy, Ideal.div_coe hB, ← EReal.coe_mul]
  congr 1; field_simp

/-- The maximum cancels in the quotient. -/
theorem quot_eq (S V : ℕ → ℝ) (n : ℕ) (μ : ℝ) :
    (∑ j ∈ Finset.range n, (2 : ℝ) ^ (S j - μ) * V j) / (∑ j ∈ Finset.range n, (2 : ℝ) ^ (S j - μ) * 1)
      = (∑ j ∈ Finset.range n, (2 : ℝ) ^ S j * V j) / ∑ j ∈ Finset.range n, (2 : ℝ) ^ S j := by
  have e : ∀ W : ℕ → ℝ, ∑ j ∈ Finset.range n, (2 : ℝ) ^ (S j - μ) * W j = (2 : ℝ) ^ (-μ) * ∑ j ∈ Finset.range n, (2 : ℝ) ^ S j * W j := by
    intro W
    rw [Finset.mul_sum]
    refine Finset.sum_congr rfl fun j _ => ?_
    rw [← mul_assoc, ← Real.rpow_add (by norm_num)]
    congr 2; ring
  rw [e, e (fun _ => 1), mul_div_mul_left _ _ (Real.rpow_pos_of_pos (by norm_num) _).ne']
  simp

/-- The output block from the sums. -/
theorem outSt_at (n : ℕ) (hn : 0 < n) (x : MA Ideal) (x6 : Vec Ideal S1x256x384 .bf16)
    (h : ∀ r, Good (scoreR fq fk) (valueR fv) n x r) (p : Fin 256) (g : Fin 3) (d : Fin 128) :
    outSt x.2 x6 (ix3 0 p ⟨128 * g.val + d.val, by omega⟩) = (outR fq fk fv n p g d : EReal) := by
  have key : ∀ (o : ℕ) (ho : o = 256 * g.val) (pL) (pR),
      outV (win10 ![o, 0] pL x.2) (win10 ![o, 128] pR x.2) (ix3 0 p d) = (outR fq fk fv n p g d : EReal) := by
    intro o ho pL pR
    subst ho
    obtain ⟨μ, _, h2⟩ := h (rowOf p g)
    refine (outV_at _ _ p d _ _ ((window_at (a := 768) (b := 256) (h := 256) (w := 128) x.2 _ 0 pL p d (rowOf p g) ⟨d.val, by omega⟩ rfl (by simp)).trans (h2 _))
      ((window_at (a := 768) (b := 256) (h := 256) (w := 128) x.2 _ 128 pR p d (rowOf p g) ⟨128 + d.val, by omega⟩ rfl rfl).trans (h2 _)) ?_).trans ?_
    · refine ne_of_gt (Finset.sum_pos (fun j _ => ?_) ⟨0, by simpa using hn⟩)
      have : valueR fv j ⟨128 + d.val, by omega⟩ = 1 := dif_neg (by simp)
      rw [this, mul_one]; exact Real.rpow_pos_of_pos (by norm_num) _
    · have e1 : ∀ j, valueR fv j ⟨128 + d.val, by omega⟩ = 1 := fun j => dif_neg (by simp)
      have e2 : ∀ j, valueR fv j ⟨d.val, by omega⟩ = fv j d := fun j => dif_pos d.isLt
      simp only [e1, e2]
      rw [quot_eq (scoreR fq fk (rowOf p g)) (fun j => fv j d) n μ]; rfl
  unfold outSt
  fin_cases g
  · rw [put3_out (a := 256) (b := 384) (h := 256) (w := 128) _ _ _ _ _ _ (by simp <;> omega),
      put3_out (a := 256) (b := 384) (h := 256) (w := 128) _ _ _ _ _ _ (by simp <;> omega),
      put3_in (a := 256) (b := 384) (h := 256) (w := 128) _ _ _ _ _ _ p d (by simp) (by simp)]
    exact key 0 rfl _ _
  · rw [put3_out (a := 256) (b := 384) (h := 256) (w := 128) _ _ _ _ _ _ (by simp <;> omega),
      put3_in (a := 256) (b := 384) (h := 256) (w := 128) _ _ _ _ _ _ p d (by simp) (by simp)]
    exact key 256 rfl _ _
  · rw [put3_in (a := 256) (b := 384) (h := 256) (w := 128) _ _ _ _ _ _ p d (by simp) (by simp)]
    exact key 512 rfl _ _

theorem off1_at : ∀ (k : Fin k0_t1_loop.trips), k0_off1 k 2#32 = ![0, 0, 0, 256 + 2 * (k.val + 1) * 1024]
    ∧ k0_off1 k 1#32 = ![0, 0, 0, 256 + 2 * k.val * 1024 + 1024] ∧ k0_off2 k = ![0, 256 + 2 * k.val * 1024, 0]
    ∧ k0_off3 k = ![0, 256 + 2 * k.val * 1024 + 1024, 0] := by decide

theorem trips_eq : k0_t1_loop.trips = 3 := by decide

/-- What holds between the trips. -/
def Inv (fq : Fin 256 → Fin 384 → ℝ) (fk : Fin 128 → ℕ → ℝ) (fv : ℕ → Fin 128 → ℝ) (k : ℕ) (x7 : FVec Ideal S768x1024 .f32) (x : MA Ideal) : Prop :=
  (∀ r (j : Fin 1024), x7 (ix2 r j) = (scoreR fq fk r (256 + 2 * k * 1024 + j.val) : EReal))
    ∧ ∀ r, Good (scoreR fq fk) (valueR fv) (256 + 2 * k * 1024) x r

include hq hk hv in
theorem inv_zero : Inv fq fk fv 0 (scAt x3 x4 ![0, 0, 0, 256] inb_S1x1x128x8448_S1x1x128x1024_0_0_0_256) (afterCtx x3 x4 x5) :=
  ⟨fun r j => scAt_at x3 x4 fq fk hq hk 256 _ rfl _ r j, fun r => afterCtx_good x3 x4 x5 fq fk fv hq hk hv r⟩

include hq hk hv in
theorem inv_step (i : grid0.Coords) (hc : k0_cond1 i = 1#1) (k : Fin k0_t1_loop.trips) (x7 : FVec Ideal S768x1024 .f32) (x : MA Ideal)
    (h : Inv fq fk fv k x7 x) :
    Inv fq fk fv (k + 1) (scAt x3 x4 (k0_off1 k 2#32) (k0_off1_inb i k hc 1)) (tripSt i hc k x3 x4 x5 x7 x) := by
  obtain ⟨e1, e2, e3, e4⟩ := off1_at k
  refine ⟨fun r j => scAt_at x3 x4 fq fk hq hk _ _ e1 _ r j, fun r => ?_⟩
  have g1 := chunk_good (scoreR fq fk) (valueR fv) _ x7 (vxAt x5 (k0_off2 k) (k0_off2_inb i k hc)) x h.1
    (vxAt_at x5 fv hv _ _ e3 _) h.2
  have g2 := chunk_good (scoreR fq fk) (valueR fv) _ (scAt x3 x4 (k0_off1 k 1#32) (k0_off1_inb i k hc 0))
    (vxAt x5 (k0_off3 k) (k0_off3_inb i k hc)) _ (scAt_at x3 x4 fq fk hq hk _ _ e2 _)
    (vxAt_at x5 fv hv _ _ e4 _) g1 r
  have e : 256 + 2 * k.val * 1024 + 1024 + 1024 = 256 + 2 * (k.val + 1) * 1024 := by ring
  rw [e] at g2
  exact g2

include hq hk hv in
theorem inv_last (x7 : FVec Ideal S768x1024 .f32) (x : MA Ideal) (h : Inv fq fk fv k0_t1_loop.trips x7 x) (r : Fin 768) :
    Good (scoreR fq fk) (valueR fv) 8448 (lastSt x3 x4 x5 x7 x) r := by
  rw [trips_eq] at h
  have g1 := chunk_good (scoreR fq fk) (valueR fv) 6400 x7 (vxAt x5 ![0, 6400, 0] inb_S1x8448x128_S1x1024x128_0_6400_0) x h.1
    (vxAt_at x5 fv hv _ _ rfl _) h.2
  exact chunk_good (scoreR fq fk) (valueR fv) 7424 _ (vxAt x5 ![0, 7424, 0] inb_S1x8448x128_S1x1024x128_0_7424_0) _
    (scAt_at x3 x4 fq fk hq hk _ _ rfl _) (vxAt_at x5 fv hv _ _ rfl _) g1 r

end Block

end Cert.KernelIdeal.Hand

end
-- ==== Proof.Entry.lean ====
/-
  The arrays as the region finds them, and the three input blocks at a point, over the reals.
-/
module

public import proofs.«01_k».proof.Proof.Block
public import proofs.«01_k».proof.Proof.Spec
public import proofs.«01_k».proof.Proof.FrameKernelIdeal
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx (eq_ix3 eq_ix4)
open scoped BigOperators

variable (m : (ℓ : Loc nD τ sig) → Buf (Elt Ideal) ℓ)

/-- The scale, a number. -/
def scaleR : ℝ := (Ideal.ofBits .f32 0x3DB504F3#32).toReal

def qR (c : Dev nD) (b : Fin 4) (i : Fin 8448) (ch : Fin 1536) : ℝ := EReal.toReal (m ((c.tc : Thread nD τ).loc main_arg0) (ValueIdx.ix3 b i ch))
def kR (c : Dev nD) (b : Fin 4) (j : ℕ) (ch : Fin 512) : ℝ :=
  if h : j < 8448 then EReal.toReal (m ((c.tc : Thread nD τ).loc main_arg1) (ValueIdx.ix3 b ⟨j, h⟩ ch)) else 0
def vR (c : Dev nD) (b : Fin 4) (j : ℕ) (ch : Fin 512) : ℝ :=
  if h : j < 8448 then EReal.toReal (m ((c.tc : Thread nD τ).loc main_arg2) (ValueIdx.ix3 b ⟨j, h⟩ ch)) else 0

theorem idx : ∀ t : Fin cfg0.N,
    win0_0.index t = ![(grid0.coords t 0).val, (grid0.coords t 2).val, (grid0.coords t 1).val]
    ∧ win0_1.index t = ![(grid0.coords t 0).val, (grid0.coords t 1).val, 0, 0]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

theorem V_v5 (c : Dev nD) (b : Fin 4) (i : Fin 8448) (ch : Fin 1536) :
    (V m c main_v5 : Vec Ideal S4x8448x1536 .bf16) (ValueIdx.ix3 b i ch)
      = Ideal.div (HMul.hMul (α := EReal) (β := EReal) (γ := EReal) (m ((c.tc : Thread nD τ).loc main_arg0) (ValueIdx.ix3 b i ch)) (Ideal.ofBits .f32 0x3DB504F3#32)) (Ideal.log (Ideal.ofBits .f32 0x40000000#32)) := by
  entry_read
  rfl

theorem V_v8 (c : Dev nD) (b : Fin 4) (h : Fin 4) (e : Fin 128) (j : Fin 8448) :
    (V m c main_v8 : Vec Ideal S4x4x128x8448 .bf16) (ValueIdx.ix4 b h e j)
      = (m ((c.tc : Thread nD τ).loc main_arg1) : FVec Ideal S4x8448x512 .f32) (ValueIdx.ix3 b j ⟨128 * h.val + e.val, by omega⟩) := by
  entry_read
  show transpose (s := S4x8448x4x128) S4x4x128x8448 [0, 2, 3, 1] (shapeCast S4x8448x4x128 (m (c, Proc.tc.devRef main_arg1)) shapeCasts_S4x8448x512_S4x8448x4x128)
    transposes_S4x8448x4x128_S4x4x128x8448_0_2_3_1 (ValueIdx.ix4 b h e j) = _
  refine (transpose_apply (s := S4x8448x4x128) (t := S4x4x128x8448) [0, 2, 3, 1] _ transposes_S4x8448x4x128_S4x4x128x8448_0_2_3_1
    (ValueIdx.ix4 b h e j) (ValueIdx.ix4 b j h e) (fun k => match k with | ⟨0, _⟩ => rfl | ⟨1, _⟩ => rfl | ⟨2, _⟩ => rfl | ⟨3, _⟩ => rfl)).trans ?_
  refine shapeCast_apply (s := S4x8448x512) (t := S4x8448x4x128) _ _ _ (ValueIdx.ix3 b j ⟨128 * h.val + e.val, by omega⟩) ?_
  rw [Shape.rowMajor_val_three, Shape.rowMajor_val_four]
  show (b.val * 8448 + j.val) * 512 + (128 * h.val + e.val) = ((b.val * 8448 + j.val) * 4 + h.val) * 128 + e.val
  omega

theorem V_v9 (c : Dev nD) (i) :
    (V m c main_v9 : Vec Ideal S4x8448x512 .bf16) i = (m ((c.tc : Thread nD τ).loc main_arg2) : FVec Ideal S4x8448x512 .f32) i := by
  entry_read
  rfl

theorem blk0 (c : Dev nD) (t : Fin cfg0.N) (p : Fin 256) (q : Fin 384) (b : Fin 4) (i : Fin 8448) (ch : Fin 1536)
    (hb : b.val = (grid0.coords t 0).val) (hi : i.val = (grid0.coords t 2).val * 256 + p.val) (hc : ch.val = (grid0.coords t 1).val * 384 + q.val) :
    iblk m c 0 t (ValueIdx.ix3 0 p q) = V m c main_v5 (ValueIdx.ix3 b i ch) := by
  blk_ext [iblk, idx t]
  all_goals first | exact hb.symm | exact hi.symm | exact hc.symm

theorem blk1 (c : Dev nD) (t : Fin cfg0.N) (e : Fin 128) (j : Fin 8448) (b : Fin 4) (h : Fin 4)
    (hb : b.val = (grid0.coords t 0).val) (hh : h.val = (grid0.coords t 1).val) :
    iblk m c 1 t (ValueIdx.ix4 0 0 e j) = V m c main_v8 (ValueIdx.ix4 b h e j) := by
  blk_ext [iblk, idx t]
  all_goals first | exact hb.symm | exact hh.symm

theorem blk2 (c : Dev nD) (t : Fin cfg0.N) (j : Fin 8448) (d : Fin 128) (b : Fin 4) (ch : Fin 512)
    (hb : b.val = (grid0.coords t 0).val) (hh : ch.val = (grid0.coords t 1).val * 128 + d.val) :
    iblk m c 2 t (ValueIdx.ix3 0 j d) = V m c main_v9 (ValueIdx.ix3 b j ch) := by
  blk_ext [iblk, idx t]
  all_goals first | exact hb.symm | exact hh.symm

/-! ## The arguments are numbers -/

theorem scale_real : Ideal.ofBits .f32 0x3DB504F3#32 = (scaleR : EReal) := by
  obtain ⟨r, hr⟩ : ∃ r : ℝ, Ideal.ofBits .f32 0x3DB504F3#32 = (r : EReal) := by
    simp only [Ideal.ofBits, Ideal.ieee]; exact ⟨_, rfl⟩
  unfold scaleR; rw [hr, EReal.toReal_coe]

theorem two_real : Ideal.ofBits .f32 0x40000000#32 = ((2 : ℝ) : EReal) := by
  simp [Ideal.ofBits, Ideal.ieee, -EReal.coe_mul]; norm_num

/-- The three arguments' entries are numbers. -/
structure Numbers (c : Dev nD) : Prop where
  h0 : ∀ i, ∃ r : ℝ, m ((c.tc : Thread nD τ).loc main_arg0) i = (r : EReal)
  h1 : ∀ i, ∃ r : ℝ, m ((c.tc : Thread nD τ).loc main_arg1) i = (r : EReal)
  h2 : ∀ i, ∃ r : ℝ, m ((c.tc : Thread nD τ).loc main_arg2) i = (r : EReal)

variable {m} in
theorem Numbers.q {c : Dev nD} (H : Numbers m c) (b : Fin 4) (i : Fin 8448) (ch : Fin 1536) :
    m ((c.tc : Thread nD τ).loc main_arg0) (ValueIdx.ix3 b i ch) = (qR m c b i ch : EReal) := by
  obtain ⟨r, hr⟩ := H.h0 (ValueIdx.ix3 b i ch)
  unfold qR; rw [hr]; rfl

variable {m} in
theorem Numbers.k {c : Dev nD} (H : Numbers m c) (b : Fin 4) (j : Fin 8448) (ch : Fin 512) :
    m ((c.tc : Thread nD τ).loc main_arg1) (ValueIdx.ix3 b j ch) = (kR m c b j.val ch : EReal) := by
  obtain ⟨r, hr⟩ := H.h1 (ValueIdx.ix3 b j ch)
  unfold kR; rw [dif_pos j.isLt, hr]; rfl

variable {m} in
theorem Numbers.v {c : Dev nD} (H : Numbers m c) (b : Fin 4) (j : Fin 8448) (ch : Fin 512) :
    m ((c.tc : Thread nD τ).loc main_arg2) (ValueIdx.ix3 b j ch) = (vR m c b j.val ch : EReal) := by
  obtain ⟨r, hr⟩ := H.h2 (ValueIdx.ix3 b j ch)
  unfold vR; rw [dif_pos j.isLt, hr]; rfl

theorem log_two_ne : Real.log 2 ≠ 0 := (Real.log_pos (by norm_num)).ne'

theorem log_two : Ideal.log ((2 : ℝ) : EReal) = ((Real.log 2 : ℝ) : EReal) := by
  show (if (2 : ℝ) ≤ 0 then (⊥ : EReal) else (Real.log 2 : EReal)) = _
  rw [if_neg (by norm_num)]

/-- The queries as the region finds them. -/
theorem v5_real (c : Dev nD) (H : Numbers m c) (b : Fin 4) (i : Fin 8448) (ch : Fin 1536) :
    V m c main_v5 (ValueIdx.ix3 b i ch) = ((qR m c b i ch * scaleR / Real.log 2 : ℝ) : EReal) := by
  rw [V_v5, H.q, scale_real, two_real, log_two, Ideal.div_coe log_two_ne, ← EReal.coe_mul, ← EReal.coe_mul]
  congr 1; field_simp

/-! ## The block's quotient is the attention's entry -/

/-- The queries, keys and values of the block at batch `b`, head `h`, tile `w`. -/
def fqR (Q : Fin 4 → Fin 8448 → Fin 1536 → ℝ) (s : ℝ) (b : Fin 4) (h : Fin 4) (w : Fin 33) (p : Fin 256) (q : Fin 384) : ℝ :=
  Q b ⟨w.val * 256 + p.val, by omega⟩ ⟨h.val * 384 + q.val, by omega⟩ * s / Real.log 2
def fkR (K : Fin 4 → ℕ → Fin 512 → ℝ) (b : Fin 4) (h : Fin 4) (e : Fin 128) (j : ℕ) : ℝ := K b j ⟨128 * h.val + e.val, by omega⟩
def fvR (V : Fin 4 → ℕ → Fin 512 → ℝ) (b : Fin 4) (h : Fin 4) (j : ℕ) (d : Fin 128) : ℝ := V b j ⟨128 * h.val + d.val, by omega⟩

theorem out_eq_att (s : ℝ) (Q : Fin 4 → Fin 8448 → Fin 1536 → ℝ) (K V : Fin 4 → ℕ → Fin 512 → ℝ) (b h : Fin 4) (w : Fin 33)
    (p : Fin 256) (g : Fin 3) (d : Fin 128) (i : Fin 8448) (ch : Fin 1536) (hi : i.val = w.val * 256 + p.val)
    (hc : ch.val = h.val * 384 + (128 * g.val + d.val)) :
    outR (fqR Q s b h w) (fkR K b h) (fvR V b h) (Attention.seen i) p g d = Attention.att s Q K V b i ch := by
  have hs : ∀ j, (2 : ℝ) ^ scoreR (fqR Q s b h w) (fkR K b h) (rowOf p g) j = Real.exp (Attention.score s Q K b i ch j) := by
    intro j
    rw [Real.rpow_def_of_pos (by norm_num)]
    congr 1
    unfold scoreR Attention.score
    rw [Finset.mul_sum, Finset.sum_mul]
    refine Finset.sum_congr rfl fun e _ => ?_
    unfold fqR fkR
    have e1 : (⟨w.val * 256 + (rowOf p g).val % 256, by omega⟩ : Fin 8448) = i := Fin.ext (by show w.val * 256 + (256 * g.val + p.val) % 256 = i.val; omega)
    have e2 : (⟨h.val * 384 + (128 * ((rowOf p g).val / 256) + e.val), by omega⟩ : Fin 1536) = ⟨128 * (ch.val / 128) + e.val, by omega⟩ :=
      Fin.ext (by show h.val * 384 + (128 * ((256 * g.val + p.val) / 256) + e.val) = 128 * (ch.val / 128) + e.val; omega)
    have e3 : (⟨128 * h.val + e.val, by omega⟩ : Fin 512) = ⟨128 * (ch.val / 384) + e.val, by omega⟩ := Fin.ext (by show 128 * h.val + e.val = 128 * (ch.val / 384) + e.val; omega)
    rw [e1, e2, e3]
    have := log_two_ne
    field_simp
  have hv : ∀ j, fvR V b h j d = V b j ⟨128 * (ch.val / 384) + ch.val % 128, by omega⟩ := by
    intro j
    unfold fvR
    congr 1; exact Fin.ext (by show 128 * h.val + d.val = 128 * (ch.val / 384) + ch.val % 128; omega)
  unfold outR Attention.att
  simp only [hs, hv]

end Cert.KernelIdeal.Hand

end
-- ==== Proof.Value.lean ====
/-
  The run of the attention with its result named: the attention's array over the reals.
-/
module

public import proofs.«01_k».proof.Proof.Entry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The result. -/
def resA (c : Dev nD) : Vec Ideal S4x8448x1536 .bf16 :=
  fun i => ((Attention.att scaleR (qR m c) (kR m c) (vR m c) (i 0) (i 1) (i 2) : ℝ) : EReal)

/-- Its block at a point. -/
def resBlk (c : Dev nD) (t : Fin cfg0.N) : Vec Ideal S1x256x384 .bf16 := fun y => resA m c ((win0_3.blk t).view.emb y)

theorem resBlk_at (c : Dev nD) (t : Fin cfg0.N) (p : Fin 256) (q : Fin 384) (b : Fin 4) (i : Fin 8448) (ch : Fin 1536)
    (hb : b.val = (grid0.coords t 0).val) (hi : i.val = (grid0.coords t 2).val * 256 + p.val) (hc : ch.val = (grid0.coords t 1).val * 384 + q.val) :
    resBlk m c t (ValueIdx.ix3 0 p q) = ((Attention.att scaleR (qR m c) (kR m c) (vR m c) b i ch : ℝ) : EReal) := by
  show resA m c _ = resA m c (ValueIdx.ix3 b i ch)
  blk_ext [idx t]
  all_goals first | exact hb.symm | exact hi.symm | exact hc.symm

theorem cond_iff : ∀ t : Fin cfg0.N, (k0_cond1 (grid0.coords t) = 1#1) ↔ 0 < (grid0.coords t 2).val :=
  (by decide +kernel : ∀ t : Fin grid0.N, _)

section Point
variable (c : Dev nD) (H : Numbers m c) (t : Fin cfg0.N)

abbrev gb (t : Fin cfg0.N) : Fin 4 := ⟨(grid0.coords t 0).val, (grid0.coords t 0).isLt⟩
abbrev gh (t : Fin cfg0.N) : Fin 4 := ⟨(grid0.coords t 1).val, (grid0.coords t 1).isLt⟩
abbrev gw (t : Fin cfg0.N) : Fin 33 := ⟨(grid0.coords t 2).val, (grid0.coords t 2).isLt⟩

include H in
theorem hq_pt (p : Fin 256) (q : Fin 384) : iblk m c 0 t (ValueIdx.ix3 0 p q) = (fqR (qR m c) scaleR (gb t) (gh t) (gw t) p q : EReal) :=
  (blk0 m c t p q (gb t) ⟨(gw t).val * 256 + p.val, by omega⟩ ⟨(gh t).val * 384 + q.val, by omega⟩ rfl rfl rfl).trans (v5_real m c H _ _ _)

include H in
theorem hk_pt (e : Fin 128) (j : Fin 8448) : iblk m c 1 t (ValueIdx.ix4 0 0 e j) = (fkR (kR m c) (gb t) (gh t) e j.val : EReal) :=
  (blk1 m c t e j (gb t) (gh t) rfl rfl).trans ((V_v8 m c _ _ _ _).trans (H.k _ _ _))

include H in
theorem hv_pt (j : Fin 8448) (d : Fin 128) : iblk m c 2 t (ValueIdx.ix3 0 j d) = (fvR (vR m c) (gb t) (gh t) j.val d : EReal) :=
  (blk2 m c t j d (gb t) ⟨128 * (gh t).val + d.val, by omega⟩ rfl (by show 128 * (grid0.coords t 1).val + d.val = (grid0.coords t 1).val * 128 + d.val; omega)).trans
    ((V_v9 m c _).trans (H.v _ _ _))

include H in
/-- The quotients at a point are the result's block. -/
theorem out_pt (x : MA Ideal) (x6 : Vec Ideal S1x256x384 .bf16)
    (h : ∀ r, Good (scoreR (fqR (qR m c) scaleR (gb t) (gh t) (gw t)) (fkR (kR m c) (gb t) (gh t))) (valueR (fvR (vR m c) (gb t) (gh t)))
      (if (grid0.coords t 2).val = 0 then 256 else 8448) x r) : outSt x.2 x6 = resBlk m c t := by
  funext y
  obtain ⟨p, q, rfl⟩ : ∃ (p : Fin 256) (q : Fin 384), y = ValueIdx.ix3 0 p q :=
    ⟨y 1, y 2, (ValueIdx.eq_ix3 (n0 := 1) (n1 := 256) (n2 := 384) y).trans (congrArg (fun z : Fin 1 => ValueIdx.ix3 z (y 1 : Fin 256) (y 2 : Fin 384)) (Subsingleton.elim (α := Fin 1) (y 0) 0))⟩
  obtain ⟨g, d, hq, rfl⟩ : ∃ (g : Fin 3) (d : Fin 128) (hq : 128 * g.val + d.val < 384), q = ⟨128 * g.val + d.val, hq⟩ :=
    ⟨⟨q.val / 128, by omega⟩, ⟨q.val % 128, by omega⟩, by simp; omega, Fin.ext (by simp; omega)⟩
  have hw := (gw t).isLt
  refine (outSt_at _ _ _ _ (by split <;> omega) x x6 h p g d).trans ?_
  rw [resBlk_at m c t p _ (gb t) ⟨(gw t).val * 256 + p.val, by omega⟩ ⟨(gh t).val * 384 + (128 * g.val + d.val), by omega⟩ rfl rfl rfl,
    ← out_eq_att scaleR (qR m c) (kR m c) (vR m c) (gb t) (gh t) (gw t) p g d _ _ rfl rfl]
  congr 2
  unfold Attention.seen
  show (if (grid0.coords t 2).val = 0 then 256 else 8448) = if (grid0.coords t 2).val * 256 + p.val < 256 then 256 else 8448
  by_cases h0 : (grid0.coords t 2).val = 0
  · rw [if_pos h0, if_pos (by omega)]
  · rw [if_neg h0, if_neg (by omega)]

end Point

/-! ## The proof data and the body obligation -/

/-- Each input block left as fetched, the output block at the result's. -/
def vdats (_ : Fin 1) (c : Dev nD) : Dat τ (Elt Ideal) Unit ℕ (UR sig nD τ) ℕ cfg0 c where
  A w := V m c (Pipeline.arrRef spec0 w)
  after
    | 0, t => iblk m c 0 t
    | 1, t => iblk m c 1 t
    | 2, t => iblk m c 2 t
    | 3, t => resBlk m c t
  Φ _ := Pipeline.ΦA spec0 c
  q _ := fullShare
  owed _ := 0

theorem vA_eq (c : Dev nD) (w : Fin cfg0.W) : (vdats m 0 c).A w = V m c (Pipeline.arrRef spec0 w) := by dsimp only [vdats]

def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d)))
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t))

/-- The body at a point. -/
theorem vsound_body (c : Dev nD) (H : Numbers m c) (t : Fin cfg0.N) :
    vbodyPre m c t ⊢ wp frame (wpE (defs₀ (F := Ideal)) Variants.none c none) Set.univ (bodyAt0 t) (fun _ => vbodyPost m c t) := by
  unfold vbodyPre vbodyPost bodyAt0
  rw [show (vdats m 0 c).Φ t.succ = (vdats m 0 c).Φ t.castSucc from rfl,
    show (vdats m 0 c).owesAt () t.succ = (vdats m 0 c).owesAt () t.castSucc from rfl,
    show (vdats m 0 c).Φ t.castSucc = Pipeline.ΦA spec0 c from rfl, inv_eq]
  simp only [before0_0_of m (vdats m 0 c) (vA_eq m c 0) (fun _ => rfl), before0_1_of m (vdats m 0 c) (vA_eq m c 1) (fun _ => rfl),
    before0_2_of m (vdats m 0 c) (vA_eq m c 2) (fun _ => rfl)]
  iintro ⟨⟨⟨H7, H8, H9, H10⟩, Hg⟩, HO, ⟨%d0, H3⟩, ⟨%d1, H4⟩, ⟨%d2, H5⟩, ⟨%d3, H6⟩⟩
  iapply (attention_run c (grid0.coords t) _ _ _ _ _ _ _ _ _ _ _ _ _ _ _ _ (iblk m c 0 t) (iblk m c 1 t) (iblk m c 2 t)
    (fun d => d = resBlk m c t)
    (Inv (fqR (qR m c) scaleR (gb t) (gh t) (gw t)) (fkR (kR m c) (gb t) (gh t)) (fvR (vR m c) (gb t) (gh t)))
    (fun hc x6 => out_pt m c H t _ x6 (by
      rw [if_pos (by have := mt (cond_iff t).2 hc; omega)]
      exact afterCtx_good _ _ _ _ _ _ (hq_pt m c H t) (hk_pt m c H t) (hv_pt m c H t)))
    (fun hc => inv_zero _ _ _ _ _ _ (hq_pt m c H t) (hk_pt m c H t) (hv_pt m c H t))
    (fun hc k x7 x => inv_step _ _ _ _ _ _ (hq_pt m c H t) (hk_pt m c H t) (hv_pt m c H t) _ hc k x7 x)
    (fun hc x7 x x6 h => out_pt m c H t _ x6 (by
      rw [if_neg (by have := (cond_iff t).1 hc; omega)]
      exact inv_last _ _ _ _ _ _ (hq_pt m c H t) (hk_pt m c H t) (hv_pt m c H t) x7 x h)) _)
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  iintro ⟨H3, H4, H5, ⟨%z, %hz, H6⟩, H7, H8, H9, H10⟩
  subst hz
  isplitl [H7 H8 H9 H10 Hg]
  · isplitr [Hg]
    · isplitl [H7]; · iexact H7
      isplitl [H8]; · iexact H8
      isplitl [H9]; · iexact H9
      iexact H10
    iexact Hg
  isplitl [HO]; · iexact HO
  isplitl [H3]; · iexact H3
  isplitl [H4]; · iexact H4
  isplitl [H5]; · iexact H5
  iexact H6

/-- The library's body obligation. -/
theorem vbody_obligation (c : Dev nD) (H : Numbers m c) :
    BodyObligation (vdats m 0 c) (defs₀ (F := Ideal)) Variants.none () Set.univ := fun t => by
  rw [bigSep_W0, bigSep_W0, defs₀_row]
  exact triple_restated (vsound_body m c H t) rfl .rfl fun _ => .rfl

/-! ## The launch -/

set_option backward.isDefEq.respectTransparency.types false in
theorem vrun_main (H : ∀ c, Numbers m c) :
    θ_run defs (onTc (τ := τ) (main (F := Ideal))) (s₀ m ρ) (Pipeline.FramePost cfgs (vdats m) 0 (V m)) :=
  Pipeline.θ_run_frame cfgs (vdats m) (0 : Fin 1) launch0 defs₀ Variants.none m ρ main
    (hbody := fun c => (vbody_obligation m c (H c)).loose) (hshare := fun c => (vdats m 0 c).share_full fun _ => rfl)
    (howed := fun _ _ => rfl) (V := V m) (hmain := hmain m Variants.none) (hA := vA_eq m) (hΦ := fun _ _ => rfl)

theorem final_o (c : Dev nD) : (vdats m 0 c).arrAt 3 cfg0.N = resA m c := by
  refine (vdats m 0 c).arrAt_eq_of_covers 3 _ (by decide +kernel) fun t hf y => ?_
  rfl

/-- The run: the result's array, and the arguments as they were. -/
theorem value_run (H : ∀ c, Numbers m c) :
    θ_run defs (onTc (τ := τ) (main (F := Ideal))) ⟨m, fun _ => 0, ρ⟩ (fun r => ∀ c : Dev nD,
      r.2.mem ((c.tc : Thread nD τ).loc main_v10) = resA m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
    ⟨((h c).1 3).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (vrun_main m ρ H)

end Cert.KernelIdeal.Hand

end
-- ==== Proof.Finite.lean ====
/-
  The precondition: its shape facts, and what it gives — arguments whose entries are real numbers.
-/
module

public import proofs.«01_k».proof.Pre_finite
public import Idealize.ShloMosaic.PureOps.Ideal
public import Idealize.ShloMosaic.Lib.ReduceAll
public import Idealize.ShloMosaic.Lib.Affine
public import Idealize.ShloMosaic.Lib.Pipeline.ValueKit

@[expose] public section

noncomputable section

namespace Cert.Pre_finite.Hand

open Cert.Pre_finite Idealize.ShloMosaic

instance facts : Cert.Pre_finite.Facts where
  bcast_S_S4x8448x1536 := by decide
  reducesTo_S4x8448x1536_S_d0_1_2 := by decide
  h_S_ := by decide
  bcast_S_S4x8448x512 := by decide
  reducesTo_S4x8448x512_S_d0_1_2 := by decide

/-- Below infinity in absolute value is a real number. -/
theorem real_of_abs (x : EReal) (h : max x (-x) < ⊤) : ∃ r : ℝ, x = (r : EReal) := by
  have h1 : x ≠ ⊤ := (lt_of_le_of_lt (le_max_left _ _) h).ne
  have h2 : x ≠ ⊥ := by
    rintro rfl
    exact absurd (lt_of_le_of_lt (le_max_right _ _) h) (by simp)
  exact ⟨x.toReal, (EReal.coe_toReal h1 h2).symm⟩

theorem inf_eq : Ideal.ofBits .f32 0x7F800000#32 = ⊤ := by simp [Ideal.ofBits, Ideal.ieee]

instance : Subsingleton S_.Idx := ⟨fun a b => funext fun k => k.elim0⟩

/-- The check of one array, read at an entry. -/
theorem entry_real {s : Shape} (x : FVec Ideal s .f32) (hb : S_.BroadcastsInDim s (![] : Fin 0 → Fin s.rank)) {axes : List (Fin s.rank)}
    (hr : s.ReducesTo axes S_) (h0 : 0 < S_.numel) (j : S_.Idx)
    (e : Host.reduce IntOp.andi (cmpf .olt (Host.absf x) (broadcastInDim s ![] hb (constant S_ .f32 0x7F800000#32))) (constantI S_ 1 1#1) hr h0 j = 1#1)
    (i : s.Idx) : ∃ r : ℝ, x i = (r : EReal) := by
  have h := Host.reduce_andi_all _ _ hr h0 j e i
  refine real_of_abs (x i) ?_
  have h' : Ideal.cmp .olt (max (x i) (-(x i))) (Ideal.ofBits .f32 0x7F800000#32) = 1#1 := h
  rw [inf_eq] at h'
  by_contra hn
  simp [Ideal.cmp, hn] at h'

theorem all_real (x0 : FVec Ideal S4x8448x1536 .f32) (x1 x2 : FVec Ideal S4x8448x512 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h (fun a => a.elim0)
  dsimp only [fn] at e
  obtain ⟨e01, e2⟩ := IntOp.andi_eq_one.1 e
  obtain ⟨e0, e1⟩ := IntOp.andi_eq_one.1 e01
  exact ⟨entry_real x0 _ _ _ _ e0, entry_real x1 _ _ _ _ e1, entry_real x2 _ _ _ _ e2⟩

end Cert.Pre_finite.Hand

end
-- ==== Proof.ExpertsBody.lean ====
/-
  The experts' body at one block of rows, run once: what it leaves in the block of the result.
-/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.VecWindow
public import Idealize.ShloMosaic.Lib.ValueIdx
public import Idealize.ShloMosaic.Lib.Pipeline.Value
public import Idealize.ShloMosaic.Lib.Pipeline.Frame
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- 256 rows of the block of tokens. -/
abbrev rows (o : ℕ) (p : ∀ a, (![o, 0] : Fin 2 → ℕ) a + S256x2048.size a ≤ S512x2048.size a) (x : Vec F S512x2048 .bf16) : Vec F S256x2048 .bf16 :=
  VecWindow.window x ![o, 0] S256x2048.size p
/-- 512 rows of an expert's first weights. -/
abbrev wrows (o : ℕ) (p : ∀ a, (![o, 0, 0] : Fin 3 → ℕ) a + S1x512x1792.size a ≤ S4x512x1792.size a) (w : Vec F S4x512x1792 .bf16) : Vec F S1x512x1792 .bf16 :=
  VecWindow.window w ![o, 0, 0] S1x512x1792.size p
abbrev bgAll (b : Vec F S1x1x1792 .f32) : Vec F S1x1x1792 .f32 := VecWindow.window b ![0, 0, 0] S1x1x1792.size inb_S1x1x1792_S1x1x1792_0_0_0
abbrev wdAll (d : Vec F S1x896x2048 .bf16) : Vec F S1x896x2048 .bf16 := VecWindow.window d ![0, 0, 0] S1x896x2048.size inb_S1x896x2048_S1x896x2048_0_0_0
abbrev bdAll (b : Vec F S1x1x2048 .f32) : Vec F S1x1x2048 .f32 := VecWindow.window b ![0, 0, 0] S1x1x2048.size inb_S1x1x2048_S1x1x2048_0_0_0

section Halves
variable (x : Vec F S512x2048 .bf16) (w : Vec F S4x512x1792 .bf16) (b : Vec F S1x1x1792 .f32) (d : Vec F S1x896x2048 .bf16) (bd : Vec F S1x1x2048 .f32)

/-- The first 256 rows of the result. -/
def lowRows : FVec F S256x2048 .bf16 :=
  k0_pay6
    (k0_pay4 (rows 0 inb_S512x2048_S256x2048_0_0 x) (bgAll b) (wrows 0 inb_S4x512x1792_S1x512x1792_0_0_0 w) (wrows 1 inb_S4x512x1792_S1x512x1792_1_0_0 w)
      (wrows 2 inb_S4x512x1792_S1x512x1792_2_0_0 w) (wrows 3 inb_S4x512x1792_S1x512x1792_3_0_0 w))
    (k0_pay5 (rows 0 inb_S512x2048_S256x2048_0_0 x) (bgAll b) (wrows 0 inb_S4x512x1792_S1x512x1792_0_0_0 w) (wrows 1 inb_S4x512x1792_S1x512x1792_1_0_0 w)
      (wrows 2 inb_S4x512x1792_S1x512x1792_2_0_0 w) (wrows 3 inb_S4x512x1792_S1x512x1792_3_0_0 w))
    (wdAll d) (bdAll bd)

/-- The last 256 rows of the result. -/
def highRows : FVec F S256x2048 .bf16 :=
  k0_pay1
    (k0_pay11 (k0_pay7 (rows 256 inb_S512x2048_S256x2048_256_0 x))
      (k0_pay8 (rows 256 inb_S512x2048_S256x2048_256_0 x) (bgAll b) (wrows 0 inb_S4x512x1792_S1x512x1792_0_0_0 w))
      (k0_pay9 (rows 256 inb_S512x2048_S256x2048_256_0 x)) (k0_pay10 (wrows 1 inb_S4x512x1792_S1x512x1792_1_0_0 w))
      (wrows 2 inb_S4x512x1792_S1x512x1792_2_0_0 w) (wrows 3 inb_S4x512x1792_S1x512x1792_3_0_0 w) (wdAll d))
    (bdAll bd)

/-- The block of the result where the block of rows is used. -/
def usedBlock : Vec F S512x2048 .bf16 := fun y =>
  if h : (y 0).val < 256 then lowRows x w b d bd (ValueIdx.ix2 (⟨(y 0).val, h⟩ : Fin 256) (y 1))
  else highRows x w b d bd (ValueIdx.ix2 (⟨(y 0).val - 256, by have h0 : (y 0).val < 512 := (y 0).isLt; omega⟩ : Fin 256) (y 1))

theorem used_put (z : Vec F S512x2048 .bf16) :
    VecWindow.put (VecWindow.put z ![0, 0] S256x2048.size (lowRows x w b d bd)) ![256, 0] S256x2048.size (highRows x w b d bd) = usedBlock x w b d bd := by
  funext y
  have h0 : (y 0).val < 512 := (y 0).isLt
  have h1 : (y 1).val < 2048 := (y 1).isLt
  unfold VecWindow.put usedBlock
  by_cases h : (y 0).val < 256
  · rw [dif_neg (fun hh => by have := (hh 0).1; simp at this; omega), dif_pos h, dif_pos (fun a => match a with
      | ⟨0, _⟩ => ⟨Nat.zero_le _, by show (y 0).val < 0 + 256; omega⟩ | ⟨1, _⟩ => ⟨Nat.zero_le _, by show (y 1).val < 0 + 2048; omega⟩)]
    exact congrArg _ (funext fun a => match a with | ⟨0, _⟩ => Fin.ext (Nat.sub_zero _) | ⟨1, _⟩ => Fin.ext (Nat.sub_zero _))
  · rw [dif_neg h, dif_pos (fun a => match a with
      | ⟨0, _⟩ => ⟨by show 256 ≤ (y 0).val; omega, by show (y 0).val < 256 + 256; omega⟩ | ⟨1, _⟩ => ⟨Nat.zero_le _, by show (y 1).val < 0 + 2048; omega⟩)]
    exact congrArg _ (funext fun a => match a with | ⟨0, _⟩ => rfl | ⟨1, _⟩ => Fin.ext (Nat.sub_zero _))

theorem zero_put (z : Vec F S512x2048 .bf16) :
    VecWindow.put z ![0, 0] S512x2048.size (k0_pay2 (F := F)) = k0_pay2 := by
  funext y
  unfold VecWindow.put
  rw [dif_pos (fun a => match a with
      | ⟨0, _⟩ => ⟨Nat.zero_le _, by show (y 0).val < 0 + 512; exact (y 0).isLt.trans_eq (Nat.zero_add _).symm⟩
      | ⟨1, _⟩ => ⟨Nat.zero_le _, by show (y 1).val < 0 + 2048; exact (y 1).isLt.trans_eq (Nat.zero_add _).symm⟩)]
  rfl

end Halves

/-- The two conditions are each the other's opposite. -/
theorem cond2_iff (i : grid0.Coords) (v : BitVec 32) : k0_cond2 i v = 1#1 ↔ ¬ k0_cond1 i v = 1#1 := by
  unfold k0_cond1 k0_cond2
  exact (by decide : ∀ z : BitVec 1, Scalar.cmpi .ne (Scalar.extui (Scalar.xori z 1#1) : BitVec 32) 0#32 = 1#1
    ↔ ¬ Scalar.cmpi .ne (Scalar.extui z : BitVec 32) 0#32 = 1#1) _

/-- What the block of the result holds after a point: the experts' rows where `v`, the count of blocks used, is past it. -/
def outBlock (i : grid0.Coords) (v : BitVec 32) (x : Vec F S512x2048 .bf16) (w : Vec F S4x512x1792 .bf16) (b : Vec F S1x1x1792 .f32)
    (d : Vec F S1x896x2048 .bf16) (bd : Vec F S1x1x2048 .f32) : Vec F S512x2048 .bf16 :=
  if k0_cond1 i v = 1#1 then usedBlock x w b d bd else k0_pay2

/-- A load of a box from a buffer held. -/
theorem load_run (c : Dev nD) {s : Shape} {e : EltTy} (a : Memref sig .tc .vmem s e) (off size : Fin s.rank → ℕ)
    (p : ∀ i, off i + size i ≤ s.size i) (ev) (x) (K : _ → sProp 𝕄) :
    iprop(owns (c : Thread nD τ) a fullShare x ∗ (owns (c : Thread nD τ) a fullShare x -∗ K (VecWindow.window x off size p)))
      ⊢ wp frame (wpE (defs₀ (F := F)) Variants.none c none) Set.univ
          (Prog.lift (.load a (Rect.unit (s := s) off size p).toLoadRect ev)) K := by
  unfold owns Prog.lift
  iintro ⟨⟨%g, %eg, H⟩, Hk⟩
  subst eg
  sl_step
  sl_step
  rw [← View.readAt_unit a.view g p rfl p]
  iapply Hk
  iexists _; isplitr; swap; · iexact H
  ipureintro; rfl

/-- A store of a box into a buffer held. -/
theorem store_run (c : Dev nD) {s : Shape} {e : EltTy} (a : Memref sig .tc .vmem s e) (off size : Fin s.rank → ℕ)
    (p : ∀ i, off i + size i ≤ s.size i) (w) (ev) (ev') (x) (K : PUnit → sProp 𝕄) :
    iprop(owns (c : Thread nD τ) a fullShare x ∗ (owns (c : Thread nD τ) a fullShare (VecWindow.put x off size w) -∗ K ⟨⟩))
      ⊢ wp frame (wpE (defs₀ (F := F)) Variants.none c none) Set.univ
          (Prog.lift (.store a (Rect.unit (s := s) off size p) w Finset.univ ev ev')) K := by
  unfold owns Prog.lift
  iintro ⟨⟨%g, %eg, H⟩, Hk⟩
  subst eg
  sl_step
  sl_step
  iapply Hk
  iexists _; isplitr; swap; · iexact H
  ipureintro
  exact View.read_writes_cons_put a.view g p w [] rfl

/-- The word of the second table. -/
abbrev word (v : (pre0.ref 1).ty.Contents (Elt F)) : BitVec 32 := (show Vec F S1 .i32 from v) (ValueIdx.ix1 (0 : Fin 1))

/-- The load of the count of blocks used. -/
theorem word_run (c : Dev nD) (q) (v : Buf (Elt F) ((c : Thread nD τ).loc main_v20)) (K : _ → sProp 𝕄) :
    iprop((((c : Thread nD τ).loc main_v20) ↦{q} v) ∗ ((((c : Thread nD τ).loc main_v20) ↦{q} v) -∗ K (word v)))
      ⊢ wp frame (wpE (defs₀ (F := F)) Variants.none c none) Set.univ
          (smemLoad (Memref.whole main_v20) (Rect.unit (s := S1) ![0] S1.size inb_S1_S1_0) numel1_S1 rfl) K := by
  unfold smemLoad smemLoadElt
  iintro ⟨H, Hk⟩
  sl_step
  sl_step
  rw [show View.readAt (Elt F) (Memref.whole main_v20).view (Rect.unit (s := S1) ![0] S1.size inb_S1_S1_0).toLoadRect v
      (Shape.Idx.first (numel1_S1.symm ▸ Nat.one_pos)) = word v from congrArg v (funext fun a => Fin.ext (by
        have h : ∀ z : S1.Idx, (z a).val = 0 := fun z => Nat.lt_one_iff.1 (match a with | ⟨0, _⟩ => (z 0).isLt)
        exact (h _).trans (h _).symm))]
  iapply Hk
  iexact H

/-- The body: the inputs' blocks and the table as they were, the block of the result at `outBlock`. -/
theorem experts_run (c : Dev nD) (i : grid0.Coords)
    (a3 : Memref sig .tc .vmem S512x2048 .bf16) (h3 : a3.IsWhole)
    (a4 : Memref sig .tc .vmem S4x512x1792 .bf16) (h4 : a4.IsWhole)
    (a5 : Memref sig .tc .vmem S1x1x1792 .f32) (h5 : a5.IsWhole)
    (a6 : Memref sig .tc .vmem S1x896x2048 .bf16) (h6 : a6.IsWhole)
    (a7 : Memref sig .tc .vmem S1x1x2048 .f32) (h7 : a7.IsWhole)
    (a8 : Memref sig .tc .vmem S512x2048 .bf16) (h8 : a8.IsWhole)
    (q) (v : Buf (Elt F) ((c : Thread nD τ).loc main_v20)) (x w b d bd) (K : PUnit → sProp 𝕄) :
    iprop((((c : Thread nD τ).loc main_v20) ↦{q} v)
        ∗ owns (c : Thread nD τ) a3 fullShare x
        ∗ owns (c : Thread nD τ) a4 fullShare w
        ∗ owns (c : Thread nD τ) a5 fullShare b
        ∗ owns (c : Thread nD τ) a6 fullShare d
        ∗ owns (c : Thread nD τ) a7 fullShare bd
        ∗ (∃ z, owns (c : Thread nD τ) a8 fullShare z)
        ∗ (((((c : Thread nD τ).loc main_v20) ↦{q} v)
        ∗ owns (c : Thread nD τ) a3 fullShare x
        ∗ owns (c : Thread nD τ) a4 fullShare w
        ∗ owns (c : Thread nD τ) a5 fullShare b
        ∗ owns (c : Thread nD τ) a6 fullShare d
        ∗ owns (c : Thread nD τ) a7 fullShare bd
        ∗ owns (c : Thread nD τ) a8 fullShare (outBlock i (word v) x w b d bd)) -∗ K ⟨⟩))
      ⊢ wp frame (wpE (defs₀ (F := F)) Variants.none c none) Set.univ
          (cc0_moe_experts i (Memref.whole main_v11) (Memref.isWhole_whole _) (Memref.whole main_v20) (Memref.isWhole_whole _)
            a3 h3 a4 h4 a5 h5 a6 h6 a7 h7 a8 h8) K := by
  simp only [cc0_moe_experts_eq_skeleton]
  unfold cc0_moe_experts_skel
  simp only [wp_bind]
  iintro ⟨HT, H3, H4, H5, H6, H7, ⟨%z, H8⟩, Hk⟩
  iapply (word_run c q v _)
  isplitl [HT]; · iexact HT
  iintro HT
  generalize word v = n
  by_cases hc : k0_cond1 i n = 1#1
  · have hc2 : ¬ k0_cond2 i n = 1#1 := fun h => (cond2_iff i _).1 h hc
    rw [dif_pos hc]
    simp only [dif_neg hc2, wp_bind, wp_pure, k0_part1_eq_skeleton, k0_part2_eq_skeleton, k0_part3_eq_skeleton, k0_part1_skel, k0_part2_skel, k0_part3_skel]
    iapply (load_run c a3 ![0, 0] _ _ _ _ _)
    isplitl [H3]; · iexact H3
    iintro H3
    iapply (load_run c a5 ![0, 0, 0] _ _ _ _ _)
    isplitl [H5]; · iexact H5
    iintro H5
    iapply (load_run c a4 ![0, 0, 0] _ _ _ _ _)
    isplitl [H4]; · iexact H4
    iintro H4
    iapply (load_run c a4 ![1, 0, 0] _ _ _ _ _)
    isplitl [H4]; · iexact H4
    iintro H4
    iapply (load_run c a4 ![2, 0, 0] _ _ _ _ _)
    isplitl [H4]; · iexact H4
    iintro H4
    iapply (load_run c a4 ![3, 0, 0] _ _ _ _ _)
    isplitl [H4]; · iexact H4
    iintro H4
    imodintro
    iapply (load_run c a6 ![0, 0, 0] _ _ _ _ _)
    isplitl [H6]; · iexact H6
    iintro H6
    iapply (load_run c a7 ![0, 0, 0] _ _ _ _ _)
    isplitl [H7]; · iexact H7
    iintro H7
    iapply (load_run c a8 ![0, 0] _ _ _ _ _)
    isplitl [H8]; · iexact H8
    iintro H8
    iapply (store_run c a8 ![0, 0] _ _ _ _ _ _ _)
    isplitl [H8]; · iexact H8
    iintro H8
    iapply (load_run c a3 ![256, 0] _ _ _ _ _)
    isplitl [H3]; · iexact H3
    iintro H3
    iapply (load_run c a5 ![0, 0, 0] _ _ _ _ _)
    isplitl [H5]; · iexact H5
    iintro H5
    iapply (load_run c a4 ![0, 0, 0] _ _ _ _ _)
    isplitl [H4]; · iexact H4
    iintro H4
    iapply (load_run c a4 ![1, 0, 0] _ _ _ _ _)
    isplitl [H4]; · iexact H4
    iintro H4
    imodintro
    iapply (load_run c a4 ![2, 0, 0] _ _ _ _ _)
    isplitl [H4]; · iexact H4
    iintro H4
    iapply (load_run c a4 ![3, 0, 0] _ _ _ _ _)
    isplitl [H4]; · iexact H4
    iintro H4
    iapply (load_run c a6 ![0, 0, 0] _ _ _ _ _)
    isplitl [H6]; · iexact H6
    iintro H6
    imodintro
    iapply (load_run c a7 ![0, 0, 0] _ _ _ _ _)
    isplitl [H7]; · iexact H7
    iintro H7
    iapply (load_run c a8 ![256, 0] _ _ _ _ _)
    isplitl [H8]; · iexact H8
    iintro H8
    iapply (store_run c a8 ![256, 0] _ _ _ _ _ _ _)
    isplitl [H8]; · iexact H8
    iintro H8
    rw [show outBlock i n x w b d bd = usedBlock x w b d bd from if_pos hc, ← used_put x w b d bd z]
    imodintro
    iapply Hk
    isplitl [HT]; · iexact HT
    isplitl [H3]; · iexact H3
    isplitl [H4]; · iexact H4
    isplitl [H5]; · iexact H5
    isplitl [H6]; · iexact H6
    isplitl [H7]; · iexact H7
    iexact H8
  · have hc2 : k0_cond2 i n = 1#1 := (cond2_iff i _).2 hc
    rw [dif_neg hc]
    simp only [dif_pos hc2, wp_bind, wp_pure]
    iapply (load_run c a8 ![0, 0] _ _ _ _ _)
    isplitl [H8]; · iexact H8
    iintro H8
    iapply (store_run c a8 ![0, 0] _ _ _ _ _ _ _)
    isplitl [H8]; · iexact H8
    iintro H8
    rw [show outBlock i n x w b d bd = VecWindow.put z ![0, 0] S512x2048.size k0_pay2 from (if_neg hc).trans (zero_put z).symm]
    imodintro
    iapply Hk
    isplitl [HT]; · iexact HT
    isplitl [H3]; · iexact H3
    isplitl [H4]; · iexact H4
    isplitl [H5]; · iexact H5
    isplitl [H6]; · iexact H6
    isplitl [H7]; · iexact H7
    iexact H8

end Cert.Kernel2Ideal.Hand

end
-- ==== Proof.ExpertsTable.lean ====
/-
  The experts' two tables: the expert of each block of 512 rows, and the count of blocks used. The first's words are at most 31,
  so every block the tables place lies inside its array.
-/
module

public import proofs.«01_k».proof.Proof.ExpertsBody
public import Idealize.ShloMosaic.Lib.Pipeline.Frame
public import Idealize.ShloMosaic.Lib.Pipeline.FrameBody
public import Idealize.ShloMosaic.Lib.StableHlo.Predicate
public import Idealize.ShloMosaic.Lib.StableHlo.RunRead
public import Idealize.ShloMosaic.Lib.Affine
public import Idealize.ShloMosaic.Lib.Claim

@[expose] public section

set_option maxRecDepth 16384

noncomputable section

namespace Cert.Kernel2Ideal.Hand

open Cert.Kernel2Ideal Cert.Kernel2Ideal.Gen
open Idealize.SL Idealize.SL.RA Idealize.SL.BI
open Idealize.SL.BI.BIBase Idealize.SL.Sem
open Idealize.ShloMosaic Idealize.ShloMosaic.TcCoe Idealize.ShloMosaic.Tactic
open Idealize.ShloMosaic.ValueIdx (ix1)

variable {F : FTy → Type} [FloatOps F]

variable (m : (ℓ : Loc nD τ sig) → Buf (Elt F) ℓ)

/-- The expert of each block: the count of experts whose rows end at or before the block's first row, at most 31. -/
def blkE (p : IVec S32 32) : IVec S296 32 :=
  minsi (Host.reduce IntOp.addi (extui 32 (cmpi .sle (broadcastInDim S296x32 ![0, 1] bcast_S1x32_S296x32_0_1 (broadcastInDim S1x32 ![1] bcast_S32_S1x32_1 p))
      (broadcastInDim S296x32 ![0, 1] bcast_S296x1_S296x32_0_1 (broadcastInDim S296x1 ![0] bcast_S296_S296x1_0
        (muli (iotaInDim S296 32 0) (broadcastInDim S296 ![] bcast_S_S296 (constantI S_ 32 512#32)))))) natLt_1_32)
      (constantI S_ 32 0#32) reducesTo_S296x32_S296_d1 h_S_)
    (broadcastInDim S296 ![] bcast_S_S296 (constantI S_ 32 31#32))

/-- The count of blocks used: the last end of rows over 512, rounded down. -/
def usedN (p : IVec S32 32) : IVec S1 32 :=
  let a : IVec S1 32 := extractStridedSlice S1 ![31] p slices_S32_S1_31
  let b : IVec S1 32 := broadcastInDim S1 ![] bcast_S_S1 (constantI S_ 32 512#32)
  select (andi (cmpi .ne (signi a) (broadcastInDim S1 ![] bcast_S_S1 (signi (constantI S_ 32 512#32))))
      (cmpi .ne (Host.remsi a b) (broadcastInDim S1 ![] bcast_S_S1 (constantI S_ 32 0#32))))
    (subi (Host.divsi a b) (broadcastInDim S1 ![] bcast_S_S1 (constantI S_ 32 1#32))) (Host.divsi a b)

theorem min_31 (x : BitVec 32) (h : x.toNat ≤ 32) : (IntOp.minsi x 31#32).toNat ≤ 31 := by
  unfold IntOp.minsi
  split
  · rename_i hs
    have h2 : x.toInt < (31#32).toInt := by simpa [BitVec.slt] using hs
    have h3 : x.toInt = x.toNat := by rw [BitVec.toInt_eq_toNat_of_lt]; omega
    rw [h3] at h2
    have h4 : (31#32).toInt = 31 := by decide
    omega
  · decide

/-- Each word of the first table is at most 31. -/
theorem blkE_le (p : IVec S32 32) (j : S296.Idx) : (blkE p j).toNat ≤ 31 := by
  refine min_31 _ ?_
  refine (StableHlo.Predicate.toNat_reduce_count_cols (n := 296) (m := 32) (by decide) _ _ _ _ j).trans_le ?_
  exact (Finset.card_le_univ _).trans (by simp)

/-! ## The buffers as the region finds them -/

/-- The host operations before the region. -/
abbrev hostAll : List (HloOp τ sig (Elt F)) := ([hostOps0, hostOps0_1, hostOps0_2] : List (List (HloOp τ sig (Elt F)))).flatten

abbrev V (c : Dev nD) (b : Ref sig .tc) : Buf (Elt F) ((c : Thread nD τ).loc b) :=
  StableHlo.after ([hostOps0, hostOps0_1, hostOps0_2] : List (List (HloOp τ sig (Elt F)))).flatten (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] ⟨hostOps0_sub, hostOps0_1_sub, hostOps0_2_sub⟩
    ⟨fresh0, fresh1, fresh2⟩ main_chain

theorem V_v11 (c : Dev nD) : (V m c main_v11 : IVec S296 32) = blkE (m ((c : Thread nD τ).loc main_arg0)) := by
  unfold V
  after_reads_simp
  rfl

theorem V_v20 (c : Dev nD) : (V m c main_v20 : IVec S1 32) = usedN (m ((c : Thread nD τ).loc main_arg0)) := by
  unfold V
  after_reads_simp
  rfl

theorem V_main_arg0 (c : Dev nD) : V m c main_arg0 = m ((c : Thread nD τ).loc main_arg0) := by unfold V; after_reads_simp
theorem V_main_arg1 (c : Dev nD) : V m c main_arg1 = m ((c : Thread nD τ).loc main_arg1) := by unfold V; after_reads_simp
theorem V_main_arg2 (c : Dev nD) : V m c main_arg2 = m ((c : Thread nD τ).loc main_arg2) := by unfold V; after_reads_simp
theorem V_main_arg3 (c : Dev nD) : V m c main_arg3 = m ((c : Thread nD τ).loc main_arg3) := by unfold V; after_reads_simp
theorem V_main_arg4 (c : Dev nD) : V m c main_arg4 = m ((c : Thread nD τ).loc main_arg4) := by unfold V; after_reads_simp
theorem V_main_arg5 (c : Dev nD) : V m c main_arg5 = m ((c : Thread nD τ).loc main_arg5) := by unfold V; after_reads_simp

/-! ## The tables are admissible -/

/-- The tables as the region finds them. -/
def tbl : pre0.Contents (Elt F)
  | 0 => V m 0 main_v11
  | 1 => V m 0 main_v20
  | ⟨_ + 2, h⟩ => absurd h (Nat.not_lt.2 (Nat.le_add_left _ _))

/-- The expert of block `i`, a number. -/
def expertAt (i : grid0.Coords) : ℕ := (blkE (m ((0 : Dev nD).tc.loc main_arg0)) (ix1 (i 0))).toNat

theorem expertAt_le (i : grid0.Coords) : expertAt m i ≤ 31 := blkE_le _ _

theorem at_eq (i : grid0.Coords) : ((tbl m).at 0 (Rect.unit (s := S296) ![(Scalar.indexCast (BitVec.ofNat 32 (i 0).val) : Index).toNat] S1.size (k0_off1_inb i)) numel1_S1 : BitVec 32).toNat = expertAt m i := by
  show (V m 0 main_v11 _ : BitVec 32).toNat = _
  rw [show (V m 0 main_v11 : IVec S296 32) = _ from V_v11 m 0]
  unfold expertAt
  congr 2
  refine funext fun a => Fin.ext ?_
  match a with
  | ⟨0, _⟩ =>
    have h0 : ∀ z : S1.Idx, (z 0).val = 0 := fun z => Nat.lt_one_iff.1 (z 0).isLt
    have hi : (i 0).val < 296 := (i 0).isLt
    have h1 : ((Scalar.indexCast (BitVec.ofNat 32 (i 0).val) : Index)).toNat = (i 0).val := by
      show (BitVec.ofNat 32 (i 0).val).toNat = _
      rw [BitVec.toNat_ofNat]; omega
    refine (congrArg₂ (· + ·) h1 (congrArg (1 * ·) (h0 _))).trans ?_
    rfl

theorem t1_eq (i : grid0.Coords) : cc0_transform_1 k0_off1_inb numel1_S1 (tbl m) i = ![expertAt m i, 0, 0] := by
  unfold cc0_transform_1; dsimp only; rw [← at_eq]; rfl
theorem t2_eq (i : grid0.Coords) : cc0_transform_2 k0_off1_inb numel1_S1 (tbl m) i = ![expertAt m i, 0, 0] := by
  unfold cc0_transform_2; dsimp only; rw [← at_eq]; rfl
theorem t3_eq (i : grid0.Coords) : cc0_transform_3 k0_off1_inb numel1_S1 (tbl m) i = ![expertAt m i, 0, 0] := by
  unfold cc0_transform_3; dsimp only; rw [← at_eq]; rfl
theorem t4_eq (i : grid0.Coords) : cc0_transform_4 k0_off1_inb numel1_S1 (tbl m) i = ![expertAt m i, 0, 0] := by
  unfold cc0_transform_4; dsimp only; rw [← at_eq]; rfl

theorem tbl_ok : ok0 (F := F) (tbl m) := by
  have hb : ∀ i, expertAt m i + 1 ≤ 32 := fun i => Nat.succ_le_succ (expertAt_le m i)
  refine ⟨fun i => ⟨?_, ?_⟩, fun i => ⟨?_, ?_⟩, fun i => ⟨?_, ?_⟩, fun i => ⟨?_, ?_⟩⟩
  · rw [t1_eq]; intro a; have := hb i
    match a with
    | ⟨0, _⟩ => show (expertAt m i + 1) * 4 ≤ 128; omega
    | ⟨1, _⟩ => show (0 + 1) * 512 ≤ 512; omega
    | ⟨2, _⟩ => show (0 + 1) * 1792 ≤ 1792; omega
  · exact Or.inr (Affine.block_words_dvd (by decide) (by decide))
  · rw [t2_eq]; intro a; have := hb i
    match a with
    | ⟨0, _⟩ => show (expertAt m i + 1) * 1 ≤ 32; omega
    | ⟨1, _⟩ => show (0 + 1) * 1 ≤ 1; omega
    | ⟨2, _⟩ => show (0 + 1) * 1792 ≤ 1792; omega
  · exact Or.inl rfl
  · rw [t3_eq]; intro a; have := hb i
    match a with
    | ⟨0, _⟩ => show (expertAt m i + 1) * 1 ≤ 32; omega
    | ⟨1, _⟩ => show (0 + 1) * 896 ≤ 896; omega
    | ⟨2, _⟩ => show (0 + 1) * 2048 ≤ 2048; omega
  · exact Or.inr (Affine.block_words_dvd (by decide) (by decide))
  · rw [t4_eq]; intro a; have := hb i
    match a with
    | ⟨0, _⟩ => show (expertAt m i + 1) * 1 ≤ 32; omega
    | ⟨1, _⟩ => show (0 + 1) * 1 ≤ 1; omega
    | ⟨2, _⟩ => show (0 + 1) * 2048 ≤ 2048; omega
  · exact Or.inl rfl

abbrev adm : (p : Fin 1) → (pcfgs (F := F) p).Adm := fun _ => ⟨tbl m, tbl_ok m⟩

theorem tbl_eq (c : Dev nD) : ∀ k, V m c ((pcfgs (F := F) 0).pre.ref k) = tbl m k
  | 0 => by rw [show c = 0 from Subsingleton.elim _ _]; rfl
  | 1 => by rw [show c = 0 from Subsingleton.elim _ _]; rfl
  | ⟨_ + 2, h⟩ => absurd h (Nat.not_lt.2 (Nat.le_add_left _ _))

end Cert.Kernel2Ideal.Hand

end
-- ==== Proof.ExpertsFrame.lean ====
/-
  The launch of the experts' call: each block of the result named at each point, the arguments handed back as they were.
-/
module

public import proofs.«01_k».proof.Proof.ExpertsTable

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

variable (a : (pcfg0 (F := F)).Adm)

/-- A window's block at a point, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The count of blocks used. -/
def used : BitVec 32 := word (a.1 1)

/-- The block of the result a point leaves. -/
def oblk (c : Dev nD) (t : Fin (cfg0 a).N) : Vec F S512x2048 .bf16 :=
  outBlock (grid0.coords t) (used a) (iblk m a c 0 t) (iblk m a c 1 t) (iblk m a c 2 t) (iblk m a c 3 t) (iblk m a c 4 t)

/-- The proof data: the inputs' blocks left as fetched, the result's at `oblk`, the tables kept. -/
def dats (_ : Fin 1) (c : Dev nD) : Dat τ (Elt F) Unit ℕ (UR sig nD τ) ℕ (cfg0 a) c where
  A w := V m c (Pipeline.arrRef spec0 w)
  after
    | 0, t => iblk m a c 0 t
    | 1, t => iblk m a c 1 t
    | 2, t => iblk m a c 2 t
    | 3, t => iblk m a c 3 t
    | 4, t => iblk m a c 4 t
    | 5, t => oblk m a c t
  Φ _ := iprop(Pipeline.ΦA spec0 c ∗ Pipeline.ΦT pre0 a.1 c)
  q _ := fullShare
  owed _ := 0

theorem A_eq (c : Dev nD) (w : Fin (cfg0 a).W) : (dats m a 0 c).A w = V m c (Pipeline.arrRef spec0 w) := by dsimp only [dats]

theorem before_0 (c : Dev nD) (t : Fin (cfg0 a).N) (d) : (dats m a 0 c).before 0 t d = iblk m a c 0 t :=
  ((dats m a 0 c).before_in_eq_fetched 0 rfl (fun _ => rfl) (fun _ _ _ => rfl) (fun _ => rfl) t d).trans rfl
theorem before_1 (c : Dev nD) (t : Fin (cfg0 a).N) (d) : (dats m a 0 c).before 1 t d = iblk m a c 1 t :=
  ((dats m a 0 c).before_in_eq_fetched 1 rfl (fun _ => rfl) (fun _ _ _ => rfl) (fun _ => rfl) t d).trans rfl
theorem before_2 (c : Dev nD) (t : Fin (cfg0 a).N) (d) : (dats m a 0 c).before 2 t d = iblk m a c 2 t :=
  ((dats m a 0 c).before_in_eq_fetched 2 rfl (fun _ => rfl) (fun _ _ _ => rfl) (fun _ => rfl) t d).trans rfl
theorem before_3 (c : Dev nD) (t : Fin (cfg0 a).N) (d) : (dats m a 0 c).before 3 t d = iblk m a c 3 t :=
  ((dats m a 0 c).before_in_eq_fetched 3 rfl (fun _ => rfl) (fun _ _ _ => rfl) (fun _ => rfl) t d).trans rfl
theorem before_4 (c : Dev nD) (t : Fin (cfg0 a).N) (d) : (dats m a 0 c).before 4 t d = iblk m a c 4 t :=
  ((dats m a 0 c).before_in_eq_fetched 4 rfl (fun _ => rfl) (fun _ _ _ => rfl) (fun _ => rfl) t d).trans rfl

/-- The tables' halves, one by one. -/
theorem tables_eq (c : Dev nD) :
    (Pipeline.ΦT pre0 a.1 c : sProp 𝕄)
      = iprop((((c : Thread nD τ).loc main_v11) ↦{fullShare.right} a.1 0) ∗ (((c : Thread nD τ).loc main_v20) ↦{fullShare.right} a.1 1)) := by
  unfold Pipeline.ΦT Pipeline.prefHeld
  rw [show (Finset.univ : Finset (Fin 2)) = insert 0 {1} from by decide, bigSep_insert (by decide), bigSep_singleton]
  rfl

theorem one_holds (i : grid0.Coords) (v : BitVec 32) : (!(k0_cond1 i v == 1#1) && !(k0_cond2 i v == 1#1)) = false := by
  by_cases h : k0_cond1 i v = 1#1
  · rw [h]; rfl
  · rw [(cond2_iff _ _).2 h]
    exact Bool.and_false _

/-- No point leaves the result's block alone. -/
theorem live (t : Fin (cfg0 a).N) : (cfg0 a).idle (5 : Fin 6) ((cfg0 a).grid.coords t) = false :=
  one_holds (grid0.coords t) (a.1.atD 1 ![0])

abbrev st (w : Fin (cfg0 a).W) (t : Fin (cfg0 a).N) := ((cfg0 a).win w).stage ((cfg0 a).slots t w)

/-- What the body is called with at point `t`, and what it returns. -/
def bodyPre (c : Dev nD) (t : Fin (cfg0 a).N) : sProp 𝕄 :=
  iprop((dats m a 0 c).Φ t.castSucc ∗ (dats m a 0 c).owesAt () t.castSucc
    ∗ (∃ d, owns (c : Thread nD τ) (st a 0 t) fullShare ((dats m a 0 c).before 0 t d))
    ∗ (∃ d, owns (c : Thread nD τ) (st a 1 t) fullShare ((dats m a 0 c).before 1 t d))
    ∗ (∃ d, owns (c : Thread nD τ) (st a 2 t) fullShare ((dats m a 0 c).before 2 t d))
    ∗ (∃ d, owns (c : Thread nD τ) (st a 3 t) fullShare ((dats m a 0 c).before 3 t d))
    ∗ (∃ d, owns (c : Thread nD τ) (st a 4 t) fullShare ((dats m a 0 c).before 4 t d))
    ∗ (∃ d, owns (c : Thread nD τ) (st a 5 t) fullShare ((dats m a 0 c).before 5 t d)))
def bodyPost (c : Dev nD) (t : Fin (cfg0 a).N) : sProp 𝕄 :=
  iprop((dats m a 0 c).Φ t.succ ∗ (dats m a 0 c).owesAt () t.succ
    ∗ owns (c : Thread nD τ) (st a 0 t) fullShare ((dats m a 0 c).after 0 t)
    ∗ owns (c : Thread nD τ) (st a 1 t) fullShare ((dats m a 0 c).after 1 t)
    ∗ owns (c : Thread nD τ) (st a 2 t) fullShare ((dats m a 0 c).after 2 t)
    ∗ owns (c : Thread nD τ) (st a 3 t) fullShare ((dats m a 0 c).after 3 t)
    ∗ owns (c : Thread nD τ) (st a 4 t) fullShare ((dats m a 0 c).after 4 t)
    ∗ owns (c : Thread nD τ) (st a 5 t) fullShare ((dats m a 0 c).after 5 t))

/-- The body at a point. -/
theorem sound_body (c : Dev nD) (t : Fin (cfg0 a).N) :
    bodyPre m a c t ⊢ wp frame (wpE (defs₀ (F := F)) Variants.none c none) Set.univ
      (defs₀ (F := F) .tc (cfg0 a).body ((cfg0 a).bodyArgs t ((cfg0 a).slots t))) (fun _ => bodyPost m a c t) := by
  rw [show defs₀ (F := F) .tc (cfg0 a).body ((cfg0 a).bodyArgs t ((cfg0 a).slots t))
    = cc0_moe_experts (grid0.coords t) (Memref.whole main_v11) (Memref.isWhole_whole _) (Memref.whole main_v20) (Memref.isWhole_whole _)
      (st a 0 t) (hstage0_0 (((cfg0 a).slots t 0).cast nbuf0_0)) (st a 1 t) (hstage0_1 (((cfg0 a).slots t 1).cast nbuf0_1))
      (st a 2 t) (hstage0_2 (((cfg0 a).slots t 2).cast nbuf0_2)) (st a 3 t) (hstage0_3 (((cfg0 a).slots t 3).cast nbuf0_3))
      (st a 4 t) (hstage0_4 (((cfg0 a).slots t 4).cast nbuf0_4)) (st a 5 t) (hstage0_5 (((cfg0 a).slots t 5).cast nbuf0_5)) from by
    unfold defs₀; rw [Defs.onTc_tc]; rfl]
  unfold bodyPre bodyPost
  rw [show (dats m a 0 c).Φ t.succ = (dats m a 0 c).Φ t.castSucc from rfl,
    show (dats m a 0 c).owesAt () t.succ = (dats m a 0 c).owesAt () t.castSucc from rfl,
    show (dats m a 0 c).Φ t.castSucc = iprop(Pipeline.ΦA spec0 c ∗ Pipeline.ΦT pre0 a.1 c) from rfl, tables_eq]
  simp only [before_0, before_1, before_2, before_3, before_4]
  iintro ⟨⟨HA, HT0, HT1⟩, HO, ⟨%d0, H3⟩, ⟨%d1, H4⟩, ⟨%d2, H5⟩, ⟨%d3, H6⟩, ⟨%d4, H7⟩, ⟨%d5, H8⟩⟩
  iapply (experts_run c (grid0.coords t) _ _ _ _ _ _ _ _ _ _ _ _ fullShare.right (a.1 1)
    (iblk m a c 0 t) (iblk m a c 1 t) (iblk m a c 2 t) (iblk m a c 3 t) (iblk m a c 4 t) _)
  isplitl [HT1]; · iexact HT1
  isplitl [H3]; · iexact H3
  isplitl [H4]; · iexact H4
  isplitl [H5]; · iexact H5
  isplitl [H6]; · iexact H6
  isplitl [H7]; · iexact H7
  isplitl [H8]; · iexists _; iexact H8
  iintro ⟨HT1, H3, H4, H5, H6, H7, H8⟩
  isplitl [HA HT0 HT1]
  · isplitl [HA]; · iexact HA
    isplitl [HT0]; · iexact HT0
    iexact HT1
  isplitl [HO]; · iexact HO
  isplitl [H3]; · iexact H3
  isplitl [H4]; · iexact H4
  isplitl [H5]; · iexact H5
  isplitl [H6]; · iexact H6
  isplitl [H7]; · iexact H7
  iexact H8

/-- The library's body obligation. -/
theorem body_obligation (c : Dev nD) :
    BodyObligation (dats (F := F) m a 0 c) (defs₀ (F := F)) Variants.none () Set.univ := fun t => by
  rw [bigSep_W0, bigSep_W0, live a t]
  exact triple_restated (sound_body m a c t) rfl .rfl fun _ => .rfl

/-! ## The launch -/

set_option backward.isDefEq.respectTransparency.types false in
/-- From any memory with zero counters @main terminates, the arrays as the region leaves them and every counter at zero. -/
theorem run_main :
    θ_run defs (onTc (τ := τ) (main (F := F))) (s₀ m ρ)
      (fun r => Pipeline.FramePost (Pipeline.pin (pcfgs (F := F)) (adm m)) (dats m (adm m 0)) 0 (V m) r ∧ r.2.sem = fun _ => 0) :=
  Pipeline.θ_run_frameP (Q' := _) pcfgs (adm m) (dats m (adm m 0)) (0 : Fin 1) launch0 defs₀ Variants.none m ρ main
    (hbody := fun c => (body_obligation m (adm m 0) c).loose) (hshare := fun c => (dats m (adm m 0) 0 c).share_full fun _ => rfl)
    (howed := fun _ _ => rfl) (V := V m) (hmain := hmain m Variants.none) (hA := A_eq m (adm m 0)) (hpf := tbl_eq m) (hΦ := fun _ _ => rfl)

/-- The frame: the run ends with the six argument arrays as they were and every counter at zero. -/
theorem frame_run :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  (θ_run defs _ _).mono (fun _ h =>
    ⟨fun c => ⟨((h.1 c).2 main_arg0 (Pipeline.mem_restRefs_of main_arg0 (by decide) (by decide : ∀ w : Fin 6, (spec0 w).arr.view.ref ≠ main_arg0))).trans (V_main_arg0 m c),
      ((h.1 c).2 main_arg1 (Pipeline.mem_restRefs_of main_arg1 (by decide) (by decide : ∀ w : Fin 6, (spec0 w).arr.view.ref ≠ main_arg1))).trans (V_main_arg1 m c),
      ((h.1 c).2 main_arg2 (Pipeline.mem_restRefs_of main_arg2 (by decide) (by decide : ∀ w : Fin 6, (spec0 w).arr.view.ref ≠ main_arg2))).trans (V_main_arg2 m c),
      ((h.1 c).2 main_arg3 (Pipeline.mem_restRefs_of main_arg3 (by decide) (by decide : ∀ w : Fin 6, (spec0 w).arr.view.ref ≠ main_arg3))).trans (V_main_arg3 m c),
      ((h.1 c).2 main_arg4 (Pipeline.mem_restRefs_of main_arg4 (by decide) (by decide : ∀ w : Fin 6, (spec0 w).arr.view.ref ≠ main_arg4))).trans (V_main_arg4 m c),
      ((h.1 c).2 main_arg5 (Pipeline.mem_restRefs_of main_arg5 (by decide) (by decide : ∀ w : Fin 6, (spec0 w).arr.view.ref ≠ main_arg5))).trans (V_main_arg5 m c)⟩, h.2⟩)
    (run_main m ρ)

end Cert.Kernel2Ideal.Hand

end
-- ==== Proof.ExpertsMath.lean ====
/-
  The experts' blocks over the extended reals: what each row of the result is, and the facts of arithmetic the two programs differ by.
-/
module

public import Idealize.ShloMosaic.PureOps.Ideal
public import Idealize.ShloMosaic.Lib.ValueIdx
public import Idealize.ShloMosaic.Lib.StableHlo.Predicate

@[expose] public section

noncomputable section

namespace Cert.Experts

open Idealize.ShloMosaic
open Idealize.ShloMosaic.ValueIdx (ix1 ix2 ix3)
open scoped BigOperators

/-! ## The constants -/

abbrev c7 : EReal := Ideal.ofBits .f32 0x40E00000#32
abbrev cm7 : EReal := Ideal.ofBits .f32 0xC0E00000#32
abbrev c1 : EReal := Ideal.ofBits .f32 0x3F800000#32
abbrev cAlpha : EReal := Ideal.ofBits .f32 0x3FD9DB23#32

theorem one_word : Ideal.ofBits .f32 0x3F800000#32 = 1 := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

theorem zero_word : Ideal.ofBits .f32 0x00000000#32 = 0 := by
  simp [Ideal.ofBits, Ideal.ieee, -EReal.coe_mul]

theorem zero_half_word : Ideal.ofBits .bf16 0x0000#16 = 0 := by
  simp [Ideal.ofBits, Ideal.ieee, -EReal.coe_mul]

/-! ## The logistic function -/

theorem half_tanh_real (r : ℝ) : 1 / 2 * Real.tanh (1 / 2 * r) + 1 / 2 = (1 + Real.exp (-r))⁻¹ := by
  have hp : 0 < Real.exp (1 / 2 * r) := Real.exp_pos _
  have e1 : Real.exp (-r) = (Real.exp (1 / 2 * r))⁻¹ * (Real.exp (1 / 2 * r))⁻¹ := by
    rw [← Real.exp_neg, ← Real.exp_add]; congr 1; ring
  rw [e1, Real.tanh_eq_sinh_div_cosh, Real.sinh_eq, Real.cosh_eq, Real.exp_neg]
  generalize Real.exp (1 / 2 * r) = a at hp
  have h1 : a + a⁻¹ ≠ 0 := by positivity
  field_simp
  ring

/-- Half the hyperbolic tangent of the half, and a half more, is the logistic function. -/
theorem half_tanh (z : EReal) :
    ((1 / 2 : ℝ) : EReal) * Ideal.tanh (((1 / 2 : ℝ) : EReal) * z) + ((1 / 2 : ℝ) : EReal) = Ideal.logistic z := by
  induction z with
  | bot =>
    rw [EReal.coe_mul_bot_of_pos (by norm_num), Ideal.tanh_bot, Ideal.logistic_bot, show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe r => rw [← EReal.coe_mul, Ideal.tanh_coe, ← EReal.coe_mul, ← EReal.coe_add, half_tanh_real, Ideal.logistic_coe]

/-! ## The result -/

/-- The gated activation of a gate's entry and a value's. -/
def act (g u : EReal) : EReal := (min c7 (max cm7 u) + c1) * (min g c7 * Ideal.logistic (cAlpha * min g c7))

abbrev even (j : Fin 896) : Fin 1792 := ⟨2 * j.val, by omega⟩
abbrev odd (j : Fin 896) : Fin 1792 := ⟨2 * j.val + 1, by omega⟩

section Result
variable (x : (⟨2, ![151552, 2048]⟩ : Shape).Idx → EReal) (w : (⟨3, ![32, 2048, 1792]⟩ : Shape).Idx → EReal)
    (b : (⟨2, ![32, 1792]⟩ : Shape).Idx → EReal) (d : (⟨3, ![32, 896, 2048]⟩ : Shape).Idx → EReal) (bd : (⟨2, ![32, 2048]⟩ : Shape).Idx → EReal)

/-- Column `j` of the first layer of expert `e` at row `r`. -/
def first (e : Fin 32) (r : Fin 151552) (j : Fin 1792) : EReal := (∑ k : Fin 2048, x (ix2 r k) * w (ix3 e k j)) + b (ix2 e j)

/-- Column `n` of expert `e`'s result at row `r`. -/
def second (e : Fin 32) (r : Fin 151552) (n : Fin 2048) : EReal :=
  (∑ j : Fin 896, act (first x w b e r (even j)) (first x w b e r (odd j)) * d (ix3 e j n)) + bd (ix2 e n)

/-- The result: row `r` lies in block `r / 512`, whose expert is `be` there; a block from `u` on is zero. -/
def result (be : (⟨1, ![296]⟩ : Shape).Idx → BitVec 32) (hbe : ∀ i, (be i).toNat ≤ 31) (u : BitVec 32) (y : (⟨2, ![151552, 2048]⟩ : Shape).Idx) : EReal :=
  if IntOp.cmpi .slt (BitVec.ofNat 32 ((y 0).val / 512)) u = 1#1 then
    second x w b d bd ⟨(be (ix1 ⟨(y 0).val / 512, by have h : (y 0).val < 151552 := (y 0).isLt; omega⟩)).toNat, by have := hbe (ix1 ⟨(y 0).val / 512, by have h : (y 0).val < 151552 := (y 0).isLt; omega⟩); omega⟩
      (y 0) (y 1)
  else 0

end Result

/-! ## The sum by four -/

/-- A sum over 2048 by four runs of 512, on top of the bias. -/
theorem four_runs (f : Fin 2048 → EReal) (s : EReal) :
    (((s + ∑ k : Fin 512, f ⟨k.val, by omega⟩) + ∑ k : Fin 512, f ⟨512 + k.val, by omega⟩) + ∑ k : Fin 512, f ⟨1024 + k.val, by omega⟩)
      + ∑ k : Fin 512, f ⟨1536 + k.val, by omega⟩ = (∑ k : Fin 2048, f k) + s := by
  have h : ∑ k : Fin 2048, f k = ((∑ k : Fin 512, f ⟨k.val, by omega⟩) + ∑ k : Fin 512, f ⟨512 + k.val, by omega⟩)
      + ((∑ k : Fin 512, f ⟨1024 + k.val, by omega⟩) + ∑ k : Fin 512, f ⟨1536 + k.val, by omega⟩) := by
    rw [show (∑ k : Fin 2048, f k) = ∑ k : Fin (1024 + 1024), f k from rfl, Fin.sum_univ_add]
    refine congrArg₂ (· + ·) ?_ ?_
    · rw [show (∑ k : Fin 1024, f (Fin.castAdd 1024 k)) = ∑ k : Fin (512 + 512), f (Fin.castAdd 1024 k) from rfl, Fin.sum_univ_add]
      rfl
    · rw [show (∑ k : Fin 1024, f (Fin.natAdd 1024 k)) = ∑ k : Fin (512 + 512), f (Fin.natAdd 1024 k) from rfl, Fin.sum_univ_add]
      refine congrArg₂ (· + ·) (Finset.sum_congr rfl fun k _ => rfl) (Finset.sum_congr rfl fun k _ => congrArg f (Fin.ext ?_))
      show 1024 + (512 + k.val) = 1536 + k.val
      omega
  rw [h]
  abel

end Cert.Experts

end
-- ==== Proof.ExpertsBlock.lean ====
/-
  What the experts' body computes in a block, over the extended reals, read at an index of the block of the result.
-/
module

public import proofs.«01_k».proof.Proof.ExpertsBody
public import proofs.«01_k».proof.Proof.ExpertsMath
public import proofs.«01_k».proof.Proof.Block

@[expose] public section

set_option maxRecDepth 16384

noncomputable section

namespace Cert.Kernel2Ideal.Hand

open Cert.Kernel2Ideal Cert.Kernel2Ideal.Gen
open Idealize.ShloMosaic hiding eq_ix2 ix0 ix1 ix2 ix3 ix4 ix5 maximumf_apply mulf_apply addf_apply subf_apply divf_apply truncf_apply extf_apply
open Idealize.ShloMosaic.ValueIdx
open Cert.KernelIdeal.Hand (drop_at window_at)
open Cert.Experts (c7 cm7 c1 cAlpha act)
open scoped BigOperators

/-! ## The products -/

theorem mm1_at (x : FVec Ideal S256x512 .bf16) (w : Vec Ideal S1x512x1792 .bf16) (p : Fin 256) (j : Fin 1792) :
    matmul (F := Ideal) (φ₁ := .bf16) (φ₂ := .bf16) dot_S256x512_S512x1792_S256x1792_1_0_0_1_n_n none x (shapeCast S512x1792 w shapeCasts_S1x512x1792_S512x1792)
        (constant (F := Ideal) S256x1792 .f32 0x00000000#32) (ix2 p j)
      = ∑ k : Fin 512, HMul.hMul (α := EReal) (β := EReal) (γ := EReal) (x (ix2 p k)) (w (ix3 0 k j)) := by
  refine (Ideal.matmul_plain_apply (M := 256) (K := 512) (N := 1792) none x _ (constant S256x1792 .f32 0x00000000#32) p j).trans ?_
  rw [ValueIdx.constant_apply, Cert.Experts.zero_word, zero_add]
  refine Finset.sum_congr rfl fun k _ => ?_
  rw [drop_at (a := 512) (b := 1792)]

theorem mm2_at (x : FVec Ideal S256x896 .bf16) (w : Vec Ideal S1x896x2048 .bf16) (p : Fin 256) (n : Fin 2048) :
    matmul (F := Ideal) (φ₁ := .bf16) (φ₂ := .bf16) dot_S256x896_S896x2048_S256x2048_1_0_0_1_n_n none x (shapeCast S896x2048 w shapeCasts_S1x896x2048_S896x2048)
        (constant (F := Ideal) S256x2048 .f32 0x00000000#32) (ix2 p n)
      = ∑ k : Fin 896, HMul.hMul (α := EReal) (β := EReal) (γ := EReal) (x (ix2 p k)) (w (ix3 0 k n)) := by
  refine (Ideal.matmul_plain_apply (M := 256) (K := 896) (N := 2048) none x _ (constant S256x2048 .f32 0x00000000#32) p n).trans ?_
  rw [ValueIdx.constant_apply, Cert.Experts.zero_word, zero_add]
  refine Finset.sum_congr rfl fun k _ => ?_
  rw [drop_at (a := 896) (b := 2048)]

/-- Columns from `o` on of the rows. -/
theorem cols_at {W N : ℕ} {α : Type} (o : ℕ) (x : (⟨2, ![256, N]⟩ : Shape).Idx → α) (h : (⟨2, ![256, N]⟩ : Shape).Slices ![0, o] ⟨2, ![256, W]⟩)
    (p : Fin 256) (k : Fin W) (k' : Fin N) (hk : k'.val = o + k.val) :
    extractStridedSlice (⟨2, ![256, W]⟩ : Shape) ![0, o] x h (ix2 p k) = x (ix2 p k') :=
  extractStridedSlice_apply ![0, o] x h _ _ fun a => match a with
    | ⟨0, _⟩ => (Nat.zero_add _).symm
    | ⟨1, _⟩ => hk

/-- A row of biases along the rows. -/
theorem bias_at {N : ℕ} {α : Type} (hN : N ≠ 1) (b : (⟨3, ![1, 1, N]⟩ : Shape).Idx → α) (h : (⟨3, ![1, 1, N]⟩ : Shape).ShapeCasts ⟨2, ![1, N]⟩)
    (h' : (⟨2, ![1, N]⟩ : Shape).Broadcasts ⟨2, ![256, N]⟩) (p : Fin 256) (j : Fin N) :
    broadcastTo (⟨2, ![256, N]⟩ : Shape) (shapeCast (⟨2, ![1, N]⟩ : Shape) b h) h' (ix2 p j) = b (ix3 0 0 j) :=
  (broadcastTo_apply _ h' _ (ix2 0 j) fun a => match a with
    | ⟨0, _⟩ => by show 0 = if (1 : ℕ) = 1 then 0 else _; rw [if_pos rfl]
    | ⟨1, _⟩ => by show j.val = if N = 1 then 0 else _; rw [if_neg hN]; rfl).trans (drop_at (a := 1) (b := N) b h 0 j)

/-! ## The first layer -/

/-- The first layer's column `j` at row `p` of 256, in the order of the body's sums. -/
def firstSums (x : (⟨2, ![256, 2048]⟩ : Shape).Idx → EReal) (b : (⟨3, ![1, 1, 1792]⟩ : Shape).Idx → EReal)
    (w : Fin 4 → (⟨3, ![1, 512, 1792]⟩ : Shape).Idx → EReal) (p : Fin 256) (j : Fin 1792) : EReal :=
  (((b (ix3 0 0 j) + ∑ k : Fin 512, x (ix2 p ⟨k.val, by omega⟩) * w 0 (ix3 0 k j)) + ∑ k : Fin 512, x (ix2 p ⟨512 + k.val, by omega⟩) * w 1 (ix3 0 k j))
    + ∑ k : Fin 512, x (ix2 p ⟨1024 + k.val, by omega⟩) * w 2 (ix3 0 k j)) + ∑ k : Fin 512, x (ix2 p ⟨1536 + k.val, by omega⟩) * w 3 (ix3 0 k j)

section Half
variable (x : Vec Ideal S256x2048 .bf16) (b : Vec Ideal S1x1x1792 .f32) (w : Fin 4 → Vec Ideal S1x512x1792 .bf16)
    (d : Vec Ideal S1x896x2048 .bf16) (bd : Vec Ideal S1x1x2048 .f32)

theorem pay3_at (p : Fin 256) (j : Fin 1792) : k0_pay3 x b (w 0) (w 1) (w 2) (w 3) (ix2 p j) = firstSums x b w p j := by
  have run : ∀ (o : ℕ) (h : S256x2048.Slices ![0, o] S256x512) (v : Vec Ideal S1x512x1792 .bf16) (ho : o + 512 ≤ 2048),
      matmul (F := Ideal) (φ₁ := .bf16) (φ₂ := .bf16) dot_S256x512_S512x1792_S256x1792_1_0_0_1_n_n none (extractStridedSlice S256x512 ![0, o] (shapeCast S256x2048 x shapeCasts_S256x2048_S256x2048) h)
          (shapeCast S512x1792 v shapeCasts_S1x512x1792_S512x1792) (constant (F := Ideal) S256x1792 .f32 0x00000000#32) (ix2 p j)
        = ∑ k : Fin 512, HMul.hMul (α := EReal) (β := EReal) (γ := EReal) (x (ix2 p ⟨o + k.val, by omega⟩)) (v (ix3 0 k j)) := by
    intro o h v ho
    rw [shapeCast_self, mm1_at]
    refine Finset.sum_congr rfl fun k _ => ?_
    rw [cols_at (W := 512) (N := 2048) o x h p k ⟨o + k.val, by omega⟩ rfl]
  unfold firstSums k0_pay3
  rw [addf_apply, addf_apply, addf_apply, addf_apply]
  rw [run 0 _ _ (by omega), run 512 _ _ (by omega), run 1024 _ _ (by omega), run 1536 _ _ (by omega), bias_at (N := 1792) (by decide)]
  simp only [Nat.zero_add]

/-- The second half of the body is the first at other rows. -/
theorem high_eq (r : Vec Ideal S256x2048 .bf16) (w0 w1 w2 w3 : Vec Ideal S1x512x1792 .bf16) :
    k0_pay1 (k0_pay11 (k0_pay7 r) (k0_pay8 r b w0) (k0_pay9 r) (k0_pay10 w1) w2 w3 d) bd
      = k0_pay6 (k0_pay4 r b w0 w1 w2 w3) (k0_pay5 r b w0 w1 w2 w3) d bd := rfl

/-- A half of the block at row `p` of 256 and column `n`. -/
theorem half_at (p : Fin 256) (n : Fin 2048) :
    k0_pay6 (k0_pay4 x b (w 0) (w 1) (w 2) (w 3)) (k0_pay5 x b (w 0) (w 1) (w 2) (w 3)) d bd (ix2 p n)
      = (∑ j : Fin 896, act (firstSums x b w p ⟨j.val, by omega⟩) (firstSums x b w p ⟨896 + j.val, by omega⟩)
          * (show EReal from d (ix3 0 j n))) + (show EReal from bd (ix3 0 0 n)) := by
  have g4 : ∀ j : Fin 896, k0_pay4 x b (w 0) (w 1) (w 2) (w 3) (ix2 p j) = min (firstSums x b w p ⟨j.val, by omega⟩) c7 := fun j => by
    rw [← pay3_at]
    exact congrArg (fun z : EReal => min z c7) (cols_at (W := 896) (N := 1792) 0 (k0_pay3 x b (w 0) (w 1) (w 2) (w 3)) _ p j ⟨j.val, by omega⟩ (Nat.zero_add _).symm)
  have g5 : ∀ j : Fin 896, k0_pay5 x b (w 0) (w 1) (w 2) (w 3) (ix2 p j) = min c7 (max cm7 (firstSums x b w p ⟨896 + j.val, by omega⟩)) + c1 := fun j => by
    rw [← pay3_at]
    exact congrArg (fun z : EReal => min c7 (max cm7 z) + c1) (cols_at (W := 896) (N := 1792) 896 (k0_pay3 x b (w 0) (w 1) (w 2) (w 3)) _ p j ⟨896 + j.val, by omega⟩ rfl)
  generalize k0_pay4 x b (w 0) (w 1) (w 2) (w 3) = g at g4 ⊢
  generalize k0_pay5 x b (w 0) (w 1) (w 2) (w 3) = u at g5 ⊢
  unfold k0_pay6
  rw [truncf_apply, addf_apply, mm2_at, bias_at (N := 2048) (by decide)]
  refine congrArg₂ (· + ·) (Finset.sum_congr rfl fun j _ => congrArg₂ (· * ·) ?_ rfl) rfl
  unfold act
  rw [← Cert.Experts.half_tanh, ← Cert.Experts.half_word, ← g5, ← g4]
  rfl

end Half

/-! ## The block of the result -/

/-- The sums of a half are the first layer, where the block's rows and weights are the arrays'. -/
theorem firstSums_eq (X : (⟨2, ![151552, 2048]⟩ : Shape).Idx → EReal) (W : (⟨3, ![32, 2048, 1792]⟩ : Shape).Idx → EReal) (B : (⟨2, ![32, 1792]⟩ : Shape).Idx → EReal)
    (x : (⟨2, ![256, 2048]⟩ : Shape).Idx → EReal) (b : (⟨3, ![1, 1, 1792]⟩ : Shape).Idx → EReal) (w : Fin 4 → (⟨3, ![1, 512, 1792]⟩ : Shape).Idx → EReal)
    (p : Fin 256) (j j' : Fin 1792) (e : Fin 32) (r : Fin 151552) (hx : ∀ k, x (ix2 p k) = X (ix2 r k))
    (hw : ∀ (q : Fin 4) (k : Fin 512), w q (ix3 0 k j) = W (ix3 e ⟨512 * q.val + k.val, by omega⟩ j')) (hb : b (ix3 0 0 j) = B (ix2 e j')) :
    firstSums x b w p j = Cert.Experts.first X W B e r j' := by
  unfold Cert.Experts.first
  rw [← Cert.Experts.four_runs (fun k => X (ix2 r k) * W (ix3 e k j'))]
  unfold firstSums
  simp only [hx, hw, hb]
  refine congrArg₂ (· + ·) (congrArg₂ (· + ·) (congrArg₂ (· + ·) (congrArg₂ (· + ·) rfl ?_) ?_) ?_) ?_
  all_goals
    refine Finset.sum_congr rfl fun k _ => congrArg (fun z => _ * W (ix3 e z j')) (Fin.ext ?_)
    simp

section Used
variable (x : Vec Ideal S512x2048 .bf16) (w : Vec Ideal S4x512x1792 .bf16) (b : Vec Ideal S1x1x1792 .f32)
    (d : Vec Ideal S1x896x2048 .bf16) (bd : Vec Ideal S1x1x2048 .f32)
    (X : (⟨2, ![151552, 2048]⟩ : Shape).Idx → EReal) (W : (⟨3, ![32, 2048, 1792]⟩ : Shape).Idx → EReal) (B : (⟨2, ![32, 1792]⟩ : Shape).Idx → EReal)
    (D : (⟨3, ![32, 896, 2048]⟩ : Shape).Idx → EReal) (BD : (⟨2, ![32, 2048]⟩ : Shape).Idx → EReal)

theorem inb_w : ∀ q : Fin 4, ∀ a, (![q.val, 0, 0] : Fin 3 → ℕ) a + S1x512x1792.size a ≤ S4x512x1792.size a := by decide

/-- The four runs of rows of the first weights. -/
abbrev runs (q : Fin 4) : Vec Ideal S1x512x1792 .bf16 := wrows q.val (inb_w q) w

theorem runs_at (q : Fin 4) (k : Fin 512) (j : Fin 1792) : runs w q (ix3 0 k j) = w (ix3 q k j) := by
  refine congrArg w (funext fun a => Fin.ext ?_)
  match a with
  | ⟨0, _⟩ => show q.val + 1 * 0 = q.val; omega
  | ⟨1, _⟩ => show 0 + 1 * k.val = k.val; omega
  | ⟨2, _⟩ => show 0 + 1 * j.val = j.val; omega

theorem all_at {N M : ℕ} {α : Type} (b : (⟨3, ![1, N, M]⟩ : Shape).Idx → α) (pr) (i : Fin N) (j : Fin M) :
    VecWindow.window (s := ⟨3, ![1, N, M]⟩) b ![0, 0, 0] (⟨3, ![1, N, M]⟩ : Shape).size pr (ix3 0 i j) = b (ix3 0 i j) := by
  refine congrArg b (funext fun a => Fin.ext ?_)
  match a with
  | ⟨0, _⟩ => rfl
  | ⟨1, _⟩ => show 0 + 1 * i.val = i.val; omega
  | ⟨2, _⟩ => show 0 + 1 * j.val = j.val; omega

theorem used_at (e : Fin 32) (r : Fin 151552) (p : Fin 512) (n : Fin 2048) (hx : ∀ k, x (ix2 p k) = X (ix2 r k))
    (hg : ∀ (q : Fin 4) (k : Fin 512) (j : Fin 896), w (ix3 q k ⟨j.val, by omega⟩) = W (ix3 e ⟨512 * q.val + k.val, by omega⟩ (Cert.Experts.even j)))
    (hu : ∀ (q : Fin 4) (k : Fin 512) (j : Fin 896), w (ix3 q k ⟨896 + j.val, by omega⟩) = W (ix3 e ⟨512 * q.val + k.val, by omega⟩ (Cert.Experts.odd j)))
    (hbg : ∀ j : Fin 896, b (ix3 0 0 ⟨j.val, by omega⟩) = B (ix2 e (Cert.Experts.even j)))
    (hbu : ∀ j : Fin 896, b (ix3 0 0 ⟨896 + j.val, by omega⟩) = B (ix2 e (Cert.Experts.odd j)))
    (hd : ∀ j : Fin 896, d (ix3 0 j n) = D (ix3 e j n)) (hbd : bd (ix3 0 0 n) = BD (ix2 e n)) :
    usedBlock x w b d bd (ix2 p n) = Cert.Experts.second X W B D BD e r n := by
  have half : ∀ (o : ℕ) (pr) (p' : Fin 256) (ho : p.val = o + p'.val),
      k0_pay6 (k0_pay4 (rows o pr x) (bgAll b) (runs w 0) (runs w 1) (runs w 2) (runs w 3))
          (k0_pay5 (rows o pr x) (bgAll b) (runs w 0) (runs w 1) (runs w 2) (runs w 3)) (wdAll d) (bdAll bd) (ix2 p' n)
        = Cert.Experts.second X W B D BD e r n := by
    intro o pr p' ho
    have hr : ∀ k, rows o pr x (ix2 p' k) = X (ix2 r k) := fun k =>
      (window_at (a := 512) (b := 2048) (h := 256) (w := 2048) x o 0 pr p' k p k ho (Nat.zero_add _).symm).trans (hx k)
    rw [half_at]
    unfold Cert.Experts.second
    refine congrArg₂ (· + ·) (Finset.sum_congr rfl fun j _ => congrArg₂ (· * ·) (congrArg₂ act ?_ ?_) ?_) ?_
    · exact firstSums_eq X W B _ _ _ _ _ _ e r hr (fun q k => (runs_at w q k _).trans (hg q k j)) ((all_at (N := 1) (M := 1792) b _ 0 _).trans (hbg j))
    · exact firstSums_eq X W B _ _ _ _ _ _ e r hr (fun q k => (runs_at w q k _).trans (hu q k j)) ((all_at (N := 1) (M := 1792) b _ 0 _).trans (hbu j))
    · exact (all_at (N := 896) (M := 2048) d _ j n).trans (hd j)
    · exact (all_at (N := 1) (M := 2048) bd _ 0 n).trans hbd
  unfold usedBlock
  by_cases h : p.val < 256
  · refine (dif_pos h).trans ?_
    exact half 0 inb_S512x2048_S256x2048_0_0 ⟨p.val, h⟩ (Nat.zero_add _).symm
  · refine (dif_neg h).trans ?_
    unfold highRows
    rw [high_eq]
    exact half 256 inb_S512x2048_S256x2048_256_0 ⟨p.val - 256, by omega⟩ (by show p.val = 256 + (p.val - 256); omega)

end Used

end Cert.Kernel2Ideal.Hand

end
-- ==== Proof.ExpertsEntry.lean ====
/-
  What the experts' region finds: the buffers the host operations leave, read at an index, and the blocks the tables place.
-/
module

public import proofs.«01_k».proof.Proof.ExpertsFrame
public import proofs.«01_k».proof.Proof.ExpertsBlock
public import Idealize.ShloMosaic.Lib.Pipeline.ValueKit
public import Idealize.ShloMosaic.Lib.StableHlo.RunRead

@[expose] public section

set_option maxRecDepth 16384

noncomputable section

namespace Cert.Kernel2Ideal.Hand

open Cert.Kernel2Ideal Cert.Kernel2Ideal.Gen
open Idealize.ShloMosaic hiding eq_ix2 ix0 ix1 ix2 ix3 ix4 ix5 maximumf_apply mulf_apply addf_apply subf_apply divf_apply truncf_apply extf_apply
open Idealize.ShloMosaic.TcCoe
open Idealize.ShloMosaic.ValueIdx
open Idealize.SL Idealize.SL.RA
open Cert.Experts (even odd)
open scoped BigOperators

variable (m : (ℓ : Loc nD τ sig) → Buf (Elt Ideal) ℓ)

/-! ## The buffers -/

theorem V_v21 (c : Dev nD) : (V m c main_v21 : Vec Ideal S151552x2048 .bf16) = m ((c : Thread nD τ).loc main_arg1) := by
  unfold V
  after_reads_simp
  rfl

theorem V_v24 (c : Dev nD) : (V m c main_v24 : Vec Ideal S32x896x2048 .bf16) = m ((c : Thread nD τ).loc main_arg4) := by
  unfold V
  after_reads_simp
  rfl

theorem V_v25 (c : Dev nD) (e : Fin 32) (n : Fin 2048) :
    (V m c main_v25 : Vec Ideal S32x1x2048 .f32) (ix3 e 0 n) = (m ((c : Thread nD τ).loc main_arg5) : FVec Ideal S32x2048 .f32) (ix2 e n) := by
  unfold V
  after_reads_simp
  refine (shapeCast_apply (s := S32x2048) (t := S32x1x2048) (m ((c : Thread nD τ).loc main_arg5)) shapeCasts_S32x2048_S32x1x2048 (ix3 e 0 n) (ix2 e n) ?_)
  rw [Shape.rowMajor_val_two, Shape.rowMajor_val_three]
  show e.val * 2048 + n.val = (e.val * 1 + 0) * 2048 + n.val
  omega

/-- The first biases, the even columns before the odd ones. -/
def biasSplit (b : FVec Ideal S32x1792 .f32) : FVec Ideal S32x1792 .f32 :=
  concatenate S32x1792 1 [⟨S32x896, Host.slice S32x896 ![0, 0] ![1, 2] b slicesBy_S32x1792_S32x896_0s1_0s2⟩,
    ⟨S32x896, Host.slice S32x896 ![0, 1] ![1, 2] b slicesBy_S32x1792_S32x896_0s1_1s2⟩] concatenates_S32x896_S32x896_S32x1792_d1

theorem biasSplit_even (b : FVec Ideal S32x1792 .f32) (e : Fin 32) (j : Fin 896) :
    biasSplit b (ix2 e ⟨j.val, by omega⟩) = b (ix2 e (even j)) := by
  unfold biasSplit
  refine (concatenate_pair_apply_left (t := S32x1792) (s₁ := S32x896) 1 _ _ concatenates_S32x896_S32x896_S32x1792_d1 (ix2 e ⟨j.val, by omega⟩) rfl (ix2 e j)
    (fun a => match a with | ⟨0, _⟩ => rfl | ⟨1, _⟩ => rfl)).trans ?_
  refine congrArg b (funext fun a => Fin.ext ?_)
  match a with
  | ⟨0, _⟩ => show 0 + 1 * e.val = e.val; omega
  | ⟨1, _⟩ => show 0 + 2 * j.val = 2 * j.val; omega

theorem biasSplit_odd (b : FVec Ideal S32x1792 .f32) (e : Fin 32) (j : Fin 896) :
    biasSplit b (ix2 e ⟨896 + j.val, by omega⟩) = b (ix2 e (odd j)) := by
  unfold biasSplit
  refine (concatenate_pair_apply_right (t := S32x1792) (s₁ := S32x896) 1 _ _ concatenates_S32x896_S32x896_S32x1792_d1 (ix2 e ⟨896 + j.val, by omega⟩) rfl rfl (ix2 e j)
    (fun a ha => match a with | ⟨0, _⟩ => rfl | ⟨1, _⟩ => absurd rfl ha) (Nat.add_comm _ _)).trans ?_
  refine congrArg b (funext fun a => Fin.ext ?_)
  match a with
  | ⟨0, _⟩ => show 0 + 1 * e.val = e.val; omega
  | ⟨1, _⟩ => show 1 + 2 * j.val = 2 * j.val + 1; omega

theorem V_v23 (c : Dev nD) (e : Fin 32) (j : Fin 1792) :
    (V m c main_v23 : Vec Ideal S32x1x1792 .f32) (ix3 e 0 j) = biasSplit (m ((c : Thread nD τ).loc main_arg3)) (ix2 e j) := by
  unfold V
  after_reads_simp
  refine (shapeCast_apply (s := S32x1792) (t := S32x1x1792) (biasSplit (m ((c : Thread nD τ).loc main_arg3))) shapeCasts_S32x1792_S32x1x1792 (ix3 e 0 j) (ix2 e j) ?_)
  rw [Shape.rowMajor_val_two, Shape.rowMajor_val_three]
  show e.val * 1792 + j.val = (e.val * 1 + 0) * 1792 + j.val
  omega

/-- The first weights, the even columns before the odd ones. -/
def weightSplit (w : FVec Ideal S32x2048x1792 .f32) : FVec Ideal S32x2048x1792 .f32 :=
  concatenate S32x2048x1792 2 [⟨S32x2048x896, Host.slice S32x2048x896 ![0, 0, 0] ![1, 1, 2] w slicesBy_S32x2048x1792_S32x2048x896_0s1_0s1_0s2⟩,
    ⟨S32x2048x896, Host.slice S32x2048x896 ![0, 0, 1] ![1, 1, 2] w slicesBy_S32x2048x1792_S32x2048x896_0s1_0s1_1s2⟩] concatenates_S32x2048x896_S32x2048x896_S32x2048x1792_d2

theorem weightSplit_even (w : FVec Ideal S32x2048x1792 .f32) (e : Fin 32) (k : Fin 2048) (j : Fin 896) :
    weightSplit w (ix3 e k ⟨j.val, by omega⟩) = w (ix3 e k (even j)) := by
  unfold weightSplit
  refine (concatenate_pair_apply_left (t := S32x2048x1792) (s₁ := S32x2048x896) 2 _ _ concatenates_S32x2048x896_S32x2048x896_S32x2048x1792_d2 (ix3 e k ⟨j.val, by omega⟩) rfl (ix3 e k j)
    (fun a => match a with | ⟨0, _⟩ => rfl | ⟨1, _⟩ => rfl | ⟨2, _⟩ => rfl)).trans ?_
  refine congrArg w (funext fun a => Fin.ext ?_)
  match a with
  | ⟨0, _⟩ => show 0 + 1 * e.val = e.val; omega
  | ⟨1, _⟩ => show 0 + 1 * k.val = k.val; omega
  | ⟨2, _⟩ => show 0 + 2 * j.val = 2 * j.val; omega

theorem weightSplit_odd (w : FVec Ideal S32x2048x1792 .f32) (e : Fin 32) (k : Fin 2048) (j : Fin 896) :
    weightSplit w (ix3 e k ⟨896 + j.val, by omega⟩) = w (ix3 e k (odd j)) := by
  unfold weightSplit
  refine (concatenate_pair_apply_right (t := S32x2048x1792) (s₁ := S32x2048x896) 2 _ _ concatenates_S32x2048x896_S32x2048x896_S32x2048x1792_d2 (ix3 e k ⟨896 + j.val, by omega⟩) rfl rfl (ix3 e k j)
    (fun a ha => match a with | ⟨0, _⟩ => rfl | ⟨1, _⟩ => rfl | ⟨2, _⟩ => absurd rfl ha) (Nat.add_comm _ _)).trans ?_
  refine congrArg w (funext fun a => Fin.ext ?_)
  match a with
  | ⟨0, _⟩ => show 0 + 1 * e.val = e.val; omega
  | ⟨1, _⟩ => show 0 + 1 * k.val = k.val; omega
  | ⟨2, _⟩ => show 1 + 2 * j.val = 2 * j.val + 1; omega

theorem V_v22 (c : Dev nD) (e : Fin 32) (q : Fin 4) (k : Fin 512) (j : Fin 1792) (i : Fin 128) (hi : i.val = e.val * 4 + q.val) :
    (V m c main_v22 : Vec Ideal S128x512x1792 .bf16) (ix3 i k j) = weightSplit (m ((c : Thread nD τ).loc main_arg2)) (ix3 e ⟨512 * q.val + k.val, by omega⟩ j) := by
  unfold V
  after_reads_simp
  refine (shapeCast_apply (s := S32x2048x1792) (t := S128x512x1792) (weightSplit (m ((c : Thread nD τ).loc main_arg2))) shapeCasts_S32x2048x1792_S128x512x1792 (ix3 i k j)
    (ix3 e ⟨512 * q.val + k.val, by omega⟩ j) ?_)
  rw [Shape.rowMajor_val_three, Shape.rowMajor_val_three]
  show (e.val * 2048 + (512 * q.val + k.val)) * 1792 + j.val = (i.val * 512 + k.val) * 1792 + j.val
  omega

/-! ## The blocks -/

theorem t0_eq : ∀ i : grid0.Coords, cc0_transform_0 i = ![(i 0).val, 0] := by decide +kernel
theorem t5_eq : ∀ i : grid0.Coords, cc0_transform_5 i = ![(i 0).val, 0] := by decide +kernel

section Blocks
variable (a : (pcfg0 (F := Ideal)).Adm) (c : Dev nD) (t : Fin (cfg0 a).N)

theorem blk0 (p : Fin 512) (k : Fin 2048) (r : Fin 151552) (hr : r.val = 512 * (grid0.coords t 0).val + p.val) :
    iblk m a c 0 t (ix2 p k) = V m c main_v21 (ix2 r k) := by
  refine congrArg (V m c main_v21 : Vec Ideal S151552x2048 .bf16) (funext fun d => Fin.ext ?_)
  match d with
  | ⟨0, _⟩ => show cc0_transform_0 (grid0.coords t) 0 * 512 + 1 * p.val = r.val; rw [t0_eq]; show (grid0.coords t 0).val * 512 + 1 * p.val = r.val; omega
  | ⟨1, _⟩ => show cc0_transform_0 (grid0.coords t) 1 * 2048 + 1 * k.val = k.val; rw [t0_eq]; show 0 * 2048 + 1 * k.val = k.val; omega

theorem blk1 (E : ℕ) (hE : cc0_transform_1 k0_off1_inb numel1_S1 a.1 (grid0.coords t) = ![E, 0, 0]) (q : Fin 4) (k : Fin 512) (j : Fin 1792) (i : Fin 128) (hi : i.val = E * 4 + q.val) :
    iblk m a c 1 t (ix3 q k j) = V m c main_v22 (ix3 i k j) := by
  refine congrArg (V m c main_v22 : Vec Ideal S128x512x1792 .bf16) (funext fun d => Fin.ext ?_)
  match d with
  | ⟨0, _⟩ => show cc0_transform_1 k0_off1_inb numel1_S1 a.1 (grid0.coords t) 0 * 4 + 1 * q.val = i.val; rw [hE]; show E * 4 + 1 * q.val = i.val; omega
  | ⟨1, _⟩ => show cc0_transform_1 k0_off1_inb numel1_S1 a.1 (grid0.coords t) 1 * 512 + 1 * k.val = k.val; rw [hE]; show 0 * 512 + 1 * k.val = k.val; omega
  | ⟨2, _⟩ => show cc0_transform_1 k0_off1_inb numel1_S1 a.1 (grid0.coords t) 2 * 1792 + 1 * j.val = j.val; rw [hE]; show 0 * 1792 + 1 * j.val = j.val; omega

theorem blk2 (E : ℕ) (hE : cc0_transform_2 k0_off1_inb numel1_S1 a.1 (grid0.coords t) = ![E, 0, 0]) (j : Fin 1792) (e : Fin 32) (he : e.val = E) :
    iblk m a c 2 t (ix3 0 0 j) = V m c main_v23 (ix3 e 0 j) := by
  refine congrArg (V m c main_v23 : Vec Ideal S32x1x1792 .f32) (funext fun d => Fin.ext ?_)
  match d with
  | ⟨0, _⟩ => show cc0_transform_2 k0_off1_inb numel1_S1 a.1 (grid0.coords t) 0 * 1 + 1 * 0 = e.val; rw [hE]; show E * 1 + 1 * 0 = e.val; omega
  | ⟨1, _⟩ => show cc0_transform_2 k0_off1_inb numel1_S1 a.1 (grid0.coords t) 1 * 1 + 1 * 0 = 0; rw [hE]; show 0 * 1 + 1 * 0 = 0; omega
  | ⟨2, _⟩ => show cc0_transform_2 k0_off1_inb numel1_S1 a.1 (grid0.coords t) 2 * 1792 + 1 * j.val = j.val; rw [hE]; show 0 * 1792 + 1 * j.val = j.val; omega

theorem blk3 (E : ℕ) (hE : cc0_transform_3 k0_off1_inb numel1_S1 a.1 (grid0.coords t) = ![E, 0, 0]) (j : Fin 896) (n : Fin 2048) (e : Fin 32) (he : e.val = E) :
    iblk m a c 3 t (ix3 0 j n) = V m c main_v24 (ix3 e j n) := by
  refine congrArg (V m c main_v24 : Vec Ideal S32x896x2048 .bf16) (funext fun d => Fin.ext ?_)
  match d with
  | ⟨0, _⟩ => show cc0_transform_3 k0_off1_inb numel1_S1 a.1 (grid0.coords t) 0 * 1 + 1 * 0 = e.val; rw [hE]; show E * 1 + 1 * 0 = e.val; omega
  | ⟨1, _⟩ => show cc0_transform_3 k0_off1_inb numel1_S1 a.1 (grid0.coords t) 1 * 896 + 1 * j.val = j.val; rw [hE]; show 0 * 896 + 1 * j.val = j.val; omega
  | ⟨2, _⟩ => show cc0_transform_3 k0_off1_inb numel1_S1 a.1 (grid0.coords t) 2 * 2048 + 1 * n.val = n.val; rw [hE]; show 0 * 2048 + 1 * n.val = n.val; omega

theorem blk4 (E : ℕ) (hE : cc0_transform_4 k0_off1_inb numel1_S1 a.1 (grid0.coords t) = ![E, 0, 0]) (n : Fin 2048) (e : Fin 32) (he : e.val = E) :
    iblk m a c 4 t (ix3 0 0 n) = V m c main_v25 (ix3 e 0 n) := by
  refine congrArg (V m c main_v25 : Vec Ideal S32x1x2048 .f32) (funext fun d => Fin.ext ?_)
  match d with
  | ⟨0, _⟩ => show cc0_transform_4 k0_off1_inb numel1_S1 a.1 (grid0.coords t) 0 * 1 + 1 * 0 = e.val; rw [hE]; show E * 1 + 1 * 0 = e.val; omega
  | ⟨1, _⟩ => show cc0_transform_4 k0_off1_inb numel1_S1 a.1 (grid0.coords t) 1 * 1 + 1 * 0 = 0; rw [hE]; show 0 * 1 + 1 * 0 = 0; omega
  | ⟨2, _⟩ => show cc0_transform_4 k0_off1_inb numel1_S1 a.1 (grid0.coords t) 2 * 2048 + 1 * n.val = n.val; rw [hE]; show 0 * 2048 + 1 * n.val = n.val; omega

/-- The row and column of the result an index of a point's block stands at. -/
theorem emb5 (p : Fin 512) (n : Fin 2048) (r : Fin 151552) (hr : r.val = 512 * (grid0.coords t 0).val + p.val) :
    (((cfg0 a).win 5).blk t).view.emb (ix2 p n) = (ix2 r n : S151552x2048.Idx) := by
  refine funext fun d => Fin.ext ?_
  match d with
  | ⟨0, _⟩ => show cc0_transform_5 (grid0.coords t) 0 * 512 + 1 * p.val = r.val; rw [t5_eq]; show (grid0.coords t 0).val * 512 + 1 * p.val = r.val; omega
  | ⟨1, _⟩ => show cc0_transform_5 (grid0.coords t) 1 * 2048 + 1 * n.val = n.val; rw [t5_eq]; show 0 * 2048 + 1 * n.val = n.val; omega

/-- A used point's block of the result, by the arguments. -/
theorem oblk_used (e : Fin 32) (h1 : cc0_transform_1 k0_off1_inb numel1_S1 a.1 (grid0.coords t) = ![e.val, 0, 0])
    (h2 : cc0_transform_2 k0_off1_inb numel1_S1 a.1 (grid0.coords t) = ![e.val, 0, 0]) (h3 : cc0_transform_3 k0_off1_inb numel1_S1 a.1 (grid0.coords t) = ![e.val, 0, 0])
    (h4 : cc0_transform_4 k0_off1_inb numel1_S1 a.1 (grid0.coords t) = ![e.val, 0, 0]) (p : Fin 512) (n : Fin 2048) (r : Fin 151552)
    (hr : r.val = 512 * (grid0.coords t 0).val + p.val) :
    usedBlock (iblk m a c 0 t) (iblk m a c 1 t) (iblk m a c 2 t) (iblk m a c 3 t) (iblk m a c 4 t) (ix2 p n)
      = Cert.Experts.second (m ((c : Thread nD τ).loc main_arg1)) (m ((c : Thread nD τ).loc main_arg2)) (m ((c : Thread nD τ).loc main_arg3))
          (m ((c : Thread nD τ).loc main_arg4)) (m ((c : Thread nD τ).loc main_arg5)) e r n := by
  have hi : ∀ q : Fin 4, e.val * 4 + q.val < 128 := fun q => by omega
  refine used_at _ _ _ _ _ _ _ _ _ _ e r p n (fun k => ?_) (fun q k j => ?_) (fun q k j => ?_) (fun j => ?_) (fun j => ?_) (fun j => ?_) ?_
  · exact (blk0 m a c t p k r hr).trans (congrFun (V_v21 m c) _)
  · exact (blk1 m a c t _ h1 q k _ ⟨_, hi q⟩ rfl).trans ((V_v22 m c e q k _ _ rfl).trans (weightSplit_even _ _ _ _))
  · exact (blk1 m a c t _ h1 q k _ ⟨_, hi q⟩ rfl).trans ((V_v22 m c e q k _ _ rfl).trans (weightSplit_odd _ _ _ _))
  · exact (blk2 m a c t _ h2 _ e rfl).trans ((V_v23 m c e _).trans (biasSplit_even _ _ _))
  · exact (blk2 m a c t _ h2 _ e rfl).trans ((V_v23 m c e _).trans (biasSplit_odd _ _ _))
  · exact (blk3 m a c t _ h3 j n e rfl).trans (congrFun (V_v24 m c) _)
  · exact (blk4 m a c t _ h4 n e rfl).trans (V_v25 m c e n)

end Blocks

end Cert.Kernel2Ideal.Hand

end
-- ==== Proof.ExpertsValue.lean ====
/-
  The run of the experts with its result named: the experts' array over the reals.
-/
module

public import proofs.«01_k».proof.Proof.ExpertsEntry
public import Idealize.ShloMosaic.Lib.Pipeline.Covers
public import Idealize.ShloMosaic.Lib.Claim

@[expose] public section

set_option maxRecDepth 16384

noncomputable section

namespace Cert.Kernel2Ideal.Hand

open Cert.Kernel2Ideal Cert.Kernel2Ideal.Gen
open Idealize.ShloMosaic hiding eq_ix2 ix0 ix1 ix2 ix3 ix4 ix5 maximumf_apply mulf_apply addf_apply subf_apply divf_apply truncf_apply extf_apply
open Idealize.ShloMosaic.TcCoe
open Idealize.ShloMosaic.ValueIdx
open Idealize.SL Idealize.SL.RA Idealize.SL.Sem

variable (m : (ℓ : Loc nD τ sig) → Buf (Elt Ideal) ℓ) (ρ : Dev nD → PrngReg)

/-- The result. -/
def resA (c : Dev nD) : Vec Ideal S151552x2048 .bf16 :=
  Cert.Experts.result (m ((c : Thread nD τ).loc main_arg1)) (m ((c : Thread nD τ).loc main_arg2)) (m ((c : Thread nD τ).loc main_arg3))
    (m ((c : Thread nD τ).loc main_arg4)) (m ((c : Thread nD τ).loc main_arg5))
    (blkE (m ((c : Thread nD τ).loc main_arg0))) (blkE_le _) (usedN (m ((c : Thread nD τ).loc main_arg0)) (ix1 0))

theorem cond1_iff (i : grid0.Coords) (v : BitVec 32) : k0_cond1 i v = 1#1 ↔ IntOp.cmpi .slt (BitVec.ofNat 32 (i 0).val) v = 1#1 := by
  unfold k0_cond1
  show (IntOp.cmpi .ne ((IntOp.cmpi .slt (BitVec.ofNat 32 (i 0).val) v).zeroExtend 32) 0#32) = 1#1 ↔ _
  generalize IntOp.cmpi .slt (BitVec.ofNat 32 (i 0).val) v = b
  revert b
  decide

theorem pay2_at (y : S512x2048.Idx) : (k0_pay2 (F := Ideal)) y = 0 := Cert.Experts.zero_half_word

/-- A point's block is the result's, whatever admissible tables hold the argument's words. -/
theorem oblk_at (a : (pcfg0 (F := Ideal)).Adm) (c : Dev nD) (t : Fin (cfg0 a).N)
    (hu : used a = usedN (m ((c : Thread nD τ).loc main_arg0)) (ix1 0))
    (h1 : cc0_transform_1 k0_off1_inb numel1_S1 a.1 (grid0.coords t) = ![expertAt m (grid0.coords t), 0, 0])
    (h2 : cc0_transform_2 k0_off1_inb numel1_S1 a.1 (grid0.coords t) = ![expertAt m (grid0.coords t), 0, 0])
    (h3 : cc0_transform_3 k0_off1_inb numel1_S1 a.1 (grid0.coords t) = ![expertAt m (grid0.coords t), 0, 0])
    (h4 : cc0_transform_4 k0_off1_inb numel1_S1 a.1 (grid0.coords t) = ![expertAt m (grid0.coords t), 0, 0])
    (p : Fin 512) (n : Fin 2048) (r : Fin 151552) (hr : r.val = 512 * (grid0.coords t 0).val + p.val) :
    oblk m a c t (ix2 p n) = resA m c (ix2 r n) := by
  obtain rfl : c = 0 := Subsingleton.elim _ _
  have hd : r.val / 512 = (grid0.coords t 0).val := by omega
  unfold oblk outBlock resA Cert.Experts.result
  rw [hu]
  by_cases hc : k0_cond1 (grid0.coords t) (usedN (m (((0 : Dev nD) : Thread nD τ).loc main_arg0)) (ix1 0)) = 1#1
  · rw [if_pos hc, if_pos (by
      show IntOp.cmpi .slt (BitVec.ofNat 32 (r.val / 512)) _ = 1#1
      rw [hd]; exact (cond1_iff _ _).1 hc)]
    refine (oblk_used m a 0 t ⟨expertAt m (grid0.coords t), by have := expertAt_le m (grid0.coords t); omega⟩ h1 h2 h3 h4 p n r hr).trans ?_
    refine congrArg (fun e => Cert.Experts.second _ _ _ _ _ e r n) (Fin.ext ?_)
    show (blkE _ _).toNat = (blkE _ _).toNat
    exact congrArg (fun z : Fin 296 => (blkE (m (((0 : Dev nD) : Thread nD τ).loc main_arg0)) (ix1 z)).toNat) (Fin.ext hd.symm)
  · rw [if_neg hc, if_neg (by
      show ¬ IntOp.cmpi .slt (BitVec.ofNat 32 (r.val / 512)) _ = 1#1
      rw [hd]; exact fun h => hc ((cond1_iff _ _).2 h))]
    exact pay2_at _

theorem covers5 (a : (pcfg0 (F := Ideal)).Adm) : ((cfg0 a).win 5).Covers := by
  have e0 : ((cfg0 a).win 5).nblk (0 : Fin 2) = 296 := by
    unfold Pipeline.Window.nblk; show (151552 + 512 - 1) / 512 = 296; rfl
  have e1 : ((cfg0 a).win 5).nblk (1 : Fin 2) = 1 := by
    unfold Pipeline.Window.nblk; show (2048 + 2048 - 1) / 2048 = 1; rfl
  refine Pipeline.Window.covers_of_indexMap_surj _ rfl (fun d => match d with | ⟨0, _⟩ => (by decide : 0 < 512) | ⟨1, _⟩ => (by decide : 0 < 2048)) fun β => ?_
  have b0 := lt_of_lt_of_eq (β (0 : Fin 2)).isLt e0
  have b1 := lt_of_lt_of_eq (β (1 : Fin 2)).isLt e1
  have bd : ∀ x : Fin 1, (β (0 : Fin 2)).val < grid0.bound x := fun x => by rw [Subsingleton.elim x 0]; exact b0
  let i : grid0.Coords := fun x => ⟨(β (0 : Fin 2)).val, bd x⟩
  refine ⟨i, fun d => ?_⟩
  match d with
  | ⟨0, _⟩ => exact congrFun (t5_eq i) 0
  | ⟨1, _⟩ => exact (congrFun (t5_eq i) 1).trans (Nat.lt_one_iff.1 b1).symm

theorem final_gen (a : (pcfg0 (F := Ideal)).Adm) (c : Dev nD)
    (hu : used a = usedN (m ((c : Thread nD τ).loc main_arg0)) (ix1 0))
    (h1 : ∀ i, cc0_transform_1 k0_off1_inb numel1_S1 a.1 i = ![expertAt m i, 0, 0])
    (h2 : ∀ i, cc0_transform_2 k0_off1_inb numel1_S1 a.1 i = ![expertAt m i, 0, 0])
    (h3 : ∀ i, cc0_transform_3 k0_off1_inb numel1_S1 a.1 i = ![expertAt m i, 0, 0])
    (h4 : ∀ i, cc0_transform_4 k0_off1_inb numel1_S1 a.1 i = ![expertAt m i, 0, 0]) :
    (dats m a 0 c).arrAt 5 (cfg0 a).N = resA m c := by
  refine (dats m a 0 c).arrAt_eq_of_covers 5 _ (covers5 a) fun t hf y => ?_
  obtain ⟨p, n, rfl⟩ : ∃ (p : Fin 512) (n : Fin 2048), y = ix2 p n := ⟨y (0 : Fin 2), y (1 : Fin 2), eq_ix2 (n0 := 512) (n1 := 2048) y⟩
  have hlt : (grid0.coords t 0).val < 296 := (grid0.coords t 0).isLt
  have hr : 512 * (grid0.coords t 0).val + p.val < 151552 := by omega
  rw [emb5 a t p n ⟨_, hr⟩ rfl]
  exact oblk_at m a c t hu (h1 _) (h2 _) (h3 _) (h4 _) p n ⟨_, hr⟩ rfl

theorem used_adm (c : Dev nD) : used (adm m 0) = usedN (m ((c : Thread nD τ).loc main_arg0)) (ix1 0) := by
  obtain rfl : c = 0 := Subsingleton.elim _ _
  exact congrFun (V_v20 m 0) (ix1 0)

theorem final_o (c : Dev nD) : (dats m (adm m 0) 0 c).arrAt 5 (cfg0 (adm m 0)).N = resA m c :=
  final_gen m (adm m 0) c (used_adm m c) (t1_eq m) (t2_eq m) (t3_eq m) (t4_eq m)

/-- The run: the result's array, and the arguments as they were. -/
theorem value_run :
    θ_run defs (onTc (τ := τ) (main (F := Ideal))) ⟨m, fun _ => 0, ρ⟩ (fun r => ∀ c : Dev nD,
      r.2.mem ((c.tc : Thread nD τ).loc main_v26) = resA m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c =>
    ⟨((h.1 c).1 5).trans (final_o m c),
      ((h.1 c).2 main_arg0 (Pipeline.mem_restRefs_of main_arg0 (by decide) (by decide : ∀ w : Fin 6, (spec0 w).arr.view.ref ≠ main_arg0))).trans (V_main_arg0 m c),
      ((h.1 c).2 main_arg1 (Pipeline.mem_restRefs_of main_arg1 (by decide) (by decide : ∀ w : Fin 6, (spec0 w).arr.view.ref ≠ main_arg1))).trans (V_main_arg1 m c),
      ((h.1 c).2 main_arg2 (Pipeline.mem_restRefs_of main_arg2 (by decide) (by decide : ∀ w : Fin 6, (spec0 w).arr.view.ref ≠ main_arg2))).trans (V_main_arg2 m c),
      ((h.1 c).2 main_arg3 (Pipeline.mem_restRefs_of main_arg3 (by decide) (by decide : ∀ w : Fin 6, (spec0 w).arr.view.ref ≠ main_arg3))).trans (V_main_arg3 m c),
      ((h.1 c).2 main_arg4 (Pipeline.mem_restRefs_of main_arg4 (by decide) (by decide : ∀ w : Fin 6, (spec0 w).arr.view.ref ≠ main_arg4))).trans (V_main_arg4 m c),
      ((h.1 c).2 main_arg5 (Pipeline.mem_restRefs_of main_arg5 (by decide) (by decide : ∀ w : Fin 6, (spec0 w).arr.view.ref ≠ main_arg5))).trans (V_main_arg5 m c)⟩)
    (run_main m ρ)

end Cert.Kernel2Ideal.Hand

end
-- ==== Proof.ExpertsRef.lean ====
/-
  The experts' reference, entry by entry: each block of 512 rows by its expert's weights, a block not used zero.
-/
module

public import proofs.«01_k».proof.Proof.Gen.Reference2Ideal.Read
public import proofs.«01_k».proof.Proof.ExpertsTable
public import proofs.«01_k».proof.Proof.ExpertsMath
public import Idealize.ShloMosaic.Lib.Routing.Ops
public import Idealize.ShloMosaic.Lib.StableHlo.Predicate
public import Idealize.ShloMosaic.Lib.ValueIdx

@[expose] public section

set_option maxRecDepth 16384

noncomputable section

namespace Cert.Reference2Ideal.Hand

open Cert.Reference2Ideal Cert.Reference2Ideal.Gen Cert.Reference2Ideal.Read
open Idealize.ShloMosaic
open Idealize.ShloMosaic.ValueIdx (ix1 ix2 ix3 eq_ix2)
open Cert.Kernel2Ideal.Hand (blkE blkE_le usedN)
open Cert.Experts (even odd act first second result)
open scoped BigOperators

/-! ## The expert's slab of a stack -/

theorem slab_w {α : Type} (x : S32x2048x1792.Idx → α) (idx : IVec S296x1 32) (c : Fin 296) (k : Fin 2048) (j : Fin 1792) (e : Fin 32)
    (he : idx (ix2 c (0 : Fin 1)) = BitVec.ofNat 32 e.val) :
    Host.gather gather_S32x2048x1792_S296x1_S296x2048x1792_12_0_n_n_0_1_120481792 x idx (ix3 c k j) = x (ix3 e k j) := by
  unfold Host.gather
  generalize hd : gather_S32x2048x1792_S296x1_S296x2048x1792_12_0_n_n_0_1_120481792 = d
  refine congrArg x (funext fun a => Fin.ext ?_)
  match a with
  | ⟨0, _⟩ =>
    show d.start (ix3 c k j) idx 0 + d.batchCoord (ix3 c k j) 0 + d.offCoord (ix3 c k j) 0 = e.val
    subst hd
    rw [GatherDims.batchCoord_eq_zero _ _ _ (by decide), GatherDims.offCoord_eq_zero _ _ _ (by decide)]
    simp only [Nat.add_zero]
    unfold GatherDims.start
    rw [dif_pos (by decide)]
    refine (congrArg (fun z : BitVec 32 => min z.toInt.toNat (32 - 1)) ((congrArg idx (funext fun b => ?_)).trans he)).trans ?_
    · match b with
      | ⟨0, _⟩ => rfl
      | ⟨1, _⟩ => rfl
    · have := e.isLt
      show min (BitVec.ofNat 32 e.val).toInt.toNat (32 - 1) = e.val
      rw [StableHlo.Predicate.toInt_ofNat_small _ (by omega)]
      show min ((e.val : Int)).toNat (32 - 1) = e.val
      omega
  | ⟨1, _⟩ =>
    show d.start (ix3 c k j) idx 1 + d.batchCoord (ix3 c k j) 1 + d.offCoord (ix3 c k j) 1 = k.val
    subst hd
    rw [GatherDims.batchCoord_eq_zero _ _ _ (by decide)]
    unfold GatherDims.start GatherDims.offCoord
    rw [dif_neg (by decide), dif_pos (by decide), Nat.add_zero, Nat.zero_add]
    rfl
  | ⟨2, _⟩ =>
    show d.start (ix3 c k j) idx 2 + d.batchCoord (ix3 c k j) 2 + d.offCoord (ix3 c k j) 2 = j.val
    subst hd
    rw [GatherDims.batchCoord_eq_zero _ _ _ (by decide)]
    unfold GatherDims.start GatherDims.offCoord
    rw [dif_neg (by decide), dif_pos (by decide), Nat.add_zero, Nat.zero_add]
    rfl

theorem slab_d {α : Type} (x : S32x896x2048.Idx → α) (idx : IVec S296x1 32) (c : Fin 296) (k : Fin 896) (j : Fin 2048) (e : Fin 32)
    (he : idx (ix2 c (0 : Fin 1)) = BitVec.ofNat 32 e.val) :
    Host.gather gather_S32x896x2048_S296x1_S296x896x2048_12_0_n_n_0_1_18962048 x idx (ix3 c k j) = x (ix3 e k j) := by
  unfold Host.gather
  generalize hd : gather_S32x896x2048_S296x1_S296x896x2048_12_0_n_n_0_1_18962048 = d
  refine congrArg x (funext fun a => Fin.ext ?_)
  match a with
  | ⟨0, _⟩ =>
    show d.start (ix3 c k j) idx 0 + d.batchCoord (ix3 c k j) 0 + d.offCoord (ix3 c k j) 0 = e.val
    subst hd
    rw [GatherDims.batchCoord_eq_zero _ _ _ (by decide), GatherDims.offCoord_eq_zero _ _ _ (by decide)]
    simp only [Nat.add_zero]
    unfold GatherDims.start
    rw [dif_pos (by decide)]
    refine (congrArg (fun z : BitVec 32 => min z.toInt.toNat (32 - 1)) ((congrArg idx (funext fun b => ?_)).trans he)).trans ?_
    · match b with
      | ⟨0, _⟩ => rfl
      | ⟨1, _⟩ => rfl
    · have := e.isLt
      show min (BitVec.ofNat 32 e.val).toInt.toNat (32 - 1) = e.val
      rw [StableHlo.Predicate.toInt_ofNat_small _ (by omega)]
      show min ((e.val : Int)).toNat (32 - 1) = e.val
      omega
  | ⟨1, _⟩ =>
    show d.start (ix3 c k j) idx 1 + d.batchCoord (ix3 c k j) 1 + d.offCoord (ix3 c k j) 1 = k.val
    subst hd
    rw [GatherDims.batchCoord_eq_zero _ _ _ (by decide)]
    unfold GatherDims.start GatherDims.offCoord
    rw [dif_neg (by decide), dif_pos (by decide), Nat.add_zero, Nat.zero_add]
    rfl
  | ⟨2, _⟩ =>
    show d.start (ix3 c k j) idx 2 + d.batchCoord (ix3 c k j) 2 + d.offCoord (ix3 c k j) 2 = j.val
    subst hd
    rw [GatherDims.batchCoord_eq_zero _ _ _ (by decide)]
    unfold GatherDims.start GatherDims.offCoord
    rw [dif_neg (by decide), dif_pos (by decide), Nat.add_zero, Nat.zero_add]
    rfl

theorem row_b {α : Type} (x : S32x1792.Idx → α) (idx : IVec S296x1 32) (c : Fin 296) (j : Fin 1792) (e : Fin 32)
    (he : idx (ix2 c (0 : Fin 1)) = BitVec.ofNat 32 e.val) :
    Host.gather gather_S32x1792_S296x1_S296x1792_1_0_n_n_0_1_11792 x idx (ix2 c j) = x (ix2 e j) :=
  Routing.gather_row gather_S32x1792_S296x1_S296x1792_1_0_n_n_0_1_11792 rfl rfl rfl rfl rfl x idx c j e he (by decide)

theorem row_d {α : Type} (x : S32x2048.Idx → α) (idx : IVec S296x1 32) (c : Fin 296) (j : Fin 2048) (e : Fin 32)
    (he : idx (ix2 c (0 : Fin 1)) = BitVec.ofNat 32 e.val) :
    Host.gather gather_S32x2048_S296x1_S296x2048_1_0_n_n_0_1_12048 x idx (ix2 c j) = x (ix2 e j) :=
  Routing.gather_row gather_S32x2048_S296x1_S296x2048_1_0_n_n_0_1_12048 rfl rfl rfl rfl rfl x idx c j e he (by decide)

/-! ## The tables -/

theorem be_eq (x0 : IVec S32 32) : val_main_v11 (F := Ideal) x0 = blkE x0 := rfl
theorem used_eq (x0 : IVec S32 32) : val_main_v14 (F := Ideal) x0 = usedN x0 := rfl

/-- The expert of block `c`. -/
def ex (x0 : IVec S32 32) (c : Fin 296) : Fin 32 := ⟨(blkE x0 (ix1 c)).toNat, by have := blkE_le x0 (ix1 c); omega⟩

/-- A word not negative is not wrapped. -/
theorem no_wrap (w z : BitVec 32) (hw : w.toNat ≤ 31) : Scalar.select (IntOp.cmpi .slt w 0#32) z w = BitVec.ofNat 32 w.toNat := by
  have h : IntOp.cmpi .slt w 0#32 = 0#1 := by
    have h1 : w.slt 0#32 = false := by
      unfold BitVec.slt
      rw [BitVec.toInt_eq_toNat_of_lt (by omega)]
      simp
    show BitVec.ofBool (w.slt 0#32) = 0#1
    rw [h1]; rfl
  rw [h, BitVec.ofNat_toNat]
  rfl

theorem v23_at (x0 : IVec S32 32) (c : Fin 296) : val_main_v23 (F := Ideal) x0 (ix2 c 0) = BitVec.ofNat 32 (ex x0 c).val := by
  have e : idx_main_v23 (ix2 c (0 : Fin 1)) = ix1 c := funext fun a => Fin.ext (match a with | ⟨0, _⟩ => rfl)
  have h := blkE_le x0 (ix1 c)
  have hx : (ex x0 c).val = (blkE x0 (ix1 c)).toNat := rfl
  rw [hx]
  clear hx
  rw [val_main_v23_apply, e, val_main_v22_apply, val_main_v19_apply, be_eq, val_main_v18_apply, val_main_c_3_apply]
  generalize blkE x0 (ix1 c) = w at h ⊢
  exact no_wrap w _ h
theorem v30_at (x0 : IVec S32 32) (c : Fin 296) : val_main_v30 (F := Ideal) x0 (ix2 c 0) = BitVec.ofNat 32 (ex x0 c).val := by
  have e : idx_main_v30 (ix2 c (0 : Fin 1)) = ix1 c := funext fun a => Fin.ext (match a with | ⟨0, _⟩ => rfl)
  have h := blkE_le x0 (ix1 c)
  have hx : (ex x0 c).val = (blkE x0 (ix1 c)).toNat := rfl
  rw [hx]
  clear hx
  rw [val_main_v30_apply, e, val_main_v29_apply, val_main_v26_apply, be_eq, val_main_v25_apply, val_main_c_5_apply]
  generalize blkE x0 (ix1 c) = w at h ⊢
  exact no_wrap w _ h
theorem v37_at (x0 : IVec S32 32) (c : Fin 296) : val_main_v37 (F := Ideal) x0 (ix2 c 0) = BitVec.ofNat 32 (ex x0 c).val := by
  have e : idx_main_v37 (ix2 c (0 : Fin 1)) = ix1 c := funext fun a => Fin.ext (match a with | ⟨0, _⟩ => rfl)
  have h := blkE_le x0 (ix1 c)
  have hx : (ex x0 c).val = (blkE x0 (ix1 c)).toNat := rfl
  rw [hx]
  clear hx
  rw [val_main_v37_apply, e, val_main_v36_apply, val_main_v33_apply, be_eq, val_main_v32_apply, val_main_c_7_apply]
  generalize blkE x0 (ix1 c) = w at h ⊢
  exact no_wrap w _ h
theorem v44_at (x0 : IVec S32 32) (c : Fin 296) : val_main_v44 (F := Ideal) x0 (ix2 c 0) = BitVec.ofNat 32 (ex x0 c).val := by
  have e : idx_main_v44 (ix2 c (0 : Fin 1)) = ix1 c := funext fun a => Fin.ext (match a with | ⟨0, _⟩ => rfl)
  have h := blkE_le x0 (ix1 c)
  have hx : (ex x0 c).val = (blkE x0 (ix1 c)).toNat := rfl
  rw [hx]
  clear hx
  rw [val_main_v44_apply, e, val_main_v43_apply, val_main_v40_apply, be_eq, val_main_v39_apply, val_main_c_9_apply]
  generalize blkE x0 (ix1 c) = w at h ⊢
  exact no_wrap w _ h

/-! ## The two layers -/

section Layers
variable (x0 : IVec S32 32) (x1 : FVec Ideal S151552x2048 .f32) (x2 : FVec Ideal S32x2048x1792 .f32) (x3 : FVec Ideal S32x1792 .f32)
  (x4 : FVec Ideal S32x896x2048 .f32) (x5 : FVec Ideal S32x2048 .f32)
variable (c : Fin 296) (p : Fin 512) (r : Fin 151552) (hr : r.val = 512 * c.val + p.val)

theorem v24_at (k : Fin 2048) (j : Fin 1792) : val_main_v24 (F := Ideal) x0 x2 (ix3 c k j) = x2 (ix3 (ex x0 c) k j) := by
  unfold val_main_v24
  exact slab_w x2 _ c k j _ (v23_at x0 c)
theorem v31_at (j : Fin 1792) : val_main_v31 (F := Ideal) x0 x3 (ix2 c j) = x3 (ix2 (ex x0 c) j) := by
  unfold val_main_v31
  exact row_b x3 _ c j _ (v30_at x0 c)
theorem v38_at (j : Fin 896) (n : Fin 2048) : val_main_v38 (F := Ideal) x0 x4 (ix3 c j n) = x4 (ix3 (ex x0 c) j n) := by
  unfold val_main_v38
  exact slab_d x4 _ c j n _ (v37_at x0 c)
theorem v45_at (n : Fin 2048) : val_main_v45 (F := Ideal) x0 x5 (ix2 c n) = x5 (ix2 (ex x0 c) n) := by
  unfold val_main_v45
  exact row_d x5 _ c n _ (v44_at x0 c)

include hr in
theorem v17_at (k : Fin 2048) : val_main_v17 (F := Ideal) x1 (ix3 c p k) = x1 (ix2 r k) := by
  rw [val_main_v17_apply]
  refine congrArg x1 (funext fun a => Fin.ext ?_)
  match a with
  | ⟨0, _⟩ => show ((c.val * 512 + p.val) * 2048 + k.val) / 2048 = r.val; omega
  | ⟨1, _⟩ => show ((c.val * 512 + p.val) * 2048 + k.val) % 2048 = k.val; omega

include hr in
theorem v49_at (j : Fin 1792) : val_main_v49 (F := Ideal) x0 x1 x2 x3 (ix3 c p j) = first x1 x2 x3 (ex x0 c) r j := by
  rw [val_main_v49_apply, val_main_v46_apply, val_main_v48_apply, val_main_v47_apply]
  unfold first
  refine congrArg₂ (fun u v : EReal => u + v) (Finset.sum_congr rfl fun k _ => ?_) ?_
  · have el : lidx_main_v46 (ix3 c p j) k = ix3 c p k := funext fun a => Fin.ext (match a with | ⟨0, _⟩ => rfl | ⟨1, _⟩ => rfl | ⟨2, _⟩ => rfl)
    have er : ridx_main_v46 (ix3 c p j) k = ix3 c k j := funext fun a => Fin.ext (match a with | ⟨0, _⟩ => rfl | ⟨1, _⟩ => rfl | ⟨2, _⟩ => rfl)
    rw [el, er, v17_at x1 c p r hr, v24_at]
  · have e : idx_main_v47 (idx_main_v48 (ix3 c p j)) = ix2 c j := funext fun a => Fin.ext (match a with | ⟨0, _⟩ => rfl | ⟨1, _⟩ => rfl)
    rw [e, v31_at]

include hr in
theorem v50_at (j : Fin 896) : val_main_v50 (F := Ideal) x0 x1 x2 x3 (ix3 c p j) = first x1 x2 x3 (ex x0 c) r (even j) := by
  refine Eq.trans ?_ (v49_at x0 x1 x2 x3 c p r hr (even j))
  unfold val_main_v50
  generalize val_main_v49 (F := Ideal) x0 x1 x2 x3 = y
  refine congrArg y (funext fun a => Fin.ext ?_)
  match a with
  | ⟨0, _⟩ => show 0 + 1 * c.val = c.val; omega
  | ⟨1, _⟩ => show 0 + 1 * p.val = p.val; omega
  | ⟨2, _⟩ => show 0 + 2 * j.val = 2 * j.val; omega

include hr in
theorem v51_at (j : Fin 896) : val_main_v51 (F := Ideal) x0 x1 x2 x3 (ix3 c p j) = first x1 x2 x3 (ex x0 c) r (odd j) := by
  refine Eq.trans ?_ (v49_at x0 x1 x2 x3 c p r hr (odd j))
  unfold val_main_v51
  generalize val_main_v49 (F := Ideal) x0 x1 x2 x3 = y
  refine congrArg y (funext fun a => Fin.ext ?_)
  match a with
  | ⟨0, _⟩ => show 0 + 1 * c.val = c.val; omega
  | ⟨1, _⟩ => show 0 + 1 * p.val = p.val; omega
  | ⟨2, _⟩ => show 1 + 2 * j.val = 2 * j.val + 1; omega

include hr in
theorem v53_at (j : Fin 896) : val_main_v53 (F := Ideal) x0 x1 x2 x3 (ix3 c p j) = min (first x1 x2 x3 (ex x0 c) r (even j)) Cert.Experts.c7 := by
  rw [val_main_v53_apply, v50_at x0 x1 x2 x3 c p r hr, val_main_v52_apply, val_main_cst_apply]
  rfl

include hr in
theorem v66_at (j : Fin 896) :
    val_main_v66 (F := Ideal) x0 x1 x2 x3 (ix3 c p j) = act (first x1 x2 x3 (ex x0 c) r (even j)) (first x1 x2 x3 (ex x0 c) r (odd j)) := by
  rw [val_main_v66_apply, val_main_v65_apply, val_main_v64_apply, val_main_v63_apply, val_main_cst_16_apply, val_main_v62_apply, val_main_v61_apply,
    val_main_cst_15_apply, val_main_v60_apply, val_main_v59_apply, val_main_v58_apply, val_main_v57_apply, val_main_cst_14_apply,
    v53_at x0 x1 x2 x3 c p r hr, val_main_v56_apply, val_main_v55_apply, val_main_cst_13_apply, val_main_v54_apply, val_main_call1_v4_apply,
    val_main_call1_v3_apply, val_main_cst_12_apply, val_main_call1_v2_apply, v51_at x0 x1 x2 x3 c p r hr, val_main_call1_v1_apply,
    val_main_call1_v0_apply, val_main_cst_11_apply]
  unfold act
  generalize first x1 x2 x3 (ex x0 c) r (even j) = g
  generalize first x1 x2 x3 (ex x0 c) r (odd j) = u
  have hl : ∀ z : EReal, Ideal.div Cert.Experts.c1 (Cert.Experts.c1 + Ideal.exp (-z)) = Ideal.logistic z := fun z => by
    rw [show Cert.Experts.c1 = 1 from Cert.Experts.one_word]; rfl
  rw [← hl]
  rfl

include hr in
theorem v70_at (n : Fin 2048) : val_main_v70 (F := Ideal) x0 x1 x2 x3 x4 x5 (ix3 c p n) = second x1 x2 x3 x4 x5 (ex x0 c) r n := by
  rw [val_main_v70_apply, val_main_v67_apply, val_main_v69_apply, val_main_v68_apply]
  unfold second
  refine congrArg₂ (fun u v : EReal => u + v) (Finset.sum_congr rfl fun k _ => ?_) ?_
  · have el : lidx_main_v67 (ix3 c p n) k = ix3 c p k := funext fun a => Fin.ext (match a with | ⟨0, _⟩ => rfl | ⟨1, _⟩ => rfl | ⟨2, _⟩ => rfl)
    have er : ridx_main_v67 (ix3 c p n) k = ix3 c k n := funext fun a => Fin.ext (match a with | ⟨0, _⟩ => rfl | ⟨1, _⟩ => rfl | ⟨2, _⟩ => rfl)
    rw [el, er, v66_at x0 x1 x2 x3 c p r hr, v38_at]
  · have e : idx_main_v68 (idx_main_v69 (ix3 c p n)) = ix2 c n := funext fun a => Fin.ext (match a with | ⟨0, _⟩ => rfl | ⟨1, _⟩ => rfl)
    rw [e, v45_at]

theorem cond_at (n : Fin 2048) : val_main_call2_v1 (F := Ideal) x0 (ix3 c p n) = IntOp.cmpi .slt (BitVec.ofNat 32 c.val) (usedN x0 (ix1 0)) := by
  rw [val_main_call2_v1_apply, val_main_v71_apply, val_main_v16_apply, val_main_v12_apply, val_main_v15_apply, used_eq]
  refine congrArg (fun z : S1.Idx => IntOp.cmpi .slt (BitVec.ofNat 32 c.val) (usedN x0 z)) (funext fun a => Fin.ext ?_)
  match a with
  | ⟨0, _⟩ => rfl

theorem zero_at (i : S296x512x2048.Idx) : val_main_call2_v2 (F := Ideal) i = (0 : EReal) := by
  rw [val_main_call2_v2_apply, val_main_call2_v0_apply, val_main_c_17_apply]
  show (((0#32 : BitVec 32).toInt : ℝ) : EReal) = 0
  simp

end Layers

/-- The reference's result. -/
theorem ref_result (x0 : IVec S32 32) (x1 : FVec Ideal S151552x2048 .f32) (x2 : FVec Ideal S32x2048x1792 .f32) (x3 : FVec Ideal S32x1792 .f32)
    (x4 : FVec Ideal S32x896x2048 .f32) (x5 : FVec Ideal S32x2048 .f32) :
    val_main_v74 (F := Ideal) x0 x1 x2 x3 x4 x5 = result x1 x2 x3 x4 x5 (blkE x0) (blkE_le x0) (usedN x0 (ix1 0)) := by
  funext y
  obtain ⟨r, n, rfl⟩ : ∃ (r : Fin 151552) (n : Fin 2048), y = ix2 r n := ⟨y 0, y 1, eq_ix2 (n0 := 151552) (n1 := 2048) y⟩
  have hc : r.val / 512 < 296 := by omega
  have hp : r.val % 512 < 512 := by omega
  have hr : r.val = 512 * (⟨r.val / 512, hc⟩ : Fin 296).val + (⟨r.val % 512, hp⟩ : Fin 512).val := by
    show r.val = 512 * (r.val / 512) + r.val % 512
    omega
  have ei : idx_main_v73 (ix2 r n) = ix3 (⟨r.val / 512, hc⟩ : Fin 296) (⟨r.val % 512, hp⟩ : Fin 512) n := funext fun a => Fin.ext (by
    match a with
    | ⟨0, _⟩ => show (r.val * 2048 + n.val) / 1048576 = r.val / 512; omega
    | ⟨1, _⟩ => show (r.val * 2048 + n.val) / 2048 % 512 = r.val % 512; omega
    | ⟨2, _⟩ => show (r.val * 2048 + n.val) % 2048 = n.val; omega)
  rw [val_main_v74_apply, val_main_v73_apply, ei, val_main_v72_apply, cond_at, v70_at x0 x1 x2 x3 x4 x5 _ _ r hr, zero_at]
  rfl

end Cert.Reference2Ideal.Hand

end
-- ==== Proof.RnnMath.lean ====
/-
  The recurrent block's projection over the extended reals: what each entry of the result is.
-/
module

public import Idealize.ShloMosaic.PureOps.Ideal
public import Idealize.ShloMosaic.Lib.ValueIdx

@[expose] public section

noncomputable section

namespace Cert.Rnn

open Idealize.ShloMosaic
open Idealize.ShloMosaic.ValueIdx (ix1 ix2 ix3)
open scoped BigOperators

/-- The width of a row, the small constant under the root, and one. -/
abbrev cD : EReal := Ideal.ofBits .f32 0x45000000#32
abbrev cE : EReal := Ideal.ofBits .f32 0x358637BD#32
abbrev c1 : EReal := Ideal.ofBits .f32 0x3F800000#32

/-- The reciprocal root mean square of a row. -/
def inv (row : Fin 2048 → EReal) : EReal := Ideal.rsqrt (Ideal.div (∑ k : Fin 2048, row k * row k) cD + cE)

/-- A row normalized, scaled by one and a scale more, and shifted. -/
def normed (row sh sc : Fin 2048 → EReal) (k : Fin 2048) : EReal := row k * inv row * (c1 + sc k) + sh k

section Result
variable (x : (⟨3, ![4, 8448, 2048]⟩ : Shape).Idx → EReal) (ml : (⟨3, ![8, 6, 2048]⟩ : Shape).Idx → EReal)
    (w : (⟨2, ![2048, 5376]⟩ : Shape).Idx → EReal)

/-- Which modulation a row takes: the fifth in the context, its batch's after it. -/
def modRow (b : Fin 4) (i : Fin 8448) : Fin 8 := if i.val < 256 then 4 else ⟨b.val, by omega⟩

/-- Row `i` of batch `b` normalized and modulated. -/
def hid (b : Fin 4) (i : Fin 8448) (k : Fin 2048) : EReal :=
  normed (fun k => x (ix3 b i k)) (fun k => ml (ix3 (modRow b i) 0 k)) (fun k => ml (ix3 (modRow b i) 1 k)) k

/-- Its product with the second half of the weights' columns. -/
def proj (b : Fin 4) (i : Fin 8448) (n : Fin 2688) : EReal := ∑ k : Fin 2048, hid x ml b i k * w (ix2 k ⟨2688 + n.val, by omega⟩)

/-- The result. -/
def result (y : (⟨3, ![4, 8448, 2688]⟩ : Shape).Idx) : EReal := proj x ml w (y 0) (y 1) (y 2)

end Result

end Cert.Rnn

end
-- ==== Proof.RnnBlock.lean ====
/-
  What the projection's body computes in a block, over the extended reals, read at an index of the block of the result.
-/
module

public import proofs.«01_k».proof.Proof.Gen.Kernel3Ideal.Frame
public import proofs.«01_k».proof.Proof.Gen.Kernel3Ideal.Skeleton
public import proofs.«01_k».proof.Proof.RnnMath
public import proofs.«01_k».proof.Proof.ExpertsMath
public import proofs.«01_k».proof.Proof.Block
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic hiding eq_ix2 ix0 ix1 ix2 ix3 ix4 ix5 maximumf_apply mulf_apply addf_apply subf_apply divf_apply truncf_apply extf_apply
open Idealize.ShloMosaic.ValueIdx
open Cert.KernelIdeal.Hand (drop_at add_at drop2_at)
open scoped BigOperators

/-! ## The rows normalized and modulated -/

/-- A row of the modulation along the rows of the block. -/
theorem row_at {α : Type} (x : S1x2048.Idx → α) (p : Fin 256) (k : Fin 2048) :
    broadcastTo S256x2048 x broadcasts_S1x2048_S256x2048 (ix2 p k) = x (ix2 0 k) :=
  broadcastTo_apply _ _ _ (ix2 0 k) fun a => match a with
    | ⟨0, _⟩ => by show 0 = if (1 : ℕ) = 1 then 0 else _; rw [if_pos rfl]
    | ⟨1, _⟩ => by show k.val = if (2048 : ℕ) = 1 then 0 else _; rw [if_neg (by decide)]; rfl

/-- A column along the columns of the block. -/
theorem col_at {α : Type} (x : S256.Idx → α) (p : Fin 256) (k : Fin 2048) (f : α → α) :
    broadcastTo S256x2048 (fun i => f (shapeCast S256x1 x shapeCasts_S256_S256x1 i)) broadcasts_S256x1_S256x2048 (ix2 p k) = f (x (ix1 p)) := by
  refine (broadcastTo_apply _ _ _ (ix2 p 0) fun a => match a with
    | ⟨0, _⟩ => by show p.val = if (256 : ℕ) = 1 then 0 else _; rw [if_neg (by decide)]; rfl
    | ⟨1, _⟩ => by show 0 = if (1 : ℕ) = 1 then 0 else _; rw [if_pos rfl]).trans (congrArg f ?_)
  refine shapeCast_apply _ _ _ (ix1 p) ?_
  rw [Shape.rowMajor_val_one, Shape.rowMajor_val_two]
  simp [ix1, ix2]

/-- The sum of a row. -/
theorem sum_at (x : FVec Ideal S256x2048 .f32) (p : Fin 256) :
    multiReduction .add [1] S256 x 0x00000000#32 reduces_S256x2048_S256 (.inl rfl) rfl (ix1 p) = ∑ k : Fin 2048, x (ix2 p k) := by
  refine (Ideal.multiReduction_add_single (φ := .f32) x _ reduces_S256x2048_S256 (.inl rfl) rfl (ix1 p)).trans ?_
  refine Finset.sum_congr rfl fun k _ => congrArg x (funext fun a => Fin.ext ?_)
  match a with
  | ⟨0, _⟩ => rfl
  | ⟨1, _⟩ => rfl

/-- One row of the six of the modulation. -/
theorem mod_at {α : Type} (x : S1x1x6x2048.Idx → α) (o : ℕ) (h : S6x2048.Slices ![o, 0] S1x2048) (q : Fin 6) (hq : q.val = o) (k : Fin 2048) :
    extractStridedSlice S1x2048 ![o, 0] (shapeCast S6x2048 x shapeCasts_S1x1x6x2048_S6x2048) h (ix2 0 k) = x (ix4 0 0 q k) :=
  (extractStridedSlice_apply ![o, 0] _ h _ (ix2 q k) fun a => match a with
    | ⟨0, _⟩ => by show q.val = o + 0; omega
    | ⟨1, _⟩ => by show k.val = 0 + k.val; omega).trans (drop2_at (a := 6) (b := 2048) x _ q k)

theorem pay2_at (v0 : Vec Ideal S1x256x2048 .f32) (v2 : Vec Ideal S1x1x6x2048 .f32) (p : Fin 256) (k : Fin 2048) :
    k0_pay2 v0 v2 (ix2 p k) = Cert.Rnn.normed (fun k => v0 (ix3 0 p k)) (fun k => v2 (ix4 0 0 0 k)) (fun k => v2 (ix4 0 0 1 k)) k := by
  have hd : ∀ (p : Fin 256) (k : Fin 2048), shapeCast S256x2048 v0 shapeCasts_S1x256x2048_S256x2048 (ix2 p k) = v0 (ix3 0 p k) := fun p k =>
    drop_at (a := 256) (b := 2048) v0 _ p k
  unfold k0_pay2 Cert.Rnn.normed
  rw [truncf_apply, addf_apply, mulf_apply, mulf_apply, row_at, row_at, mod_at v2 0 _ 0 rfl, addf_apply, mod_at v2 1 _ 1 rfl, hd]
  refine congrArg₂ (fun a b : EReal => a + b) (congrArg₂ (fun a b : EReal => a * b) (congrArg₂ (fun a b : EReal => a * b) rfl ?_) rfl) rfl
  refine (col_at _ p k (fun z : EReal => Ideal.rsqrt (Ideal.div z Cert.Rnn.cD + Cert.Rnn.cE))).trans ?_
  rw [sum_at]
  unfold Cert.Rnn.inv
  simp only [mulf_apply, hd]

/-! ## The rows interleaved -/

/-- Which row of the block stands at row `r` of its result. -/
abbrev src (r : Fin 256) : Fin 256 := ⟨32 * (r.val % 8) + r.val / 8, by omega⟩

/-- The row's word, as the body computes it. -/
def srcW (z : BitVec 32) : BitVec 32 :=
  let v26 : BitVec 32 := Scalar.select (Scalar.cmpi .eq 8#32 0#32) 1#32 8#32
  let r := IntOp.remsi .vector z v26
  let m := Scalar.select (IntOp.andi (IntOp.xori (IntOp.cmpi .slt r 0#32) (Scalar.cmpi .slt v26 0#32)) (IntOp.cmpi .ne r 0#32)) (r + v26) r
  let s := Scalar.subi (Scalar.extui (Scalar.cmpi .sgt 8#32 0#32)) (Scalar.extui (Scalar.cmpi .slt 8#32 0#32))
  let q := IntOp.divsi .vector z 8#32
  let d := Scalar.select (IntOp.andi (IntOp.cmpi .ne ((IntOp.cmpi .sgt z 0#32).zeroExtend 32 - (IntOp.cmpi .slt z 0#32).zeroExtend 32) s)
    (IntOp.cmpi .ne (IntOp.remsi .vector z 8#32) 0#32)) (q - 1#32) q
  m * 32#32 + d

theorem srcW_eq : ∀ r : Fin 256, srcW (BitVec.ofNat 32 r.val) = BitVec.ofNat 32 (src r).val := by decide +kernel

/-- The 0/1 matrix the body multiplies the rows by. -/
theorem pay1_at (h : FVec Ideal S256x2048 .bf16) (w : Vec Ideal S2048x2688 .bf16) (r : Fin 256) (n : Fin 2688) :
    k0_pay1 h (iota .tc S256x256 32 [0] iota_S256x256_d0_w32) (iota .tc S256x256 32 [1] iota_S256x256_d1_w32) k0_pay3 w (ix3 0 r n)
      = ∑ k : Fin 2048, HMul.hMul (α := EReal) (β := EReal) (γ := EReal) (h (ix2 (src r) k)) (w (ix2 k n)) := by
  unfold k0_pay1
  refine (add_at (a := 256) (b := 2688) _ _ r n).trans ?_
  refine (Ideal.matmul_plain_apply (M := 256) (K := 2048) (N := 2688) none _ _ (constant S256x2688 .f32 0x00000000#32) r n).trans ?_
  rw [ValueIdx.constant_apply, Cert.Experts.zero_word, zero_add]
  refine Finset.sum_congr rfl fun k _ => ?_
  rw [shapeCast_self, truncf_apply]
  refine congrArg₂ (fun a b : EReal => a * b) ?_ rfl
  refine (Ideal.matmul_plain_apply (M := 256) (K := 256) (N := 2048) none _ _ (constant S256x2048 .f32 0x00000000#32) r k).trans ?_
  rw [ValueIdx.constant_apply, Cert.Experts.zero_word, zero_add]
  have hm : ∀ q : Fin 256, (Scalar.select (IntOp.cmpi .eq (BitVec.ofNat 32 (0 * 256 + q.val)) (srcW (BitVec.ofNat 32 (0 * 256 + r.val))))
      (Ideal.ofBits .f32 0x3F800000#32) (Ideal.ofBits .f32 0x00000000#32) : EReal) = if q = src r then 1 else 0 := by
    intro q
    rw [Cert.Experts.zero_word, Cert.Experts.one_word, Nat.zero_mul, Nat.zero_add, Nat.zero_add, srcW_eq]
    by_cases e : q = src r
    · rw [if_pos e, e]
      unfold Scalar.select IntOp.cmpi
      simp
    · have : BitVec.ofNat 32 q.val ≠ BitVec.ofNat 32 (src r).val := fun he => e (Fin.ext (by
        have h1 := congrArg BitVec.toNat he
        rw [BitVec.toNat_ofNat, BitVec.toNat_ofNat] at h1
        have := q.isLt
        have := (src r).isLt
        omega))
      rw [if_neg e]
      generalize BitVec.ofNat 32 (src r).val = u at this
      unfold Scalar.select IntOp.cmpi
      refine if_neg ?_
      show ¬ BitVec.ofBool (BitVec.ofNat 32 q.val == u) = 1#1
      rw [beq_eq_false_iff_ne.2 this]
      decide
  refine (Finset.sum_congr rfl fun q _ => congrArg₂ (fun a b : EReal => a * b) (hm q) rfl).trans ?_
  rw [Finset.sum_eq_single (src r)]
  · rw [if_pos rfl, one_mul]
  · intro q _ hq
    rw [if_neg hq, zero_mul]
  · exact fun hq => absurd (Finset.mem_univ _) hq

/-- A block of the result, read at an index. -/
theorem out_at (x0 : Vec Ideal S1x256x2048 .f32) (x1 : Vec Ideal S1x1x6x2048 .f32) (x2 : Vec Ideal S2048x2688 .bf16) (r : Fin 256) (n : Fin 2688) :
    out0_3 x0 x1 x2 (ix3 0 r n)
      = ∑ k : Fin 2048, HMul.hMul (α := EReal) (β := EReal) (γ := EReal)
          (Cert.Rnn.normed (fun k => x0 (ix3 0 (src r) k)) (fun k => x1 (ix4 0 0 0 k)) (fun k => x1 (ix4 0 0 1 k)) k) (x2 (ix2 k n)) := by
  have e0 : View.ld x0 r0_0 = x0 := funext fun i => congrArg x0 (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))
  have e1 : View.ld x1 r0_1 = x1 := funext fun i => congrArg x1 (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
    | ⟨3, _⟩ => show 0 + 1 * (i 3).val = (i 3).val; omega))
  have e2 : View.ld x2 r0_2 = x2 := funext fun i => congrArg x2 (funext fun a => Fin.ext (by
    match a with
    | ⟨0, _⟩ => show 0 + 1 * (i 0).val = (i 0).val; omega
    | ⟨1, _⟩ => show 0 + 1 * (i 1).val = (i 1).val; omega))
  have e3 : (ix3 0 r n : S1x256x2688.Idx) = r0_3.emb (ix3 0 r n) := funext fun a => Fin.ext (by
    match a with
    | ⟨0, _⟩ => rfl
    | ⟨1, _⟩ => show r.val = 0 + 1 * r.val; omega
    | ⟨2, _⟩ => show n.val = 0 + 1 * n.val; omega)
  unfold out0_3
  rw [e0, e1, e2]
  refine (congrArg _ e3).trans ((View.canon_cons_emb r0_3 _ [] (ix3 0 r n)).trans ?_)
  refine (pay1_at _ x2 r n).trans (Finset.sum_congr rfl fun k _ => ?_)
  rw [pay2_at]

end Cert.Kernel3Ideal.Hand

end
-- ==== Proof.RnnValue.lean ====
/-
  The run of the projection with its result named: the projection's array over the extended reals.
-/
module

public import proofs.«01_k».proof.Proof.RnnBlock
public import Idealize.ShloMosaic.Lib.Pipeline.ValueKit
public import Idealize.ShloMosaic.Lib.Pipeline.Covers
public import Idealize.ShloMosaic.Lib.StableHlo.RunRead
public import Idealize.ShloMosaic.Lib.Claim

@[expose] public section

set_option maxRecDepth 16384

noncomputable section

namespace Cert.Kernel3Ideal.Hand

open Cert.Kernel3Ideal Cert.Kernel3Ideal.Gen
open Idealize.ShloMosaic hiding eq_ix2 ix0 ix1 ix2 ix3 ix4 ix5 maximumf_apply mulf_apply addf_apply subf_apply divf_apply truncf_apply extf_apply
open Idealize.ShloMosaic.TcCoe
open Idealize.ShloMosaic.ValueIdx
open Idealize.SL Idealize.SL.RA Idealize.SL.Sem
open Cert.Rnn (proj hid modRow normed result)
open scoped BigOperators

variable (m : (ℓ : Loc nD τ sig) → Buf (Elt Ideal) ℓ) (ρ : Dev nD → PrngReg)

/-! ## The buffers -/

theorem V_v9 (c : Dev nD) (k : Fin 2048) (n : Fin 2688) :
    (V m c main_v9 : Vec Ideal S2048x2688 .bf16) (ix2 k n) = (m ((c : Thread nD τ).loc main_arg2) : FVec Ideal S2048x5376 .f32) (ix2 k ⟨2688 + n.val, by omega⟩) := by
  unfold V
  after_reads_simp
  refine extractStridedSlice_apply (s := S2048x5376) (t := S2048x2688) ![0, 2688] _ slices_S2048x5376_S2048x2688_0_2688 (ix2 k n) (ix2 k ⟨2688 + n.val, by omega⟩) fun a => match a with
    | ⟨0, _⟩ => by show k.val = 0 + k.val; omega
    | ⟨1, _⟩ => rfl

/-- The context's modulation, on every batch. -/
def ctxMod (x : FVec Ideal S8x6x2048 .f32) : FVec Ideal S1x4x6x2048 .f32 :=
  broadcastInDim S1x4x6x2048 ![1, 2, 3] bcast_S4x6x2048_S1x4x6x2048_1_2_3
    (broadcastInDim S4x6x2048 ![0, 1, 2] bcast_S1x6x2048_S4x6x2048_0_1_2
      (broadcastInDim S1x6x2048 ![1, 2] bcast_S6x2048_S1x6x2048_1_2
        (shapeCast S6x2048 (extractStridedSlice S1x6x2048 ![4, 0, 0] x slices_S8x6x2048_S1x6x2048_4_0_0) shapeCasts_S1x6x2048_S6x2048)))

/-- The batches' own. -/
def latMod (x : FVec Ideal S8x6x2048 .f32) : FVec Ideal S1x4x6x2048 .f32 :=
  broadcastInDim S1x4x6x2048 ![1, 2, 3] bcast_S4x6x2048_S1x4x6x2048_1_2_3
    (extractStridedSlice S4x6x2048 ![0, 0, 0] x slices_S8x6x2048_S4x6x2048_0_0_0)

theorem V_v7 (c : Dev nD) : (V m c main_v7 : Vec Ideal S2x4x6x2048 .f32)
    = concatenate S2x4x6x2048 0 [⟨S1x4x6x2048, ctxMod (m ((c : Thread nD τ).loc main_arg1))⟩, ⟨S1x4x6x2048, latMod (m ((c : Thread nD τ).loc main_arg1))⟩]
        concatenates_S1x4x6x2048_S1x4x6x2048_S2x4x6x2048_d0 := by
  unfold V
  after_reads_simp
  rfl

theorem lead_at {α : Type} (x : S4x6x2048.Idx → α) (b : Fin 4) (q : Fin 6) (k : Fin 2048) :
    broadcastInDim S1x4x6x2048 ![1, 2, 3] bcast_S4x6x2048_S1x4x6x2048_1_2_3 x (ix4 0 b q k) = x (ix3 b q k) :=
  broadcastInDim_apply _ bcast_S4x6x2048_S1x4x6x2048_1_2_3 x (ix4 0 b q k) (ix3 b q k) fun a => match a with
    | ⟨0, _⟩ => by show b.val = if (4 : ℕ) = 1 then 0 else b.val; rw [if_neg (by decide)]
    | ⟨1, _⟩ => by show q.val = if (6 : ℕ) = 1 then 0 else q.val; rw [if_neg (by decide)]
    | ⟨2, _⟩ => by show k.val = if (2048 : ℕ) = 1 then 0 else k.val; rw [if_neg (by decide)]

theorem latMod_at (x : FVec Ideal S8x6x2048 .f32) (b : Fin 4) (q : Fin 6) (k : Fin 2048) :
    latMod x (ix4 0 b q k) = x (ix3 ⟨b.val, by omega⟩ q k) := by
  unfold latMod
  rw [lead_at]
  exact extractStridedSlice_apply _ x slices_S8x6x2048_S4x6x2048_0_0_0 (ix3 b q k) (ix3 ⟨b.val, by omega⟩ q k) fun a => match a with
    | ⟨0, _⟩ => by show b.val = 0 + b.val; omega
    | ⟨1, _⟩ => by show q.val = 0 + q.val; omega
    | ⟨2, _⟩ => by show k.val = 0 + k.val; omega

theorem ctxMod_at (x : FVec Ideal S8x6x2048 .f32) (b : Fin 4) (q : Fin 6) (k : Fin 2048) :
    ctxMod x (ix4 0 b q k) = x (ix3 4 q k) := by
  unfold ctxMod
  rw [lead_at]
  refine (broadcastInDim_apply _ bcast_S1x6x2048_S4x6x2048_0_1_2 _ (ix3 b q k) (ix3 0 q k) fun a => match a with
    | ⟨0, _⟩ => by show 0 = if (1 : ℕ) = 1 then 0 else b.val; rw [if_pos rfl]
    | ⟨1, _⟩ => by show q.val = if (6 : ℕ) = 1 then 0 else q.val; rw [if_neg (by decide)]
    | ⟨2, _⟩ => by show k.val = if (2048 : ℕ) = 1 then 0 else k.val; rw [if_neg (by decide)]).trans ?_
  refine (broadcastInDim_apply _ bcast_S6x2048_S1x6x2048_1_2 _ (ix3 0 q k) (ix2 q k) fun a => match a with
    | ⟨0, _⟩ => by show q.val = if (6 : ℕ) = 1 then 0 else q.val; rw [if_neg (by decide)]
    | ⟨1, _⟩ => by show k.val = if (2048 : ℕ) = 1 then 0 else k.val; rw [if_neg (by decide)]).trans ?_
  refine (Cert.KernelIdeal.Hand.drop_at (a := 6) (b := 2048) _ _ q k).trans ?_
  exact extractStridedSlice_apply _ x slices_S8x6x2048_S1x6x2048_4_0_0 (ix3 0 q k) (ix3 4 q k) fun a => match a with
    | ⟨0, _⟩ => rfl
    | ⟨1, _⟩ => by show q.val = 0 + q.val; omega
    | ⟨2, _⟩ => by show k.val = 0 + k.val; omega

theorem V_v7_ctx (c : Dev nD) (b : Fin 4) (q : Fin 6) (k : Fin 2048) :
    (V m c main_v7 : Vec Ideal S2x4x6x2048 .f32) (ix4 0 b q k) = (m ((c : Thread nD τ).loc main_arg1) : FVec Ideal S8x6x2048 .f32) (ix3 4 q k) := by
  rw [V_v7]
  exact (concatenate_pair_apply_left (t := S2x4x6x2048) (s₁ := S1x4x6x2048) 0 _ _ concatenates_S1x4x6x2048_S1x4x6x2048_S2x4x6x2048_d0 (ix4 0 b q k) rfl (ix4 0 b q k)
    (fun a => match a with | ⟨0, _⟩ => rfl | ⟨1, _⟩ => rfl | ⟨2, _⟩ => rfl | ⟨3, _⟩ => rfl)).trans (ctxMod_at _ b q k)

theorem V_v7_lat (c : Dev nD) (b : Fin 4) (q : Fin 6) (k : Fin 2048) :
    (V m c main_v7 : Vec Ideal S2x4x6x2048 .f32) (ix4 1 b q k) = (m ((c : Thread nD τ).loc main_arg1) : FVec Ideal S8x6x2048 .f32) (ix3 ⟨b.val, by omega⟩ q k) := by
  rw [V_v7]
  exact (concatenate_pair_apply_right (t := S2x4x6x2048) (s₁ := S1x4x6x2048) 0 _ _ concatenates_S1x4x6x2048_S1x4x6x2048_S2x4x6x2048_d0 (ix4 1 b q k) rfl rfl (ix4 0 b q k)
    (fun a ha => match a with | ⟨0, _⟩ => absurd rfl ha | ⟨1, _⟩ => rfl | ⟨2, _⟩ => rfl | ⟨3, _⟩ => rfl) (Nat.add_comm _ _)).trans (latMod_at _ b q k)

/-! ## The blocks -/

theorem t0_eq : ∀ i : grid0.Coords, cc0_transform_0 i = ![(i 0).val, (i 1).val, 0] := by decide +kernel
theorem t1_eq : ∀ i : grid0.Coords, cc0_transform_1 i = ![min (i 1).val 1, (i 0).val, 0, 0] := by decide +kernel
theorem t3_eq : ∀ i : grid0.Coords, cc0_transform_3 i = ![(i 0).val, (i 1).val, 0] := by decide +kernel

section Blocks
variable (c : Dev nD) (t : Fin cfg0.N)

theorem blk0 (p : Fin 256) (k : Fin 2048) (b : Fin 4) (i : Fin 8448) (hb : b.val = (grid0.coords t 0).val) (hi : i.val = 256 * (grid0.coords t 1).val + p.val) :
    iblk m c 0 t (ix3 0 p k) = V m c main_arg0 (ix3 b i k) := by
  refine congrArg (V m c main_arg0 : Vec Ideal S4x8448x2048 .f32) (funext fun d => Fin.ext ?_)
  match d with
  | ⟨0, _⟩ => show cc0_transform_0 (grid0.coords t) 0 * 1 + 1 * 0 = b.val; rw [t0_eq]; show (grid0.coords t 0).val * 1 + 1 * 0 = b.val; omega
  | ⟨1, _⟩ => show cc0_transform_0 (grid0.coords t) 1 * 256 + 1 * p.val = i.val; rw [t0_eq]; show (grid0.coords t 1).val * 256 + 1 * p.val = i.val; omega
  | ⟨2, _⟩ => show cc0_transform_0 (grid0.coords t) 2 * 2048 + 1 * k.val = k.val; rw [t0_eq]; show 0 * 2048 + 1 * k.val = k.val; omega

theorem blk1 (q : Fin 6) (k : Fin 2048) (s : Fin 2) (b : Fin 4) (hs : s.val = min (grid0.coords t 1).val 1) (hb : b.val = (grid0.coords t 0).val) :
    iblk m c 1 t (ix4 0 0 q k) = V m c main_v7 (ix4 s b q k) := by
  refine congrArg (V m c main_v7 : Vec Ideal S2x4x6x2048 .f32) (funext fun d => Fin.ext ?_)
  match d with
  | ⟨0, _⟩ => show cc0_transform_1 (grid0.coords t) 0 * 1 + 1 * 0 = s.val; rw [t1_eq]; show min (grid0.coords t 1).val 1 * 1 + 1 * 0 = s.val; omega
  | ⟨1, _⟩ => show cc0_transform_1 (grid0.coords t) 1 * 1 + 1 * 0 = b.val; rw [t1_eq]; show (grid0.coords t 0).val * 1 + 1 * 0 = b.val; omega
  | ⟨2, _⟩ => show cc0_transform_1 (grid0.coords t) 2 * 6 + 1 * q.val = q.val; rw [t1_eq]; show 0 * 6 + 1 * q.val = q.val; omega
  | ⟨3, _⟩ => show cc0_transform_1 (grid0.coords t) 3 * 2048 + 1 * k.val = k.val; rw [t1_eq]; show 0 * 2048 + 1 * k.val = k.val; omega

theorem blk2 (k : Fin 2048) (n : Fin 2688) : iblk m c 2 t (ix2 k n) = V m c main_v9 (ix2 k n) := by
  refine congrArg (V m c main_v9 : Vec Ideal S2048x2688 .bf16) (funext fun d => Fin.ext ?_)
  match d with
  | ⟨0, _⟩ => show 0 * 2048 + 1 * k.val = k.val; omega
  | ⟨1, _⟩ => show 0 * 2688 + 1 * n.val = n.val; omega

theorem emb3 (r : Fin 256) (n : Fin 2688) (b : Fin 4) (i : Fin 8448) (hb : b.val = (grid0.coords t 0).val) (hi : i.val = 256 * (grid0.coords t 1).val + r.val) :
    ((cfg0.win 3).blk t).view.emb (ix3 0 r n) = (ix3 b i n : S4x8448x2688.Idx) := by
  refine funext fun d => Fin.ext ?_
  match d with
  | ⟨0, _⟩ => show cc0_transform_3 (grid0.coords t) 0 * 1 + 1 * 0 = b.val; rw [t3_eq]; show (grid0.coords t 0).val * 1 + 1 * 0 = b.val; omega
  | ⟨1, _⟩ => show cc0_transform_3 (grid0.coords t) 1 * 256 + 1 * r.val = i.val; rw [t3_eq]; show (grid0.coords t 1).val * 256 + 1 * r.val = i.val; omega
  | ⟨2, _⟩ => show cc0_transform_3 (grid0.coords t) 2 * 2688 + 1 * n.val = n.val; rw [t3_eq]; show 0 * 2688 + 1 * n.val = n.val; omega

end Blocks

/-- The result. -/
def resA (c : Dev nD) : Vec Ideal S4x8448x2688 .f32 :=
  result (m ((c : Thread nD τ).loc main_arg0)) (m ((c : Thread nD τ).loc main_arg1)) (m ((c : Thread nD τ).loc main_arg2))

/-- The row of the sequence at row `i` of the call's array, its blocks of 256 rows interleaved. -/
abbrev srcRow (i : Fin 8448) : Fin 8448 := ⟨256 * (i.val / 256) + (32 * (i.val % 256 % 8) + i.val % 256 / 8), by omega⟩

/-- The call's array. -/
def midA (c : Dev nD) : Vec Ideal S4x8448x2688 .f32 := fun y =>
  proj (m ((c : Thread nD τ).loc main_arg0)) (m ((c : Thread nD τ).loc main_arg1)) (m ((c : Thread nD τ).loc main_arg2)) (y 0) (srcRow (y 1)) (y 2)

/-- A point's block of the call's array. -/
theorem oblk_at (c : Dev nD) (t : Fin cfg0.N) (r : Fin 256) (n : Fin 2688) (b : Fin 4) (i : Fin 8448) (hb : b.val = (grid0.coords t 0).val)
    (hi : i.val = 256 * (grid0.coords t 1).val + r.val) :
    out0_3 (iblk m c 0 t) (iblk m c 1 t) (iblk m c 2 t) (ix3 0 r n) = midA m c (ix3 b i n) := by
  rw [out_at]
  rw [show midA m c (ix3 b i n) = proj (m ((c : Thread nD τ).loc main_arg0)) (m ((c : Thread nD τ).loc main_arg1)) (m ((c : Thread nD τ).loc main_arg2)) b (srcRow i) n from rfl]
  unfold proj
  have hs : (srcRow i).val = 256 * (grid0.coords t 1).val + (src r).val := by
    show 256 * (i.val / 256) + (32 * (i.val % 256 % 8) + i.val % 256 / 8) = 256 * (grid0.coords t 1).val + (32 * (r.val % 8) + r.val / 8)
    have := r.isLt
    have h1 : i.val / 256 = (grid0.coords t 1).val := by omega
    have h2 : i.val % 256 = r.val := by omega
    rw [h1, h2]
  refine Finset.sum_congr rfl fun k _ => congrArg₂ (fun a b : EReal => a * b) ?_ ((blk2 m c t k n).trans (V_v9 m c k n))
  have e0 : (fun k => iblk m c 0 t (ix3 0 (src r) k)) = fun k => m ((c : Thread nD τ).loc main_arg0) (ix3 b (srcRow i) k) := funext fun k =>
    (blk0 m c t (src r) k b (srcRow i) hb hs).trans (congrFun (V_main_arg0 m c) _)
  have e1 : ∀ q : Fin 6, (fun k => iblk m c 1 t (ix4 0 0 q k)) = fun k => m ((c : Thread nD τ).loc main_arg1) (ix3 (modRow b (srcRow i)) q k) := fun q => funext fun k => by
    have hsr := (src r).isLt
    by_cases h0 : (grid0.coords t 1).val = 0
    · rw [show modRow b (srcRow i) = 4 from if_pos (by omega)]
      exact (blk1 m c t q k 0 b (by rw [h0]; rfl) hb).trans (V_v7_ctx m c b q k)
    · rw [show modRow b (srcRow i) = ⟨b.val, by omega⟩ from if_neg (by omega)]
      exact (blk1 m c t q k 1 b (by show 1 = min (grid0.coords t 1).val 1; omega) hb).trans (V_v7_lat m c b q k)
  unfold hid
  exact congrFun (congr (congr (congrArg normed e0) (e1 0)) (e1 1)) k

theorem covers3 : (cfg0.win 3).Covers := by decide +kernel

/-- The call's array after the whole grid. -/
theorem final_o (c : Dev nD) : (dats m 0 c).arrAt 3 cfg0.N = midA m c := by
  refine (dats m 0 c).arrAt_eq_of_covers 3 _ covers3 fun t hf y => ?_
  obtain ⟨r, n, rfl⟩ : ∃ (r : Fin 256) (n : Fin 2688), y = ix3 0 r n :=
    ⟨y (1 : Fin 3), y (2 : Fin 3), (ValueIdx.eq_ix3 (n0 := 1) (n1 := 256) (n2 := 2688) y).trans
      (congrArg (fun z : Fin 1 => ix3 z (y (1 : Fin 3) : Fin 256) (y (2 : Fin 3) : Fin 2688)) (Subsingleton.elim (α := Fin 1) (y (0 : Fin 3)) 0))⟩
  have h0 : (grid0.coords t 0).val < 4 := (grid0.coords t 0).isLt
  have h1 : (grid0.coords t 1).val < 33 := (grid0.coords t 1).isLt
  rw [emb3 t r n ⟨_, h0⟩ ⟨256 * (grid0.coords t 1).val + r.val, by omega⟩ rfl rfl]
  refine (congrFun (after0_3 m c t) (ix3 0 r n)).trans ?_
  exact oblk_at m c t r n _ _ rfl rfl

/-! ## The rows put back in order -/

/-- The rows of the call's array, put back in the sequence's order. -/
def back (x : FVec Ideal S4x8448x2688 .f32) : FVec Ideal S4x8448x2688 .f32 :=
  shapeCast S4x8448x2688 (transpose S4x33x8x32x2688 [0, 1, 3, 2, 4] (shapeCast S4x33x32x8x2688 x shapeCasts_S4x8448x2688_S4x33x32x8x2688)
    transposes_S4x33x32x8x2688_S4x33x8x32x2688_0_1_3_2_4) shapeCasts_S4x33x8x32x2688_S4x8448x2688

theorem tail_eq (c : Dev nD) : Pipeline.afterTail₀ cfgs (dats m) 0 (V0 m) [hostOps1] c main_v13 = back ((dats m 0 c).arrAt 3 cfg0.N) := by
  have hw : Pipeline.withArrays spec0 c (V0 m c) (fun w => (dats m 0 c).arrAt w cfg0.N) (Proc.devRef .tc main_v10) = (dats m 0 c).arrAt 3 cfg0.N :=
    Pipeline.withArrays_arr spec0 launch0.win.arr_inj c (V0 m c) (fun w => (dats m 0 c).arrAt w cfg0.N) 3
  rw [← hw]
  unfold Pipeline.afterTail₀
  after_reads_simp
  rfl

theorem back_at (x : FVec Ideal S4x8448x2688 .f32) (b : Fin 4) (i i' : Fin 8448) (n : Fin 2688)
    (hi : i'.val = 256 * (i.val / 256) + (8 * (i.val % 256 % 32) + i.val % 256 / 32)) : back x (ix3 b i n) = x (ix3 b i' n) := by
  have hA : i.val / 256 < 33 := by omega
  have hB : i.val % 256 / 32 < 8 := by omega
  have hC : i.val % 256 % 32 < 32 := by omega
  unfold back
  refine (shapeCast_apply _ shapeCasts_S4x33x8x32x2688_S4x8448x2688 (ix3 b i n) (ix5 b ⟨_, hA⟩ ⟨_, hB⟩ ⟨_, hC⟩ n) ?_).trans ?_
  · rw [Shape.rowMajor_val_five, Shape.rowMajor_val_three]
    show (((b.val * 33 + i.val / 256) * 8 + i.val % 256 / 32) * 32 + i.val % 256 % 32) * 2688 + n.val = (b.val * 8448 + i.val) * 2688 + n.val
    omega
  refine (transpose_apply [0, 1, 3, 2, 4] _ transposes_S4x33x32x8x2688_S4x33x8x32x2688_0_1_3_2_4 (ix5 b ⟨_, hA⟩ ⟨_, hB⟩ ⟨_, hC⟩ n) (ix5 b ⟨_, hA⟩ ⟨_, hC⟩ ⟨_, hB⟩ n)
    fun a => match a with | ⟨0, _⟩ => rfl | ⟨1, _⟩ => rfl | ⟨2, _⟩ => rfl | ⟨3, _⟩ => rfl | ⟨4, _⟩ => rfl).trans ?_
  refine shapeCast_apply x shapeCasts_S4x8448x2688_S4x33x32x8x2688 _ (ix3 b i' n) ?_
  rw [Shape.rowMajor_val_five, Shape.rowMajor_val_three]
  show (b.val * 8448 + i'.val) * 2688 + n.val = (((b.val * 33 + i.val / 256) * 32 + i.val % 256 % 32) * 8 + i.val % 256 / 32) * 2688 + n.val
  omega

theorem back_mid (c : Dev nD) : back (midA m c) = resA m c := by
  funext y
  obtain ⟨b, i, n, rfl⟩ : ∃ b i n, y = ix3 b i n := ⟨_, _, _, ValueIdx.eq_ix3 (n0 := 4) (n1 := 8448) (n2 := 2688) y⟩
  have hlt : 256 * (i.val / 256) + (8 * (i.val % 256 % 32) + i.val % 256 / 32) < 8448 := by omega
  refine (back_at _ b i ⟨_, hlt⟩ n rfl).trans ?_
  refine congrArg (fun j => proj (m ((c : Thread nD τ).loc main_arg0)) (m ((c : Thread nD τ).loc main_arg1)) (m ((c : Thread nD τ).loc main_arg2)) b j n) (Fin.ext ?_)
  obtain ⟨A, B, C, hB, hC, hi⟩ : ∃ A B C : ℕ, B < 8 ∧ C < 32 ∧ i.val = 256 * A + (32 * B + C) :=
    ⟨i.val / 256, i.val % 256 / 32, i.val % 32, by omega, by omega, by omega⟩
  have e1 : i.val / 256 = A := by omega
  have e2 : i.val % 256 % 32 = C := by omega
  have e3 : i.val % 256 / 32 = B := by omega
  show 256 * ((256 * (i.val / 256) + (8 * (i.val % 256 % 32) + i.val % 256 / 32)) / 256)
    + (32 * ((256 * (i.val / 256) + (8 * (i.val % 256 % 32) + i.val % 256 / 32)) % 256 % 8)
      + (256 * (i.val / 256) + (8 * (i.val % 256 % 32) + i.val % 256 / 32)) % 256 / 8) = i.val
  rw [e1, e2, e3, hi, show (256 * A + (8 * C + B)) / 256 = A by omega, show (256 * A + (8 * C + B)) % 256 = 8 * C + B by omega,
    show (8 * C + B) % 8 = B by omega, show (8 * C + B) / 8 = C by omega]

/-- The run: the result's array, and the arguments as they were. -/
theorem value_run :
    θ_run defs (onTc (τ := τ) (main (F := Ideal))) ⟨m, fun _ => 0, ρ⟩ (fun r => ∀ c : Dev nD,
      r.2.mem ((c.tc : Thread nD τ).loc main_v13) = resA m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans
        ((tail_eq m c).trans ((congrArg back (final_o m c)).trans (back_mid m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Kernel3Ideal.Hand

end
-- ==== Proof.RnnRef.lean ====
/-
  The projection's reference, entry by entry: each row normalized and modulated, by the second half of the weights' columns.
-/
module

public import proofs.«01_k».proof.Proof.Gen.Reference3Ideal.Read
public import proofs.«01_k».proof.Proof.RnnMath
public import proofs.«01_k».proof.Proof.ExpertsMath
public import Idealize.ShloMosaic.Lib.ValueIdx

@[expose] public section

set_option maxRecDepth 16384

noncomputable section

namespace Cert.Reference3Ideal.Hand

open Cert.Reference3Ideal Cert.Reference3Ideal.Gen Cert.Reference3Ideal.Read
open Idealize.ShloMosaic
open Idealize.ShloMosaic.ValueIdx (ix1 ix2 ix3 eq_ix2)
open Cert.Rnn (cD cE c1 inv normed modRow hid proj result)
open scoped BigOperators

variable (x0 : FVec Ideal S4x8448x2048 .f32) (x1 : FVec Ideal S8x6x2048 .f32) (x2 : FVec Ideal S2048x5376 .f32)

/-! ## The rows after the context -/

section Latent
variable (b : Fin 4) (p : Fin 8192) (i : Fin 8448) (hi : i.val = 256 + p.val)

include hi in
theorem v1_at (k : Fin 2048) : val_main_v1 (F := Ideal) x0 (ix3 b p k) = x0 (ix3 b i k) := by
  rw [val_main_v1_apply]
  refine congrArg x0 (funext fun a => Fin.ext ?_)
  match a with
  | ⟨0, _⟩ => rfl
  | ⟨1, _⟩ => exact hi.symm
  | ⟨2, _⟩ => rfl

theorem v26_at (k : Fin 2048) : val_main_v26 (F := Ideal) x1 (ix3 b p k) = x1 (ix3 ⟨b.val, Nat.lt_trans b.isLt (by decide)⟩ 0 k) := by
  rw [val_main_v26_apply, val_main_v4_apply, val_main_v3_apply, val_main_v2_apply]
  refine congrArg x1 (funext fun a => Fin.ext ?_)
  match a with
  | ⟨0, _⟩ => show (b.val * 2048 + k.val) / 2048 = b.val; omega
  | ⟨1, _⟩ => rfl
  | ⟨2, _⟩ => show (b.val * 2048 + k.val) % 2048 = k.val; omega

theorem v7_at (k : Fin 2048) : val_main_v7 (F := Ideal) x1 (ix3 b 0 k) = x1 (ix3 ⟨b.val, Nat.lt_trans b.isLt (by decide)⟩ 1 k) := by
  rw [val_main_v7_apply, val_main_v6_apply, val_main_v5_apply]
  refine congrArg x1 (funext fun a => Fin.ext ?_)
  match a with
  | ⟨0, _⟩ => show (b.val * 2048 + k.val) / 2048 = b.val; omega
  | ⟨1, _⟩ => rfl
  | ⟨2, _⟩ => show (b.val * 2048 + k.val) % 2048 = k.val; omega

theorem v24_at (k : Fin 2048) : val_main_v24 (F := Ideal) x1 (ix3 b p k) = c1 + x1 (ix3 ⟨b.val, Nat.lt_trans b.isLt (by decide)⟩ 1 k) := by
  have e : idx_main_v24 (ix3 b p k) = ix3 b 0 k := funext fun a => Fin.ext (match a with | ⟨0, _⟩ => rfl | ⟨1, _⟩ => rfl | ⟨2, _⟩ => rfl)
  rw [val_main_v24_apply, val_main_v23_apply, val_main_v22_apply, val_main_cst_2_apply, e, v7_at]
  rfl

include hi in
theorem v13_at : val_main_v13 (F := Ideal) x0 (ix2 b p) = ∑ k : Fin 2048, x0 (ix3 b i k) * x0 (ix3 b i k) := by
  rw [val_main_v13_apply, val_main_cst_apply]
  refine (congrArg (fun z : EReal => z + _) Cert.Experts.zero_word).trans ((zero_add _).trans (Finset.sum_congr rfl fun k _ => ?_))
  have e : idx_main_v13 (ix2 b p) k = ix3 b p k := funext fun a => Fin.ext (match a with | ⟨0, _⟩ => rfl | ⟨1, _⟩ => rfl | ⟨2, _⟩ => rfl)
  rw [val_main_v12_apply, e, v1_at x0 b p i hi]
  rfl

include hi in
theorem v20_at (k : Fin 2048) : val_main_v20 (F := Ideal) x0 (ix3 b p k) = inv (fun k => x0 (ix3 b i k)) := by
  have e : idx_main_v14 (idx_main_v20 (ix3 b p k)) = ix2 b p := funext fun a => Fin.ext (match a with | ⟨0, _⟩ => rfl | ⟨1, _⟩ => rfl)
  rw [val_main_v20_apply, val_main_v19_apply, val_main_v18_apply, val_main_v17_apply, val_main_cst_1_apply, val_main_v16_apply, val_main_v15_apply,
    val_main_cst_0_apply, val_main_v14_apply, e, v13_at x0 b p i hi]
  rfl

include hi in
theorem v27_at (k : Fin 2048) : val_main_v27 (F := Ideal) x0 x1 (ix3 b p k) = hid x0 x1 b i k := by
  unfold hid
  rw [val_main_v27_apply, val_main_v25_apply, val_main_v21_apply, v20_at x0 b p i hi, v24_at, v26_at, v1_at x0 b p i hi,
    show modRow b i = ⟨b.val, Nat.lt_trans b.isLt (by decide)⟩ from if_neg (by omega)]
  rfl

include hi in
theorem v48_at (n : Fin 2688) : val_main_v48 (F := Ideal) x0 x1 x2 (ix3 b p n) = proj x0 x1 x2 b i n := by
  rw [val_main_v48_apply, val_main_v46_apply]
  unfold proj
  refine Finset.sum_congr rfl fun k _ => ?_
  have el : lidx_main_v46 (idx_main_v48 (ix3 b p n)) k = ix3 b p k := funext fun a => Fin.ext (match a with | ⟨0, _⟩ => rfl | ⟨1, _⟩ => rfl | ⟨2, _⟩ => rfl)
  have er : ridx_main_v46 (idx_main_v48 (ix3 b p n)) k = ix2 k ⟨2688 + n.val, by omega⟩ := funext fun a => Fin.ext (match a with | ⟨0, _⟩ => rfl | ⟨1, _⟩ => rfl)
  rw [el, er, v27_at x0 x1 b p i hi]

end Latent

/-! ## The context's rows -/

section Context
variable (b : Fin 4) (p : Fin 256) (i : Fin 8448) (hi : i.val = p.val)

include hi in
theorem v0_at (k : Fin 2048) : val_main_v0 (F := Ideal) x0 (ix3 b p k) = x0 (ix3 b i k) := by
  rw [val_main_v0_apply]
  refine congrArg x0 (funext fun a => Fin.ext ?_)
  match a with
  | ⟨0, _⟩ => rfl
  | ⟨1, _⟩ => exact hi.symm
  | ⟨2, _⟩ => rfl

theorem v44_at (k : Fin 2048) : val_main_v44 (F := Ideal) x1 (ix3 b p k) = x1 (ix3 4 0 k) := by
  rw [val_main_v44_apply, val_main_v43_apply, val_main_v9_apply, val_main_v8_apply]
  refine congrArg x1 (funext fun a => Fin.ext ?_)
  match a with
  | ⟨0, _⟩ => rfl
  | ⟨1, _⟩ => rfl
  | ⟨2, _⟩ => show k.val % 2048 = k.val; omega

theorem v11_at (k : Fin 2048) : val_main_v11 (F := Ideal) x1 (ix1 k) = x1 (ix3 4 1 k) := by
  rw [val_main_v11_apply, val_main_v10_apply]
  refine congrArg x1 (funext fun a => Fin.ext ?_)
  match a with
  | ⟨0, _⟩ => rfl
  | ⟨1, _⟩ => rfl
  | ⟨2, _⟩ => show k.val % 2048 = k.val; omega

theorem v41_at (k : Fin 2048) : val_main_v41 (F := Ideal) x1 (ix3 b p k) = c1 + x1 (ix3 4 1 k) := by
  have e : idx_main_v40 (idx_main_v41 (ix3 b p k)) = ix1 k := funext fun a => Fin.ext (match a with | ⟨0, _⟩ => rfl)
  rw [val_main_v41_apply, val_main_v40_apply, val_main_v39_apply, val_main_v38_apply, val_main_cst_6_apply, e, v11_at]
  rfl

include hi in
theorem v29_at : val_main_v29 (F := Ideal) x0 (ix2 b p) = ∑ k : Fin 2048, x0 (ix3 b i k) * x0 (ix3 b i k) := by
  rw [val_main_v29_apply, val_main_cst_3_apply]
  refine (congrArg (fun z : EReal => z + _) Cert.Experts.zero_word).trans ((zero_add _).trans (Finset.sum_congr rfl fun k _ => ?_))
  have e : idx_main_v29 (ix2 b p) k = ix3 b p k := funext fun a => Fin.ext (match a with | ⟨0, _⟩ => rfl | ⟨1, _⟩ => rfl | ⟨2, _⟩ => rfl)
  rw [val_main_v28_apply, e, v0_at x0 b p i hi]
  rfl

include hi in
theorem v36_at (k : Fin 2048) : val_main_v36 (F := Ideal) x0 (ix3 b p k) = inv (fun k => x0 (ix3 b i k)) := by
  have e : idx_main_v30 (idx_main_v36 (ix3 b p k)) = ix2 b p := funext fun a => Fin.ext (match a with | ⟨0, _⟩ => rfl | ⟨1, _⟩ => rfl)
  rw [val_main_v36_apply, val_main_v35_apply, val_main_v34_apply, val_main_v33_apply, val_main_cst_5_apply, val_main_v32_apply, val_main_v31_apply,
    val_main_cst_4_apply, val_main_v30_apply, e, v29_at x0 b p i hi]
  rfl

include hi in
theorem v45_at (k : Fin 2048) : val_main_v45 (F := Ideal) x0 x1 (ix3 b p k) = hid x0 x1 b i k := by
  unfold hid
  rw [val_main_v45_apply, val_main_v42_apply, val_main_v37_apply, v36_at x0 b p i hi, v41_at, v44_at, v0_at x0 b p i hi,
    show modRow b i = 4 from if_pos (by omega)]
  rfl

include hi in
theorem v51_at (n : Fin 2688) : val_main_v51 (F := Ideal) x0 x1 x2 (ix3 b p n) = proj x0 x1 x2 b i n := by
  rw [val_main_v51_apply, val_main_v49_apply]
  unfold proj
  refine Finset.sum_congr rfl fun k _ => ?_
  have el : lidx_main_v49 (idx_main_v51 (ix3 b p n)) k = ix3 b p k := funext fun a => Fin.ext (match a with | ⟨0, _⟩ => rfl | ⟨1, _⟩ => rfl | ⟨2, _⟩ => rfl)
  have er : ridx_main_v49 (idx_main_v51 (ix3 b p n)) k = ix2 k ⟨2688 + n.val, by omega⟩ := funext fun a => Fin.ext (match a with | ⟨0, _⟩ => rfl | ⟨1, _⟩ => rfl)
  rw [el, er, v45_at x0 x1 b p i hi]

end Context

/-- The reference's result. -/
theorem ref_result : val_main_v52 (F := Ideal) x0 x1 x2 = result x0 x1 x2 := by
  funext y
  obtain ⟨b, i, n, rfl⟩ : ∃ b i n, y = ix3 b i n := ⟨_, _, _, ValueIdx.eq_ix3 (n0 := 4) (n1 := 8448) (n2 := 2688) y⟩
  show _ = proj x0 x1 x2 b i n
  unfold val_main_v52
  by_cases h : i.val < 256
  · refine (concatenate_pair_apply_left (t := S4x8448x2688) (s₁ := S4x256x2688) 1 _ _ concatenates_S4x256x2688_S4x8192x2688_S4x8448x2688_d1 (ix3 b i n) rfl (ix3 b ⟨i.val, h⟩ n)
      (fun a => match a with | ⟨0, _⟩ => rfl | ⟨1, _⟩ => rfl | ⟨2, _⟩ => rfl)).trans ?_
    exact v51_at x0 x1 x2 b ⟨i.val, h⟩ i rfl n
  · have hp : i.val - 256 < 8192 := by omega
    refine (concatenate_pair_apply_right (t := S4x8448x2688) (s₁ := S4x256x2688) 1 _ _ concatenates_S4x256x2688_S4x8192x2688_S4x8448x2688_d1 (ix3 b i n) rfl rfl (ix3 b ⟨i.val - 256, hp⟩ n)
      (fun a ha => match a with | ⟨0, _⟩ => rfl | ⟨1, _⟩ => absurd rfl ha | ⟨2, _⟩ => rfl) (by show i.val - 256 + 256 = i.val; omega)).trans ?_
    exact v48_at x0 x1 x2 b ⟨i.val - 256, hp⟩ i (by show i.val = 256 + (i.val - 256); omega) n

end Cert.Reference3Ideal.Hand

end
-- ==== Proof.AinMath.lean ====
/-
  The attention's projections over the extended reals: what each entry of the queries, keys, values and pooled rows is.
-/
module

public import proofs.«01_k».proof.Proof.RnnMath

@[expose] public section

noncomputable section

namespace Cert.Ain

open Idealize.ShloMosaic
open Idealize.ShloMosaic.ValueIdx (ix1 ix2 ix3 ix4)
open scoped BigOperators

/-- The width of a head. -/
abbrev cH : EReal := Ideal.ofBits .f32 0x43000000#32

/-- A head's lanes over their root mean square, by the gain. -/
def nrm (z g : Fin 128 → EReal) (d : Fin 128) : EReal := z d * Ideal.rsqrt (Ideal.div (∑ k : Fin 128, z k * z k) cH + Cert.Rnn.cE) * g d

/-- The lane a lane is turned with: the other half of its half. -/
def sw (d : Fin 128) : Fin 128 := if h : d.val % 64 < 32 then ⟨d.val + 32, by omega⟩ else ⟨d.val - 32, by omega⟩

/-- A head normalized and turned. -/
def roped (z g c s : Fin 128 → EReal) (d : Fin 128) : EReal := nrm z g d * c d + nrm z g (sw d) * s d

section Result
variable (x : (⟨3, ![4, 8448, 2048]⟩ : Shape).Idx → EReal) (ml : (⟨3, ![8, 6, 2048]⟩ : Shape).Idx → EReal)
    (w : (⟨2, ![2048, 3072]⟩ : Shape).Idx → EReal)

/-- A row normalized and modulated, by the weights' columns. -/
def z (b : Fin 4) (i : Fin 8448) (n : Fin 3072) : EReal := ∑ k : Fin 2048, Cert.Rnn.hid x ml b i k * w (ix2 k n)

/-- The cosines: one in the context, then the row's and the column's tables, each of them twice. -/
def cosT (cr cc : (⟨2, ![8192, 32]⟩ : Shape).Idx → EReal) (i : Fin 8448) (d : Fin 128) : EReal :=
  if h : i.val < 256 then 1
  else if d.val < 64 then cr (ix2 ⟨i.val - 256, by omega⟩ ⟨d.val % 32, by omega⟩) else cc (ix2 ⟨i.val - 256, by omega⟩ ⟨d.val % 32, by omega⟩)

/-- The sines: zero in the context, then the row's and the column's tables, each of them negated and then as it is. -/
def sinT (sr sc : (⟨2, ![8192, 32]⟩ : Shape).Idx → EReal) (i : Fin 8448) (d : Fin 128) : EReal :=
  if h : i.val < 256 then 0
  else if d.val % 64 < 32 then
    -(if d.val < 64 then sr (ix2 ⟨i.val - 256, by omega⟩ ⟨d.val % 32, by omega⟩) else sc (ix2 ⟨i.val - 256, by omega⟩ ⟨d.val % 32, by omega⟩))
  else if d.val < 64 then sr (ix2 ⟨i.val - 256, by omega⟩ ⟨d.val % 32, by omega⟩) else sc (ix2 ⟨i.val - 256, by omega⟩ ⟨d.val % 32, by omega⟩)

variable (g : (⟨1, ![128]⟩ : Shape).Idx → EReal) (cr sr cc sc : (⟨2, ![8192, 32]⟩ : Shape).Idx → EReal)

/-- A query head's lane. -/
def qAt (b : Fin 4) (i : Fin 8448) (h : Fin 12) (d : Fin 128) : EReal :=
  roped (fun e => z x ml w b i ⟨128 * h.val + e.val, by omega⟩) (fun e => g (ix1 e)) (cosT cr cc i) (sinT sr sc i) d

/-- A key head's lane. -/
def kAt (b : Fin 4) (i : Fin 8448) (h : Fin 4) (d : Fin 128) : EReal :=
  roped (fun e => z x ml w b i ⟨1536 + 128 * h.val + e.val, by omega⟩) (fun e => g (ix1 e)) (cosT cr cc i) (sinT sr sc i) d

/-- The four results. -/
def rq (y : (⟨3, ![4, 8448, 1536]⟩ : Shape).Idx) : EReal :=
  qAt x ml w g cr sr cc sc (y 0) (y 1) ⟨(y 2).val / 128, by have : (y 2).val < 1536 := (y 2).isLt; omega⟩ ⟨(y 2).val % 128, by omega⟩

def rk (y : (⟨4, ![4, 8448, 4, 128]⟩ : Shape).Idx) : EReal := kAt x ml w g cr sr cc sc (y 0) (y 1) (y 2) (y 3)

def rv (y : (⟨3, ![4, 8448, 512]⟩ : Shape).Idx) : EReal := z x ml w (y 0) (y 1) ⟨2048 + (y 2).val, by have : (y 2).val < 512 := (y 2).isLt; omega⟩

def rp (y : (⟨3, ![4, 8448, 512]⟩ : Shape).Idx) : EReal := z x ml w (y 0) (y 1) ⟨2560 + (y 2).val, by have : (y 2).val < 512 := (y 2).isLt; omega⟩

end Result

end Cert.Ain

end
-- ==== Proof.AinBlock.lean ====
/-
  What the body of the attention's projections computes in a block, over the extended reals, read at an index of each block it leaves.
-/
module

public import proofs.«01_k».proof.Proof.Gen.Kernel4Ideal.Frame
public import proofs.«01_k».proof.Proof.Gen.Kernel4Ideal.Skeleton
public import proofs.«01_k».proof.Proof.AinMath
public import proofs.«01_k».proof.Proof.ExpertsMath
public import proofs.«01_k».proof.Proof.Block
public import Idealize.ShloMosaic.Lib.Pipeline.ValueKit
public import Idealize.ShloMosaic.Lib.Pipeline.Value
public import Idealize.ShloMosaic.Lib.KernelVsHost

@[expose] public section

set_option maxRecDepth 16384

noncomputable section

namespace Cert.Kernel4Ideal.Hand

open Cert.Kernel4Ideal Cert.Kernel4Ideal.Gen
open Idealize.ShloMosaic hiding eq_ix2 ix0 ix1 ix2 ix3 ix4 ix5 maximumf_apply mulf_apply addf_apply subf_apply divf_apply truncf_apply extf_apply
open Idealize.ShloMosaic.ValueIdx
open Cert.KernelIdeal.Hand (drop_at add_at drop2_at)
open Cert.Ain (nrm sw roped)
open scoped BigOperators

/-! ## The rows normalized, modulated and multiplied by the weights -/

/-- A row of the modulation along the rows of the block. -/
theorem row_at {α : Type} (x : S1x2048.Idx → α) (p : Fin 256) (k : Fin 2048) :
    broadcastTo S256x2048 x broadcasts_S1x2048_S256x2048 (ix2 p k) = x (ix2 0 k) :=
  broadcastTo_apply _ _ _ (ix2 0 k) fun a => match a with
    | ⟨0, _⟩ => by show 0 = if (1 : ℕ) = 1 then 0 else _; rw [if_pos rfl]
    | ⟨1, _⟩ => by show k.val = if (2048 : ℕ) = 1 then 0 else _; rw [if_neg (by decide)]; rfl

/-- A column along the columns of the block. -/
theorem col_at {α : Type} (x : S256.Idx → α) (p : Fin 256) (k : Fin 2048) (f : α → α) :
    broadcastTo S256x2048 (fun i => f (shapeCast S256x1 x shapeCasts_S256_S256x1 i)) broadcasts_S256x1_S256x2048 (ix2 p k) = f (x (ix1 p)) := by
  refine (broadcastTo_apply _ _ _ (ix2 p 0) fun a => match a with
    | ⟨0, _⟩ => by show p.val = if (256 : ℕ) = 1 then 0 else _; rw [if_neg (by decide)]; rfl
    | ⟨1, _⟩ => by show 0 = if (1 : ℕ) = 1 then 0 else _; rw [if_pos rfl]).trans (congrArg f ?_)
  refine shapeCast_apply _ _ _ (ix1 p) ?_
  rw [Shape.rowMajor_val_one, Shape.rowMajor_val_two]
  simp [ix1, ix2]

/-- The sum of a row. -/
theorem sum_at (x : FVec Ideal S256x2048 .f32) (p : Fin 256) :
    multiReduction .add [1] S256 x 0x00000000#32 reduces_S256x2048_S256 (.inl rfl) rfl (ix1 p) = ∑ k : Fin 2048, x (ix2 p k) := by
  refine (Ideal.multiReduction_add_single (φ := .f32) x _ reduces_S256x2048_S256 (.inl rfl) rfl (ix1 p)).trans ?_
  refine Finset.sum_congr rfl fun k _ => congrArg x (funext fun a => Fin.ext ?_)
  match a with
  | ⟨0, _⟩ => rfl
  | ⟨1, _⟩ => rfl

/-- One row of the six of the modulation. -/
theorem mod_at {α : Type} (x : S1x1x6x2048.Idx → α) (o : ℕ) (h : S6x2048.Slices ![o, 0] S1x2048) (q : Fin 6) (hq : q.val = o) (k : Fin 2048) :
    extractStridedSlice S1x2048 ![o, 0] (shapeCast S6x2048 x shapeCasts_S1x1x6x2048_S6x2048) h (ix2 0 k) = x (ix4 0 0 q k) :=
  (extractStridedSlice_apply ![o, 0] _ h _ (ix2 q k) fun a => match a with
    | ⟨0, _⟩ => by show q.val = o + 0; omega
    | ⟨1, _⟩ => by show k.val = 0 + k.val; omega).trans (drop2_at (a := 6) (b := 2048) x _ q k)

/-- The block's rows normalized, modulated and multiplied by the weights. -/
def Z (v0 : Vec Ideal S1x256x2048 .f32) (v2 : Vec Ideal S1x1x6x2048 .f32) (w : Vec Ideal S2048x3072 .bf16) (p : Fin 256) (n : Fin 3072) : EReal :=
  ∑ k : Fin 2048, HMul.hMul (α := EReal) (β := EReal) (γ := EReal)
    (Cert.Rnn.normed (fun k => v0 (ix3 0 p k)) (fun k => v2 (ix4 0 0 0 k)) (fun k => v2 (ix4 0 0 1 k)) k) (w (ix2 k n))

theorem pay2_at (v0 : Vec Ideal S1x256x2048 .f32) (v2 : Vec Ideal S1x1x6x2048 .f32) (w : Vec Ideal S2048x3072 .bf16) (p : Fin 256) (n : Fin 3072) :
    k0_pay2 v0 v2 w (ix2 p n) = Z v0 v2 w p n := by
  have hd : ∀ (p : Fin 256) (k : Fin 2048), shapeCast S256x2048 v0 shapeCasts_S1x256x2048_S256x2048 (ix2 p k) = v0 (ix3 0 p k) := fun p k =>
    drop_at (a := 256) (b := 2048) v0 _ p k
  unfold k0_pay2 Z
  refine (Ideal.matmul_plain_apply (M := 256) (K := 2048) (N := 3072) none _ _ (constant S256x3072 .f32 0x00000000#32) p n).trans ?_
  rw [ValueIdx.constant_apply, Cert.Experts.zero_word, zero_add]
  refine Finset.sum_congr rfl fun k _ => ?_
  rw [shapeCast_self]
  refine congrArg₂ (fun a b : EReal => a * b) ?_ rfl
  unfold Cert.Rnn.normed
  rw [truncf_apply, addf_apply, mulf_apply, mulf_apply, row_at, row_at, mod_at v2 0 _ 0 rfl, addf_apply, mod_at v2 1 _ 1 rfl, hd]
  refine congrArg₂ (fun a b : EReal => a + b) (congrArg₂ (fun a b : EReal => a * b) (congrArg₂ (fun a b : EReal => a * b) rfl ?_) rfl) rfl
  refine (col_at _ p k (fun z : EReal => Ideal.rsqrt (Ideal.div z Cert.Rnn.cD + Cert.Rnn.cE))).trans ?_
  rw [sum_at]
  unfold Cert.Rnn.inv
  simp only [mulf_apply, hd]

/-! ## A head -/

/-- The gain along the rows of a head. -/
theorem gain_at {α : Type} (x : S1x128.Idx → α) (p : Fin 256) (k : Fin 128) :
    broadcastTo S256x128 x broadcasts_S1x128_S256x128 (ix2 p k) = x (ix2 0 k) :=
  broadcastTo_apply _ _ _ (ix2 0 k) fun a => match a with
    | ⟨0, _⟩ => by show 0 = if (1 : ℕ) = 1 then 0 else _; rw [if_pos rfl]
    | ⟨1, _⟩ => by show k.val = if (128 : ℕ) = 1 then 0 else _; rw [if_neg (by decide)]; rfl

/-- A column along the lanes of a head. -/
theorem hcol_at {α : Type} (x : S256.Idx → α) (p : Fin 256) (k : Fin 128) (f : α → α) :
    broadcastTo S256x128 (fun i => f (shapeCast S256x1 x shapeCasts_S256_S256x1 i)) broadcasts_S256x1_S256x128 (ix2 p k) = f (x (ix1 p)) := by
  refine (broadcastTo_apply _ _ _ (ix2 p 0) fun a => match a with
    | ⟨0, _⟩ => by show p.val = if (256 : ℕ) = 1 then 0 else _; rw [if_neg (by decide)]; rfl
    | ⟨1, _⟩ => by show 0 = if (1 : ℕ) = 1 then 0 else _; rw [if_pos rfl]).trans (congrArg f ?_)
  refine shapeCast_apply _ _ _ (ix1 p) ?_
  rw [Shape.rowMajor_val_one, Shape.rowMajor_val_two]
  simp [ix1, ix2]

/-- The sum of a head's row. -/
theorem hsum_at (x : FVec Ideal S256x128 .f32) (p : Fin 256) :
    multiReduction .add [1] S256 x 0x00000000#32 reduces_S256x128_S256 (.inl rfl) rfl (ix1 p) = ∑ k : Fin 128, x (ix2 p k) := by
  refine (Ideal.multiReduction_add_single (φ := .f32) x _ reduces_S256x128_S256 (.inl rfl) rfl (ix1 p)).trans ?_
  refine Finset.sum_congr rfl fun k _ => congrArg x (funext fun a => Fin.ext ?_)
  match a with
  | ⟨0, _⟩ => rfl
  | ⟨1, _⟩ => rfl

/-- A head normalized, by the gain. -/
def normV (zh : FVec Ideal S256x128 .f32) (g : FVec Ideal S1x128 .f32) : FVec Ideal S256x128 .f32 :=
  mulf (mulf zh (broadcastTo S256x128 (rsqrt (addf (divf
    (shapeCast S256x1 (multiReduction .add [1] S256 (mulf zh zh) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128)

theorem normV_at (zh : FVec Ideal S256x128 .f32) (g : FVec Ideal S1x128 .f32) (p : Fin 256) (d : Fin 128) :
    normV zh g (ix2 p d) = nrm (fun d => zh (ix2 p d)) (fun d => g (ix2 0 d)) d := by
  unfold normV nrm
  rw [mulf_apply, mulf_apply, gain_at]
  refine congrArg₂ (fun a b : EReal => a * b) (congrArg₂ (fun a b : EReal => a * b) rfl ?_) rfl
  refine (hcol_at _ p d (fun z : EReal => Ideal.rsqrt (Ideal.div z Cert.Ain.cH + Cert.Rnn.cE))).trans ?_
  rw [hsum_at]
  rfl

/-- A head turned. -/
def ropeV (n c s : FVec Ideal S256x128 .f32) (k : IVec S256x128 1) : FVec Ideal S256x128 .f32 :=
  mulf (addf (mulf n c) (mulf (select k (dynamicRotate 1 96#32 none n rotates_S256x128_d1) (dynamicRotate 1 32#32 none n rotates_S256x128_d1)) s))
    (broadcast S256x128 (Scalar.ofBits .f32 0x3F800000#32))

/-- A head of the block: cut out at its lane, normalized and turned. -/
def headV (off : ℕ) (h : S256x3072.Slices ![0, off] S256x128) (zz : FVec Ideal S256x3072 .f32) (c s : FVec Ideal S256x128 .f32) (k : IVec S256x128 1)
    (g : FVec Ideal S1x128 .f32) : FVec Ideal S256x128 .f32 := ropeV (normV (extractStridedSlice S256x128 ![0, off] zz h) g) c s k

/-- Which half a lane is in, as the body finds out. -/
def maskW (z : BitVec 32) : BitVec 1 :=
  let v32 : BitVec 32 := Scalar.select (Scalar.cmpi .eq 64#32 0#32) 1#32 64#32
  let r := IntOp.remsi .vector z v32
  IntOp.cmpi .slt (Scalar.select (IntOp.andi (IntOp.xori (IntOp.cmpi .slt r 0#32) (Scalar.cmpi .slt v32 0#32)) (IntOp.cmpi .ne r 0#32)) (r + v32) r) 32#32

theorem maskW_eq : ∀ d : Fin 128, maskW (BitVec.ofNat 32 d.val) = if d.val % 64 < 32 then 1#1 else 0#1 := by decide +kernel

/-- The body's mask. -/
abbrev mask : IVec S256x128 1 := k0_pay7 (Scalar.select (Scalar.cmpi .eq 64#32 0#32) 1#32 64#32) k0_pay5 k0_pay6

theorem mask_at (p : Fin 256) (d : Fin 128) : mask (ix2 p d) = if d.val % 64 < 32 then 1#1 else 0#1 := by
  refine Eq.trans (b := maskW (BitVec.ofNat 32 (0 * 128 + d.val))) rfl ?_
  rw [Nat.zero_mul, Nat.zero_add, maskW_eq]

theorem sel_one {α : Type} (a b : α) : Scalar.select 1#1 a b = a := by
  unfold Scalar.select
  exact if_pos rfl

theorem sel_zero {α : Type} (a b : α) : Scalar.select 0#1 a b = b := by
  unfold Scalar.select
  exact if_neg (by decide)

theorem headV_at (off : ℕ) (h : S256x3072.Slices ![0, off] S256x128) (ho : off + 128 ≤ 3072) (zz : FVec Ideal S256x3072 .f32) (c s : FVec Ideal S256x128 .f32)
    (g : FVec Ideal S1x128 .f32) (p : Fin 256) (d : Fin 128) :
    headV off h zz c s mask g (ix2 p d)
      = roped (fun e => zz (ix2 p ⟨off + e.val, by omega⟩)) (fun e => g (ix2 0 e)) (fun e => c (ix2 p e)) (fun e => s (ix2 p e)) d := by
  have hz : (fun e => extractStridedSlice S256x128 ![0, off] zz h (ix2 p e)) = fun e : Fin 128 => zz (ix2 p ⟨off + e.val, by omega⟩) := funext fun e =>
    extractStridedSlice_apply ![0, off] zz h _ (ix2 p ⟨off + e.val, by omega⟩) fun a => match a with
      | ⟨0, _⟩ => by show p.val = 0 + p.val; omega
      | ⟨1, _⟩ => rfl
  have hn : ∀ e : Fin 128, normV (extractStridedSlice S256x128 ![0, off] zz h) g (ix2 p e)
      = nrm (fun e => zz (ix2 p ⟨off + e.val, by omega⟩)) (fun e => g (ix2 0 e)) e := fun e => by
    rw [normV_at, hz]
  unfold headV ropeV roped
  rw [mulf_apply, addf_apply, mulf_apply, mulf_apply, select_apply, mask_at, hn]
  refine (congrArg (fun a : EReal => _ * a) Cert.Experts.one_word).trans ((mul_one _).trans ?_)
  refine congrArg₂ (fun a b : EReal => a + b) rfl (congrArg₂ (fun a b : EReal => a * b) ?_ rfl)
  unfold sw
  by_cases hd : d.val % 64 < 32
  · rw [if_pos hd, dif_pos hd]
    rw [sel_one]
    refine (dynamicRotate_apply 1 96#32 _ _ (ix2 p d) (ix2 p ⟨d.val + 32, by omega⟩) fun b => ?_).trans (hn _)
    match b with
    | ⟨0, _⟩ => rfl
    | ⟨1, _⟩ =>
      show d.val + 32 = (d.val + 128 - 96 % 128) % 128
      omega
  · rw [if_neg hd, dif_neg hd]
    rw [sel_zero]
    refine (dynamicRotate_apply 1 32#32 _ _ (ix2 p d) (ix2 p ⟨d.val - 32, by omega⟩) fun b => ?_).trans (hn _)
    match b with
    | ⟨0, _⟩ => rfl
    | ⟨1, _⟩ =>
      show d.val - 32 = (d.val + 128 - 32 % 128) % 128
      omega

/-! ## The blocks left -/

section Out
variable (x0 : Vec Ideal S1x256x2048 .f32) (x1 : Vec Ideal S1x1x6x2048 .f32) (x2 : Vec Ideal S2048x3072 .bf16) (x3 x4 : Vec Ideal S1x128 .f32)
    (x5 x6 : Vec Ideal S256x128 .f32)

theorem pay41_at (p : Fin 256) (n : Fin 3072) : k0_pay41 x0 x1 x2 x3 x4 x5 x6 (ix2 p n) = Z x0 x1 x2 p n := by
  have e0 : View.ld x0 r0_0 = x0 := funext fun i => congrArg x0 (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))
  have e1 : View.ld x1 r0_1 = x1 := funext fun i => congrArg x1 (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
    | ⟨3, _⟩ => show 0 + 1 * (i 3).val = (i 3).val; omega))
  have e2 : View.ld x2 r0_2 = x2 := funext fun i => congrArg x2 (funext fun a => Fin.ext (by
    match a with
    | ⟨0, _⟩ => show 0 + 1 * (i 0).val = (i 0).val; omega
    | ⟨1, _⟩ => show 0 + 1 * (i 1).val = (i 1).val; omega))
  unfold k0_pay41
  rw [e0, e1, e2, pay2_at]

theorem ld3 (x : Vec Ideal S256x128 .f32) : View.ld x r0_3 = x := funext fun i => congrArg x (funext fun a => Fin.ext (by
    match a with
    | ⟨0, _⟩ => show 0 + 1 * (i 0).val = (i 0).val; omega
    | ⟨1, _⟩ => show 0 + 1 * (i 1).val = (i 1).val; omega))

theorem ld4 (x : Vec Ideal S1x128 .f32) : View.ld x r0_4 = x := funext fun i => congrArg x (funext fun a => Fin.ext (by
    match a with
    | ⟨0, _⟩ => show 0 + 1 * (i 0).val = (i 0).val; omega
    | ⟨1, _⟩ => show 0 + 1 * (i 1).val = (i 1).val; omega))

theorem pay42_eq : k0_pay42 x0 x1 x2 x3 x4 x5 x6 = x5 := by
  unfold k0_pay42 k0_pay3
  rw [ld3]
  exact shapeCast_self _ _

theorem pay43_eq : k0_pay43 x0 x1 x2 x3 x4 x5 x6 = x6 := by
  unfold k0_pay43 k0_pay4
  rw [ld3]
  exact shapeCast_self _ _

theorem pay47_eq : k0_pay47 x0 x1 x2 x3 x4 x5 x6 = x3 := by
  unfold k0_pay47 k0_pay8
  rw [ld4]
  exact shapeCast_self _ _

theorem pay48_eq : k0_pay48 x0 x1 x2 x3 x4 x5 x6 = x4 := by
  unfold k0_pay48 k0_pay9
  rw [ld4]
  exact shapeCast_self _ _

/-- A head of the block, whose columns start at `o`, with its gain. -/
def hdAt (g : Vec Ideal S1x128 .f32) (o : ℕ) (ho : o + 128 ≤ 3072) (p : Fin 256) (d : Fin 128) : EReal :=
  roped (fun e => Z x0 x1 x2 p ⟨o + e.val, by omega⟩) (fun e => g (ix2 0 e)) (fun e => x5 (ix2 p e)) (fun e => x6 (ix2 p e)) d

theorem q_at (o : ℕ) (h : S256x3072.Slices ![0, o] S256x128) (ho : o + 128 ≤ 3072) (p : Fin 256) (d : Fin 128) :
    headV o h (k0_pay41 x0 x1 x2 x3 x4 x5 x6) (k0_pay42 x0 x1 x2 x3 x4 x5 x6) (k0_pay43 x0 x1 x2 x3 x4 x5 x6) mask (k0_pay47 x0 x1 x2 x3 x4 x5 x6) (ix2 p d)
      = hdAt x0 x1 x2 x5 x6 x3 o ho p d := by
  rw [headV_at o h ho, pay42_eq, pay43_eq, pay47_eq]
  unfold hdAt
  simp only [pay41_at]

theorem k_at (o : ℕ) (h : S256x3072.Slices ![0, o] S256x128) (ho : o + 128 ≤ 3072) (p : Fin 256) (d : Fin 128) :
    headV o h (k0_pay41 x0 x1 x2 x3 x4 x5 x6) (k0_pay42 x0 x1 x2 x3 x4 x5 x6) (k0_pay43 x0 x1 x2 x3 x4 x5 x6) mask (k0_pay48 x0 x1 x2 x3 x4 x5 x6) (ix2 p d)
      = hdAt x0 x1 x2 x5 x6 x4 o ho p d := by
  rw [headV_at o h ho, pay42_eq, pay43_eq, pay48_eq]
  unfold hdAt
  simp only [pay41_at]

/-- The queries' block as one function of its index. -/
def G7 : Vec Ideal S1x256x1536 .bf16 := fun y =>
  hdAt x0 x1 x2 x5 x6 x3 (128 * ((y 2).val / 128)) (by have : (y 2).val < 1536 := (y 2).isLt; omega) (y 1) ⟨(y 2).val % 128, by omega⟩

theorem G7_at (o : ℕ) (ho : o % 128 = 0) (hl : o + 128 ≤ 3072) (y : S1x256x1536.Idx) (p : Fin 256) (d : Fin 128) (h1 : (y 1).val = p.val) (h2 : (y 2).val = o + d.val) :
    G7 x0 x1 x2 x3 x5 x6 y = hdAt x0 x1 x2 x5 x6 x3 o hl p d := by
  have e1 : (y 1 : Fin 256) = p := Fin.ext h1
  have ed : (⟨(y 2).val % 128, by omega⟩ : Fin 128) = d := Fin.ext (by show (y 2).val % 128 = d.val; omega)
  have eo : 128 * ((y 2).val / 128) = o := by omega
  unfold G7
  rw [ed]
  subst eo
  exact congrArg (fun p => hdAt x0 x1 x2 x5 x6 x3 _ _ p d) e1

/-- One store of the queries' block. -/
theorem piece7 (o : ℕ) (h : S256x3072.Slices ![0, o] S256x128) (ho : o % 128 = 0) (hl : o + 128 ≤ 3072) (y : S1x256x1536.Idx) (x : S1x256x128.Idx)
    (h1 : (y 1).val = (x 1).val) (h2 : (y 2).val = o + (x 2).val) :
    shapeCast S1x256x128 (truncf .bf16 (headV o h (k0_pay41 x0 x1 x2 x3 x4 x5 x6) (k0_pay42 x0 x1 x2 x3 x4 x5 x6) (k0_pay43 x0 x1 x2 x3 x4 x5 x6) mask
      (k0_pay47 x0 x1 x2 x3 x4 x5 x6)) bitsLt_bf16_f32) shapeCasts_S256x128_S1x256x128 x = G7 x0 x1 x2 x3 x5 x6 y := by
  obtain ⟨p, d, rfl⟩ : ∃ (p : Fin 256) (d : Fin 128), x = ix3 0 p d :=
    ⟨x (1 : Fin 3), x (2 : Fin 3), (ValueIdx.eq_ix3 (n0 := 1) (n1 := 256) (n2 := 128) x).trans
      (congrArg (fun z : Fin 1 => ix3 z (x (1 : Fin 3) : Fin 256) (x (2 : Fin 3) : Fin 128)) (Subsingleton.elim (α := Fin 1) (x (0 : Fin 3)) 0))⟩
  refine (add_at (a := 256) (b := 128) _ _ p d).trans ?_
  rw [truncf_apply, G7_at x0 x1 x2 x3 x5 x6 o ho hl y p d h1 h2]
  exact q_at x0 x1 x2 x3 x4 x5 x6 o h hl p d

theorem out7_at (p : Fin 256) (h : Fin 12) (d : Fin 128) (n : Fin 1536) (hn : n.val = 128 * h.val + d.val) :
    out0_7 x0 x1 x2 x3 x4 x5 x6 (ix3 0 p n) = hdAt x0 x1 x2 x5 x6 x3 (128 * h.val) (by omega) p d := by
  refine Eq.trans (b := G7 x0 x1 x2 x3 x5 x6 (ix3 0 p n)) ?_ (G7_at x0 x1 x2 x3 x5 x6 _ (by omega) _ _ p d rfl hn)
  unfold out0_7
  refine View.canon_apply_of_pieces (Val := Elt Ideal) (G7 x0 x1 x2 x3 x5 x6) _ ?_ _ (cover0_7 _ _ _ _ _ _ _ _ _ _ _ _ _)
  refine List.forall_mem_cons.2 ⟨fun x => piece7 x0 x1 x2 x3 x4 x5 x6 1408 slices_S256x3072_o0_1408_S256x128 (by decide) (by decide) (r0_16.emb x) x
    (by show 0 + 1 * (x 1).val = (x 1).val; omega) (by show 1408 + 1 * (x 2).val = 1408 + (x 2).val; omega), ?_⟩
  refine List.forall_mem_cons.2 ⟨fun x => piece7 x0 x1 x2 x3 x4 x5 x6 1280 slices_S256x3072_o0_1280_S256x128 (by decide) (by decide) (r0_15.emb x) x
    (by show 0 + 1 * (x 1).val = (x 1).val; omega) (by show 1280 + 1 * (x 2).val = 1280 + (x 2).val; omega), ?_⟩
  refine List.forall_mem_cons.2 ⟨fun x => piece7 x0 x1 x2 x3 x4 x5 x6 1152 slices_S256x3072_o0_1152_S256x128 (by decide) (by decide) (r0_14.emb x) x
    (by show 0 + 1 * (x 1).val = (x 1).val; omega) (by show 1152 + 1 * (x 2).val = 1152 + (x 2).val; omega), ?_⟩
  refine List.forall_mem_cons.2 ⟨fun x => piece7 x0 x1 x2 x3 x4 x5 x6 1024 slices_S256x3072_o0_1024_S256x128 (by decide) (by decide) (r0_13.emb x) x
    (by show 0 + 1 * (x 1).val = (x 1).val; omega) (by show 1024 + 1 * (x 2).val = 1024 + (x 2).val; omega), ?_⟩
  refine List.forall_mem_cons.2 ⟨fun x => piece7 x0 x1 x2 x3 x4 x5 x6 896 slices_S256x3072_o0_896_S256x128 (by decide) (by decide) (r0_12.emb x) x
    (by show 0 + 1 * (x 1).val = (x 1).val; omega) (by show 896 + 1 * (x 2).val = 896 + (x 2).val; omega), ?_⟩
  refine List.forall_mem_cons.2 ⟨fun x => piece7 x0 x1 x2 x3 x4 x5 x6 768 slices_S256x3072_o0_768_S256x128 (by decide) (by decide) (r0_11.emb x) x
    (by show 0 + 1 * (x 1).val = (x 1).val; omega) (by show 768 + 1 * (x 2).val = 768 + (x 2).val; omega), ?_⟩
  refine List.forall_mem_cons.2 ⟨fun x => piece7 x0 x1 x2 x3 x4 x5 x6 640 slices_S256x3072_o0_640_S256x128 (by decide) (by decide) (r0_10.emb x) x
    (by show 0 + 1 * (x 1).val = (x 1).val; omega) (by show 640 + 1 * (x 2).val = 640 + (x 2).val; omega), ?_⟩
  refine List.forall_mem_cons.2 ⟨fun x => piece7 x0 x1 x2 x3 x4 x5 x6 512 slices_S256x3072_o0_512_S256x128 (by decide) (by decide) (r0_9.emb x) x
    (by show 0 + 1 * (x 1).val = (x 1).val; omega) (by show 512 + 1 * (x 2).val = 512 + (x 2).val; omega), ?_⟩
  refine List.forall_mem_cons.2 ⟨fun x => piece7 x0 x1 x2 x3 x4 x5 x6 384 slices_S256x3072_o0_384_S256x128 (by decide) (by decide) (r0_8.emb x) x
    (by show 0 + 1 * (x 1).val = (x 1).val; omega) (by show 384 + 1 * (x 2).val = 384 + (x 2).val; omega), ?_⟩
  refine List.forall_mem_cons.2 ⟨fun x => piece7 x0 x1 x2 x3 x4 x5 x6 256 slices_S256x3072_o0_256_S256x128 (by decide) (by decide) (r0_7.emb x) x
    (by show 0 + 1 * (x 1).val = (x 1).val; omega) (by show 256 + 1 * (x 2).val = 256 + (x 2).val; omega), ?_⟩
  refine List.forall_mem_cons.2 ⟨fun x => piece7 x0 x1 x2 x3 x4 x5 x6 128 slices_S256x3072_o0_128_S256x128 (by decide) (by decide) (r0_6.emb x) x
    (by show 0 + 1 * (x 1).val = (x 1).val; omega) (by show 128 + 1 * (x 2).val = 128 + (x 2).val; omega), ?_⟩
  refine List.forall_mem_cons.2 ⟨fun x => piece7 x0 x1 x2 x3 x4 x5 x6 0 slices_S256x3072_o0_0_S256x128 (by decide) (by decide) (r0_5.emb x) x
    (by show 0 + 1 * (x 1).val = (x 1).val; omega) (by show 0 + 1 * (x 2).val = 0 + (x 2).val; omega), ?_⟩
  exact fun _ hx => absurd hx List.not_mem_nil

/-- The keys' block as one function of its index. -/
def G8 : Vec Ideal S1x4x128x256 .bf16 := fun y =>
  hdAt x0 x1 x2 x5 x6 x4 (1536 + 128 * (y 1).val) (by have : (y 1).val < 4 := (y 1).isLt; omega) (y 3) (y 2)

/-- A head's lanes as rows, with two axes in front. -/
theorem addT_at (x : FVec Ideal S256x128 .f32) (p : Fin 256) (d : Fin 128) :
    shapeCast S1x1x128x256 (truncf (F := Ideal) .bf16 (transpose S128x256 [1, 0] x transposes_S256x128_p1_0_S128x256) bitsLt_bf16_f32) shapeCasts_S128x256_S1x1x128x256
      (ix4 0 0 d p) = x (ix2 p d) := by
  refine (shapeCast_apply _ _ _ (ix2 d p) ?_).trans ?_
  · rw [Shape.rowMajor_val_two, Shape.rowMajor_val_four]
    show d.val * 256 + p.val = ((0 * 1 + 0) * 128 + d.val) * 256 + p.val
    omega
  · exact transpose_apply [1, 0] x transposes_S256x128_p1_0_S128x256 (ix2 d p) (ix2 p d) fun a => match a with | ⟨0, _⟩ => rfl | ⟨1, _⟩ => rfl

/-- One store of the keys' block. -/
theorem piece8 (o : ℕ) (h : S256x3072.Slices ![0, o] S256x128) (hl : o + 128 ≤ 3072) (y : S1x4x128x256.Idx) (x : S1x1x128x256.Idx)
    (h1 : 1536 + 128 * (y 1).val = o) (h2 : (y 2).val = (x 2).val) (h3 : (y 3).val = (x 3).val) :
    shapeCast S1x1x128x256 (truncf .bf16 (transpose S128x256 [1, 0] (headV o h (k0_pay41 x0 x1 x2 x3 x4 x5 x6) (k0_pay42 x0 x1 x2 x3 x4 x5 x6)
      (k0_pay43 x0 x1 x2 x3 x4 x5 x6) mask (k0_pay48 x0 x1 x2 x3 x4 x5 x6)) transposes_S256x128_p1_0_S128x256) bitsLt_bf16_f32) shapeCasts_S128x256_S1x1x128x256 x
      = G8 x0 x1 x2 x4 x5 x6 y := by
  obtain ⟨d, p, rfl⟩ : ∃ (d : Fin 128) (p : Fin 256), x = ix4 0 0 d p :=
    ⟨x (2 : Fin 4), x (3 : Fin 4), funext fun a => match a with
      | ⟨0, _⟩ => Subsingleton.elim (α := Fin 1) _ _
      | ⟨1, _⟩ => Subsingleton.elim (α := Fin 1) _ _
      | ⟨2, _⟩ => rfl
      | ⟨3, _⟩ => rfl⟩
  rw [addT_at]
  have e2 : (y 2 : Fin 128) = d := Fin.ext h2
  have e3 : (y 3 : Fin 256) = p := Fin.ext h3
  subst h1
  refine (k_at x0 x1 x2 x3 x4 x5 x6 _ h hl p d).trans ?_
  unfold G8
  exact (congrArg₂ (fun p d => hdAt x0 x1 x2 x5 x6 x4 _ _ p d) e3 e2).symm

theorem out8_at (h : Fin 4) (d : Fin 128) (p : Fin 256) :
    out0_8 x0 x1 x2 x3 x4 x5 x6 (ix4 0 h d p) = hdAt x0 x1 x2 x5 x6 x4 (1536 + 128 * h.val) (by omega) p d := by
  refine Eq.trans (b := G8 x0 x1 x2 x4 x5 x6 (ix4 0 h d p)) ?_ rfl
  unfold out0_8
  refine View.canon_apply_of_pieces (Val := Elt Ideal) (G8 x0 x1 x2 x4 x5 x6) _ ?_ _ (cover0_8 _ _ _ _ _)
  refine List.forall_mem_cons.2 ⟨fun x => piece8 x0 x1 x2 x3 x4 x5 x6 1920 slices_S256x3072_o0_1920_S256x128 (by decide) (r0_20.emb x) x
    (by show 1536 + 128 * (3 + 1 * (x 1).val) = 1920; have : (x 1).val < 1 := (x 1).isLt; omega) (by show 0 + 1 * (x 2).val = (x 2).val; omega)
    (by show 0 + 1 * (x 3).val = (x 3).val; omega), ?_⟩
  refine List.forall_mem_cons.2 ⟨fun x => piece8 x0 x1 x2 x3 x4 x5 x6 1792 slices_S256x3072_o0_1792_S256x128 (by decide) (r0_19.emb x) x
    (by show 1536 + 128 * (2 + 1 * (x 1).val) = 1792; have : (x 1).val < 1 := (x 1).isLt; omega) (by show 0 + 1 * (x 2).val = (x 2).val; omega)
    (by show 0 + 1 * (x 3).val = (x 3).val; omega), ?_⟩
  refine List.forall_mem_cons.2 ⟨fun x => piece8 x0 x1 x2 x3 x4 x5 x6 1664 slices_S256x3072_o0_1664_S256x128 (by decide) (r0_18.emb x) x
    (by show 1536 + 128 * (1 + 1 * (x 1).val) = 1664; have : (x 1).val < 1 := (x 1).isLt; omega) (by show 0 + 1 * (x 2).val = (x 2).val; omega)
    (by show 0 + 1 * (x 3).val = (x 3).val; omega), ?_⟩
  refine List.forall_mem_cons.2 ⟨fun x => piece8 x0 x1 x2 x3 x4 x5 x6 1536 slices_S256x3072_o0_1536_S256x128 (by decide) (r0_17.emb x) x
    (by show 1536 + 128 * (0 + 1 * (x 1).val) = 1536; have : (x 1).val < 1 := (x 1).isLt; omega) (by show 0 + 1 * (x 2).val = (x 2).val; omega)
    (by show 0 + 1 * (x 3).val = (x 3).val; omega), ?_⟩
  exact fun _ hx => absurd hx List.not_mem_nil

theorem emb21 (p : Fin 256) (n : Fin 512) : (ix3 0 p n : S1x256x512.Idx) = r0_21.emb (ix3 0 p n) := funext fun a => Fin.ext (by
    match a with
    | ⟨0, _⟩ => rfl
    | ⟨1, _⟩ => show p.val = 0 + 1 * p.val; omega
    | ⟨2, _⟩ => show n.val = 0 + 1 * n.val; omega)

theorem out9_at (p : Fin 256) (n : Fin 512) : out0_9 x0 x1 x2 x3 x4 x5 x6 (ix3 0 p n) = Z x0 x1 x2 p ⟨2048 + n.val, by omega⟩ := by
  unfold out0_9
  refine (congrArg _ (emb21 p n)).trans ((View.canon_cons_emb r0_21 _ [] (ix3 0 p n)).trans ?_)
  unfold k0_pay40
  refine (add_at (a := 256) (b := 512) _ _ p n).trans ?_
  rw [truncf_apply]
  refine (extractStridedSlice_apply ![0, 2048] _ _ _ (ix2 p ⟨2048 + n.val, by omega⟩) fun a => match a with
    | ⟨0, _⟩ => by show p.val = 0 + p.val; omega
    | ⟨1, _⟩ => rfl).trans (pay41_at x0 x1 x2 x3 x4 x5 x6 p _)

theorem out10_at (p : Fin 256) (n : Fin 512) : out0_10 x0 x1 x2 x3 x4 x5 x6 (ix3 0 p n) = Z x0 x1 x2 p ⟨2560 + n.val, by omega⟩ := by
  unfold out0_10
  refine (congrArg _ (emb21 p n)).trans ((View.canon_cons_emb r0_21 _ [] (ix3 0 p n)).trans ?_)
  unfold k0_pay1
  refine (add_at (a := 256) (b := 512) _ _ p n).trans ?_
  refine (extractStridedSlice_apply ![0, 2560] _ _ _ (ix2 p ⟨2560 + n.val, by omega⟩) fun a => match a with
    | ⟨0, _⟩ => by show p.val = 0 + p.val; omega
    | ⟨1, _⟩ => rfl).trans (pay41_at x0 x1 x2 x3 x4 x5 x6 p _)

end Out

end Cert.Kernel4Ideal.Hand

end
-- ==== Proof.AinValue.lean ====
/-
  The run of the attention's projections with its results named: the queries, keys, values and pooled rows over the extended reals.
-/
module

public import proofs.«01_k».proof.Proof.AinBlock
public import Idealize.ShloMosaic.Lib.Pipeline.ValueKit
public import Idealize.ShloMosaic.Lib.Pipeline.Covers
public import Idealize.ShloMosaic.Lib.StableHlo.RunRead
public import Idealize.ShloMosaic.Lib.Claim

@[expose] public section

set_option maxRecDepth 16384

noncomputable section

namespace Cert.Kernel4Ideal.Hand

open Cert.Kernel4Ideal Cert.Kernel4Ideal.Gen
open Idealize.ShloMosaic hiding eq_ix2 ix0 ix1 ix2 ix3 ix4 ix5 maximumf_apply mulf_apply addf_apply subf_apply divf_apply truncf_apply extf_apply
open Idealize.ShloMosaic.TcCoe
open Idealize.ShloMosaic.ValueIdx
open Idealize.SL Idealize.SL.RA Idealize.SL.Sem
open Cert.Rnn (hid modRow normed)
open Cert.Ain (roped cosT sinT qAt kAt rq rk rv rp)
open scoped BigOperators

variable (m : (ℓ : Loc nD τ sig) → Buf (Elt Ideal) ℓ) (ρ : Dev nD → PrngReg)

/-! ## The buffers -/

theorem V_v16 (c : Dev nD) (k : Fin 2048) (n : Fin 3072) :
    (V m c main_v16 : Vec Ideal S2048x3072 .bf16) (ix2 k n) = (m ((c : Thread nD τ).loc main_arg2) : FVec Ideal S2048x3072 .f32) (ix2 k n) := by
  unfold V
  after_reads_simp
  rfl

theorem V_v17 (c : Dev nD) (d : Fin 128) : (V m c main_v17 : Vec Ideal S1x128 .f32) (ix2 0 d) = (m ((c : Thread nD τ).loc main_arg3) : FVec Ideal S128 .f32) (ix1 d) := by
  unfold V
  after_reads_simp
  refine shapeCast_apply (s := S128) (t := S1x128) _ shapeCasts_S128_S1x128 (ix2 0 d) (ix1 d) ?_
  rw [Shape.rowMajor_val_one, Shape.rowMajor_val_two]
  show d.val = 0 * 128 + d.val
  omega

theorem V_v18 (c : Dev nD) (d : Fin 128) : (V m c main_v18 : Vec Ideal S1x128 .f32) (ix2 0 d) = (m ((c : Thread nD τ).loc main_arg4) : FVec Ideal S128 .f32) (ix1 d) := by
  unfold V
  after_reads_simp
  refine shapeCast_apply (s := S128) (t := S1x128) _ shapeCasts_S128_S1x128 (ix2 0 d) (ix1 d) ?_
  rw [Shape.rowMajor_val_one, Shape.rowMajor_val_two]
  show d.val = 0 * 128 + d.val
  omega

/-- The context's modulation, on every batch. -/
def ctxMod (x : FVec Ideal S8x6x2048 .f32) : FVec Ideal S1x4x6x2048 .f32 :=
  broadcastInDim S1x4x6x2048 ![1, 2, 3] bcast_S4x6x2048_S1x4x6x2048_1_2_3
    (broadcastInDim S4x6x2048 ![0, 1, 2] bcast_S1x6x2048_S4x6x2048_0_1_2
      (broadcastInDim S1x6x2048 ![1, 2] bcast_S6x2048_S1x6x2048_1_2
        (shapeCast S6x2048 (extractStridedSlice S1x6x2048 ![4, 0, 0] x slices_S8x6x2048_S1x6x2048_4_0_0) shapeCasts_S1x6x2048_S6x2048)))

/-- The batches' own. -/
def latMod (x : FVec Ideal S8x6x2048 .f32) : FVec Ideal S1x4x6x2048 .f32 :=
  broadcastInDim S1x4x6x2048 ![1, 2, 3] bcast_S4x6x2048_S1x4x6x2048_1_2_3
    (extractStridedSlice S4x6x2048 ![0, 0, 0] x slices_S8x6x2048_S4x6x2048_0_0_0)

theorem V_v7 (c : Dev nD) : (V m c main_v7 : Vec Ideal S2x4x6x2048 .f32)
    = concatenate S2x4x6x2048 0 [⟨S1x4x6x2048, ctxMod (m ((c : Thread nD τ).loc main_arg1))⟩, ⟨S1x4x6x2048, latMod (m ((c : Thread nD τ).loc main_arg1))⟩]
        concatenates_S1x4x6x2048_S1x4x6x2048_S2x4x6x2048_d0 := by
  unfold V
  after_reads_simp
  rfl

theorem lead_at {α : Type} (x : S4x6x2048.Idx → α) (b : Fin 4) (q : Fin 6) (k : Fin 2048) :
    broadcastInDim S1x4x6x2048 ![1, 2, 3] bcast_S4x6x2048_S1x4x6x2048_1_2_3 x (ix4 0 b q k) = x (ix3 b q k) :=
  broadcastInDim_apply _ bcast_S4x6x2048_S1x4x6x2048_1_2_3 x (ix4 0 b q k) (ix3 b q k) fun a => match a with
    | ⟨0, _⟩ => by show b.val = if (4 : ℕ) = 1 then 0 else b.val; rw [if_neg (by decide)]
    | ⟨1, _⟩ => by show q.val = if (6 : ℕ) = 1 then 0 else q.val; rw [if_neg (by decide)]
    | ⟨2, _⟩ => by show k.val = if (2048 : ℕ) = 1 then 0 else k.val; rw [if_neg (by decide)]

theorem latMod_at (x : FVec Ideal S8x6x2048 .f32) (b : Fin 4) (q : Fin 6) (k : Fin 2048) :
    latMod x (ix4 0 b q k) = x (ix3 ⟨b.val, by omega⟩ q k) := by
  unfold latMod
  rw [lead_at]
  exact extractStridedSlice_apply _ x slices_S8x6x2048_S4x6x2048_0_0_0 (ix3 b q k) (ix3 ⟨b.val, by omega⟩ q k) fun a => match a with
    | ⟨0, _⟩ => by show b.val = 0 + b.val; omega
    | ⟨1, _⟩ => by show q.val = 0 + q.val; omega
    | ⟨2, _⟩ => by show k.val = 0 + k.val; omega

theorem ctxMod_at (x : FVec Ideal S8x6x2048 .f32) (b : Fin 4) (q : Fin 6) (k : Fin 2048) :
    ctxMod x (ix4 0 b q k) = x (ix3 4 q k) := by
  unfold ctxMod
  rw [lead_at]
  refine (broadcastInDim_apply _ bcast_S1x6x2048_S4x6x2048_0_1_2 _ (ix3 b q k) (ix3 0 q k) fun a => match a with
    | ⟨0, _⟩ => by show 0 = if (1 : ℕ) = 1 then 0 else b.val; rw [if_pos rfl]
    | ⟨1, _⟩ => by show q.val = if (6 : ℕ) = 1 then 0 else q.val; rw [if_neg (by decide)]
    | ⟨2, _⟩ => by show k.val = if (2048 : ℕ) = 1 then 0 else k.val; rw [if_neg (by decide)]).trans ?_
  refine (broadcastInDim_apply _ bcast_S6x2048_S1x6x2048_1_2 _ (ix3 0 q k) (ix2 q k) fun a => match a with
    | ⟨0, _⟩ => by show q.val = if (6 : ℕ) = 1 then 0 else q.val; rw [if_neg (by decide)]
    | ⟨1, _⟩ => by show k.val = if (2048 : ℕ) = 1 then 0 else k.val; rw [if_neg (by decide)]).trans ?_
  refine (Cert.KernelIdeal.Hand.drop_at (a := 6) (b := 2048) _ _ q k).trans ?_
  exact extractStridedSlice_apply _ x slices_S8x6x2048_S1x6x2048_4_0_0 (ix3 0 q k) (ix3 4 q k) fun a => match a with
    | ⟨0, _⟩ => rfl
    | ⟨1, _⟩ => by show q.val = 0 + q.val; omega
    | ⟨2, _⟩ => by show k.val = 0 + k.val; omega

theorem V_v7_ctx (c : Dev nD) (b : Fin 4) (q : Fin 6) (k : Fin 2048) :
    (V m c main_v7 : Vec Ideal S2x4x6x2048 .f32) (ix4 0 b q k) = (m ((c : Thread nD τ).loc main_arg1) : FVec Ideal S8x6x2048 .f32) (ix3 4 q k) := by
  rw [V_v7]
  exact (concatenate_pair_apply_left (t := S2x4x6x2048) (s₁ := S1x4x6x2048) 0 _ _ concatenates_S1x4x6x2048_S1x4x6x2048_S2x4x6x2048_d0 (ix4 0 b q k) rfl (ix4 0 b q k)
    (fun a => match a with | ⟨0, _⟩ => rfl | ⟨1, _⟩ => rfl | ⟨2, _⟩ => rfl | ⟨3, _⟩ => rfl)).trans (ctxMod_at _ b q k)

theorem V_v7_lat (c : Dev nD) (b : Fin 4) (q : Fin 6) (k : Fin 2048) :
    (V m c main_v7 : Vec Ideal S2x4x6x2048 .f32) (ix4 1 b q k) = (m ((c : Thread nD τ).loc main_arg1) : FVec Ideal S8x6x2048 .f32) (ix3 ⟨b.val, by omega⟩ q k) := by
  rw [V_v7]
  exact (concatenate_pair_apply_right (t := S2x4x6x2048) (s₁ := S1x4x6x2048) 0 _ _ concatenates_S1x4x6x2048_S1x4x6x2048_S2x4x6x2048_d0 (ix4 1 b q k) rfl rfl (ix4 0 b q k)
    (fun a ha => match a with | ⟨0, _⟩ => absurd rfl ha | ⟨1, _⟩ => rfl | ⟨2, _⟩ => rfl | ⟨3, _⟩ => rfl) (Nat.add_comm _ _)).trans (latMod_at _ b q k)

/-! ## The tables -/

/-- Four tables side by side. -/
def four (a0 a1 a2 a3 : FVec Ideal S8192x32 .f32) : FVec Ideal S8192x128 .f32 :=
  concatenate S8192x128 1 [⟨S8192x32, a0⟩, ⟨S8192x32, a1⟩, ⟨S8192x32, a2⟩, ⟨S8192x32, a3⟩] concatenates_S8192x32_S8192x32_S8192x32_S8192x32_S8192x128_d1

theorem four_piece (a0 a1 a2 a3 : FVec Ideal S8192x32 .f32) (q : Fin 8192) (d : Fin 128) (e : Fin 32) (k : ℕ) (hk : k < 4) (x : FVec Ideal S8192x32 .f32)
    (hx : [(⟨S8192x32, a0⟩ : (s : Shape) × (s.Idx → EReal)), ⟨S8192x32, a1⟩, ⟨S8192x32, a2⟩, ⟨S8192x32, a3⟩][k] = ⟨S8192x32, x⟩)
    (hp : ((([(⟨S8192x32, a0⟩ : (s : Shape) × (s.Idx → EReal)), ⟨S8192x32, a1⟩, ⟨S8192x32, a2⟩, ⟨S8192x32, a3⟩].take k).map (·.1)).map
      fun s => if h : s.rank = S8192x128.rank then s.size ((1 : Fin S8192x128.rank).cast h.symm) else 0).sum = 32 * k)
    (he : 32 * k + e.val = d.val) : four a0 a1 a2 a3 (ix2 q d) = x (ix2 q e) :=
  concatenate_apply_piece (t := S8192x128) 1 [⟨S8192x32, a0⟩, ⟨S8192x32, a1⟩, ⟨S8192x32, a2⟩, ⟨S8192x32, a3⟩] concatenates_S8192x32_S8192x32_S8192x32_S8192x32_S8192x128_d1 (ix2 q d) k hk S8192x32 x hx rfl (32 * k) hp (ix2 q e)
    (fun b hb => match b with | ⟨0, _⟩ => rfl | ⟨1, _⟩ => absurd rfl hb) he

theorem four_at (a0 a1 a2 a3 : FVec Ideal S8192x32 .f32) (q : Fin 8192) (d : Fin 128) :
    four a0 a1 a2 a3 (ix2 q d)
      = if d.val < 32 then a0 (ix2 q ⟨d.val % 32, by omega⟩) else if d.val < 64 then a1 (ix2 q ⟨d.val % 32, by omega⟩)
        else if d.val < 96 then a2 (ix2 q ⟨d.val % 32, by omega⟩) else a3 (ix2 q ⟨d.val % 32, by omega⟩) := by
  split_ifs with h1 h2 h3
  · exact four_piece a0 a1 a2 a3 q d _ 0 (by decide) a0 rfl rfl (by show 32 * 0 + d.val % 32 = d.val; omega)
  · exact four_piece a0 a1 a2 a3 q d _ 1 (by decide) a1 rfl rfl (by show 32 * 1 + d.val % 32 = d.val; omega)
  · exact four_piece a0 a1 a2 a3 q d _ 2 (by decide) a2 rfl rfl (by show 32 * 2 + d.val % 32 = d.val; omega)
  · exact four_piece a0 a1 a2 a3 q d _ 3 (by decide) a3 rfl rfl (by show 32 * 3 + d.val % 32 = d.val; omega)

/-- A table with the context's constant above it. -/
def withCtx (k : BitVec 32) (x : FVec Ideal S8192x128 .f32) : FVec Ideal S8448x128 .f32 :=
  concatenate S8448x128 0 [⟨S256x128, broadcastInDim S256x128 ![] bcast_S_S256x128 (constant S_ .f32 k : FVec Ideal S_ .f32)⟩, ⟨S8192x128, x⟩]
    concatenates_S256x128_S8192x128_S8448x128_d0

theorem withCtx_at (k : BitVec 32) (x : FVec Ideal S8192x128 .f32) (i : Fin 8448) (d : Fin 128) :
    withCtx k x (ix2 i d) = if h : i.val < 256 then Ideal.ofBits .f32 k else x (ix2 ⟨i.val - 256, by omega⟩ d) := by
  unfold withCtx
  by_cases h : i.val < 256
  · rw [dif_pos h]
    exact concatenate_pair_apply_left (t := S8448x128) (s₁ := S256x128) 0 _ _ concatenates_S256x128_S8192x128_S8448x128_d0 (ix2 i d) rfl (ix2 ⟨i.val, h⟩ d)
      (fun a => match a with | ⟨0, _⟩ => rfl | ⟨1, _⟩ => rfl)
  · rw [dif_neg h]
    exact concatenate_pair_apply_right (t := S8448x128) (s₁ := S256x128) 0 _ _ concatenates_S256x128_S8192x128_S8448x128_d0 (ix2 i d) rfl rfl (ix2 ⟨i.val - 256, by omega⟩ d)
      (fun a ha => match a with | ⟨0, _⟩ => absurd rfl ha | ⟨1, _⟩ => rfl) (by show i.val - 256 + 256 = i.val; omega)

theorem V_v13 (c : Dev nD) : (V m c main_v13 : Vec Ideal S8448x128 .f32)
    = withCtx 0x3F800000#32 (four (m ((c : Thread nD τ).loc main_arg5)) (m ((c : Thread nD τ).loc main_arg5)) (m ((c : Thread nD τ).loc main_arg7)) (m ((c : Thread nD τ).loc main_arg7))) := by
  unfold V
  after_reads_simp
  rfl

theorem V_v15 (c : Dev nD) : (V m c main_v15 : Vec Ideal S8448x128 .f32)
    = withCtx 0x00000000#32 (four (Host.negf (F := Ideal) (φ := .f32) (m ((c : Thread nD τ).loc main_arg6) : FVec Ideal S8192x32 .f32)) (m ((c : Thread nD τ).loc main_arg6))
        (Host.negf (F := Ideal) (φ := .f32) (m ((c : Thread nD τ).loc main_arg8) : FVec Ideal S8192x32 .f32)) (m ((c : Thread nD τ).loc main_arg8))) := by
  unfold V
  after_reads_simp
  rfl

theorem cos_at (c : Dev nD) (i : Fin 8448) (d : Fin 128) : (V m c main_v13 : Vec Ideal S8448x128 .f32) (ix2 i d)
    = cosT (m ((c : Thread nD τ).loc main_arg5)) (m ((c : Thread nD τ).loc main_arg7)) i d := by
  rw [V_v13, withCtx_at]
  unfold cosT
  split_ifs with h h2 <;> first
    | exact Cert.Experts.one_word
    | (rw [four_at]; split_ifs <;> first | rfl | omega)

theorem sin_at (c : Dev nD) (i : Fin 8448) (d : Fin 128) : (V m c main_v15 : Vec Ideal S8448x128 .f32) (ix2 i d)
    = sinT (m ((c : Thread nD τ).loc main_arg6)) (m ((c : Thread nD τ).loc main_arg8)) i d := by
  rw [V_v15, withCtx_at]
  unfold sinT
  split_ifs with h h2 h3 <;> first
    | exact Cert.Experts.zero_word
    | (rw [four_at]; split_ifs <;> first | rfl | omega)

/-! ## The blocks -/

theorem t0_eq : ∀ i : grid0.Coords, cc0_transform_0 i = ![(i 0).val, (i 1).val, 0] := by decide +kernel
theorem t1_eq : ∀ i : grid0.Coords, cc0_transform_1 i = ![min (i 1).val 1, (i 0).val, 0, 0] := by decide +kernel
theorem t5_eq : ∀ i : grid0.Coords, cc0_transform_5 i = ![(i 1).val, 0] := by decide +kernel
theorem t6_eq : ∀ i : grid0.Coords, cc0_transform_6 i = ![(i 1).val, 0] := by decide +kernel
theorem t7_eq : ∀ i : grid0.Coords, cc0_transform_7 i = ![(i 0).val, (i 1).val, 0] := by decide +kernel
theorem t8_eq : ∀ i : grid0.Coords, cc0_transform_8 i = ![(i 0).val, 0, 0, (i 1).val] := by decide +kernel
theorem t9_eq : ∀ i : grid0.Coords, cc0_transform_9 i = ![(i 0).val, (i 1).val, 0] := by decide +kernel
theorem t10_eq : ∀ i : grid0.Coords, cc0_transform_10 i = ![(i 0).val, (i 1).val, 0] := by decide +kernel

section Blocks
variable (c : Dev nD) (t : Fin cfg0.N)

theorem blk0 (p : Fin 256) (k : Fin 2048) (b : Fin 4) (i : Fin 8448) (hb : b.val = (grid0.coords t 0).val) (hi : i.val = 256 * (grid0.coords t 1).val + p.val) :
    iblk m c 0 t (ix3 0 p k) = V m c main_arg0 (ix3 b i k) := by
  refine congrArg (V m c main_arg0 : Vec Ideal S4x8448x2048 .f32) (funext fun d => Fin.ext ?_)
  match d with
  | ⟨0, _⟩ => show cc0_transform_0 (grid0.coords t) 0 * 1 + 1 * 0 = b.val; rw [t0_eq]; show (grid0.coords t 0).val * 1 + 1 * 0 = b.val; omega
  | ⟨1, _⟩ => show cc0_transform_0 (grid0.coords t) 1 * 256 + 1 * p.val = i.val; rw [t0_eq]; show (grid0.coords t 1).val * 256 + 1 * p.val = i.val; omega
  | ⟨2, _⟩ => show cc0_transform_0 (grid0.coords t) 2 * 2048 + 1 * k.val = k.val; rw [t0_eq]; show 0 * 2048 + 1 * k.val = k.val; omega

theorem blk1 (q : Fin 6) (k : Fin 2048) (s : Fin 2) (b : Fin 4) (hs : s.val = min (grid0.coords t 1).val 1) (hb : b.val = (grid0.coords t 0).val) :
    iblk m c 1 t (ix4 0 0 q k) = V m c main_v7 (ix4 s b q k) := by
  refine congrArg (V m c main_v7 : Vec Ideal S2x4x6x2048 .f32) (funext fun d => Fin.ext ?_)
  match d with
  | ⟨0, _⟩ => show cc0_transform_1 (grid0.coords t) 0 * 1 + 1 * 0 = s.val; rw [t1_eq]; show min (grid0.coords t 1).val 1 * 1 + 1 * 0 = s.val; omega
  | ⟨1, _⟩ => show cc0_transform_1 (grid0.coords t) 1 * 1 + 1 * 0 = b.val; rw [t1_eq]; show (grid0.coords t 0).val * 1 + 1 * 0 = b.val; omega
  | ⟨2, _⟩ => show cc0_transform_1 (grid0.coords t) 2 * 6 + 1 * q.val = q.val; rw [t1_eq]; show 0 * 6 + 1 * q.val = q.val; omega
  | ⟨3, _⟩ => show cc0_transform_1 (grid0.coords t) 3 * 2048 + 1 * k.val = k.val; rw [t1_eq]; show 0 * 2048 + 1 * k.val = k.val; omega

theorem blk2 (k : Fin 2048) (n : Fin 3072) : iblk m c 2 t (ix2 k n) = V m c main_v16 (ix2 k n) := by
  refine congrArg (V m c main_v16 : Vec Ideal S2048x3072 .bf16) (funext fun d => Fin.ext ?_)
  match d with
  | ⟨0, _⟩ => show 0 * 2048 + 1 * k.val = k.val; omega
  | ⟨1, _⟩ => show 0 * 3072 + 1 * n.val = n.val; omega

theorem blk3 (d : Fin 128) : iblk m c 3 t (ix2 0 d) = V m c main_v17 (ix2 0 d) := by
  refine congrArg (V m c main_v17 : Vec Ideal S1x128 .f32) (funext fun a => Fin.ext ?_)
  match a with
  | ⟨0, _⟩ => rfl
  | ⟨1, _⟩ => show 0 * 128 + 1 * d.val = d.val; omega

theorem blk4 (d : Fin 128) : iblk m c 4 t (ix2 0 d) = V m c main_v18 (ix2 0 d) := by
  refine congrArg (V m c main_v18 : Vec Ideal S1x128 .f32) (funext fun a => Fin.ext ?_)
  match a with
  | ⟨0, _⟩ => rfl
  | ⟨1, _⟩ => show 0 * 128 + 1 * d.val = d.val; omega

theorem blk5 (p : Fin 256) (d : Fin 128) (i : Fin 8448) (hi : i.val = 256 * (grid0.coords t 1).val + p.val) : iblk m c 5 t (ix2 p d) = V m c main_v13 (ix2 i d) := by
  refine congrArg (V m c main_v13 : Vec Ideal S8448x128 .f32) (funext fun a => Fin.ext ?_)
  match a with
  | ⟨0, _⟩ => show cc0_transform_5 (grid0.coords t) 0 * 256 + 1 * p.val = i.val; rw [t5_eq]; show (grid0.coords t 1).val * 256 + 1 * p.val = i.val; omega
  | ⟨1, _⟩ => show cc0_transform_5 (grid0.coords t) 1 * 128 + 1 * d.val = d.val; rw [t5_eq]; show 0 * 128 + 1 * d.val = d.val; omega

theorem blk6 (p : Fin 256) (d : Fin 128) (i : Fin 8448) (hi : i.val = 256 * (grid0.coords t 1).val + p.val) : iblk m c 6 t (ix2 p d) = V m c main_v15 (ix2 i d) := by
  refine congrArg (V m c main_v15 : Vec Ideal S8448x128 .f32) (funext fun a => Fin.ext ?_)
  match a with
  | ⟨0, _⟩ => show cc0_transform_6 (grid0.coords t) 0 * 256 + 1 * p.val = i.val; rw [t6_eq]; show (grid0.coords t 1).val * 256 + 1 * p.val = i.val; omega
  | ⟨1, _⟩ => show cc0_transform_6 (grid0.coords t) 1 * 128 + 1 * d.val = d.val; rw [t6_eq]; show 0 * 128 + 1 * d.val = d.val; omega

theorem emb7 (r : Fin 256) (n : Fin 1536) (b : Fin 4) (i : Fin 8448) (hb : b.val = (grid0.coords t 0).val) (hi : i.val = 256 * (grid0.coords t 1).val + r.val) :
    ((cfg0.win 7).blk t).view.emb (ix3 0 r n) = (ix3 b i n : S4x8448x1536.Idx) := by
  refine funext fun d => Fin.ext ?_
  match d with
  | ⟨0, _⟩ => show cc0_transform_7 (grid0.coords t) 0 * 1 + 1 * 0 = b.val; rw [t7_eq]; show (grid0.coords t 0).val * 1 + 1 * 0 = b.val; omega
  | ⟨1, _⟩ => show cc0_transform_7 (grid0.coords t) 1 * 256 + 1 * r.val = i.val; rw [t7_eq]; show (grid0.coords t 1).val * 256 + 1 * r.val = i.val; omega
  | ⟨2, _⟩ => show cc0_transform_7 (grid0.coords t) 2 * 1536 + 1 * n.val = n.val; rw [t7_eq]; show 0 * 1536 + 1 * n.val = n.val; omega

theorem emb9 (r : Fin 256) (n : Fin 512) (b : Fin 4) (i : Fin 8448) (hb : b.val = (grid0.coords t 0).val) (hi : i.val = 256 * (grid0.coords t 1).val + r.val) :
    ((cfg0.win 9).blk t).view.emb (ix3 0 r n) = (ix3 b i n : S4x8448x512.Idx) := by
  refine funext fun d => Fin.ext ?_
  match d with
  | ⟨0, _⟩ => show cc0_transform_9 (grid0.coords t) 0 * 1 + 1 * 0 = b.val; rw [t9_eq]; show (grid0.coords t 0).val * 1 + 1 * 0 = b.val; omega
  | ⟨1, _⟩ => show cc0_transform_9 (grid0.coords t) 1 * 256 + 1 * r.val = i.val; rw [t9_eq]; show (grid0.coords t 1).val * 256 + 1 * r.val = i.val; omega
  | ⟨2, _⟩ => show cc0_transform_9 (grid0.coords t) 2 * 512 + 1 * n.val = n.val; rw [t9_eq]; show 0 * 512 + 1 * n.val = n.val; omega

theorem emb10 (r : Fin 256) (n : Fin 512) (b : Fin 4) (i : Fin 8448) (hb : b.val = (grid0.coords t 0).val) (hi : i.val = 256 * (grid0.coords t 1).val + r.val) :
    ((cfg0.win 10).blk t).view.emb (ix3 0 r n) = (ix3 b i n : S4x8448x512.Idx) := by
  refine funext fun d => Fin.ext ?_
  match d with
  | ⟨0, _⟩ => show cc0_transform_10 (grid0.coords t) 0 * 1 + 1 * 0 = b.val; rw [t10_eq]; show (grid0.coords t 0).val * 1 + 1 * 0 = b.val; omega
  | ⟨1, _⟩ => show cc0_transform_10 (grid0.coords t) 1 * 256 + 1 * r.val = i.val; rw [t10_eq]; show (grid0.coords t 1).val * 256 + 1 * r.val = i.val; omega
  | ⟨2, _⟩ => show cc0_transform_10 (grid0.coords t) 2 * 512 + 1 * n.val = n.val; rw [t10_eq]; show 0 * 512 + 1 * n.val = n.val; omega

theorem emb8 (h : Fin 4) (d : Fin 128) (r : Fin 256) (b : Fin 4) (i : Fin 8448) (hb : b.val = (grid0.coords t 0).val) (hi : i.val = 256 * (grid0.coords t 1).val + r.val) :
    ((cfg0.win 8).blk t).view.emb (ix4 0 h d r) = (ix4 b h d i : S4x4x128x8448.Idx) := by
  refine funext fun a => Fin.ext ?_
  match a with
  | ⟨0, _⟩ => show cc0_transform_8 (grid0.coords t) 0 * 1 + 1 * 0 = b.val; rw [t8_eq]; show (grid0.coords t 0).val * 1 + 1 * 0 = b.val; omega
  | ⟨1, _⟩ => show cc0_transform_8 (grid0.coords t) 1 * 4 + 1 * h.val = h.val; rw [t8_eq]; show 0 * 4 + 1 * h.val = h.val; omega
  | ⟨2, _⟩ => show cc0_transform_8 (grid0.coords t) 2 * 128 + 1 * d.val = d.val; rw [t8_eq]; show 0 * 128 + 1 * d.val = d.val; omega
  | ⟨3, _⟩ => show cc0_transform_8 (grid0.coords t) 3 * 256 + 1 * r.val = i.val; rw [t8_eq]; show (grid0.coords t 1).val * 256 + 1 * r.val = i.val; omega

end Blocks

/-! ## The results -/

/-- The queries. -/
def qA (c : Dev nD) : Vec Ideal S4x8448x1536 .bf16 := rq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))

/-- The keys. -/
def kA (c : Dev nD) : Vec Ideal S4x8448x4x128 .bf16 := rk (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))

/-- The values. -/
def vA (c : Dev nD) : Vec Ideal S4x8448x512 .bf16 := rv (m ((c : Thread nD τ).loc main_arg0)) (m ((c : Thread nD τ).loc main_arg1)) (m ((c : Thread nD τ).loc main_arg2))

/-- The pooled rows. -/
def pA (c : Dev nD) : Vec Ideal S4x8448x512 .f32 := rp (m ((c : Thread nD τ).loc main_arg0)) (m ((c : Thread nD τ).loc main_arg1)) (m ((c : Thread nD τ).loc main_arg2))

/-- The keys as the call leaves them, a head's lanes as rows. -/
def kT (c : Dev nD) : Vec Ideal S4x4x128x8448 .bf16 := fun y => kAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 3) (y 1) (y 2)

/-- A row of the block, by the weights. -/
theorem Z_at (c : Dev nD) (t : Fin cfg0.N) (r : Fin 256) (n : Fin 3072) (b : Fin 4) (i : Fin 8448) (hb : b.val = (grid0.coords t 0).val)
    (hi : i.val = 256 * (grid0.coords t 1).val + r.val) : Z (iblk m c 0 t) (iblk m c 1 t) (iblk m c 2 t) r n = Cert.Ain.z (m ((c : Thread nD τ).loc main_arg0)) (m ((c : Thread nD τ).loc main_arg1)) (m ((c : Thread nD τ).loc main_arg2)) b i n := by
  unfold Z Cert.Ain.z
  refine Finset.sum_congr rfl fun k _ => congrArg₂ (fun a b : EReal => a * b) ?_ ((blk2 m c t k n).trans (V_v16 m c k n))
  have e0 : (fun k => iblk m c 0 t (ix3 0 r k)) = fun k => m ((c : Thread nD τ).loc main_arg0) (ix3 b i k) := funext fun k =>
    (blk0 m c t r k b i hb hi).trans (congrFun (V_main_arg0 m c) _)
  have e1 : ∀ q : Fin 6, (fun k => iblk m c 1 t (ix4 0 0 q k)) = fun k => m ((c : Thread nD τ).loc main_arg1) (ix3 (modRow b i) q k) := fun q => funext fun k => by
    have hsr := r.isLt
    by_cases h0 : (grid0.coords t 1).val = 0
    · rw [show modRow b i = 4 from if_pos (by omega)]
      exact (blk1 m c t q k 0 b (by rw [h0]; rfl) hb).trans (V_v7_ctx m c b q k)
    · rw [show modRow b i = ⟨b.val, by omega⟩ from if_neg (by omega)]
      exact (blk1 m c t q k 1 b (by show 1 = min (grid0.coords t 1).val 1; omega) hb).trans (V_v7_lat m c b q k)
  unfold hid
  exact congrFun (congr (congr (congrArg normed e0) (e1 0)) (e1 1)) k

/-- A head of the block. -/
theorem hd_at (c : Dev nD) (t : Fin cfg0.N) (g : Vec Ideal S1x128 .f32) (gm : (⟨1, ![128]⟩ : Shape).Idx → EReal) (hg : ∀ e : Fin 128, g (ix2 0 e) = gm (ix1 e)) (o : ℕ)
    (ho : o + 128 ≤ 3072) (r : Fin 256) (d : Fin 128) (b : Fin 4) (i : Fin 8448) (hb : b.val = (grid0.coords t 0).val) (hi : i.val = 256 * (grid0.coords t 1).val + r.val) :
    hdAt (iblk m c 0 t) (iblk m c 1 t) (iblk m c 2 t) (iblk m c 5 t) (iblk m c 6 t) g o ho r d
      = roped (fun e => Cert.Ain.z (m ((c : Thread nD τ).loc main_arg0)) (m ((c : Thread nD τ).loc main_arg1)) (m ((c : Thread nD τ).loc main_arg2)) b i ⟨o + e.val, by omega⟩) (fun e => gm (ix1 e)) (cosT (m ((c : Thread nD τ).loc main_arg5)) (m ((c : Thread nD τ).loc main_arg7)) i) (sinT (m ((c : Thread nD τ).loc main_arg6)) (m ((c : Thread nD τ).loc main_arg8)) i) d := by
  have e0 : (fun e : Fin 128 => Z (iblk m c 0 t) (iblk m c 1 t) (iblk m c 2 t) r ⟨o + e.val, by omega⟩) = fun e => Cert.Ain.z (m ((c : Thread nD τ).loc main_arg0)) (m ((c : Thread nD τ).loc main_arg1)) (m ((c : Thread nD τ).loc main_arg2)) b i ⟨o + e.val, by omega⟩ :=
    funext fun e => Z_at m c t r _ b i hb hi
  have e1 : (fun e : Fin 128 => g (ix2 0 e)) = fun e => gm (ix1 e) := funext hg
  have e2 : (fun e : Fin 128 => iblk m c 5 t (ix2 r e)) = cosT (m ((c : Thread nD τ).loc main_arg5)) (m ((c : Thread nD τ).loc main_arg7)) i := funext fun e => (blk5 m c t r e i hi).trans (cos_at m c i e)
  have e3 : (fun e : Fin 128 => iblk m c 6 t (ix2 r e)) = sinT (m ((c : Thread nD τ).loc main_arg6)) (m ((c : Thread nD τ).loc main_arg8)) i := funext fun e => (blk6 m c t r e i hi).trans (sin_at m c i e)
  unfold hdAt
  exact congrFun (congr (congr (congr (congrArg roped e0) e1) e2) e3) d

theorem covers7 : (cfg0.win 7).Covers := by decide +kernel
theorem covers8 : (cfg0.win 8).Covers := by decide +kernel
theorem covers9 : (cfg0.win 9).Covers := by decide +kernel
theorem covers10 : (cfg0.win 10).Covers := by decide +kernel

/-- The queries' array after the whole grid. -/
theorem final7 (c : Dev nD) : (dats m 0 c).arrAt 7 cfg0.N = qA m c := by
  refine (dats m 0 c).arrAt_eq_of_covers 7 _ covers7 fun t hf y => ?_
  obtain ⟨r, n, rfl⟩ : ∃ (r : Fin 256) (n : Fin 1536), y = ix3 0 r n :=
    ⟨y (1 : Fin 3), y (2 : Fin 3), (ValueIdx.eq_ix3 (n0 := 1) (n1 := 256) (n2 := 1536) y).trans
      (congrArg (fun z : Fin 1 => ix3 z (y (1 : Fin 3) : Fin 256) (y (2 : Fin 3) : Fin 1536)) (Subsingleton.elim (α := Fin 1) (y (0 : Fin 3)) 0))⟩
  have h0 : (grid0.coords t 0).val < 4 := (grid0.coords t 0).isLt
  have h1 : (grid0.coords t 1).val < 33 := (grid0.coords t 1).isLt
  rw [emb7 t r n ⟨_, h0⟩ ⟨256 * (grid0.coords t 1).val + r.val, by omega⟩ rfl rfl]
  refine (congrFun (after0_7 m c t) (ix3 0 r n)).trans ?_
  refine (out7_at _ _ _ _ _ _ _ r ⟨n.val / 128, by omega⟩ ⟨n.val % 128, by omega⟩ n (by show n.val = 128 * (n.val / 128) + n.val % 128; omega)).trans ?_
  exact hd_at m c t _ (m ((c : Thread nD τ).loc main_arg3)) (fun e => (blk3 m c t e).trans (V_v17 m c e)) _ _ r _ _ _ rfl rfl

/-- The keys' array after the whole grid. -/
theorem final8 (c : Dev nD) : (dats m 0 c).arrAt 8 cfg0.N = kT m c := by
  refine (dats m 0 c).arrAt_eq_of_covers 8 _ covers8 fun t hf y => ?_
  obtain ⟨h, d, r, rfl⟩ : ∃ (h : Fin 4) (d : Fin 128) (r : Fin 256), y = ix4 0 h d r :=
    ⟨y (1 : Fin 4), y (2 : Fin 4), y (3 : Fin 4), funext fun a => match a with
      | ⟨0, _⟩ => Subsingleton.elim (α := Fin 1) _ _
      | ⟨1, _⟩ => rfl
      | ⟨2, _⟩ => rfl
      | ⟨3, _⟩ => rfl⟩
  have h0 : (grid0.coords t 0).val < 4 := (grid0.coords t 0).isLt
  have h1 : (grid0.coords t 1).val < 33 := (grid0.coords t 1).isLt
  rw [emb8 t h d r ⟨_, h0⟩ ⟨256 * (grid0.coords t 1).val + r.val, by omega⟩ rfl rfl]
  refine (congrFun (after0_8 m c t) (ix4 0 h d r)).trans ?_
  refine (out8_at _ _ _ _ _ _ _ h d r).trans ?_
  exact hd_at m c t _ (m ((c : Thread nD τ).loc main_arg4)) (fun e => (blk4 m c t e).trans (V_v18 m c e)) _ _ r _ _ _ rfl rfl

/-- The values' array after the whole grid. -/
theorem final9 (c : Dev nD) : (dats m 0 c).arrAt 9 cfg0.N = vA m c := by
  refine (dats m 0 c).arrAt_eq_of_covers 9 _ covers9 fun t hf y => ?_
  obtain ⟨r, n, rfl⟩ : ∃ (r : Fin 256) (n : Fin 512), y = ix3 0 r n :=
    ⟨y (1 : Fin 3), y (2 : Fin 3), (ValueIdx.eq_ix3 (n0 := 1) (n1 := 256) (n2 := 512) y).trans
      (congrArg (fun z : Fin 1 => ix3 z (y (1 : Fin 3) : Fin 256) (y (2 : Fin 3) : Fin 512)) (Subsingleton.elim (α := Fin 1) (y (0 : Fin 3)) 0))⟩
  have h0 : (grid0.coords t 0).val < 4 := (grid0.coords t 0).isLt
  have h1 : (grid0.coords t 1).val < 33 := (grid0.coords t 1).isLt
  rw [emb9 t r n ⟨_, h0⟩ ⟨256 * (grid0.coords t 1).val + r.val, by omega⟩ rfl rfl]
  refine (congrFun (after0_9 m c t) (ix3 0 r n)).trans ?_
  refine (out9_at _ _ _ _ _ _ _ r n).trans ?_
  exact Z_at m c t r _ _ _ rfl rfl

/-- The pooled rows' array after the whole grid. -/
theorem final10 (c : Dev nD) : (dats m 0 c).arrAt 10 cfg0.N = pA m c := by
  refine (dats m 0 c).arrAt_eq_of_covers 10 _ covers10 fun t hf y => ?_
  obtain ⟨r, n, rfl⟩ : ∃ (r : Fin 256) (n : Fin 512), y = ix3 0 r n :=
    ⟨y (1 : Fin 3), y (2 : Fin 3), (ValueIdx.eq_ix3 (n0 := 1) (n1 := 256) (n2 := 512) y).trans
      (congrArg (fun z : Fin 1 => ix3 z (y (1 : Fin 3) : Fin 256) (y (2 : Fin 3) : Fin 512)) (Subsingleton.elim (α := Fin 1) (y (0 : Fin 3)) 0))⟩
  have h0 : (grid0.coords t 0).val < 4 := (grid0.coords t 0).isLt
  have h1 : (grid0.coords t 1).val < 33 := (grid0.coords t 1).isLt
  rw [emb10 t r n ⟨_, h0⟩ ⟨256 * (grid0.coords t 1).val + r.val, by omega⟩ rfl rfl]
  refine (congrFun (after0_10 m c t) (ix3 0 r n)).trans ?_
  refine (out10_at _ _ _ _ _ _ _ r n).trans ?_
  exact Z_at m c t r _ _ _ rfl rfl

/-! ## The keys put back -/

theorem tail_eq (c : Dev nD) : Pipeline.afterTail₀ cfgs (dats m) 0 (V0 m) [hostOps1] c main_v20
    = transpose (α := EReal) S4x8448x4x128 [0, 3, 1, 2] ((dats m 0 c).arrAt 8 cfg0.N) transposes_S4x4x128x8448_S4x8448x4x128_0_3_1_2 := by
  have hw : Pipeline.withArrays spec0 c (V0 m c) (fun w => (dats m 0 c).arrAt w cfg0.N) (Proc.devRef .tc main_v19_1) = (dats m 0 c).arrAt 8 cfg0.N :=
    Pipeline.withArrays_arr spec0 launch0.win.arr_inj c (V0 m c) (fun w => (dats m 0 c).arrAt w cfg0.N) 8
  rw [← hw]
  unfold Pipeline.afterTail₀
  after_reads_simp

theorem back_k (c : Dev nD) : transpose (α := EReal) S4x8448x4x128 [0, 3, 1, 2] (kT m c) transposes_S4x4x128x8448_S4x8448x4x128_0_3_1_2 = kA m c := by
  funext y
  obtain ⟨b, i, h, d, rfl⟩ : ∃ (b : Fin 4) (i : Fin 8448) (h : Fin 4) (d : Fin 128), y = ix4 b i h d :=
    ⟨y (0 : Fin 4), y (1 : Fin 4), y (2 : Fin 4), y (3 : Fin 4), funext fun a => match a with
      | ⟨0, _⟩ => rfl
      | ⟨1, _⟩ => rfl
      | ⟨2, _⟩ => rfl
      | ⟨3, _⟩ => rfl⟩
  exact transpose_apply [0, 3, 1, 2] (kT m c) transposes_S4x4x128x8448_S4x8448x4x128_0_3_1_2 (ix4 b i h d) (ix4 b h d i)
    fun a => match a with | ⟨0, _⟩ => rfl | ⟨1, _⟩ => rfl | ⟨2, _⟩ => rfl | ⟨3, _⟩ => rfl

/-- The run: the results' arrays, and the arguments as they were. -/
theorem value_run :
    θ_run defs (onTc (τ := τ) (main (F := Ideal))) ⟨m, fun _ => 0, ρ⟩ (fun r => ∀ c : Dev nD,
      r.2.mem ((c.tc : Thread nD τ).loc main_v19_0) = qA m c
        ∧ r.2.mem ((c.tc : Thread nD τ).loc main_v20) = kA m c
        ∧ r.2.mem ((c.tc : Thread nD τ).loc main_v19_2) = vA m c
        ∧ r.2.mem ((c.tc : Thread nD τ).loc main_v19_3) = pA m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono (fun _ h c =>
    ⟨((h c).1 7).trans (final7 m c),
      ((h c).2 main_v20 (Pipeline.mem_restRefs_of main_v20 (by decide) (by decide))).trans
        ((tail_eq m c).trans ((congrArg (fun x => transpose (α := EReal) S4x8448x4x128 [0, 3, 1, 2] x transposes_S4x4x128x8448_S4x8448x4x128_0_3_1_2) (final8 m c)).trans
          (back_k m c))),
      ((h c).1 9).trans (final9 m c),
      ((h c).1 10).trans (final10 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Kernel4Ideal.Hand

end
-- ==== Proof.AinRef.lean ====
/-
  The attention's projections' reference, entry by entry: each row normalized and modulated, by the weights, the query and key heads normalized and turned.
-/
module

public import proofs.«01_k».proof.Proof.Gen.Reference4Ideal.Read
public import proofs.«01_k».proof.Proof.AinMath
public import proofs.«01_k».proof.Proof.ExpertsMath
public import Idealize.ShloMosaic.Lib.ValueIdx

@[expose] public section

set_option maxRecDepth 16384

noncomputable section

namespace Cert.Reference4Ideal.Hand

open Cert.Reference4Ideal Cert.Reference4Ideal.Gen Cert.Reference4Ideal.Read
open Idealize.ShloMosaic
open Idealize.ShloMosaic.ValueIdx (ix1 ix2 ix3 ix4 eq_ix2)
open Cert.Rnn (cD cE c1 inv normed modRow hid)
open Cert.Ain (cH nrm sw roped z cosT sinT qAt kAt rq rk rv rp)
open scoped BigOperators

variable (x0 : FVec Ideal S4x8448x2048 .f32) (x1 : FVec Ideal S8x6x2048 .f32) (x2 : FVec Ideal S2048x3072 .f32) (x3 x4 : FVec Ideal S128 .f32)
  (x5 x6 x7 x8 : FVec Ideal S8192x32 .f32)

/-! ## Heads and lanes -/

/-- A query head of a row. -/
def zq (b : Fin 4) (i : Fin 8448) (h : Fin 12) (e : Fin 128) : EReal := z x0 x1 x2 b i ⟨128 * h.val + e.val, by omega⟩

/-- A key head of a row. -/
def zk (b : Fin 4) (i : Fin 8448) (h : Fin 4) (e : Fin 128) : EReal := z x0 x1 x2 b i ⟨1536 + 128 * h.val + e.val, by omega⟩

/-- A gain by its lane. -/
def gn (g : FVec Ideal S128 .f32) (e : Fin 128) : EReal := g (ix1 e)

/-- The columns of the values and of the pooled rows. -/
def cv (n : Fin 512) : Fin 3072 := ⟨2048 + n.val, by omega⟩
def cp (n : Fin 512) : Fin 3072 := ⟨2560 + n.val, by omega⟩

/-- A lane of a quarter, and of a half. -/
def ln (o : ℕ) (ho : o + 32 ≤ 128) (e : Fin 32) : Fin 128 := ⟨o + e.val, by omega⟩
def ln2 (o : ℕ) (ho : o + 64 ≤ 128) (e : Fin 64) : Fin 128 := ⟨o + e.val, by omega⟩

theorem turn_fst (y g c s : Fin 128 → EReal) (d d' : Fin 128) (hd : d'.val = d.val + 32) (h : d.val % 64 < 32) (a t : EReal) (hc : c d = a) (hs : s d = -t) :
    roped y g c s d = nrm y g d * a - nrm y g d' * t := by
  have e : sw d = d' := (dif_pos h).trans (Fin.ext hd.symm)
  unfold roped
  rw [e, hc, hs, mul_neg, sub_eq_add_neg]

theorem turn_snd (y g c s : Fin 128 → EReal) (d d' : Fin 128) (hd : d.val = d'.val + 32) (h : ¬d.val % 64 < 32) (a t : EReal) (hc : c d = a) (hs : s d = t) :
    roped y g c s d = nrm y g d * a + nrm y g d' * t := by
  have e : sw d = d' := (dif_neg h).trans (Fin.ext (by show d.val - 32 = d'.val; omega))
  unfold roped
  rw [e, hc, hs]

theorem roped_ctx (y g : Fin 128 → EReal) (i : Fin 8448) (h : i.val < 256) (d : Fin 128) : roped y g (cosT x5 x7 i) (sinT x6 x8 i) d = nrm y g d := by
  have e0 : cosT x5 x7 i d = 1 := dif_pos h
  have e1 : sinT x6 x8 i d = 0 := dif_pos h
  unfold roped
  rw [e0, e1, mul_one, mul_zero, add_zero]

section Tables
variable (p : Fin 8192) (i : Fin 8448) (hi : i.val = 256 + p.val)

include hi in
theorem row_of (h : ¬i.val < 256) (a b : Fin 32) (hab : a = b) (t : FVec Ideal S8192x32 .f32) :
    t (ix2 ⟨i.val - 256, by omega⟩ a) = t (ix2 p b) := by
  subst hab
  have e : (⟨i.val - 256, by omega⟩ : Fin 8192) = p := Fin.ext (by show i.val - 256 = p.val; omega)
  rw [e]

include hi in
theorem cos_lo (d : Fin 128) (e : Fin 32) (hd : d.val < 64) (he : d.val % 32 = e.val) : cosT x5 x7 i d = x5 (ix2 p e) := by
  unfold cosT
  rw [dif_neg (show ¬i.val < 256 by omega), if_pos hd]
  exact row_of p i hi (by omega) _ e (Fin.ext he) x5

include hi in
theorem cos_hi (d : Fin 128) (e : Fin 32) (hd : ¬d.val < 64) (he : d.val % 32 = e.val) : cosT x5 x7 i d = x7 (ix2 p e) := by
  unfold cosT
  rw [dif_neg (show ¬i.val < 256 by omega), if_neg hd]
  exact row_of p i hi (by omega) _ e (Fin.ext he) x7

include hi in
theorem sin_lo_fst (d : Fin 128) (e : Fin 32) (hd : d.val < 64) (hh : d.val % 64 < 32) (he : d.val % 32 = e.val) : sinT x6 x8 i d = -(x6 (ix2 p e)) := by
  unfold sinT
  rw [dif_neg (show ¬i.val < 256 by omega), if_pos hh, if_pos hd]
  exact congrArg (fun t : EReal => -t) (row_of p i hi (by omega) _ e (Fin.ext he) x6)

include hi in
theorem sin_lo_snd (d : Fin 128) (e : Fin 32) (hd : d.val < 64) (hh : ¬d.val % 64 < 32) (he : d.val % 32 = e.val) : sinT x6 x8 i d = x6 (ix2 p e) := by
  unfold sinT
  rw [dif_neg (show ¬i.val < 256 by omega), if_neg hh, if_pos hd]
  exact row_of p i hi (by omega) _ e (Fin.ext he) x6

include hi in
theorem sin_hi_fst (d : Fin 128) (e : Fin 32) (hd : ¬d.val < 64) (hh : d.val % 64 < 32) (he : d.val % 32 = e.val) : sinT x6 x8 i d = -(x8 (ix2 p e)) := by
  unfold sinT
  rw [dif_neg (show ¬i.val < 256 by omega), if_pos hh, if_neg hd]
  exact congrArg (fun t : EReal => -t) (row_of p i hi (by omega) _ e (Fin.ext he) x8)

include hi in
theorem sin_hi_snd (d : Fin 128) (e : Fin 32) (hd : ¬d.val < 64) (hh : ¬d.val % 64 < 32) (he : d.val % 32 = e.val) : sinT x6 x8 i d = x8 (ix2 p e) := by
  unfold sinT
  rw [dif_neg (show ¬i.val < 256 by omega), if_neg hh, if_neg hd]
  exact row_of p i hi (by omega) _ e (Fin.ext he) x8

end Tables

/-! ## The rows after the context -/

section Latent
variable (b : Fin 4) (p : Fin 8192) (i : Fin 8448) (hi : i.val = 256 + p.val)

include hi in
theorem v1_at (k : Fin 2048) : val_main_v1 (F := Ideal) x0 (ix3 b p k) = x0 (ix3 b i k) := by
  rw [val_main_v1_apply]
  refine congrArg x0 (funext fun a => Fin.ext ?_)
  match a with
  | ⟨0, _⟩ => rfl
  | ⟨1, _⟩ => exact hi.symm
  | ⟨2, _⟩ => rfl

theorem v26_at (k : Fin 2048) : val_main_v26 (F := Ideal) x1 (ix3 b p k) = x1 (ix3 ⟨b.val, Nat.lt_trans b.isLt (by decide)⟩ 0 k) := by
  rw [val_main_v26_apply, val_main_v4_apply, val_main_v3_apply, val_main_v2_apply]
  refine congrArg x1 (funext fun a => Fin.ext ?_)
  match a with
  | ⟨0, _⟩ => show (b.val * 2048 + k.val) / 2048 = b.val; omega
  | ⟨1, _⟩ => rfl
  | ⟨2, _⟩ => show (b.val * 2048 + k.val) % 2048 = k.val; omega

theorem v7_at (k : Fin 2048) : val_main_v7 (F := Ideal) x1 (ix3 b 0 k) = x1 (ix3 ⟨b.val, Nat.lt_trans b.isLt (by decide)⟩ 1 k) := by
  rw [val_main_v7_apply, val_main_v6_apply, val_main_v5_apply]
  refine congrArg x1 (funext fun a => Fin.ext ?_)
  match a with
  | ⟨0, _⟩ => show (b.val * 2048 + k.val) / 2048 = b.val; omega
  | ⟨1, _⟩ => rfl
  | ⟨2, _⟩ => show (b.val * 2048 + k.val) % 2048 = k.val; omega

theorem v24_at (k : Fin 2048) : val_main_v24 (F := Ideal) x1 (ix3 b p k) = c1 + x1 (ix3 ⟨b.val, Nat.lt_trans b.isLt (by decide)⟩ 1 k) := by
  have e : idx_main_v24 (ix3 b p k) = ix3 b 0 k := funext fun a => Fin.ext (match a with | ⟨0, _⟩ => rfl | ⟨1, _⟩ => rfl | ⟨2, _⟩ => rfl)
  rw [val_main_v24_apply, val_main_v23_apply, val_main_v22_apply, val_main_cst_2_apply, e, v7_at]
  rfl

include hi in
theorem v13_at : val_main_v13 (F := Ideal) x0 (ix2 b p) = ∑ k : Fin 2048, x0 (ix3 b i k) * x0 (ix3 b i k) := by
  rw [val_main_v13_apply, val_main_cst_apply]
  refine (congrArg (fun z : EReal => z + _) Cert.Experts.zero_word).trans ((zero_add _).trans (Finset.sum_congr rfl fun k _ => ?_))
  have e : idx_main_v13 (ix2 b p) k = ix3 b p k := funext fun a => Fin.ext (match a with | ⟨0, _⟩ => rfl | ⟨1, _⟩ => rfl | ⟨2, _⟩ => rfl)
  rw [val_main_v12_apply, e, v1_at x0 b p i hi]
  rfl

include hi in
theorem v20_at (k : Fin 2048) : val_main_v20 (F := Ideal) x0 (ix3 b p k) = inv (fun k => x0 (ix3 b i k)) := by
  have e : idx_main_v14 (idx_main_v20 (ix3 b p k)) = ix2 b p := funext fun a => Fin.ext (match a with | ⟨0, _⟩ => rfl | ⟨1, _⟩ => rfl)
  rw [val_main_v20_apply, val_main_v19_apply, val_main_v18_apply, val_main_v17_apply, val_main_cst_1_apply, val_main_v16_apply, val_main_v15_apply,
    val_main_cst_0_apply, val_main_v14_apply, e, v13_at x0 b p i hi]
  rfl

include hi in
theorem v27_at (k : Fin 2048) : val_main_v27 (F := Ideal) x0 x1 (ix3 b p k) = hid x0 x1 b i k := by
  unfold hid
  rw [val_main_v27_apply, val_main_v25_apply, val_main_v21_apply, v20_at x0 b p i hi, v24_at, v26_at, v1_at x0 b p i hi,
    show modRow b i = ⟨b.val, Nat.lt_trans b.isLt (by decide)⟩ from if_neg (by omega)]
  rfl

include hi in
theorem v46_at (n : Fin 3072) : val_main_v46 (F := Ideal) x0 x1 x2 (ix3 b p n) = z x0 x1 x2 b i n := by
  rw [val_main_v46_apply]
  unfold z
  refine Finset.sum_congr rfl fun k _ => ?_
  have el : lidx_main_v46 (ix3 b p n) k = ix3 b p k := funext fun a => Fin.ext (match a with | ⟨0, _⟩ => rfl | ⟨1, _⟩ => rfl | ⟨2, _⟩ => rfl)
  have er : ridx_main_v46 (ix3 b p n) k = ix2 k n := funext fun a => Fin.ext (match a with | ⟨0, _⟩ => rfl | ⟨1, _⟩ => rfl)
  rw [el, er, v27_at x0 x1 b p i hi]

include hi in
theorem v49_at (n : Fin 512) : val_main_v49 (F := Ideal) x0 x1 x2 (ix3 b p n) = z x0 x1 x2 b i (cv n) := by
  have e : idx_main_v49 (ix3 b p n) = ix3 b p (cv n) := funext fun a => Fin.ext (match a with | ⟨0, _⟩ => rfl | ⟨1, _⟩ => rfl | ⟨2, _⟩ => rfl)
  rw [val_main_v49_apply, e, v46_at x0 x1 x2 b p i hi]

include hi in
theorem v50_at (n : Fin 512) : val_main_v50 (F := Ideal) x0 x1 x2 (ix3 b p n) = z x0 x1 x2 b i (cp n) := by
  have e : idx_main_v50 (ix3 b p n) = ix3 b p (cp n) := funext fun a => Fin.ext (match a with | ⟨0, _⟩ => rfl | ⟨1, _⟩ => rfl | ⟨2, _⟩ => rfl)
  rw [val_main_v50_apply, e, v46_at x0 x1 x2 b p i hi]

include hi in
theorem v51_at (h : Fin 12) (e : Fin 128) : val_main_v51 (F := Ideal) x0 x1 x2 (ix4 b p h e) = zq x0 x1 x2 b i h e := by
  have q : idx_main_v47 (idx_main_v51 (ix4 b p h e)) = ix3 b p ⟨128 * h.val + e.val, by omega⟩ := by
    have hb := b.isLt
    have hp := p.isLt
    have hh := h.isLt
    have he := e.isLt
    refine funext fun a => Fin.ext ?_
    match a with
    | ⟨0, _⟩ => show (((b.val * 8192 + p.val) * 12 + h.val) * 128 + e.val) / 12582912 = b.val; omega
    | ⟨1, _⟩ => show (((b.val * 8192 + p.val) * 12 + h.val) * 128 + e.val) / 1536 % 8192 = p.val; omega
    | ⟨2, _⟩ => show (((b.val * 8192 + p.val) * 12 + h.val) * 128 + e.val) % 1536 = 128 * h.val + e.val; omega
  rw [val_main_v51_apply, val_main_v47_apply, q, v46_at x0 x1 x2 b p i hi]
  rfl

include hi in
theorem v53_at (h : Fin 12) : val_main_v53 (F := Ideal) x0 x1 x2 (ix3 b p h) = ∑ k : Fin 128, zq x0 x1 x2 b i h k * zq x0 x1 x2 b i h k := by
  rw [val_main_v53_apply, val_main_cst_7_apply]
  refine (congrArg (fun z : EReal => z + _) Cert.Experts.zero_word).trans ((zero_add _).trans (Finset.sum_congr rfl fun k _ => ?_))
  have e : idx_main_v53 (ix3 b p h) k = ix4 b p h k := funext fun a => Fin.ext (match a with | ⟨0, _⟩ => rfl | ⟨1, _⟩ => rfl | ⟨2, _⟩ => rfl | ⟨3, _⟩ => rfl)
  rw [val_main_v52_apply, e, v51_at x0 x1 x2 b p i hi]
  rfl

include hi in
theorem v60_at (h : Fin 12) (e : Fin 128) : val_main_v60 (F := Ideal) x0 x1 x2 (ix4 b p h e)
    = Ideal.rsqrt (Ideal.div (∑ k : Fin 128, zq x0 x1 x2 b i h k * zq x0 x1 x2 b i h k) cH + cE) := by
  have q : idx_main_v54 (idx_main_v60 (ix4 b p h e)) = ix3 b p h := funext fun a => Fin.ext (match a with | ⟨0, _⟩ => rfl | ⟨1, _⟩ => rfl | ⟨2, _⟩ => rfl)
  rw [val_main_v60_apply, val_main_v59_apply, val_main_v58_apply, val_main_v57_apply, val_main_cst_9_apply, val_main_v56_apply, val_main_v55_apply,
    val_main_cst_8_apply, val_main_v54_apply, q, v53_at x0 x1 x2 b p i hi]
  rfl

include hi in
theorem v64_at (h : Fin 12) (e : Fin 128) : val_main_v64 (F := Ideal) x0 x1 x2 x3 (ix4 b p h e) = nrm (zq x0 x1 x2 b i h) (gn x3) e := by
  have q : idx_main_v62 (idx_main_v63 (ix4 b p h e)) = ix1 e := funext fun a => Fin.ext (match a with | ⟨0, _⟩ => rfl)
  rw [val_main_v64_apply, val_main_v61_apply, val_main_v63_apply, val_main_v62_apply, q, v60_at x0 x1 x2 b p i hi, v51_at x0 x1 x2 b p i hi]
  rfl

include hi in
theorem v65_at (h : Fin 4) (e : Fin 128) : val_main_v65 (F := Ideal) x0 x1 x2 (ix4 b p h e) = zk x0 x1 x2 b i h e := by
  have q : idx_main_v48 (idx_main_v65 (ix4 b p h e)) = ix3 b p ⟨1536 + 128 * h.val + e.val, by omega⟩ := by
    have hb := b.isLt
    have hp := p.isLt
    have hh := h.isLt
    have he := e.isLt
    refine funext fun a => Fin.ext ?_
    match a with
    | ⟨0, _⟩ => show (((b.val * 8192 + p.val) * 4 + h.val) * 128 + e.val) / 4194304 = b.val; omega
    | ⟨1, _⟩ => show (((b.val * 8192 + p.val) * 4 + h.val) * 128 + e.val) / 512 % 8192 = p.val; omega
    | ⟨2, _⟩ => show 1536 + (((b.val * 8192 + p.val) * 4 + h.val) * 128 + e.val) % 512 = 1536 + 128 * h.val + e.val; omega
  rw [val_main_v65_apply, val_main_v48_apply, q, v46_at x0 x1 x2 b p i hi]
  rfl

include hi in
theorem v67_at (h : Fin 4) : val_main_v67 (F := Ideal) x0 x1 x2 (ix3 b p h) = ∑ k : Fin 128, zk x0 x1 x2 b i h k * zk x0 x1 x2 b i h k := by
  rw [val_main_v67_apply, val_main_cst_10_apply]
  refine (congrArg (fun z : EReal => z + _) Cert.Experts.zero_word).trans ((zero_add _).trans (Finset.sum_congr rfl fun k _ => ?_))
  have e : idx_main_v67 (ix3 b p h) k = ix4 b p h k := funext fun a => Fin.ext (match a with | ⟨0, _⟩ => rfl | ⟨1, _⟩ => rfl | ⟨2, _⟩ => rfl | ⟨3, _⟩ => rfl)
  rw [val_main_v66_apply, e, v65_at x0 x1 x2 b p i hi]
  rfl

include hi in
theorem v74_at (h : Fin 4) (e : Fin 128) : val_main_v74 (F := Ideal) x0 x1 x2 (ix4 b p h e)
    = Ideal.rsqrt (Ideal.div (∑ k : Fin 128, zk x0 x1 x2 b i h k * zk x0 x1 x2 b i h k) cH + cE) := by
  have q : idx_main_v68 (idx_main_v74 (ix4 b p h e)) = ix3 b p h := funext fun a => Fin.ext (match a with | ⟨0, _⟩ => rfl | ⟨1, _⟩ => rfl | ⟨2, _⟩ => rfl)
  rw [val_main_v74_apply, val_main_v73_apply, val_main_v72_apply, val_main_v71_apply, val_main_cst_12_apply, val_main_v70_apply, val_main_v69_apply,
    val_main_cst_11_apply, val_main_v68_apply, q, v67_at x0 x1 x2 b p i hi]
  rfl

include hi in
theorem v78_at (h : Fin 4) (e : Fin 128) : val_main_v78 (F := Ideal) x0 x1 x2 x4 (ix4 b p h e) = nrm (zk x0 x1 x2 b i h) (gn x4) e := by
  have q : idx_main_v76 (idx_main_v77 (ix4 b p h e)) = ix1 e := funext fun a => Fin.ext (match a with | ⟨0, _⟩ => rfl)
  rw [val_main_v78_apply, val_main_v75_apply, val_main_v77_apply, val_main_v76_apply, q, v74_at x0 x1 x2 b p i hi, v65_at x0 x1 x2 b p i hi]
  rfl

include hi in
theorem v113_at (h : Fin 12) (e : Fin 32) : val_main_v113 (F := Ideal) x0 x1 x2 x3 (ix4 b p h e) = nrm (zq x0 x1 x2 b i h) (gn x3) (ln 0 (by decide) e) := by
  have q : idx_main_v112 (idx_main_v113 (ix4 b p h e)) = ix4 b p h (ln 0 (by decide) e) := by
    refine funext fun a => Fin.ext ?_
    match a with
    | ⟨0, _⟩ => rfl
    | ⟨1, _⟩ => rfl
    | ⟨2, _⟩ => rfl
    | ⟨3, _⟩ => show e.val = 0 + e.val; omega
  rw [val_main_v113_apply, val_main_v112_apply, q, v64_at x0 x1 x2 x3 b p i hi]

include hi in
theorem v114_at (h : Fin 12) (e : Fin 32) : val_main_v114 (F := Ideal) x0 x1 x2 x3 (ix4 b p h e) = nrm (zq x0 x1 x2 b i h) (gn x3) (ln 32 (by decide) e) := by
  have q : idx_main_v112 (idx_main_v114 (ix4 b p h e)) = ix4 b p h (ln 32 (by decide) e) := by
    refine funext fun a => Fin.ext ?_
    match a with
    | ⟨0, _⟩ => rfl
    | ⟨1, _⟩ => rfl
    | ⟨2, _⟩ => rfl
    | ⟨3, _⟩ => show 32 + e.val = 32 + e.val; omega
  rw [val_main_v114_apply, val_main_v112_apply, q, v64_at x0 x1 x2 x3 b p i hi]

theorem v117_at (h : Fin 12) (e : Fin 32) : val_main_v117 (F := Ideal) x5 (ix4 b p h e) = x5 (ix2 p e) := by
  have q : idx_main_v115 (idx_main_v117 (ix4 b p h e)) = ix2 p e := funext fun a => Fin.ext (match a with | ⟨0, _⟩ => rfl | ⟨1, _⟩ => rfl)
  rw [val_main_v117_apply, val_main_v115_apply, q]

theorem v119_at (h : Fin 12) (e : Fin 32) : val_main_v119 (F := Ideal) x6 (ix4 b p h e) = x6 (ix2 p e) := by
  have q : idx_main_v116 (idx_main_v119 (ix4 b p h e)) = ix2 p e := funext fun a => Fin.ext (match a with | ⟨0, _⟩ => rfl | ⟨1, _⟩ => rfl)
  rw [val_main_v119_apply, val_main_v116_apply, q]

theorem v122_at (h : Fin 12) (e : Fin 32) : val_main_v122 (F := Ideal) x5 (ix4 b p h e) = x5 (ix2 p e) := by
  have q : idx_main_v115 (idx_main_v122 (ix4 b p h e)) = ix2 p e := funext fun a => Fin.ext (match a with | ⟨0, _⟩ => rfl | ⟨1, _⟩ => rfl)
  rw [val_main_v122_apply, val_main_v115_apply, q]

theorem v124_at (h : Fin 12) (e : Fin 32) : val_main_v124 (F := Ideal) x6 (ix4 b p h e) = x6 (ix2 p e) := by
  have q : idx_main_v116 (idx_main_v124 (ix4 b p h e)) = ix2 p e := funext fun a => Fin.ext (match a with | ⟨0, _⟩ => rfl | ⟨1, _⟩ => rfl)
  rw [val_main_v124_apply, val_main_v116_apply, q]

include hi in
theorem v121_at (h : Fin 12) (e : Fin 32) : val_main_v121 (F := Ideal) x0 x1 x2 x3 x5 x6 (ix4 b p h e)
    = roped (zq x0 x1 x2 b i h) (gn x3) (cosT x5 x7 i) (sinT x6 x8 i) (ln 0 (by decide) e) := by
  have he := e.isLt
  rw [val_main_v121_apply, val_main_v118_apply, val_main_v120_apply, v113_at x0 x1 x2 x3 b p i hi, v114_at x0 x1 x2 x3 b p i hi, v117_at, v119_at]
  exact (turn_fst (zq x0 x1 x2 b i h) (gn x3) (cosT x5 x7 i) (sinT x6 x8 i) (ln 0 (by decide) e) (ln 32 (by decide) e) (by show 32 + e.val = 0 + e.val + 32; omega)
    (by show (0 + e.val) % 64 < 32; omega) _ _ (cos_lo x5 x7 p i hi _ e (by show 0 + e.val < 64; omega) (by show (0 + e.val) % 32 = e.val; omega))
    (sin_lo_fst x6 x8 p i hi _ e (by show 0 + e.val < 64; omega) (by show (0 + e.val) % 64 < 32; omega) (by show (0 + e.val) % 32 = e.val; omega))).symm

include hi in
theorem v126_at (h : Fin 12) (e : Fin 32) : val_main_v126 (F := Ideal) x0 x1 x2 x3 x5 x6 (ix4 b p h e)
    = roped (zq x0 x1 x2 b i h) (gn x3) (cosT x5 x7 i) (sinT x6 x8 i) (ln 32 (by decide) e) := by
  have he := e.isLt
  rw [val_main_v126_apply, val_main_v123_apply, val_main_v125_apply, v113_at x0 x1 x2 x3 b p i hi, v114_at x0 x1 x2 x3 b p i hi, v122_at, v124_at]
  exact (turn_snd (zq x0 x1 x2 b i h) (gn x3) (cosT x5 x7 i) (sinT x6 x8 i) (ln 32 (by decide) e) (ln 0 (by decide) e) (by show 32 + e.val = 0 + e.val + 32; omega)
    (by show ¬(32 + e.val) % 64 < 32; omega) _ _ (cos_lo x5 x7 p i hi _ e (by show 32 + e.val < 64; omega) (by show (32 + e.val) % 32 = e.val; omega))
    (sin_lo_snd x6 x8 p i hi _ e (by show 32 + e.val < 64; omega) (by show ¬(32 + e.val) % 64 < 32; omega) (by show (32 + e.val) % 32 = e.val; omega))).symm

include hi in
theorem v127_at (h : Fin 12) (f : Fin 64) : val_main_v127 (F := Ideal) x0 x1 x2 x3 x5 x6 (ix4 b p h f)
    = roped (zq x0 x1 x2 b i h) (gn x3) (cosT x5 x7 i) (sinT x6 x8 i) (ln2 0 (by decide) f) := by
  unfold val_main_v127
  by_cases hf : f.val < 32
  · refine (concatenate_pair_apply_left (t := S4x8192x12x64) (s₁ := S4x8192x12x32) 3 _ _ concatenates_S4x8192x12x32_S4x8192x12x32_S4x8192x12x64_d3 (ix4 b p h f) rfl (ix4 b p h ⟨f.val, hf⟩)
      (fun a => match a with | ⟨0, _⟩ => rfl | ⟨1, _⟩ => rfl | ⟨2, _⟩ => rfl | ⟨3, _⟩ => rfl)).trans ?_
    exact v121_at x0 x1 x2 x3 x5 x6 x7 x8 b p i hi h ⟨f.val, hf⟩
  · have hp : f.val - 32 < 32 := by omega
    refine (concatenate_pair_apply_right (t := S4x8192x12x64) (s₁ := S4x8192x12x32) 3 _ _ concatenates_S4x8192x12x32_S4x8192x12x32_S4x8192x12x64_d3 (ix4 b p h f) rfl rfl (ix4 b p h ⟨f.val - 32, hp⟩)
      (fun a ha => match a with | ⟨0, _⟩ => rfl | ⟨1, _⟩ => rfl | ⟨2, _⟩ => rfl | ⟨3, _⟩ => absurd rfl ha) (by show f.val - 32 + 32 = f.val; omega)).trans ?_
    exact (v126_at x0 x1 x2 x3 x5 x6 x7 x8 b p i hi h ⟨f.val - 32, hp⟩).trans
      (congrArg (roped (zq x0 x1 x2 b i h) (gn x3) (cosT x5 x7 i) (sinT x6 x8 i)) (Fin.ext (by show 32 + (f.val - 32) = 0 + f.val; omega)))

include hi in
theorem v129_at (h : Fin 12) (e : Fin 32) : val_main_v129 (F := Ideal) x0 x1 x2 x3 (ix4 b p h e) = nrm (zq x0 x1 x2 b i h) (gn x3) (ln 64 (by decide) e) := by
  have q : idx_main_v128 (idx_main_v129 (ix4 b p h e)) = ix4 b p h (ln 64 (by decide) e) := by
    refine funext fun a => Fin.ext ?_
    match a with
    | ⟨0, _⟩ => rfl
    | ⟨1, _⟩ => rfl
    | ⟨2, _⟩ => rfl
    | ⟨3, _⟩ => show 64 + (e.val) = 64 + e.val; omega
  rw [val_main_v129_apply, val_main_v128_apply, q, v64_at x0 x1 x2 x3 b p i hi]

include hi in
theorem v130_at (h : Fin 12) (e : Fin 32) : val_main_v130 (F := Ideal) x0 x1 x2 x3 (ix4 b p h e) = nrm (zq x0 x1 x2 b i h) (gn x3) (ln 96 (by decide) e) := by
  have q : idx_main_v128 (idx_main_v130 (ix4 b p h e)) = ix4 b p h (ln 96 (by decide) e) := by
    refine funext fun a => Fin.ext ?_
    match a with
    | ⟨0, _⟩ => rfl
    | ⟨1, _⟩ => rfl
    | ⟨2, _⟩ => rfl
    | ⟨3, _⟩ => show 64 + (32 + e.val) = 96 + e.val; omega
  rw [val_main_v130_apply, val_main_v128_apply, q, v64_at x0 x1 x2 x3 b p i hi]

theorem v133_at (h : Fin 12) (e : Fin 32) : val_main_v133 (F := Ideal) x7 (ix4 b p h e) = x7 (ix2 p e) := by
  have q : idx_main_v131 (idx_main_v133 (ix4 b p h e)) = ix2 p e := funext fun a => Fin.ext (match a with | ⟨0, _⟩ => rfl | ⟨1, _⟩ => rfl)
  rw [val_main_v133_apply, val_main_v131_apply, q]

theorem v135_at (h : Fin 12) (e : Fin 32) : val_main_v135 (F := Ideal) x8 (ix4 b p h e) = x8 (ix2 p e) := by
  have q : idx_main_v132 (idx_main_v135 (ix4 b p h e)) = ix2 p e := funext fun a => Fin.ext (match a with | ⟨0, _⟩ => rfl | ⟨1, _⟩ => rfl)
  rw [val_main_v135_apply, val_main_v132_apply, q]

theorem v138_at (h : Fin 12) (e : Fin 32) : val_main_v138 (F := Ideal) x7 (ix4 b p h e) = x7 (ix2 p e) := by
  have q : idx_main_v131 (idx_main_v138 (ix4 b p h e)) = ix2 p e := funext fun a => Fin.ext (match a with | ⟨0, _⟩ => rfl | ⟨1, _⟩ => rfl)
  rw [val_main_v138_apply, val_main_v131_apply, q]

theorem v140_at (h : Fin 12) (e : Fin 32) : val_main_v140 (F := Ideal) x8 (ix4 b p h e) = x8 (ix2 p e) := by
  have q : idx_main_v132 (idx_main_v140 (ix4 b p h e)) = ix2 p e := funext fun a => Fin.ext (match a with | ⟨0, _⟩ => rfl | ⟨1, _⟩ => rfl)
  rw [val_main_v140_apply, val_main_v132_apply, q]

include hi in
theorem v137_at (h : Fin 12) (e : Fin 32) : val_main_v137 (F := Ideal) x0 x1 x2 x3 x7 x8 (ix4 b p h e)
    = roped (zq x0 x1 x2 b i h) (gn x3) (cosT x5 x7 i) (sinT x6 x8 i) (ln 64 (by decide) e) := by
  have he := e.isLt
  rw [val_main_v137_apply, val_main_v134_apply, val_main_v136_apply, v129_at x0 x1 x2 x3 b p i hi, v130_at x0 x1 x2 x3 b p i hi, v133_at, v135_at]
  exact (turn_fst (zq x0 x1 x2 b i h) (gn x3) (cosT x5 x7 i) (sinT x6 x8 i) (ln 64 (by decide) e) (ln 96 (by decide) e) (by show 96 + e.val = 64 + e.val + 32; omega)
    (by show (64 + e.val) % 64 < 32; omega) _ _ (cos_hi x5 x7 p i hi _ e (by show ¬64 + e.val < 64; omega) (by show (64 + e.val) % 32 = e.val; omega))
    (sin_hi_fst x6 x8 p i hi _ e (by show ¬64 + e.val < 64; omega) (by show (64 + e.val) % 64 < 32; omega) (by show (64 + e.val) % 32 = e.val; omega))).symm

include hi in
theorem v142_at (h : Fin 12) (e : Fin 32) : val_main_v142 (F := Ideal) x0 x1 x2 x3 x7 x8 (ix4 b p h e)
    = roped (zq x0 x1 x2 b i h) (gn x3) (cosT x5 x7 i) (sinT x6 x8 i) (ln 96 (by decide) e) := by
  have he := e.isLt
  rw [val_main_v142_apply, val_main_v139_apply, val_main_v141_apply, v129_at x0 x1 x2 x3 b p i hi, v130_at x0 x1 x2 x3 b p i hi, v138_at, v140_at]
  exact (turn_snd (zq x0 x1 x2 b i h) (gn x3) (cosT x5 x7 i) (sinT x6 x8 i) (ln 96 (by decide) e) (ln 64 (by decide) e) (by show 96 + e.val = 64 + e.val + 32; omega)
    (by show ¬(96 + e.val) % 64 < 32; omega) _ _ (cos_hi x5 x7 p i hi _ e (by show ¬96 + e.val < 64; omega) (by show (96 + e.val) % 32 = e.val; omega))
    (sin_hi_snd x6 x8 p i hi _ e (by show ¬96 + e.val < 64; omega) (by show ¬(96 + e.val) % 64 < 32; omega) (by show (96 + e.val) % 32 = e.val; omega))).symm

include hi in
theorem v143_at (h : Fin 12) (f : Fin 64) : val_main_v143 (F := Ideal) x0 x1 x2 x3 x7 x8 (ix4 b p h f)
    = roped (zq x0 x1 x2 b i h) (gn x3) (cosT x5 x7 i) (sinT x6 x8 i) (ln2 64 (by decide) f) := by
  unfold val_main_v143
  by_cases hf : f.val < 32
  · refine (concatenate_pair_apply_left (t := S4x8192x12x64) (s₁ := S4x8192x12x32) 3 _ _ concatenates_S4x8192x12x32_S4x8192x12x32_S4x8192x12x64_d3 (ix4 b p h f) rfl (ix4 b p h ⟨f.val, hf⟩)
      (fun a => match a with | ⟨0, _⟩ => rfl | ⟨1, _⟩ => rfl | ⟨2, _⟩ => rfl | ⟨3, _⟩ => rfl)).trans ?_
    exact v137_at x0 x1 x2 x3 x5 x6 x7 x8 b p i hi h ⟨f.val, hf⟩
  · have hp : f.val - 32 < 32 := by omega
    refine (concatenate_pair_apply_right (t := S4x8192x12x64) (s₁ := S4x8192x12x32) 3 _ _ concatenates_S4x8192x12x32_S4x8192x12x32_S4x8192x12x64_d3 (ix4 b p h f) rfl rfl (ix4 b p h ⟨f.val - 32, hp⟩)
      (fun a ha => match a with | ⟨0, _⟩ => rfl | ⟨1, _⟩ => rfl | ⟨2, _⟩ => rfl | ⟨3, _⟩ => absurd rfl ha) (by show f.val - 32 + 32 = f.val; omega)).trans ?_
    exact (v142_at x0 x1 x2 x3 x5 x6 x7 x8 b p i hi h ⟨f.val - 32, hp⟩).trans
      (congrArg (roped (zq x0 x1 x2 b i h) (gn x3) (cosT x5 x7 i) (sinT x6 x8 i)) (Fin.ext (by show 96 + (f.val - 32) = 64 + f.val; omega)))

include hi in
theorem v144_at (h : Fin 12) (d : Fin 128) : val_main_v144 (F := Ideal) x0 x1 x2 x3 x5 x6 x7 x8 (ix4 b p h d) = roped (zq x0 x1 x2 b i h) (gn x3) (cosT x5 x7 i) (sinT x6 x8 i) d := by
  unfold val_main_v144
  by_cases hf : d.val < 64
  · refine (concatenate_pair_apply_left (t := S4x8192x12x128) (s₁ := S4x8192x12x64) 3 _ _ concatenates_S4x8192x12x64_S4x8192x12x64_S4x8192x12x128_d3 (ix4 b p h d) rfl (ix4 b p h ⟨d.val, hf⟩)
      (fun a => match a with | ⟨0, _⟩ => rfl | ⟨1, _⟩ => rfl | ⟨2, _⟩ => rfl | ⟨3, _⟩ => rfl)).trans ?_
    exact (v127_at x0 x1 x2 x3 x5 x6 x7 x8 b p i hi h ⟨d.val, hf⟩).trans
      (congrArg (roped (zq x0 x1 x2 b i h) (gn x3) (cosT x5 x7 i) (sinT x6 x8 i)) (Fin.ext (by show 0 + d.val = d.val; omega)))
  · have hp : d.val - 64 < 64 := by omega
    refine (concatenate_pair_apply_right (t := S4x8192x12x128) (s₁ := S4x8192x12x64) 3 _ _ concatenates_S4x8192x12x64_S4x8192x12x64_S4x8192x12x128_d3 (ix4 b p h d) rfl rfl (ix4 b p h ⟨d.val - 64, hp⟩)
      (fun a ha => match a with | ⟨0, _⟩ => rfl | ⟨1, _⟩ => rfl | ⟨2, _⟩ => rfl | ⟨3, _⟩ => absurd rfl ha) (by show d.val - 64 + 64 = d.val; omega)).trans ?_
    exact (v143_at x0 x1 x2 x3 x5 x6 x7 x8 b p i hi h ⟨d.val - 64, hp⟩).trans
      (congrArg (roped (zq x0 x1 x2 b i h) (gn x3) (cosT x5 x7 i) (sinT x6 x8 i)) (Fin.ext (by show 64 + (d.val - 64) = d.val; omega)))

include hi in
theorem v146_at (h : Fin 4) (e : Fin 32) : val_main_v146 (F := Ideal) x0 x1 x2 x4 (ix4 b p h e) = nrm (zk x0 x1 x2 b i h) (gn x4) (ln 0 (by decide) e) := by
  have q : idx_main_v145 (idx_main_v146 (ix4 b p h e)) = ix4 b p h (ln 0 (by decide) e) := by
    refine funext fun a => Fin.ext ?_
    match a with
    | ⟨0, _⟩ => rfl
    | ⟨1, _⟩ => rfl
    | ⟨2, _⟩ => rfl
    | ⟨3, _⟩ => show e.val = 0 + e.val; omega
  rw [val_main_v146_apply, val_main_v145_apply, q, v78_at x0 x1 x2 x4 b p i hi]

include hi in
theorem v147_at (h : Fin 4) (e : Fin 32) : val_main_v147 (F := Ideal) x0 x1 x2 x4 (ix4 b p h e) = nrm (zk x0 x1 x2 b i h) (gn x4) (ln 32 (by decide) e) := by
  have q : idx_main_v145 (idx_main_v147 (ix4 b p h e)) = ix4 b p h (ln 32 (by decide) e) := by
    refine funext fun a => Fin.ext ?_
    match a with
    | ⟨0, _⟩ => rfl
    | ⟨1, _⟩ => rfl
    | ⟨2, _⟩ => rfl
    | ⟨3, _⟩ => show 32 + e.val = 32 + e.val; omega
  rw [val_main_v147_apply, val_main_v145_apply, q, v78_at x0 x1 x2 x4 b p i hi]

theorem v150_at (h : Fin 4) (e : Fin 32) : val_main_v150 (F := Ideal) x5 (ix4 b p h e) = x5 (ix2 p e) := by
  have q : idx_main_v148 (idx_main_v150 (ix4 b p h e)) = ix2 p e := funext fun a => Fin.ext (match a with | ⟨0, _⟩ => rfl | ⟨1, _⟩ => rfl)
  rw [val_main_v150_apply, val_main_v148_apply, q]

theorem v152_at (h : Fin 4) (e : Fin 32) : val_main_v152 (F := Ideal) x6 (ix4 b p h e) = x6 (ix2 p e) := by
  have q : idx_main_v149 (idx_main_v152 (ix4 b p h e)) = ix2 p e := funext fun a => Fin.ext (match a with | ⟨0, _⟩ => rfl | ⟨1, _⟩ => rfl)
  rw [val_main_v152_apply, val_main_v149_apply, q]

theorem v155_at (h : Fin 4) (e : Fin 32) : val_main_v155 (F := Ideal) x5 (ix4 b p h e) = x5 (ix2 p e) := by
  have q : idx_main_v148 (idx_main_v155 (ix4 b p h e)) = ix2 p e := funext fun a => Fin.ext (match a with | ⟨0, _⟩ => rfl | ⟨1, _⟩ => rfl)
  rw [val_main_v155_apply, val_main_v148_apply, q]

theorem v157_at (h : Fin 4) (e : Fin 32) : val_main_v157 (F := Ideal) x6 (ix4 b p h e) = x6 (ix2 p e) := by
  have q : idx_main_v149 (idx_main_v157 (ix4 b p h e)) = ix2 p e := funext fun a => Fin.ext (match a with | ⟨0, _⟩ => rfl | ⟨1, _⟩ => rfl)
  rw [val_main_v157_apply, val_main_v149_apply, q]

include hi in
theorem v154_at (h : Fin 4) (e : Fin 32) : val_main_v154 (F := Ideal) x0 x1 x2 x4 x5 x6 (ix4 b p h e)
    = roped (zk x0 x1 x2 b i h) (gn x4) (cosT x5 x7 i) (sinT x6 x8 i) (ln 0 (by decide) e) := by
  have he := e.isLt
  rw [val_main_v154_apply, val_main_v151_apply, val_main_v153_apply, v146_at x0 x1 x2 x4 b p i hi, v147_at x0 x1 x2 x4 b p i hi, v150_at, v152_at]
  exact (turn_fst (zk x0 x1 x2 b i h) (gn x4) (cosT x5 x7 i) (sinT x6 x8 i) (ln 0 (by decide) e) (ln 32 (by decide) e) (by show 32 + e.val = 0 + e.val + 32; omega)
    (by show (0 + e.val) % 64 < 32; omega) _ _ (cos_lo x5 x7 p i hi _ e (by show 0 + e.val < 64; omega) (by show (0 + e.val) % 32 = e.val; omega))
    (sin_lo_fst x6 x8 p i hi _ e (by show 0 + e.val < 64; omega) (by show (0 + e.val) % 64 < 32; omega) (by show (0 + e.val) % 32 = e.val; omega))).symm

include hi in
theorem v159_at (h : Fin 4) (e : Fin 32) : val_main_v159 (F := Ideal) x0 x1 x2 x4 x5 x6 (ix4 b p h e)
    = roped (zk x0 x1 x2 b i h) (gn x4) (cosT x5 x7 i) (sinT x6 x8 i) (ln 32 (by decide) e) := by
  have he := e.isLt
  rw [val_main_v159_apply, val_main_v156_apply, val_main_v158_apply, v146_at x0 x1 x2 x4 b p i hi, v147_at x0 x1 x2 x4 b p i hi, v155_at, v157_at]
  exact (turn_snd (zk x0 x1 x2 b i h) (gn x4) (cosT x5 x7 i) (sinT x6 x8 i) (ln 32 (by decide) e) (ln 0 (by decide) e) (by show 32 + e.val = 0 + e.val + 32; omega)
    (by show ¬(32 + e.val) % 64 < 32; omega) _ _ (cos_lo x5 x7 p i hi _ e (by show 32 + e.val < 64; omega) (by show (32 + e.val) % 32 = e.val; omega))
    (sin_lo_snd x6 x8 p i hi _ e (by show 32 + e.val < 64; omega) (by show ¬(32 + e.val) % 64 < 32; omega) (by show (32 + e.val) % 32 = e.val; omega))).symm

include hi in
theorem v160_at (h : Fin 4) (f : Fin 64) : val_main_v160 (F := Ideal) x0 x1 x2 x4 x5 x6 (ix4 b p h f)
    = roped (zk x0 x1 x2 b i h) (gn x4) (cosT x5 x7 i) (sinT x6 x8 i) (ln2 0 (by decide) f) := by
  unfold val_main_v160
  by_cases hf : f.val < 32
  · refine (concatenate_pair_apply_left (t := S4x8192x4x64) (s₁ := S4x8192x4x32) 3 _ _ concatenates_S4x8192x4x32_S4x8192x4x32_S4x8192x4x64_d3 (ix4 b p h f) rfl (ix4 b p h ⟨f.val, hf⟩)
      (fun a => match a with | ⟨0, _⟩ => rfl | ⟨1, _⟩ => rfl | ⟨2, _⟩ => rfl | ⟨3, _⟩ => rfl)).trans ?_
    exact v154_at x0 x1 x2 x4 x5 x6 x7 x8 b p i hi h ⟨f.val, hf⟩
  · have hp : f.val - 32 < 32 := by omega
    refine (concatenate_pair_apply_right (t := S4x8192x4x64) (s₁ := S4x8192x4x32) 3 _ _ concatenates_S4x8192x4x32_S4x8192x4x32_S4x8192x4x64_d3 (ix4 b p h f) rfl rfl (ix4 b p h ⟨f.val - 32, hp⟩)
      (fun a ha => match a with | ⟨0, _⟩ => rfl | ⟨1, _⟩ => rfl | ⟨2, _⟩ => rfl | ⟨3, _⟩ => absurd rfl ha) (by show f.val - 32 + 32 = f.val; omega)).trans ?_
    exact (v159_at x0 x1 x2 x4 x5 x6 x7 x8 b p i hi h ⟨f.val - 32, hp⟩).trans
      (congrArg (roped (zk x0 x1 x2 b i h) (gn x4) (cosT x5 x7 i) (sinT x6 x8 i)) (Fin.ext (by show 32 + (f.val - 32) = 0 + f.val; omega)))

include hi in
theorem v162_at (h : Fin 4) (e : Fin 32) : val_main_v162 (F := Ideal) x0 x1 x2 x4 (ix4 b p h e) = nrm (zk x0 x1 x2 b i h) (gn x4) (ln 64 (by decide) e) := by
  have q : idx_main_v161 (idx_main_v162 (ix4 b p h e)) = ix4 b p h (ln 64 (by decide) e) := by
    refine funext fun a => Fin.ext ?_
    match a with
    | ⟨0, _⟩ => rfl
    | ⟨1, _⟩ => rfl
    | ⟨2, _⟩ => rfl
    | ⟨3, _⟩ => show 64 + (e.val) = 64 + e.val; omega
  rw [val_main_v162_apply, val_main_v161_apply, q, v78_at x0 x1 x2 x4 b p i hi]

include hi in
theorem v163_at (h : Fin 4) (e : Fin 32) : val_main_v163 (F := Ideal) x0 x1 x2 x4 (ix4 b p h e) = nrm (zk x0 x1 x2 b i h) (gn x4) (ln 96 (by decide) e) := by
  have q : idx_main_v161 (idx_main_v163 (ix4 b p h e)) = ix4 b p h (ln 96 (by decide) e) := by
    refine funext fun a => Fin.ext ?_
    match a with
    | ⟨0, _⟩ => rfl
    | ⟨1, _⟩ => rfl
    | ⟨2, _⟩ => rfl
    | ⟨3, _⟩ => show 64 + (32 + e.val) = 96 + e.val; omega
  rw [val_main_v163_apply, val_main_v161_apply, q, v78_at x0 x1 x2 x4 b p i hi]

theorem v166_at (h : Fin 4) (e : Fin 32) : val_main_v166 (F := Ideal) x7 (ix4 b p h e) = x7 (ix2 p e) := by
  have q : idx_main_v164 (idx_main_v166 (ix4 b p h e)) = ix2 p e := funext fun a => Fin.ext (match a with | ⟨0, _⟩ => rfl | ⟨1, _⟩ => rfl)
  rw [val_main_v166_apply, val_main_v164_apply, q]

theorem v168_at (h : Fin 4) (e : Fin 32) : val_main_v168 (F := Ideal) x8 (ix4 b p h e) = x8 (ix2 p e) := by
  have q : idx_main_v165 (idx_main_v168 (ix4 b p h e)) = ix2 p e := funext fun a => Fin.ext (match a with | ⟨0, _⟩ => rfl | ⟨1, _⟩ => rfl)
  rw [val_main_v168_apply, val_main_v165_apply, q]

theorem v171_at (h : Fin 4) (e : Fin 32) : val_main_v171 (F := Ideal) x7 (ix4 b p h e) = x7 (ix2 p e) := by
  have q : idx_main_v164 (idx_main_v171 (ix4 b p h e)) = ix2 p e := funext fun a => Fin.ext (match a with | ⟨0, _⟩ => rfl | ⟨1, _⟩ => rfl)
  rw [val_main_v171_apply, val_main_v164_apply, q]

theorem v173_at (h : Fin 4) (e : Fin 32) : val_main_v173 (F := Ideal) x8 (ix4 b p h e) = x8 (ix2 p e) := by
  have q : idx_main_v165 (idx_main_v173 (ix4 b p h e)) = ix2 p e := funext fun a => Fin.ext (match a with | ⟨0, _⟩ => rfl | ⟨1, _⟩ => rfl)
  rw [val_main_v173_apply, val_main_v165_apply, q]

include hi in
theorem v170_at (h : Fin 4) (e : Fin 32) : val_main_v170 (F := Ideal) x0 x1 x2 x4 x7 x8 (ix4 b p h e)
    = roped (zk x0 x1 x2 b i h) (gn x4) (cosT x5 x7 i) (sinT x6 x8 i) (ln 64 (by decide) e) := by
  have he := e.isLt
  rw [val_main_v170_apply, val_main_v167_apply, val_main_v169_apply, v162_at x0 x1 x2 x4 b p i hi, v163_at x0 x1 x2 x4 b p i hi, v166_at, v168_at]
  exact (turn_fst (zk x0 x1 x2 b i h) (gn x4) (cosT x5 x7 i) (sinT x6 x8 i) (ln 64 (by decide) e) (ln 96 (by decide) e) (by show 96 + e.val = 64 + e.val + 32; omega)
    (by show (64 + e.val) % 64 < 32; omega) _ _ (cos_hi x5 x7 p i hi _ e (by show ¬64 + e.val < 64; omega) (by show (64 + e.val) % 32 = e.val; omega))
    (sin_hi_fst x6 x8 p i hi _ e (by show ¬64 + e.val < 64; omega) (by show (64 + e.val) % 64 < 32; omega) (by show (64 + e.val) % 32 = e.val; omega))).symm

include hi in
theorem v175_at (h : Fin 4) (e : Fin 32) : val_main_v175 (F := Ideal) x0 x1 x2 x4 x7 x8 (ix4 b p h e)
    = roped (zk x0 x1 x2 b i h) (gn x4) (cosT x5 x7 i) (sinT x6 x8 i) (ln 96 (by decide) e) := by
  have he := e.isLt
  rw [val_main_v175_apply, val_main_v172_apply, val_main_v174_apply, v162_at x0 x1 x2 x4 b p i hi, v163_at x0 x1 x2 x4 b p i hi, v171_at, v173_at]
  exact (turn_snd (zk x0 x1 x2 b i h) (gn x4) (cosT x5 x7 i) (sinT x6 x8 i) (ln 96 (by decide) e) (ln 64 (by decide) e) (by show 96 + e.val = 64 + e.val + 32; omega)
    (by show ¬(96 + e.val) % 64 < 32; omega) _ _ (cos_hi x5 x7 p i hi _ e (by show ¬96 + e.val < 64; omega) (by show (96 + e.val) % 32 = e.val; omega))
    (sin_hi_snd x6 x8 p i hi _ e (by show ¬96 + e.val < 64; omega) (by show ¬(96 + e.val) % 64 < 32; omega) (by show (96 + e.val) % 32 = e.val; omega))).symm

include hi in
theorem v176_at (h : Fin 4) (f : Fin 64) : val_main_v176 (F := Ideal) x0 x1 x2 x4 x7 x8 (ix4 b p h f)
    = roped (zk x0 x1 x2 b i h) (gn x4) (cosT x5 x7 i) (sinT x6 x8 i) (ln2 64 (by decide) f) := by
  unfold val_main_v176
  by_cases hf : f.val < 32
  · refine (concatenate_pair_apply_left (t := S4x8192x4x64) (s₁ := S4x8192x4x32) 3 _ _ concatenates_S4x8192x4x32_S4x8192x4x32_S4x8192x4x64_d3 (ix4 b p h f) rfl (ix4 b p h ⟨f.val, hf⟩)
      (fun a => match a with | ⟨0, _⟩ => rfl | ⟨1, _⟩ => rfl | ⟨2, _⟩ => rfl | ⟨3, _⟩ => rfl)).trans ?_
    exact v170_at x0 x1 x2 x4 x5 x6 x7 x8 b p i hi h ⟨f.val, hf⟩
  · have hp : f.val - 32 < 32 := by omega
    refine (concatenate_pair_apply_right (t := S4x8192x4x64) (s₁ := S4x8192x4x32) 3 _ _ concatenates_S4x8192x4x32_S4x8192x4x32_S4x8192x4x64_d3 (ix4 b p h f) rfl rfl (ix4 b p h ⟨f.val - 32, hp⟩)
      (fun a ha => match a with | ⟨0, _⟩ => rfl | ⟨1, _⟩ => rfl | ⟨2, _⟩ => rfl | ⟨3, _⟩ => absurd rfl ha) (by show f.val - 32 + 32 = f.val; omega)).trans ?_
    exact (v175_at x0 x1 x2 x4 x5 x6 x7 x8 b p i hi h ⟨f.val - 32, hp⟩).trans
      (congrArg (roped (zk x0 x1 x2 b i h) (gn x4) (cosT x5 x7 i) (sinT x6 x8 i)) (Fin.ext (by show 96 + (f.val - 32) = 64 + f.val; omega)))

include hi in
theorem v177_at (h : Fin 4) (d : Fin 128) : val_main_v177 (F := Ideal) x0 x1 x2 x4 x5 x6 x7 x8 (ix4 b p h d) = roped (zk x0 x1 x2 b i h) (gn x4) (cosT x5 x7 i) (sinT x6 x8 i) d := by
  unfold val_main_v177
  by_cases hf : d.val < 64
  · refine (concatenate_pair_apply_left (t := S4x8192x4x128) (s₁ := S4x8192x4x64) 3 _ _ concatenates_S4x8192x4x64_S4x8192x4x64_S4x8192x4x128_d3 (ix4 b p h d) rfl (ix4 b p h ⟨d.val, hf⟩)
      (fun a => match a with | ⟨0, _⟩ => rfl | ⟨1, _⟩ => rfl | ⟨2, _⟩ => rfl | ⟨3, _⟩ => rfl)).trans ?_
    exact (v160_at x0 x1 x2 x4 x5 x6 x7 x8 b p i hi h ⟨d.val, hf⟩).trans
      (congrArg (roped (zk x0 x1 x2 b i h) (gn x4) (cosT x5 x7 i) (sinT x6 x8 i)) (Fin.ext (by show 0 + d.val = d.val; omega)))
  · have hp : d.val - 64 < 64 := by omega
    refine (concatenate_pair_apply_right (t := S4x8192x4x128) (s₁ := S4x8192x4x64) 3 _ _ concatenates_S4x8192x4x64_S4x8192x4x64_S4x8192x4x128_d3 (ix4 b p h d) rfl rfl (ix4 b p h ⟨d.val - 64, hp⟩)
      (fun a ha => match a with | ⟨0, _⟩ => rfl | ⟨1, _⟩ => rfl | ⟨2, _⟩ => rfl | ⟨3, _⟩ => absurd rfl ha) (by show d.val - 64 + 64 = d.val; omega)).trans ?_
    exact (v176_at x0 x1 x2 x4 x5 x6 x7 x8 b p i hi h ⟨d.val - 64, hp⟩).trans
      (congrArg (roped (zk x0 x1 x2 b i h) (gn x4) (cosT x5 x7 i) (sinT x6 x8 i)) (Fin.ext (by show 64 + (d.val - 64) = d.val; omega)))

end Latent

/-! ## The context's rows -/

section Context
variable (b : Fin 4) (p : Fin 256) (i : Fin 8448) (hi : i.val = p.val)

include hi in
theorem v0_at (k : Fin 2048) : val_main_v0 (F := Ideal) x0 (ix3 b p k) = x0 (ix3 b i k) := by
  rw [val_main_v0_apply]
  refine congrArg x0 (funext fun a => Fin.ext ?_)
  match a with
  | ⟨0, _⟩ => rfl
  | ⟨1, _⟩ => exact hi.symm
  | ⟨2, _⟩ => rfl

theorem v44_at (k : Fin 2048) : val_main_v44 (F := Ideal) x1 (ix3 b p k) = x1 (ix3 4 0 k) := by
  rw [val_main_v44_apply, val_main_v43_apply, val_main_v9_apply, val_main_v8_apply]
  refine congrArg x1 (funext fun a => Fin.ext ?_)
  match a with
  | ⟨0, _⟩ => rfl
  | ⟨1, _⟩ => rfl
  | ⟨2, _⟩ => show k.val % 2048 = k.val; omega

theorem v11_at (k : Fin 2048) : val_main_v11 (F := Ideal) x1 (ix1 k) = x1 (ix3 4 1 k) := by
  rw [val_main_v11_apply, val_main_v10_apply]
  refine congrArg x1 (funext fun a => Fin.ext ?_)
  match a with
  | ⟨0, _⟩ => rfl
  | ⟨1, _⟩ => rfl
  | ⟨2, _⟩ => show k.val % 2048 = k.val; omega

theorem v41_at (k : Fin 2048) : val_main_v41 (F := Ideal) x1 (ix3 b p k) = c1 + x1 (ix3 4 1 k) := by
  have e : idx_main_v40 (idx_main_v41 (ix3 b p k)) = ix1 k := funext fun a => Fin.ext (match a with | ⟨0, _⟩ => rfl)
  rw [val_main_v41_apply, val_main_v40_apply, val_main_v39_apply, val_main_v38_apply, val_main_cst_6_apply, e, v11_at]
  rfl

include hi in
theorem v29_at : val_main_v29 (F := Ideal) x0 (ix2 b p) = ∑ k : Fin 2048, x0 (ix3 b i k) * x0 (ix3 b i k) := by
  rw [val_main_v29_apply, val_main_cst_3_apply]
  refine (congrArg (fun z : EReal => z + _) Cert.Experts.zero_word).trans ((zero_add _).trans (Finset.sum_congr rfl fun k _ => ?_))
  have e : idx_main_v29 (ix2 b p) k = ix3 b p k := funext fun a => Fin.ext (match a with | ⟨0, _⟩ => rfl | ⟨1, _⟩ => rfl | ⟨2, _⟩ => rfl)
  rw [val_main_v28_apply, e, v0_at x0 b p i hi]
  rfl

include hi in
theorem v36_at (k : Fin 2048) : val_main_v36 (F := Ideal) x0 (ix3 b p k) = inv (fun k => x0 (ix3 b i k)) := by
  have e : idx_main_v30 (idx_main_v36 (ix3 b p k)) = ix2 b p := funext fun a => Fin.ext (match a with | ⟨0, _⟩ => rfl | ⟨1, _⟩ => rfl)
  rw [val_main_v36_apply, val_main_v35_apply, val_main_v34_apply, val_main_v33_apply, val_main_cst_5_apply, val_main_v32_apply, val_main_v31_apply,
    val_main_cst_4_apply, val_main_v30_apply, e, v29_at x0 b p i hi]
  rfl

include hi in
theorem v45_at (k : Fin 2048) : val_main_v45 (F := Ideal) x0 x1 (ix3 b p k) = hid x0 x1 b i k := by
  unfold hid
  rw [val_main_v45_apply, val_main_v42_apply, val_main_v37_apply, v36_at x0 b p i hi, v41_at, v44_at, v0_at x0 b p i hi,
    show modRow b i = 4 from if_pos (by omega)]
  rfl

include hi in
theorem v79_at (n : Fin 3072) : val_main_v79 (F := Ideal) x0 x1 x2 (ix3 b p n) = z x0 x1 x2 b i n := by
  rw [val_main_v79_apply]
  unfold z
  refine Finset.sum_congr rfl fun k _ => ?_
  have el : lidx_main_v79 (ix3 b p n) k = ix3 b p k := funext fun a => Fin.ext (match a with | ⟨0, _⟩ => rfl | ⟨1, _⟩ => rfl | ⟨2, _⟩ => rfl)
  have er : ridx_main_v79 (ix3 b p n) k = ix2 k n := funext fun a => Fin.ext (match a with | ⟨0, _⟩ => rfl | ⟨1, _⟩ => rfl)
  rw [el, er, v45_at x0 x1 b p i hi]

include hi in
theorem v82_at (n : Fin 512) : val_main_v82 (F := Ideal) x0 x1 x2 (ix3 b p n) = z x0 x1 x2 b i (cv n) := by
  have e : idx_main_v82 (ix3 b p n) = ix3 b p (cv n) := funext fun a => Fin.ext (match a with | ⟨0, _⟩ => rfl | ⟨1, _⟩ => rfl | ⟨2, _⟩ => rfl)
  rw [val_main_v82_apply, e, v79_at x0 x1 x2 b p i hi]

include hi in
theorem v83_at (n : Fin 512) : val_main_v83 (F := Ideal) x0 x1 x2 (ix3 b p n) = z x0 x1 x2 b i (cp n) := by
  have e : idx_main_v83 (ix3 b p n) = ix3 b p (cp n) := funext fun a => Fin.ext (match a with | ⟨0, _⟩ => rfl | ⟨1, _⟩ => rfl | ⟨2, _⟩ => rfl)
  rw [val_main_v83_apply, e, v79_at x0 x1 x2 b p i hi]

include hi in
theorem v84_at (h : Fin 12) (e : Fin 128) : val_main_v84 (F := Ideal) x0 x1 x2 (ix4 b p h e) = zq x0 x1 x2 b i h e := by
  have q : idx_main_v80 (idx_main_v84 (ix4 b p h e)) = ix3 b p ⟨128 * h.val + e.val, by omega⟩ := by
    have hb := b.isLt
    have hp := p.isLt
    have hh := h.isLt
    have he := e.isLt
    refine funext fun a => Fin.ext ?_
    match a with
    | ⟨0, _⟩ => show (((b.val * 256 + p.val) * 12 + h.val) * 128 + e.val) / 393216 = b.val; omega
    | ⟨1, _⟩ => show (((b.val * 256 + p.val) * 12 + h.val) * 128 + e.val) / 1536 % 256 = p.val; omega
    | ⟨2, _⟩ => show (((b.val * 256 + p.val) * 12 + h.val) * 128 + e.val) % 1536 = 128 * h.val + e.val; omega
  rw [val_main_v84_apply, val_main_v80_apply, q, v79_at x0 x1 x2 b p i hi]
  rfl

include hi in
theorem v86_at (h : Fin 12) : val_main_v86 (F := Ideal) x0 x1 x2 (ix3 b p h) = ∑ k : Fin 128, zq x0 x1 x2 b i h k * zq x0 x1 x2 b i h k := by
  rw [val_main_v86_apply, val_main_cst_13_apply]
  refine (congrArg (fun z : EReal => z + _) Cert.Experts.zero_word).trans ((zero_add _).trans (Finset.sum_congr rfl fun k _ => ?_))
  have e : idx_main_v86 (ix3 b p h) k = ix4 b p h k := funext fun a => Fin.ext (match a with | ⟨0, _⟩ => rfl | ⟨1, _⟩ => rfl | ⟨2, _⟩ => rfl | ⟨3, _⟩ => rfl)
  rw [val_main_v85_apply, e, v84_at x0 x1 x2 b p i hi]
  rfl

include hi in
theorem v93_at (h : Fin 12) (e : Fin 128) : val_main_v93 (F := Ideal) x0 x1 x2 (ix4 b p h e)
    = Ideal.rsqrt (Ideal.div (∑ k : Fin 128, zq x0 x1 x2 b i h k * zq x0 x1 x2 b i h k) cH + cE) := by
  have q : idx_main_v87 (idx_main_v93 (ix4 b p h e)) = ix3 b p h := funext fun a => Fin.ext (match a with | ⟨0, _⟩ => rfl | ⟨1, _⟩ => rfl | ⟨2, _⟩ => rfl)
  rw [val_main_v93_apply, val_main_v92_apply, val_main_v91_apply, val_main_v90_apply, val_main_cst_15_apply, val_main_v89_apply, val_main_v88_apply,
    val_main_cst_14_apply, val_main_v87_apply, q, v86_at x0 x1 x2 b p i hi]
  rfl

include hi in
theorem v97_at (h : Fin 12) (e : Fin 128) : val_main_v97 (F := Ideal) x0 x1 x2 x3 (ix4 b p h e) = nrm (zq x0 x1 x2 b i h) (gn x3) e := by
  have q : idx_main_v95 (idx_main_v96 (ix4 b p h e)) = ix1 e := funext fun a => Fin.ext (match a with | ⟨0, _⟩ => rfl)
  rw [val_main_v97_apply, val_main_v94_apply, val_main_v96_apply, val_main_v95_apply, q, v93_at x0 x1 x2 b p i hi, v84_at x0 x1 x2 b p i hi]
  rfl

include hi in
theorem v98_at (h : Fin 4) (e : Fin 128) : val_main_v98 (F := Ideal) x0 x1 x2 (ix4 b p h e) = zk x0 x1 x2 b i h e := by
  have q : idx_main_v81 (idx_main_v98 (ix4 b p h e)) = ix3 b p ⟨1536 + 128 * h.val + e.val, by omega⟩ := by
    have hb := b.isLt
    have hp := p.isLt
    have hh := h.isLt
    have he := e.isLt
    refine funext fun a => Fin.ext ?_
    match a with
    | ⟨0, _⟩ => show (((b.val * 256 + p.val) * 4 + h.val) * 128 + e.val) / 131072 = b.val; omega
    | ⟨1, _⟩ => show (((b.val * 256 + p.val) * 4 + h.val) * 128 + e.val) / 512 % 256 = p.val; omega
    | ⟨2, _⟩ => show 1536 + (((b.val * 256 + p.val) * 4 + h.val) * 128 + e.val) % 512 = 1536 + 128 * h.val + e.val; omega
  rw [val_main_v98_apply, val_main_v81_apply, q, v79_at x0 x1 x2 b p i hi]
  rfl

include hi in
theorem v100_at (h : Fin 4) : val_main_v100 (F := Ideal) x0 x1 x2 (ix3 b p h) = ∑ k : Fin 128, zk x0 x1 x2 b i h k * zk x0 x1 x2 b i h k := by
  rw [val_main_v100_apply, val_main_cst_16_apply]
  refine (congrArg (fun z : EReal => z + _) Cert.Experts.zero_word).trans ((zero_add _).trans (Finset.sum_congr rfl fun k _ => ?_))
  have e : idx_main_v100 (ix3 b p h) k = ix4 b p h k := funext fun a => Fin.ext (match a with | ⟨0, _⟩ => rfl | ⟨1, _⟩ => rfl | ⟨2, _⟩ => rfl | ⟨3, _⟩ => rfl)
  rw [val_main_v99_apply, e, v98_at x0 x1 x2 b p i hi]
  rfl

include hi in
theorem v107_at (h : Fin 4) (e : Fin 128) : val_main_v107 (F := Ideal) x0 x1 x2 (ix4 b p h e)
    = Ideal.rsqrt (Ideal.div (∑ k : Fin 128, zk x0 x1 x2 b i h k * zk x0 x1 x2 b i h k) cH + cE) := by
  have q : idx_main_v101 (idx_main_v107 (ix4 b p h e)) = ix3 b p h := funext fun a => Fin.ext (match a with | ⟨0, _⟩ => rfl | ⟨1, _⟩ => rfl | ⟨2, _⟩ => rfl)
  rw [val_main_v107_apply, val_main_v106_apply, val_main_v105_apply, val_main_v104_apply, val_main_cst_18_apply, val_main_v103_apply, val_main_v102_apply,
    val_main_cst_17_apply, val_main_v101_apply, q, v100_at x0 x1 x2 b p i hi]
  rfl

include hi in
theorem v111_at (h : Fin 4) (e : Fin 128) : val_main_v111 (F := Ideal) x0 x1 x2 x4 (ix4 b p h e) = nrm (zk x0 x1 x2 b i h) (gn x4) e := by
  have q : idx_main_v109 (idx_main_v110 (ix4 b p h e)) = ix1 e := funext fun a => Fin.ext (match a with | ⟨0, _⟩ => rfl)
  rw [val_main_v111_apply, val_main_v108_apply, val_main_v110_apply, val_main_v109_apply, q, v107_at x0 x1 x2 b p i hi, v98_at x0 x1 x2 b p i hi]
  rfl

end Context

/-! ## The results -/

theorem v178_at (b : Fin 4) (i : Fin 8448) (h : Fin 12) (d : Fin 128) :
    val_main_v178 (F := Ideal) x0 x1 x2 x3 x5 x6 x7 x8 (ix4 b i h d) = roped (zq x0 x1 x2 b i h) (gn x3) (cosT x5 x7 i) (sinT x6 x8 i) d := by
  unfold val_main_v178
  by_cases hc : i.val < 256
  · refine (concatenate_pair_apply_left (t := S4x8448x12x128) (s₁ := S4x256x12x128) 1 _ _ concatenates_S4x256x12x128_S4x8192x12x128_S4x8448x12x128_d1 (ix4 b i h d) rfl (ix4 b ⟨i.val, hc⟩ h d)
      (fun a => match a with | ⟨0, _⟩ => rfl | ⟨1, _⟩ => rfl | ⟨2, _⟩ => rfl | ⟨3, _⟩ => rfl)).trans ?_
    exact (v97_at x0 x1 x2 x3 b ⟨i.val, hc⟩ i rfl h d).trans (roped_ctx x5 x6 x7 x8 _ _ i hc d).symm
  · have hp : i.val - 256 < 8192 := by omega
    refine (concatenate_pair_apply_right (t := S4x8448x12x128) (s₁ := S4x256x12x128) 1 _ _ concatenates_S4x256x12x128_S4x8192x12x128_S4x8448x12x128_d1 (ix4 b i h d) rfl rfl (ix4 b ⟨i.val - 256, hp⟩ h d)
      (fun a ha => match a with | ⟨0, _⟩ => rfl | ⟨1, _⟩ => absurd rfl ha | ⟨2, _⟩ => rfl | ⟨3, _⟩ => rfl) (by show i.val - 256 + 256 = i.val; omega)).trans ?_
    exact v144_at x0 x1 x2 x3 x5 x6 x7 x8 b ⟨i.val - 256, hp⟩ i (by show i.val = 256 + (i.val - 256); omega) h d

theorem v180_at (b : Fin 4) (i : Fin 8448) (h : Fin 4) (d : Fin 128) :
    val_main_v180 (F := Ideal) x0 x1 x2 x4 x5 x6 x7 x8 (ix4 b i h d) = roped (zk x0 x1 x2 b i h) (gn x4) (cosT x5 x7 i) (sinT x6 x8 i) d := by
  unfold val_main_v180
  by_cases hc : i.val < 256
  · refine (concatenate_pair_apply_left (t := S4x8448x4x128) (s₁ := S4x256x4x128) 1 _ _ concatenates_S4x256x4x128_S4x8192x4x128_S4x8448x4x128_d1 (ix4 b i h d) rfl (ix4 b ⟨i.val, hc⟩ h d)
      (fun a => match a with | ⟨0, _⟩ => rfl | ⟨1, _⟩ => rfl | ⟨2, _⟩ => rfl | ⟨3, _⟩ => rfl)).trans ?_
    exact (v111_at x0 x1 x2 x4 b ⟨i.val, hc⟩ i rfl h d).trans (roped_ctx x5 x6 x7 x8 _ _ i hc d).symm
  · have hp : i.val - 256 < 8192 := by omega
    refine (concatenate_pair_apply_right (t := S4x8448x4x128) (s₁ := S4x256x4x128) 1 _ _ concatenates_S4x256x4x128_S4x8192x4x128_S4x8448x4x128_d1 (ix4 b i h d) rfl rfl (ix4 b ⟨i.val - 256, hp⟩ h d)
      (fun a ha => match a with | ⟨0, _⟩ => rfl | ⟨1, _⟩ => absurd rfl ha | ⟨2, _⟩ => rfl | ⟨3, _⟩ => rfl) (by show i.val - 256 + 256 = i.val; omega)).trans ?_
    exact v177_at x0 x1 x2 x4 x5 x6 x7 x8 b ⟨i.val - 256, hp⟩ i (by show i.val = 256 + (i.val - 256); omega) h d

theorem v181_at (b : Fin 4) (i : Fin 8448) (n : Fin 512) : val_main_v181 (F := Ideal) x0 x1 x2 (ix3 b i n) = z x0 x1 x2 b i (cv n) := by
  unfold val_main_v181
  by_cases h : i.val < 256
  · refine (concatenate_pair_apply_left (t := S4x8448x512) (s₁ := S4x256x512) 1 _ _ concatenates_S4x256x512_S4x8192x512_S4x8448x512_d1 (ix3 b i n) rfl (ix3 b ⟨i.val, h⟩ n)
      (fun a => match a with | ⟨0, _⟩ => rfl | ⟨1, _⟩ => rfl | ⟨2, _⟩ => rfl)).trans ?_
    exact v82_at x0 x1 x2 b ⟨i.val, h⟩ i rfl n
  · have hp : i.val - 256 < 8192 := by omega
    refine (concatenate_pair_apply_right (t := S4x8448x512) (s₁ := S4x256x512) 1 _ _ concatenates_S4x256x512_S4x8192x512_S4x8448x512_d1 (ix3 b i n) rfl rfl (ix3 b ⟨i.val - 256, hp⟩ n)
      (fun a ha => match a with | ⟨0, _⟩ => rfl | ⟨1, _⟩ => absurd rfl ha | ⟨2, _⟩ => rfl) (by show i.val - 256 + 256 = i.val; omega)).trans ?_
    exact v49_at x0 x1 x2 b ⟨i.val - 256, hp⟩ i (by show i.val = 256 + (i.val - 256); omega) n

theorem v182_at (b : Fin 4) (i : Fin 8448) (n : Fin 512) : val_main_v182 (F := Ideal) x0 x1 x2 (ix3 b i n) = z x0 x1 x2 b i (cp n) := by
  unfold val_main_v182
  by_cases h : i.val < 256
  · refine (concatenate_pair_apply_left (t := S4x8448x512) (s₁ := S4x256x512) 1 _ _ concatenates_S4x256x512_S4x8192x512_S4x8448x512_d1 (ix3 b i n) rfl (ix3 b ⟨i.val, h⟩ n)
      (fun a => match a with | ⟨0, _⟩ => rfl | ⟨1, _⟩ => rfl | ⟨2, _⟩ => rfl)).trans ?_
    exact v83_at x0 x1 x2 b ⟨i.val, h⟩ i rfl n
  · have hp : i.val - 256 < 8192 := by omega
    refine (concatenate_pair_apply_right (t := S4x8448x512) (s₁ := S4x256x512) 1 _ _ concatenates_S4x256x512_S4x8192x512_S4x8448x512_d1 (ix3 b i n) rfl rfl (ix3 b ⟨i.val - 256, hp⟩ n)
      (fun a ha => match a with | ⟨0, _⟩ => rfl | ⟨1, _⟩ => absurd rfl ha | ⟨2, _⟩ => rfl) (by show i.val - 256 + 256 = i.val; omega)).trans ?_
    exact v50_at x0 x1 x2 b ⟨i.val - 256, hp⟩ i (by show i.val = 256 + (i.val - 256); omega) n

/-- The queries. -/
theorem ref_q : val_main_v183 (F := Ideal) x0 x1 x2 x3 x5 x6 x7 x8 = rq x0 x1 x2 x3 x5 x6 x7 x8 := by
  funext y
  obtain ⟨b, i, n, rfl⟩ : ∃ b i n, y = ix3 b i n := ⟨_, _, _, ValueIdx.eq_ix3 (n0 := 4) (n1 := 8448) (n2 := 1536) y⟩
  have hn := n.isLt
  have q : idx_main_v179 (ix3 b i n) = ix4 b i ⟨n.val / 128, by omega⟩ ⟨n.val % 128, by omega⟩ := by
    have hb := b.isLt
    have hi := i.isLt
    refine funext fun a => Fin.ext ?_
    match a with
    | ⟨0, _⟩ => show ((b.val * 8448 + i.val) * 1536 + n.val) / 12976128 = b.val; omega
    | ⟨1, _⟩ => show ((b.val * 8448 + i.val) * 1536 + n.val) / 1536 % 8448 = i.val; omega
    | ⟨2, _⟩ => show ((b.val * 8448 + i.val) * 1536 + n.val) / 128 % 12 = n.val / 128; omega
    | ⟨3, _⟩ => show ((b.val * 8448 + i.val) * 1536 + n.val) % 128 = n.val % 128; omega
  rw [val_main_v183_apply, val_main_v179_apply, q, v178_at]
  rfl

/-- The keys. -/
theorem ref_k : val_main_v184 (F := Ideal) x0 x1 x2 x4 x5 x6 x7 x8 = rk x0 x1 x2 x4 x5 x6 x7 x8 := by
  funext y
  obtain ⟨b, i, h, d, rfl⟩ : ∃ (b : Fin 4) (i : Fin 8448) (h : Fin 4) (d : Fin 128), y = ix4 b i h d :=
    ⟨y (0 : Fin 4), y (1 : Fin 4), y (2 : Fin 4), y (3 : Fin 4), funext fun a => match a with
      | ⟨0, _⟩ => rfl
      | ⟨1, _⟩ => rfl
      | ⟨2, _⟩ => rfl
      | ⟨3, _⟩ => rfl⟩
  rw [val_main_v184_apply, v180_at]
  rfl

/-- The values. -/
theorem ref_v : val_main_v185 (F := Ideal) x0 x1 x2 = rv x0 x1 x2 := by
  funext y
  obtain ⟨b, i, n, rfl⟩ : ∃ b i n, y = ix3 b i n := ⟨_, _, _, ValueIdx.eq_ix3 (n0 := 4) (n1 := 8448) (n2 := 512) y⟩
  rw [val_main_v185_apply, v181_at]
  rfl

/-- The pooled rows. -/
theorem ref_p : val_main_v182 (F := Ideal) x0 x1 x2 = rp x0 x1 x2 := by
  funext y
  obtain ⟨b, i, n, rfl⟩ : ∃ b i n, y = ix3 b i n := ⟨_, _, _, ValueIdx.eq_ix3 (n0 := 4) (n1 := 8448) (n2 := 512) y⟩
  exact v182_at x0 x1 x2 b i n

end Cert.Reference4Ideal.Hand

end
-- ==== Proof.RgoMath.lean ====
/-
  The recurrent block's output over the extended reals: what each entry of the rows after the block is.
-/
module

public import proofs.«01_k».proof.Proof.RnnMath

@[expose] public section

noncomputable section

namespace Cert.Rgo

open Idealize.ShloMosaic
open Idealize.ShloMosaic.ValueIdx (ix1 ix2 ix3)
open Cert.Rnn (modRow)
open scoped BigOperators

/-- An entry of a row after the block: the row's own, and the modulation's by the product of the gated sum of the two scans with a column of the weights. -/
def entry (x md : EReal) (g f h w : Fin 2688 → EReal) : EReal := x + md * ∑ k : Fin 2688, g k * (f k + h k) * w k

section Result
variable (x : (⟨3, ![4, 8448, 2048]⟩ : Shape).Idx → EReal) (ml : (⟨3, ![8, 6, 2048]⟩ : Shape).Idx → EReal)
    (g f h : (⟨3, ![4, 8448, 2688]⟩ : Shape).Idx → EReal) (w : (⟨2, ![2688, 2048]⟩ : Shape).Idx → EReal)

/-- Row `i` of batch `b` after the block. -/
def upd (b : Fin 4) (i : Fin 8448) (n : Fin 2048) : EReal :=
  entry (x (ix3 b i n)) (ml (ix3 (modRow b i) 2 n)) (fun k => g (ix3 b i k)) (fun k => f (ix3 b i k)) (fun k => h (ix3 b i k)) (fun k => w (ix2 k n))

/-- The result. -/
def result (y : (⟨3, ![4, 8448, 2048]⟩ : Shape).Idx) : EReal := upd x ml g f h w (y 0) (y 1) (y 2)

end Result

end Cert.Rgo

end
-- ==== Proof.RgoBlock.lean ====
/-
  What the recurrent block's output computes in a block, over the extended reals, read at an index of the block of the rows after it.
-/
module

public import proofs.«01_k».proof.Proof.Gen.Kernel5Ideal.Frame
public import proofs.«01_k».proof.Proof.Gen.Kernel5Ideal.Skeleton
public import proofs.«01_k».proof.Proof.RgoMath
public import proofs.«01_k».proof.Proof.ExpertsMath
public import proofs.«01_k».proof.Proof.Block
public import Idealize.ShloMosaic.Lib.Pipeline.ValueKit

@[expose] public section

set_option maxRecDepth 16384

noncomputable section

namespace Cert.Kernel5Ideal.Hand

open Cert.Kernel5Ideal Cert.Kernel5Ideal.Gen
open Idealize.ShloMosaic hiding eq_ix2 ix0 ix1 ix2 ix3 ix4 ix5 maximumf_apply mulf_apply addf_apply subf_apply divf_apply truncf_apply extf_apply
open Idealize.ShloMosaic.ValueIdx
open Idealize.ShloMosaic.TcCoe
open Cert.KernelIdeal.Hand (drop_at add_at drop2_at)
open scoped BigOperators

/-- A row of the modulation along the rows of the block. -/
theorem row_at {α : Type} (x : S1x2048.Idx → α) (p : Fin 256) (k : Fin 2048) :
    broadcastTo S256x2048 x broadcasts_S1x2048_S256x2048 (ix2 p k) = x (ix2 0 k) :=
  broadcastTo_apply _ _ _ (ix2 0 k) fun a => match a with
    | ⟨0, _⟩ => by show 0 = if (1 : ℕ) = 1 then 0 else _; rw [if_pos rfl]
    | ⟨1, _⟩ => by show k.val = if (2048 : ℕ) = 1 then 0 else _; rw [if_neg (by decide)]; rfl

/-- The third row of the modulation. -/
theorem mod_at {α : Type} (x : S1x1x6x2048.Idx → α) (h : S6x2048.Slices ![2, 0] S1x2048) (k : Fin 2048) :
    extractStridedSlice S1x2048 ![2, 0] (shapeCast S6x2048 x shapeCasts_S1x1x6x2048_S6x2048) h (ix2 0 k) = x (ix4 0 0 2 k) :=
  (extractStridedSlice_apply ![2, 0] _ h _ (ix2 2 k) fun a => match a with
    | ⟨0, _⟩ => rfl
    | ⟨1, _⟩ => by show k.val = 0 + k.val; omega).trans (drop2_at (a := 6) (b := 2048) x _ 2 k)

/-! ## The rows put back in order -/

/-- Which row of the interleaved block stands at row `p`. -/
abbrev dst (p : Fin 256) : Fin 256 := ⟨8 * (p.val % 32) + p.val / 32, by omega⟩

/-- The row's word, as the body computes it. -/
def dstW (z : BitVec 32) : BitVec 32 :=
  let v14 : BitVec 32 := Scalar.select (Scalar.cmpi .eq 32#32 0#32) 1#32 32#32
  let r := IntOp.remsi .vector z v14
  let m := Scalar.select (IntOp.andi (IntOp.xori (IntOp.cmpi .slt r 0#32) (Scalar.cmpi .slt v14 0#32)) (IntOp.cmpi .ne r 0#32)) (r + v14) r
  let s := Scalar.subi (Scalar.extui (Scalar.cmpi .sgt 32#32 0#32)) (Scalar.extui (Scalar.cmpi .slt 32#32 0#32))
  let q := IntOp.divsi .vector z 32#32
  let d := Scalar.select (IntOp.andi (IntOp.cmpi .ne ((IntOp.cmpi .sgt z 0#32).zeroExtend 32 - (IntOp.cmpi .slt z 0#32).zeroExtend 32) s)
    (IntOp.cmpi .ne (IntOp.remsi .vector z 32#32) 0#32)) (q - 1#32) q
  m * 8#32 + d

theorem dstW_eq : ∀ p : Fin 256, dstW (BitVec.ofNat 32 p.val) = BitVec.ofNat 32 (dst p).val := by decide +kernel

/-- The 0/1 matrix the body multiplies the rows by. -/
abbrev perm : FVec Ideal S256x256 .bf16 :=
  k0_pay7 (F := Ideal) (iota .tc S256x256 32 [0] iota_S256x256_d0_w32) (iota .tc S256x256 32 [1] iota_S256x256_d1_w32) k0_pay3 32#32 k0_pay4 k0_pay5 k0_pay6

theorem perm_at (p q : Fin 256) : (perm (ix2 p q) : EReal) = if q = dst p then 1 else 0 := by
  show (Scalar.select (IntOp.cmpi .eq (BitVec.ofNat 32 (0 * 256 + q.val)) (dstW (BitVec.ofNat 32 (0 * 256 + p.val))))
      (Ideal.ofBits .f32 0x3F800000#32) (Ideal.ofBits .f32 0x00000000#32) : EReal) = _
  rw [Cert.Experts.zero_word, Cert.Experts.one_word, Nat.zero_mul, Nat.zero_add, Nat.zero_add, dstW_eq]
  by_cases e : q = dst p
  · rw [if_pos e, e]
    unfold Scalar.select IntOp.cmpi
    simp
  · have : BitVec.ofNat 32 q.val ≠ BitVec.ofNat 32 (dst p).val := fun he => e (Fin.ext (by
      have h1 := congrArg BitVec.toNat he
      rw [BitVec.toNat_ofNat, BitVec.toNat_ofNat] at h1
      have := q.isLt
      have := (dst p).isLt
      omega))
    rw [if_neg e]
    generalize BitVec.ofNat 32 (dst p).val = u at this
    unfold Scalar.select IntOp.cmpi
    refine if_neg ?_
    show ¬ BitVec.ofBool (BitVec.ofNat 32 q.val == u) = 1#1
    rw [beq_eq_false_iff_ne.2 this]
    decide

/-! ## A block of the rows after the block -/

theorem pay2_at (g f h : Vec Ideal S1x256x2688 .bf16) (q : Fin 256) (k : Fin 2688) :
    (k0_pay2 g f h (ix2 q k) : EReal) = HMul.hMul (α := EReal) (β := EReal) (γ := EReal) (g (ix3 0 q k)) (HAdd.hAdd (α := EReal) (β := EReal) (γ := EReal) (f (ix3 0 q k)) (h (ix3 0 q k))) := by
  have hd : ∀ z : Vec Ideal S1x256x2688 .bf16, shapeCast S256x2688 z shapeCasts_S1x256x2688_S256x2688 (ix2 q k) = z (ix3 0 q k) := fun z =>
    drop_at (a := 256) (b := 2688) z _ q k
  unfold k0_pay2
  rw [mulf_apply, addf_apply, extf_apply, extf_apply, extf_apply, hd, hd, hd]

theorem pay14_at (x : Vec Ideal S1x256x2048 .f32) (md : Vec Ideal S1x1x6x2048 .f32) (g f h : Vec Ideal S1x256x2688 .bf16) (w : Vec Ideal S2688x2048 .bf16)
    (p : Fin 256) (n : Fin 2048) :
    (k0_pay14 perm (k0_pay8 (k0_pay2 g f h)) (k0_pay9 md) x w (ix3 0 p n) : EReal)
      = Cert.Rgo.entry (x (ix3 0 p n)) (md (ix4 0 0 2 n)) (fun k => g (ix3 0 (dst p) k)) (fun k => f (ix3 0 (dst p) k)) (fun k => h (ix3 0 (dst p) k))
          (fun k => w (ix2 k n)) := by
  unfold k0_pay14
  refine (add_at (a := 256) (b := 2048) _ _ p n).trans ?_
  unfold k0_pay13 Cert.Rgo.entry
  rw [addf_apply, mulf_apply, row_at]
  unfold k0_pay9
  rw [mod_at]
  refine congrArg₂ (fun a b : EReal => a + b) (drop_at (a := 256) (b := 2048) x _ p n) (congrArg₂ (fun a b : EReal => a * b) rfl ?_)
  refine (Ideal.matmul_plain_apply (M := 256) (K := 2688) (N := 2048) none _ _ (constant S256x2048 .f32 0x00000000#32) p n).trans ?_
  rw [ValueIdx.constant_apply, Cert.Experts.zero_word, zero_add]
  refine Finset.sum_congr rfl fun k _ => ?_
  rw [shapeCast_self, truncf_apply]
  refine congrArg₂ (fun a b : EReal => a * b) ?_ rfl
  refine (Ideal.matmul_plain_apply (M := 256) (K := 256) (N := 2688) none _ _ (constant S256x2688 .f32 0x00000000#32) p k).trans ?_
  rw [ValueIdx.constant_apply, Cert.Experts.zero_word, zero_add]
  refine (Finset.sum_congr rfl fun q _ => congrArg₂ (fun a b : EReal => a * b) (perm_at p q) rfl).trans ?_
  rw [Finset.sum_eq_single (dst p)]
  · rw [if_pos rfl, one_mul]
    unfold k0_pay8
    rw [truncf_apply]
    exact pay2_at g f h (dst p) k
  · intro q _ hq
    rw [if_neg hq, zero_mul]
  · exact fun hq => absurd (Finset.mem_univ _) hq

theorem z2 : (![0, 0] : Fin 2 → ℕ) = fun _ => 0 := funext fun a => by fin_cases a <;> rfl
theorem z3 : (![0, 0, 0] : Fin 3 → ℕ) = fun _ => 0 := funext fun a => by fin_cases a <;> rfl
theorem z4 : (![0, 0, 0, 0] : Fin 4 → ℕ) = fun _ => 0 := funext fun a => by fin_cases a <;> rfl

section Runs
variable (c : Dev nD) (i : grid0.Coords) (a2 : Memref sig .tc .vmem S1x256x2048 .f32) (h2 : a2.IsWhole) (a3 : Memref sig .tc .vmem S1x1x6x2048 .f32) (h3 : a3.IsWhole)
  (a4 : Memref sig .tc .vmem S1x256x2688 .bf16) (h4 : a4.IsWhole) (a5 : Memref sig .tc .vmem S1x256x2688 .bf16) (h5 : a5.IsWhole)
  (a6 : Memref sig .tc .vmem S1x256x2688 .bf16) (h6 : a6.IsWhole) (a7 : Memref sig .tc .vmem S2688x2048 .bf16) (h7 : a7.IsWhole)
  (a8 : Memref sig .tc .vmem S2048x64 .bf16) (h8 : a8.IsWhole) (a9 : Memref sig .tc .vmem S1x32 .f32) (h9 : a9.IsWhole)
  (a10 : Memref sig .tc .vmem S1x256x2048 .f32) (h10 : a10.IsWhole) (a11 : Memref sig .tc .vmem S256x2x1024 .bf16) (h11 : a11.IsWhole)
  (a12 : Memref sig .tc .vmem S256x128 .f32) (h12 : a12.IsWhole) (a13 : Memref sig .tc .vmem S1x32 .f32) (h13 : a13.IsWhole)
  (a14 : Memref sig .tc .vmem S1x32 .f32) (h14 : a14.IsWhole)
  (x0 : Vec Ideal S1x256x2048 .f32) (x1 : Vec Ideal S1x1x6x2048 .f32) (x2 x3 x4 : Vec Ideal S1x256x2688 .bf16) (x5 : Vec Ideal S2688x2048 .bf16)
  (x6 : Vec Ideal S2048x64 .bf16) (x7 : Vec Ideal S1x32 .f32) (xs : Vec Ideal S1x32 .f32)

/-- The rows the first point stores. -/
theorem out_A (hc : cond0_0 i) :
    out0_A_8 c i a2 h2 a3 h3 a4 h4 a5 h5 a6 h6 a7 h7 a8 h8 a9 h9 a10 h10 a11 h11 a12 h12 a13 h13 a14 h14 hc x0 x1 x2 x3 x4 x5 x6 x7
      = k0_pay14 perm (k0_pay8 (k0_pay2 x2 x3 x4)) (k0_pay9 x1) x0 x5 := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  rw [View.canon_unit_zero (S := S1x256x2048) z3]
  simp only [View.readAt_eq_ld, h2.read_unread, h3.read_unread, h4.read_unread, h5.read_unread, h6.read_unread, h7.read_unread,
    View.ld_unit_zero (S := S1x256x2048) z3, View.ld_unit_zero (S := S1x256x2688) z3, View.ld_unit_zero (S := S1x1x6x2048) z4, View.ld_unit_zero (S := S2688x2048) z2]

/-- The rows every later point stores. -/
theorem out_B (hc : ¬ cond0_0 i) :
    out0_B_8 c i a2 h2 a3 h3 a4 h4 a5 h5 a6 h6 a7 h7 a8 h8 a9 h9 a10 h10 a11 h11 a12 h12 a13 h13 a14 h14 hc x0 x1 x2 x3 x4 x5 x6 x7 xs
      = k0_pay14 perm (k0_pay8 (k0_pay2 x2 x3 x4)) (k0_pay9 x1) x0 x5 := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 hc x0 x1 x2 x3 x4 x5 x6 x7 xs)]
  unfold kernelRun0_B
  dsimp only
  sl_unfold_words
  rw [View.canon_unit_zero (S := S1x256x2048) z3]
  simp only [View.readAt_eq_ld, h2.read_unread, h3.read_unread, h4.read_unread, h5.read_unread, h6.read_unread, h7.read_unread,
    View.ld_unit_zero (S := S1x256x2048) z3, View.ld_unit_zero (S := S1x256x2688) z3, View.ld_unit_zero (S := S1x1x6x2048) z4, View.ld_unit_zero (S := S2688x2048) z2]

end Runs

end Cert.Kernel5Ideal.Hand

end
-- ==== Proof.RgoValue.lean ====
/-
  The run of the recurrent block's output with its result named: the rows after the block over the extended reals.
-/
module

public import proofs.«01_k».proof.Proof.RgoBlock
public import proofs.«01_k».proof.Proof.Gen.Kernel5Ideal.Value
public import Idealize.ShloMosaic.Lib.Pipeline.ValueKit
public import Idealize.ShloMosaic.Lib.Pipeline.Covers
public import Idealize.ShloMosaic.Lib.StableHlo.RunRead
public import Idealize.ShloMosaic.Lib.Claim

@[expose] public section

set_option maxRecDepth 16384

noncomputable section

namespace Cert.Kernel5Ideal.Hand

open Cert.Kernel5Ideal Cert.Kernel5Ideal.Gen
open Idealize.ShloMosaic hiding eq_ix2 ix0 ix1 ix2 ix3 ix4 ix5 maximumf_apply mulf_apply addf_apply subf_apply divf_apply truncf_apply extf_apply
open Idealize.ShloMosaic.TcCoe
open Idealize.ShloMosaic.ValueIdx
open Idealize.SL Idealize.SL.RA Idealize.SL.Sem
open Cert.Rnn (modRow)
open Cert.Rgo (entry upd result)
open scoped BigOperators

variable (m : (ℓ : Loc nD τ sig) → Buf (Elt Ideal) ℓ) (ρ : Dev nD → PrngReg)

/-! ## The buffers -/

/-- The context's modulation, on every batch. -/
def ctxMod (x : FVec Ideal S8x6x2048 .f32) : FVec Ideal S1x4x6x2048 .f32 :=
  broadcastInDim S1x4x6x2048 ![1, 2, 3] bcast_S4x6x2048_S1x4x6x2048_1_2_3
    (broadcastInDim S4x6x2048 ![0, 1, 2] bcast_S1x6x2048_S4x6x2048_0_1_2
      (broadcastInDim S1x6x2048 ![1, 2] bcast_S6x2048_S1x6x2048_1_2
        (shapeCast S6x2048 (extractStridedSlice S1x6x2048 ![4, 0, 0] x slices_S8x6x2048_S1x6x2048_4_0_0) shapeCasts_S1x6x2048_S6x2048)))

/-- The batches' own. -/
def latMod (x : FVec Ideal S8x6x2048 .f32) : FVec Ideal S1x4x6x2048 .f32 :=
  broadcastInDim S1x4x6x2048 ![1, 2, 3] bcast_S4x6x2048_S1x4x6x2048_1_2_3
    (extractStridedSlice S4x6x2048 ![0, 0, 0] x slices_S8x6x2048_S4x6x2048_0_0_0)

theorem V_v7 (c : Dev nD) : (V m c main_v7 : Vec Ideal S2x4x6x2048 .f32)
    = concatenate S2x4x6x2048 0 [⟨S1x4x6x2048, ctxMod (m ((c : Thread nD τ).loc main_arg1))⟩, ⟨S1x4x6x2048, latMod (m ((c : Thread nD τ).loc main_arg1))⟩]
        concatenates_S1x4x6x2048_S1x4x6x2048_S2x4x6x2048_d0 := by
  unfold V
  after_reads_simp
  rfl

theorem lead_at {α : Type} (x : S4x6x2048.Idx → α) (b : Fin 4) (q : Fin 6) (k : Fin 2048) :
    broadcastInDim S1x4x6x2048 ![1, 2, 3] bcast_S4x6x2048_S1x4x6x2048_1_2_3 x (ix4 0 b q k) = x (ix3 b q k) :=
  broadcastInDim_apply _ bcast_S4x6x2048_S1x4x6x2048_1_2_3 x (ix4 0 b q k) (ix3 b q k) fun a => match a with
    | ⟨0, _⟩ => by show b.val = if (4 : ℕ) = 1 then 0 else b.val; rw [if_neg (by decide)]
    | ⟨1, _⟩ => by show q.val = if (6 : ℕ) = 1 then 0 else q.val; rw [if_neg (by decide)]
    | ⟨2, _⟩ => by show k.val = if (2048 : ℕ) = 1 then 0 else k.val; rw [if_neg (by decide)]

theorem latMod_at (x : FVec Ideal S8x6x2048 .f32) (b : Fin 4) (q : Fin 6) (k : Fin 2048) :
    latMod x (ix4 0 b q k) = x (ix3 ⟨b.val, by omega⟩ q k) := by
  unfold latMod
  rw [lead_at]
  exact extractStridedSlice_apply _ x slices_S8x6x2048_S4x6x2048_0_0_0 (ix3 b q k) (ix3 ⟨b.val, by omega⟩ q k) fun a => match a with
    | ⟨0, _⟩ => by show b.val = 0 + b.val; omega
    | ⟨1, _⟩ => by show q.val = 0 + q.val; omega
    | ⟨2, _⟩ => by show k.val = 0 + k.val; omega

theorem ctxMod_at (x : FVec Ideal S8x6x2048 .f32) (b : Fin 4) (q : Fin 6) (k : Fin 2048) :
    ctxMod x (ix4 0 b q k) = x (ix3 4 q k) := by
  unfold ctxMod
  rw [lead_at]
  refine (broadcastInDim_apply _ bcast_S1x6x2048_S4x6x2048_0_1_2 _ (ix3 b q k) (ix3 0 q k) fun a => match a with
    | ⟨0, _⟩ => by show 0 = if (1 : ℕ) = 1 then 0 else b.val; rw [if_pos rfl]
    | ⟨1, _⟩ => by show q.val = if (6 : ℕ) = 1 then 0 else q.val; rw [if_neg (by decide)]
    | ⟨2, _⟩ => by show k.val = if (2048 : ℕ) = 1 then 0 else k.val; rw [if_neg (by decide)]).trans ?_
  refine (broadcastInDim_apply _ bcast_S6x2048_S1x6x2048_1_2 _ (ix3 0 q k) (ix2 q k) fun a => match a with
    | ⟨0, _⟩ => by show q.val = if (6 : ℕ) = 1 then 0 else q.val; rw [if_neg (by decide)]
    | ⟨1, _⟩ => by show k.val = if (2048 : ℕ) = 1 then 0 else k.val; rw [if_neg (by decide)]).trans ?_
  refine (Cert.KernelIdeal.Hand.drop_at (a := 6) (b := 2048) _ _ q k).trans ?_
  exact extractStridedSlice_apply _ x slices_S8x6x2048_S1x6x2048_4_0_0 (ix3 0 q k) (ix3 4 q k) fun a => match a with
    | ⟨0, _⟩ => rfl
    | ⟨1, _⟩ => by show q.val = 0 + q.val; omega
    | ⟨2, _⟩ => by show k.val = 0 + k.val; omega

theorem V_v7_ctx (c : Dev nD) (b : Fin 4) (q : Fin 6) (k : Fin 2048) :
    (V m c main_v7 : Vec Ideal S2x4x6x2048 .f32) (ix4 0 b q k) = (m ((c : Thread nD τ).loc main_arg1) : FVec Ideal S8x6x2048 .f32) (ix3 4 q k) := by
  rw [V_v7]
  exact (concatenate_pair_apply_left (t := S2x4x6x2048) (s₁ := S1x4x6x2048) 0 _ _ concatenates_S1x4x6x2048_S1x4x6x2048_S2x4x6x2048_d0 (ix4 0 b q k) rfl (ix4 0 b q k)
    (fun a => match a with | ⟨0, _⟩ => rfl | ⟨1, _⟩ => rfl | ⟨2, _⟩ => rfl | ⟨3, _⟩ => rfl)).trans (ctxMod_at _ b q k)

theorem V_v7_lat (c : Dev nD) (b : Fin 4) (q : Fin 6) (k : Fin 2048) :
    (V m c main_v7 : Vec Ideal S2x4x6x2048 .f32) (ix4 1 b q k) = (m ((c : Thread nD τ).loc main_arg1) : FVec Ideal S8x6x2048 .f32) (ix3 ⟨b.val, by omega⟩ q k) := by
  rw [V_v7]
  exact (concatenate_pair_apply_right (t := S2x4x6x2048) (s₁ := S1x4x6x2048) 0 _ _ concatenates_S1x4x6x2048_S1x4x6x2048_S2x4x6x2048_d0 (ix4 1 b q k) rfl rfl (ix4 0 b q k)
    (fun a ha => match a with | ⟨0, _⟩ => absurd rfl ha | ⟨1, _⟩ => rfl | ⟨2, _⟩ => rfl | ⟨3, _⟩ => rfl) (Nat.add_comm _ _)).trans (latMod_at _ b q k)

/-- The rows of a scan's array, each block of 256 rows interleaved. -/
def fwd (x : FVec Ideal S4x8448x2688 .f32) : FVec Ideal S4x8448x2688 .bf16 :=
  shapeCast S4x8448x2688 (transpose S4x33x32x8x2688 [0, 1, 3, 2, 4] (shapeCast S4x33x8x32x2688 x shapeCasts_S4x8448x2688_S4x33x8x32x2688)
    transposes_S4x33x8x32x2688_S4x33x32x8x2688_0_1_3_2_4) shapeCasts_S4x33x32x8x2688_S4x8448x2688

theorem V_v16 (c : Dev nD) : (V m c main_v16 : Vec Ideal S4x8448x2688 .bf16) = fwd (m ((c : Thread nD τ).loc main_arg2)) := by
  unfold V
  after_reads_simp
  rfl

theorem V_v20 (c : Dev nD) : (V m c main_v20 : Vec Ideal S4x8448x2688 .bf16) = fwd (m ((c : Thread nD τ).loc main_arg3)) := by
  unfold V
  after_reads_simp
  rfl

theorem V_v24 (c : Dev nD) : (V m c main_v24 : Vec Ideal S4x8448x2688 .bf16) = fwd (m ((c : Thread nD τ).loc main_arg4)) := by
  unfold V
  after_reads_simp
  rfl

theorem V_v25 (c : Dev nD) : (V m c main_v25 : Vec Ideal S2688x2048 .bf16) = (m ((c : Thread nD τ).loc main_arg5) : FVec Ideal S2688x2048 .f32) := by
  unfold V
  after_reads_simp
  rfl

theorem fwd_at (x : FVec Ideal S4x8448x2688 .f32) (b : Fin 4) (i i' : Fin 8448) (n : Fin 2688)
    (hi : i'.val = 256 * (i.val / 256) + (32 * (i.val % 256 % 8) + i.val % 256 / 8)) : fwd x (ix3 b i n) = x (ix3 b i' n) := by
  have hA : i.val / 256 < 33 := by omega
  have hB : i.val % 256 / 8 < 32 := by omega
  have hC : i.val % 256 % 8 < 8 := by omega
  unfold fwd
  refine (shapeCast_apply _ shapeCasts_S4x33x32x8x2688_S4x8448x2688 (ix3 b i n) (ix5 b ⟨_, hA⟩ ⟨_, hB⟩ ⟨_, hC⟩ n) ?_).trans ?_
  · rw [Shape.rowMajor_val_five, Shape.rowMajor_val_three]
    show (((b.val * 33 + i.val / 256) * 32 + i.val % 256 / 8) * 8 + i.val % 256 % 8) * 2688 + n.val = (b.val * 8448 + i.val) * 2688 + n.val
    omega
  refine (transpose_apply [0, 1, 3, 2, 4] _ transposes_S4x33x8x32x2688_S4x33x32x8x2688_0_1_3_2_4 (ix5 b ⟨_, hA⟩ ⟨_, hB⟩ ⟨_, hC⟩ n) (ix5 b ⟨_, hA⟩ ⟨_, hC⟩ ⟨_, hB⟩ n)
    fun a => match a with | ⟨0, _⟩ => rfl | ⟨1, _⟩ => rfl | ⟨2, _⟩ => rfl | ⟨3, _⟩ => rfl | ⟨4, _⟩ => rfl).trans ?_
  refine shapeCast_apply x shapeCasts_S4x8448x2688_S4x33x8x32x2688 _ (ix3 b i' n) ?_
  rw [Shape.rowMajor_val_five, Shape.rowMajor_val_three]
  show (b.val * 8448 + i'.val) * 2688 + n.val = (((b.val * 33 + i.val / 256) * 8 + i.val % 256 % 8) * 32 + i.val % 256 / 8) * 2688 + n.val
  omega

/-! ## The blocks -/

theorem t0_eq : ∀ i : grid0.Coords, cc0_transform_0 i = ![(i 0).val, (i 1).val, 0] := by decide +kernel
theorem t1_eq : ∀ i : grid0.Coords, cc0_transform_1 i = ![min (i 1).val 1, (i 0).val, 0, 0] := by decide +kernel
theorem t8_eq : ∀ i : grid0.Coords, cc0_transform_8 i = ![(i 0).val, (i 1).val, 0] := by decide +kernel
theorem t2_eq : ∀ i : grid0.Coords, cc0_transform_2 i = ![(i 0).val, (i 1).val, 0] := by decide +kernel
theorem t3_eq : ∀ i : grid0.Coords, cc0_transform_3 i = ![(i 0).val, (i 1).val, 0] := by decide +kernel
theorem t4_eq : ∀ i : grid0.Coords, cc0_transform_4 i = ![(i 0).val, (i 1).val, 0] := by decide +kernel

section Blocks
variable (c : Dev nD) (t : Fin cfg0.N)

theorem blk0 (p : Fin 256) (k : Fin 2048) (b : Fin 4) (i : Fin 8448) (hb : b.val = (grid0.coords t 0).val) (hi : i.val = 256 * (grid0.coords t 1).val + p.val) :
    iblk m c 0 t (ix3 0 p k) = V m c main_arg0 (ix3 b i k) := by
  refine congrArg (V m c main_arg0 : Vec Ideal S4x8448x2048 .f32) (funext fun d => Fin.ext ?_)
  match d with
  | ⟨0, _⟩ => show cc0_transform_0 (grid0.coords t) 0 * 1 + 1 * 0 = b.val; rw [t0_eq]; show (grid0.coords t 0).val * 1 + 1 * 0 = b.val; omega
  | ⟨1, _⟩ => show cc0_transform_0 (grid0.coords t) 1 * 256 + 1 * p.val = i.val; rw [t0_eq]; show (grid0.coords t 1).val * 256 + 1 * p.val = i.val; omega
  | ⟨2, _⟩ => show cc0_transform_0 (grid0.coords t) 2 * 2048 + 1 * k.val = k.val; rw [t0_eq]; show 0 * 2048 + 1 * k.val = k.val; omega

theorem blk1 (q : Fin 6) (k : Fin 2048) (s : Fin 2) (b : Fin 4) (hs : s.val = min (grid0.coords t 1).val 1) (hb : b.val = (grid0.coords t 0).val) :
    iblk m c 1 t (ix4 0 0 q k) = V m c main_v7 (ix4 s b q k) := by
  refine congrArg (V m c main_v7 : Vec Ideal S2x4x6x2048 .f32) (funext fun d => Fin.ext ?_)
  match d with
  | ⟨0, _⟩ => show cc0_transform_1 (grid0.coords t) 0 * 1 + 1 * 0 = s.val; rw [t1_eq]; show min (grid0.coords t 1).val 1 * 1 + 1 * 0 = s.val; omega
  | ⟨1, _⟩ => show cc0_transform_1 (grid0.coords t) 1 * 1 + 1 * 0 = b.val; rw [t1_eq]; show (grid0.coords t 0).val * 1 + 1 * 0 = b.val; omega
  | ⟨2, _⟩ => show cc0_transform_1 (grid0.coords t) 2 * 6 + 1 * q.val = q.val; rw [t1_eq]; show 0 * 6 + 1 * q.val = q.val; omega
  | ⟨3, _⟩ => show cc0_transform_1 (grid0.coords t) 3 * 2048 + 1 * k.val = k.val; rw [t1_eq]; show 0 * 2048 + 1 * k.val = k.val; omega

theorem blk2 (p : Fin 256) (k : Fin 2688) (b : Fin 4) (i : Fin 8448) (hb : b.val = (grid0.coords t 0).val) (hi : i.val = 256 * (grid0.coords t 1).val + p.val) :
    iblk m c 2 t (ix3 0 p k) = V m c main_v16 (ix3 b i k) := by
  refine congrArg (V m c main_v16 : Vec Ideal S4x8448x2688 .bf16) (funext fun d => Fin.ext ?_)
  match d with
  | ⟨0, _⟩ => show cc0_transform_2 (grid0.coords t) 0 * 1 + 1 * 0 = b.val; rw [t2_eq]; show (grid0.coords t 0).val * 1 + 1 * 0 = b.val; omega
  | ⟨1, _⟩ => show cc0_transform_2 (grid0.coords t) 1 * 256 + 1 * p.val = i.val; rw [t2_eq]; show (grid0.coords t 1).val * 256 + 1 * p.val = i.val; omega
  | ⟨2, _⟩ => show cc0_transform_2 (grid0.coords t) 2 * 2688 + 1 * k.val = k.val; rw [t2_eq]; show 0 * 2688 + 1 * k.val = k.val; omega

theorem blk3 (p : Fin 256) (k : Fin 2688) (b : Fin 4) (i : Fin 8448) (hb : b.val = (grid0.coords t 0).val) (hi : i.val = 256 * (grid0.coords t 1).val + p.val) :
    iblk m c 3 t (ix3 0 p k) = V m c main_v20 (ix3 b i k) := by
  refine congrArg (V m c main_v20 : Vec Ideal S4x8448x2688 .bf16) (funext fun d => Fin.ext ?_)
  match d with
  | ⟨0, _⟩ => show cc0_transform_3 (grid0.coords t) 0 * 1 + 1 * 0 = b.val; rw [t3_eq]; show (grid0.coords t 0).val * 1 + 1 * 0 = b.val; omega
  | ⟨1, _⟩ => show cc0_transform_3 (grid0.coords t) 1 * 256 + 1 * p.val = i.val; rw [t3_eq]; show (grid0.coords t 1).val * 256 + 1 * p.val = i.val; omega
  | ⟨2, _⟩ => show cc0_transform_3 (grid0.coords t) 2 * 2688 + 1 * k.val = k.val; rw [t3_eq]; show 0 * 2688 + 1 * k.val = k.val; omega

theorem blk4 (p : Fin 256) (k : Fin 2688) (b : Fin 4) (i : Fin 8448) (hb : b.val = (grid0.coords t 0).val) (hi : i.val = 256 * (grid0.coords t 1).val + p.val) :
    iblk m c 4 t (ix3 0 p k) = V m c main_v24 (ix3 b i k) := by
  refine congrArg (V m c main_v24 : Vec Ideal S4x8448x2688 .bf16) (funext fun d => Fin.ext ?_)
  match d with
  | ⟨0, _⟩ => show cc0_transform_4 (grid0.coords t) 0 * 1 + 1 * 0 = b.val; rw [t4_eq]; show (grid0.coords t 0).val * 1 + 1 * 0 = b.val; omega
  | ⟨1, _⟩ => show cc0_transform_4 (grid0.coords t) 1 * 256 + 1 * p.val = i.val; rw [t4_eq]; show (grid0.coords t 1).val * 256 + 1 * p.val = i.val; omega
  | ⟨2, _⟩ => show cc0_transform_4 (grid0.coords t) 2 * 2688 + 1 * k.val = k.val; rw [t4_eq]; show 0 * 2688 + 1 * k.val = k.val; omega

theorem blk5 (k : Fin 2688) (n : Fin 2048) : iblk m c 5 t (ix2 k n) = V m c main_v25 (ix2 k n) := by
  refine congrArg (V m c main_v25 : Vec Ideal S2688x2048 .bf16) (funext fun d => Fin.ext ?_)
  match d with
  | ⟨0, _⟩ => show 0 * 2688 + 1 * k.val = k.val; omega
  | ⟨1, _⟩ => show 0 * 2048 + 1 * n.val = n.val; omega

theorem emb8 (r : Fin 256) (n : Fin 2048) (b : Fin 4) (i : Fin 8448) (hb : b.val = (grid0.coords t 0).val) (hi : i.val = 256 * (grid0.coords t 1).val + r.val) :
    ((cfg0.win 8).blk t).view.emb (ix3 0 r n) = (ix3 b i n : S4x8448x2048.Idx) := by
  refine funext fun d => Fin.ext ?_
  match d with
  | ⟨0, _⟩ => show cc0_transform_8 (grid0.coords t) 0 * 1 + 1 * 0 = b.val; rw [t8_eq]; show (grid0.coords t 0).val * 1 + 1 * 0 = b.val; omega
  | ⟨1, _⟩ => show cc0_transform_8 (grid0.coords t) 1 * 256 + 1 * r.val = i.val; rw [t8_eq]; show (grid0.coords t 1).val * 256 + 1 * r.val = i.val; omega
  | ⟨2, _⟩ => show cc0_transform_8 (grid0.coords t) 2 * 2048 + 1 * n.val = n.val; rw [t8_eq]; show 0 * 2048 + 1 * n.val = n.val; omega

/-- A block's row of a scan's array is the sequence's, once put back. -/
theorem scan_at (x : FVec Ideal S4x8448x2688 .f32) (p : Fin 256) (k : Fin 2688) (b : Fin 4) (i : Fin 8448) (hi : i.val = 256 * (grid0.coords t 1).val + p.val)
    (j : Fin 8448) (hj : j.val = 256 * (grid0.coords t 1).val + (dst p).val) : fwd x (ix3 b j k) = x (ix3 b i k) := by
  refine fwd_at x b j i k ?_
  have hp := p.isLt
  have hd : (dst p).val = 8 * (p.val % 32) + p.val / 32 := rfl
  have h1 : j.val / 256 = (grid0.coords t 1).val := by omega
  have h2 : j.val % 256 = 8 * (p.val % 32) + p.val / 32 := by omega
  rw [h1, h2, hi]
  omega

end Blocks

/-- The result. -/
def resA (c : Dev nD) : Vec Ideal S4x8448x2048 .f32 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- A point's block of the result's array. -/
theorem oblk_at (c : Dev nD) (t : Fin cfg0.N) (p : Fin 256) (n : Fin 2048) (b : Fin 4) (i : Fin 8448) (hb : b.val = (grid0.coords t 0).val)
    (hi : i.val = 256 * (grid0.coords t 1).val + p.val) :
    k0_pay14 perm (k0_pay8 (k0_pay2 (iblk m c 2 t) (iblk m c 3 t) (iblk m c 4 t))) (k0_pay9 (iblk m c 1 t)) (iblk m c 0 t) (iblk m c 5 t) (ix3 0 p n)
      = resA m c (ix3 b i n) := by
  have h1 : (grid0.coords t 1).val < 33 := (grid0.coords t 1).isLt
  have hdl := (dst p).isLt
  obtain ⟨j, hj⟩ : ∃ j : Fin 8448, j.val = 256 * (grid0.coords t 1).val + (dst p).val := ⟨⟨_, by omega⟩, rfl⟩
  rw [pay14_at]
  show _ = upd _ _ _ _ _ _ b i n
  unfold upd
  have e0 : iblk m c 0 t (ix3 0 p n) = m ((c : Thread nD τ).loc main_arg0) (ix3 b i n) := (blk0 m c t p n b i hb hi).trans (congrFun (V_main_arg0 m c) _)
  have e1 : iblk m c 1 t (ix4 0 0 2 n) = m ((c : Thread nD τ).loc main_arg1) (ix3 (modRow b i) 2 n) := by
    by_cases h0 : (grid0.coords t 1).val = 0
    · rw [show modRow b i = 4 from if_pos (by omega)]
      exact (blk1 m c t 2 n 0 b (by rw [h0]; rfl) hb).trans (V_v7_ctx m c b 2 n)
    · rw [show modRow b i = ⟨b.val, by omega⟩ from if_neg (by omega)]
      exact (blk1 m c t 2 n 1 b (by show 1 = min (grid0.coords t 1).val 1; omega) hb).trans (V_v7_lat m c b 2 n)
  have e2 : (fun k => iblk m c 2 t (ix3 0 (dst p) k)) = fun k => m ((c : Thread nD τ).loc main_arg2) (ix3 b i k) := funext fun k =>
    (blk2 m c t (dst p) k b j hb hj).trans ((congrFun (V_v16 m c) _).trans (scan_at t _ p k b i hi j hj))
  have e3 : (fun k => iblk m c 3 t (ix3 0 (dst p) k)) = fun k => m ((c : Thread nD τ).loc main_arg3) (ix3 b i k) := funext fun k =>
    (blk3 m c t (dst p) k b j hb hj).trans ((congrFun (V_v20 m c) _).trans (scan_at t _ p k b i hi j hj))
  have e4 : (fun k => iblk m c 4 t (ix3 0 (dst p) k)) = fun k => m ((c : Thread nD τ).loc main_arg4) (ix3 b i k) := funext fun k =>
    (blk4 m c t (dst p) k b j hb hj).trans ((congrFun (V_v24 m c) _).trans (scan_at t _ p k b i hi j hj))
  have e5 : (fun k => iblk m c 5 t (ix2 k n)) = fun k => m ((c : Thread nD τ).loc main_arg5) (ix2 k n) := funext fun k =>
    (blk5 m c t k n).trans (congrFun (V_v25 m c) _)
  exact congr (congr (congr (congr (congr (congrArg entry e0) e1) e2) e3) e4) e5

theorem covers8 : (cfg0.win 8).Covers := by decide +kernel

/-- The result's array after the whole grid. -/
theorem final_x (c : Dev nD) : (dats m 0 c).arrAt 8 cfg0.N = resA m c := by
  refine (dats m 0 c).arrAt_eq_of_covers 8 _ covers8 fun t hf y => ?_
  obtain ⟨r, n, rfl⟩ : ∃ (r : Fin 256) (n : Fin 2048), y = ix3 0 r n :=
    ⟨y (1 : Fin 3), y (2 : Fin 3), (ValueIdx.eq_ix3 (n0 := 1) (n1 := 256) (n2 := 2048) y).trans
      (congrArg (fun z : Fin 1 => ix3 z (y (1 : Fin 3) : Fin 256) (y (2 : Fin 3) : Fin 2048)) (Subsingleton.elim (α := Fin 1) (y (0 : Fin 3)) 0))⟩
  have h0 : (grid0.coords t 0).val < 4 := (grid0.coords t 0).isLt
  have h1 : (grid0.coords t 1).val < 33 := (grid0.coords t 1).isLt
  rw [emb8 t r n ⟨_, h0⟩ ⟨256 * (grid0.coords t 1).val + r.val, by omega⟩ rfl rfl]
  refine (congrFun (after0_8 m c t) (ix3 0 r n)).trans ?_
  by_cases hc : t.val % 132 = 0
  · rw [outsAt0_A m c t hc]
    dsimp only
    rw [out_A]
    exact oblk_at m c t r n _ _ rfl rfl
  · rw [outsAt0_B m c t hc]
    dsimp only
    rw [out_B]
    exact oblk_at m c t r n _ _ rfl rfl

/-- The run: the result's array, and the arguments as they were. -/
theorem value_run :
    θ_run defs (onTc (τ := τ) (main (F := Ideal))) ⟨m, fun _ => 0, ρ⟩ (fun r => ∀ c : Dev nD,
      r.2.mem ((c.tc : Thread nD τ).loc main_v27_0) = resA m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun _ h c => ⟨(h c).1.trans (final_x m c), (h c).2.2.2.2⟩) (Cert.Kernel5Ideal.Value.run_blocks (F := Ideal) m ρ)

end Cert.Kernel5Ideal.Hand

end
-- ==== Proof.RgoRef.lean ====
/-
  The recurrent block's output's reference, entry by entry: each row and its modulation's by the gated scans' product with the weights.
-/
module

public import proofs.«01_k».proof.Proof.Gen.Reference5Ideal.Read
public import proofs.«01_k».proof.Proof.RgoMath
public import proofs.«01_k».proof.Proof.ExpertsMath
public import Idealize.ShloMosaic.Lib.ValueIdx

@[expose] public section

set_option maxRecDepth 16384

noncomputable section

namespace Cert.Reference5Ideal.Hand

open Cert.Reference5Ideal Cert.Reference5Ideal.Gen Cert.Reference5Ideal.Read
open Idealize.ShloMosaic
open Idealize.ShloMosaic.ValueIdx (ix1 ix2 ix3 eq_ix2)
open Cert.Rnn (modRow)
open Cert.Rgo (entry upd result)
open scoped BigOperators

variable (x0 : FVec Ideal S4x8448x2048 .f32) (x1 : FVec Ideal S8x6x2048 .f32) (x2 x3 x4 : FVec Ideal S4x8448x2688 .f32) (x5 : FVec Ideal S2688x2048 .f32)

/-! ## The rows after the context -/

section Latent
variable (b : Fin 4) (p : Fin 8192) (i : Fin 8448) (hi : i.val = 256 + p.val)

include hi in
theorem v13_at (k : Fin 2048) : val_main_v13 (F := Ideal) x0 (ix3 b p k) = x0 (ix3 b i k) := by
  rw [val_main_v13_apply]
  refine congrArg x0 (funext fun a => Fin.ext ?_)
  match a with
  | ⟨0, _⟩ => rfl
  | ⟨1, _⟩ => exact hi.symm
  | ⟨2, _⟩ => rfl

include hi in
theorem v17_at (k : Fin 2688) : val_main_v17 (F := Ideal) x2 (ix3 b p k) = x2 (ix3 b i k) := by
  rw [val_main_v17_apply]
  refine congrArg x2 (funext fun a => Fin.ext ?_)
  match a with
  | ⟨0, _⟩ => rfl
  | ⟨1, _⟩ => exact hi.symm
  | ⟨2, _⟩ => rfl

include hi in
theorem v18_at (k : Fin 2688) : val_main_v18 (F := Ideal) x3 (ix3 b p k) = x3 (ix3 b i k) := by
  rw [val_main_v18_apply]
  refine congrArg x3 (funext fun a => Fin.ext ?_)
  match a with
  | ⟨0, _⟩ => rfl
  | ⟨1, _⟩ => exact hi.symm
  | ⟨2, _⟩ => rfl

include hi in
theorem v19_at (k : Fin 2688) : val_main_v19 (F := Ideal) x4 (ix3 b p k) = x4 (ix3 b i k) := by
  rw [val_main_v19_apply]
  refine congrArg x4 (funext fun a => Fin.ext ?_)
  match a with
  | ⟨0, _⟩ => rfl
  | ⟨1, _⟩ => exact hi.symm
  | ⟨2, _⟩ => rfl

theorem v23_at (k : Fin 2048) : val_main_v23 (F := Ideal) x1 (ix3 b p k) = x1 (ix3 ⟨b.val, Nat.lt_trans b.isLt (by decide)⟩ 2 k) := by
  rw [val_main_v23_apply, val_main_v16_apply, val_main_v15_apply, val_main_v14_apply]
  refine congrArg x1 (funext fun a => Fin.ext ?_)
  match a with
  | ⟨0, _⟩ => show (b.val * 2048 + k.val) / 2048 = b.val; omega
  | ⟨1, _⟩ => rfl
  | ⟨2, _⟩ => show (b.val * 2048 + k.val) % 2048 = k.val; omega

include hi in
theorem v22_at (n : Fin 2048) : val_main_v22 (F := Ideal) x2 x3 x4 x5 (ix3 b p n)
    = ∑ k : Fin 2688, HMul.hMul (α := EReal) (β := EReal) (γ := EReal) (HMul.hMul (α := EReal) (β := EReal) (γ := EReal) (x2 (ix3 b i k))
        (HAdd.hAdd (α := EReal) (β := EReal) (γ := EReal) (x3 (ix3 b i k)) (x4 (ix3 b i k)))) (x5 (ix2 k n)) := by
  rw [val_main_v22_apply]
  refine Finset.sum_congr rfl fun k _ => ?_
  have el : lidx_main_v22 (ix3 b p n) k = ix3 b p k := funext fun a => Fin.ext (match a with | ⟨0, _⟩ => rfl | ⟨1, _⟩ => rfl | ⟨2, _⟩ => rfl)
  have er : ridx_main_v22 (ix3 b p n) k = ix2 k n := funext fun a => Fin.ext (match a with | ⟨0, _⟩ => rfl | ⟨1, _⟩ => rfl)
  rw [el, er, val_main_v21_apply, val_main_v20_apply, v17_at x2 b p i hi, v18_at x3 b p i hi, v19_at x4 b p i hi]
  rfl

include hi in
theorem v25_at (n : Fin 2048) : val_main_v25 (F := Ideal) x0 x1 x2 x3 x4 x5 (ix3 b p n) = upd x0 x1 x2 x3 x4 x5 b i n := by
  rw [val_main_v25_apply, val_main_v24_apply, v23_at, v22_at x2 x3 x4 x5 b p i hi, v13_at x0 b p i hi]
  unfold upd entry
  rw [show modRow b i = ⟨b.val, Nat.lt_trans b.isLt (by decide)⟩ from if_neg (by omega)]
  rfl

end Latent

/-! ## The context's rows -/

section Context
variable (b : Fin 4) (p : Fin 256) (i : Fin 8448) (hi : i.val = p.val)

include hi in
theorem v0_at (k : Fin 2048) : val_main_v0 (F := Ideal) x0 (ix3 b p k) = x0 (ix3 b i k) := by
  rw [val_main_v0_apply]
  refine congrArg x0 (funext fun a => Fin.ext ?_)
  match a with
  | ⟨0, _⟩ => rfl
  | ⟨1, _⟩ => exact hi.symm
  | ⟨2, _⟩ => rfl

include hi in
theorem v3_at (k : Fin 2688) : val_main_v3 (F := Ideal) x2 (ix3 b p k) = x2 (ix3 b i k) := by
  rw [val_main_v3_apply]
  refine congrArg x2 (funext fun a => Fin.ext ?_)
  match a with
  | ⟨0, _⟩ => rfl
  | ⟨1, _⟩ => exact hi.symm
  | ⟨2, _⟩ => rfl

include hi in
theorem v4_at (k : Fin 2688) : val_main_v4 (F := Ideal) x3 (ix3 b p k) = x3 (ix3 b i k) := by
  rw [val_main_v4_apply]
  refine congrArg x3 (funext fun a => Fin.ext ?_)
  match a with
  | ⟨0, _⟩ => rfl
  | ⟨1, _⟩ => exact hi.symm
  | ⟨2, _⟩ => rfl

include hi in
theorem v5_at (k : Fin 2688) : val_main_v5 (F := Ideal) x4 (ix3 b p k) = x4 (ix3 b i k) := by
  rw [val_main_v5_apply]
  refine congrArg x4 (funext fun a => Fin.ext ?_)
  match a with
  | ⟨0, _⟩ => rfl
  | ⟨1, _⟩ => exact hi.symm
  | ⟨2, _⟩ => rfl

theorem v10_at (k : Fin 2048) : val_main_v10 (F := Ideal) x1 (ix3 b p k) = x1 (ix3 4 2 k) := by
  rw [val_main_v10_apply, val_main_v9_apply, val_main_v2_apply, val_main_v1_apply]
  refine congrArg x1 (funext fun a => Fin.ext ?_)
  match a with
  | ⟨0, _⟩ => rfl
  | ⟨1, _⟩ => rfl
  | ⟨2, _⟩ => show k.val % 2048 = k.val; omega

include hi in
theorem v8_at (n : Fin 2048) : val_main_v8 (F := Ideal) x2 x3 x4 x5 (ix3 b p n)
    = ∑ k : Fin 2688, HMul.hMul (α := EReal) (β := EReal) (γ := EReal) (HMul.hMul (α := EReal) (β := EReal) (γ := EReal) (x2 (ix3 b i k))
        (HAdd.hAdd (α := EReal) (β := EReal) (γ := EReal) (x3 (ix3 b i k)) (x4 (ix3 b i k)))) (x5 (ix2 k n)) := by
  rw [val_main_v8_apply]
  refine Finset.sum_congr rfl fun k _ => ?_
  have el : lidx_main_v8 (ix3 b p n) k = ix3 b p k := funext fun a => Fin.ext (match a with | ⟨0, _⟩ => rfl | ⟨1, _⟩ => rfl | ⟨2, _⟩ => rfl)
  have er : ridx_main_v8 (ix3 b p n) k = ix2 k n := funext fun a => Fin.ext (match a with | ⟨0, _⟩ => rfl | ⟨1, _⟩ => rfl)
  rw [el, er, val_main_v7_apply, val_main_v6_apply, v3_at x2 b p i hi, v4_at x3 b p i hi, v5_at x4 b p i hi]
  rfl

include hi in
theorem v12_at (n : Fin 2048) : val_main_v12 (F := Ideal) x0 x1 x2 x3 x4 x5 (ix3 b p n) = upd x0 x1 x2 x3 x4 x5 b i n := by
  rw [val_main_v12_apply, val_main_v11_apply, v10_at, v8_at x2 x3 x4 x5 b p i hi, v0_at x0 b p i hi]
  unfold upd entry
  rw [show modRow b i = 4 from if_pos (by omega)]
  rfl

end Context

/-- The reference's result. -/
theorem ref_result : val_main_v26 (F := Ideal) x0 x1 x2 x3 x4 x5 = result x0 x1 x2 x3 x4 x5 := by
  funext y
  obtain ⟨b, i, n, rfl⟩ : ∃ b i n, y = ix3 b i n := ⟨_, _, _, ValueIdx.eq_ix3 (n0 := 4) (n1 := 8448) (n2 := 2048) y⟩
  show _ = upd x0 x1 x2 x3 x4 x5 b i n
  unfold val_main_v26
  by_cases h : i.val < 256
  · refine (concatenate_pair_apply_left (t := S4x8448x2048) (s₁ := S4x256x2048) 1 _ _ concatenates_S4x256x2048_S4x8192x2048_S4x8448x2048_d1 (ix3 b i n) rfl (ix3 b ⟨i.val, h⟩ n)
      (fun a => match a with | ⟨0, _⟩ => rfl | ⟨1, _⟩ => rfl | ⟨2, _⟩ => rfl)).trans ?_
    exact v12_at x0 x1 x2 x3 x4 x5 b ⟨i.val, h⟩ i rfl n
  · have hp : i.val - 256 < 8192 := by omega
    refine (concatenate_pair_apply_right (t := S4x8448x2048) (s₁ := S4x256x2048) 1 _ _ concatenates_S4x256x2048_S4x8192x2048_S4x8448x2048_d1 (ix3 b i n) rfl rfl (ix3 b ⟨i.val - 256, hp⟩ n)
      (fun a ha => match a with | ⟨0, _⟩ => rfl | ⟨1, _⟩ => absurd rfl ha | ⟨2, _⟩ => rfl) (by show i.val - 256 + 256 = i.val; omega)).trans ?_
    exact v25_at x0 x1 x2 x3 x4 x5 b ⟨i.val - 256, hp⟩ i (by show i.val = 256 + (i.val - 256); omega) n

end Cert.Reference5Ideal.Hand

end
-- ==== Proof.lean ====
module

public import proofs.«01_k».proof.Defs
public import proofs.«01_k».proof.Proof.FrameKernel
public import proofs.«01_k».proof.Proof.FrameKernelIdeal
public import proofs.«01_k».proof.Proof.RefValue
public import proofs.«01_k».proof.Proof.Value
public import proofs.«01_k».proof.Proof.Finite
public import proofs.«01_k».proof.Proof.Gen.ReferenceIdeal
public import proofs.«01_k».proof.Proof.ExpertsFrameBits
public import proofs.«01_k».proof.Proof.ExpertsValue
public import proofs.«01_k».proof.Proof.ExpertsRef
public import proofs.«01_k».proof.Proof.RnnValue
public import proofs.«01_k».proof.Proof.RnnRef
public import proofs.«01_k».proof.Proof.Gen.Kernel3.Frame
public import proofs.«01_k».proof.Proof.AinValue
public import proofs.«01_k».proof.Proof.AinRef
public import proofs.«01_k».proof.Proof.Gen.Kernel4.Frame
public import proofs.«01_k».proof.Proof.RgoValue
public import proofs.«01_k».proof.Proof.RgoRef
public import proofs.«01_k».proof.Proof.Gen.Kernel5.Frame
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The kernel's frame over the machine's floats. -/
theorem kernel_quiescent : @Cert.quiescent_Kernel Cert.Kernel.Gen.facts := fun m g _ =>
  Cert.Kernel.Hand.frame_run (F := Bits) m g

/-- The kernel's frame over the extended reals. -/
theorem kernelIdeal_quiescent : @Cert.quiescent_KernelIdeal Cert.KernelIdeal.Gen.facts := fun m g _ =>
  Cert.KernelIdeal.Hand.frame_run (F := Ideal) m g

/-- The reference's frame over the extended reals. -/
theorem reference_quiescent : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- The precondition makes every entry of the arguments a real number. -/
theorem numbers (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Hand.Numbers m c :=
  let a := Cert.Pre_finite.Hand.all_real _ _ _ (h c)
  ⟨a.1, a.2.1, a.2.2⟩

/-- The reference's array is the kernel's. -/
theorem same (m : (ℓ : Loc Cert.KernelIdeal.nD Cert.KernelIdeal.τ Cert.KernelIdeal.sig) → Buf (Elt Ideal) ℓ)
    (c : Dev Cert.KernelIdeal.nD) (H : Cert.KernelIdeal.Hand.Numbers m c) :
    Cert.ReferenceIdeal.Read.val_main_v46 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = Cert.KernelIdeal.Hand.resA m c := by
  funext y
  obtain ⟨b, i, ch, rfl⟩ : ∃ b i ch, y = ValueIdx.ix3 b i ch := ⟨_, _, _, ValueIdx.eq_ix3 (n0 := 4) (n1 := 8448) (n2 := 1536) y⟩
  exact Cert.ReferenceIdeal.Hand.ref_value ⟨fun b i ch => H.q b i ch, fun b j ch => H.k b j ch, fun b j ch => H.v b j ch⟩ b i ch

/-- Both compute the same extended reals. -/
theorem same_value : @Cert.algebraic_KernelIdeal_ReferenceIdeal_pre_finite Cert.KernelIdeal.Gen.facts Cert.ReferenceIdeal.Gen.facts
    Cert.Pre_finite.Hand.facts := fun m g m' g' hpre hagree => by
  have H := numbers m hpre
  refine ⟨Cert.KernelIdeal.Hand.resA m, Cert.KernelIdeal.Hand.value_run m g H, ?_⟩
  refine (θ_run Cert.ReferenceIdeal.defs _ _).mono (fun r h c => ⟨?_, (h c).2⟩) (Cert.ReferenceIdeal.Value.run (F := Ideal) m' g')
  rw [(h c).1, Cert.ReferenceIdeal.Read.val_main_v46_eq, (hagree c).1, (hagree c).2.1, (hagree c).2.2]
  exact same m c (H c)

/-- The experts' frame over the machine's floats. -/
theorem kernel2_quiescent : @Cert.quiescent_Kernel2 Cert.Kernel2.Gen.facts := fun m g _ =>
  Cert.Kernel2.Hand.frame_run (F := Bits) m g

/-- The experts' frame over the extended reals. -/
theorem kernel2Ideal_quiescent : @Cert.quiescent_Kernel2Ideal Cert.Kernel2Ideal.Gen.facts := fun m g _ =>
  Cert.Kernel2Ideal.Hand.frame_run (F := Ideal) m g

/-- The frame of the experts' reference over the extended reals. -/
theorem reference2_quiescent : @Cert.quiescent_Reference2Ideal Cert.Reference2Ideal.Gen.facts := fun m g _ =>
  (θ_run Cert.Reference2Ideal.defs _ _).mono (fun r h => ⟨fun c => (h c).2, sem_eq_zero_of_no_sems (by decide) r.2⟩)
    (Cert.Reference2Ideal.Value.run (F := Ideal) m g)

/-- The experts' kernel and reference compute the same extended reals. -/
theorem same_value2 : @Cert.algebraic_Kernel2Ideal_Reference2Ideal Cert.Kernel2Ideal.Gen.facts Cert.Reference2Ideal.Gen.facts :=
  fun m g m' g' _ hagree => by
    refine ⟨Cert.Kernel2Ideal.Hand.resA m, Cert.Kernel2Ideal.Hand.value_run m g, ?_⟩
    refine (θ_run Cert.Reference2Ideal.defs _ _).mono (fun r h c => ⟨?_, (h c).2⟩) (Cert.Reference2Ideal.Value.run (F := Ideal) m' g')
    rw [(h c).1, Cert.Reference2Ideal.Read.val_main_v74_eq, (hagree c).1, (hagree c).2.1, (hagree c).2.2.1, (hagree c).2.2.2.1, (hagree c).2.2.2.2.1,
      (hagree c).2.2.2.2.2]
    exact Cert.Reference2Ideal.Hand.ref_result _ _ _ _ _ _

/-- The projection's frame over the machine's floats. -/
theorem kernel3_quiescent : @Cert.quiescent_Kernel3 Cert.Kernel3.Gen.facts := fun m g _ =>
  Cert.Kernel3.Gen.frame (F := Bits) m g

/-- The projection's frame over the extended reals. -/
theorem kernel3Ideal_quiescent : @Cert.quiescent_Kernel3Ideal Cert.Kernel3Ideal.Gen.facts := fun m g _ =>
  Cert.Kernel3Ideal.Gen.frame (F := Ideal) m g

/-- The frame of the projection's reference over the extended reals. -/
theorem reference3_quiescent : @Cert.quiescent_Reference3Ideal Cert.Reference3Ideal.Gen.facts := fun m g _ =>
  (θ_run Cert.Reference3Ideal.defs _ _).mono (fun r h => ⟨fun c => (h c).2, sem_eq_zero_of_no_sems (by decide) r.2⟩)
    (Cert.Reference3Ideal.Value.run (F := Ideal) m g)

/-- The projection's kernel and reference compute the same extended reals. -/
theorem same_value3 : @Cert.algebraic_Kernel3Ideal_Reference3Ideal Cert.Kernel3Ideal.Gen.facts Cert.Reference3Ideal.Gen.facts :=
  fun m g m' g' _ hagree => by
    refine ⟨Cert.Kernel3Ideal.Hand.resA m, Cert.Kernel3Ideal.Hand.value_run m g, ?_⟩
    refine (θ_run Cert.Reference3Ideal.defs _ _).mono (fun r h c => ⟨?_, (h c).2⟩) (Cert.Reference3Ideal.Value.run (F := Ideal) m' g')
    rw [(h c).1, Cert.Reference3Ideal.Read.val_main_v52_eq, (hagree c).1, (hagree c).2.1, (hagree c).2.2]
    exact Cert.Reference3Ideal.Hand.ref_result _ _ _

/-- The frame of the attention's projections over the machine's floats. -/
theorem kernel4_quiescent : @Cert.quiescent_Kernel4 Cert.Kernel4.Gen.facts := fun m g _ =>
  Cert.Kernel4.Gen.frame (F := Bits) m g

/-- The frame of the attention's projections over the extended reals. -/
theorem kernel4Ideal_quiescent : @Cert.quiescent_Kernel4Ideal Cert.Kernel4Ideal.Gen.facts := fun m g _ =>
  Cert.Kernel4Ideal.Gen.frame (F := Ideal) m g

/-- The frame of the attention's projections' reference over the extended reals. -/
theorem reference4_quiescent : @Cert.quiescent_Reference4Ideal Cert.Reference4Ideal.Gen.facts := fun m g _ =>
  (θ_run Cert.Reference4Ideal.defs _ _).mono (fun r h => ⟨fun c => (h c).2.2.2.2, sem_eq_zero_of_no_sems (by decide) r.2⟩)
    (Cert.Reference4Ideal.Value.run (F := Ideal) m g)

/-- The attention's projections' kernel and reference compute the same extended reals. -/
theorem same_value4 : @Cert.algebraic_Kernel4Ideal_Reference4Ideal Cert.Kernel4Ideal.Gen.facts Cert.Reference4Ideal.Gen.facts :=
  fun m g m' g' _ hagree => by
    refine ⟨Cert.Kernel4Ideal.Hand.qA m, Cert.Kernel4Ideal.Hand.kA m, Cert.Kernel4Ideal.Hand.vA m, Cert.Kernel4Ideal.Hand.pA m, Cert.Kernel4Ideal.Hand.value_run m g, ?_⟩
    refine (θ_run Cert.Reference4Ideal.defs _ _).mono (fun r h c => ⟨?_, ?_, ?_, ?_, (h c).2.2.2.2⟩) (Cert.Reference4Ideal.Value.run (F := Ideal) m' g')
    · refine ((h c).1).trans ((Cert.Reference4Ideal.Read.val_main_v183_eq (F := Ideal) (StableHlo.launchContents m' c)).trans ?_)
      show Cert.Reference4Ideal.Read.val_main_v183 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg5))
        (m' ((c.tc : Thread Cert.Reference4Ideal.nD Cert.Reference4Ideal.τ).loc Cert.Reference4Ideal.main_arg6))
        (m' ((c.tc : Thread Cert.Reference4Ideal.nD Cert.Reference4Ideal.τ).loc Cert.Reference4Ideal.main_arg7))
        (m' ((c.tc : Thread Cert.Reference4Ideal.nD Cert.Reference4Ideal.τ).loc Cert.Reference4Ideal.main_arg8)) = _
      rw [(hagree c).1, (hagree c).2.1, (hagree c).2.2.1, (hagree c).2.2.2.1, (hagree c).2.2.2.2.2.1, (hagree c).2.2.2.2.2.2.1, (hagree c).2.2.2.2.2.2.2.1, (hagree c).2.2.2.2.2.2.2.2]
      exact Cert.Reference4Ideal.Hand.ref_q _ _ _ _ _ _ _ _
    · refine ((h c).2.1).trans ((Cert.Reference4Ideal.Read.val_main_v184_eq (F := Ideal) (StableHlo.launchContents m' c)).trans ?_)
      show Cert.Reference4Ideal.Read.val_main_v184 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg4))
        (m' ((c.tc : Thread Cert.Reference4Ideal.nD Cert.Reference4Ideal.τ).loc Cert.Reference4Ideal.main_arg5))
        (m' ((c.tc : Thread Cert.Reference4Ideal.nD Cert.Reference4Ideal.τ).loc Cert.Reference4Ideal.main_arg6))
        (m' ((c.tc : Thread Cert.Reference4Ideal.nD Cert.Reference4Ideal.τ).loc Cert.Reference4Ideal.main_arg7))
        (m' ((c.tc : Thread Cert.Reference4Ideal.nD Cert.Reference4Ideal.τ).loc Cert.Reference4Ideal.main_arg8)) = _
      rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2]
      exact Cert.Reference4Ideal.Hand.ref_k _ _ _ _ _ _ _ _
    · refine ((h c).2.2.1).trans ((Cert.Reference4Ideal.Read.val_main_v185_eq (F := Ideal) (StableHlo.launchContents m' c)).trans ?_)
      show Cert.Reference4Ideal.Read.val_main_v185 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2)) = _
      rw [(hagree c).1, (hagree c).2.1, (hagree c).2.2.1]
      exact Cert.Reference4Ideal.Hand.ref_v _ _ _
    · refine ((h c).2.2.2.1).trans ((Cert.Reference4Ideal.Read.val_main_v182_eq (F := Ideal) (StableHlo.launchContents m' c)).trans ?_)
      show Cert.Reference4Ideal.Read.val_main_v182 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2)) = _
      rw [(hagree c).1, (hagree c).2.1, (hagree c).2.2.1]
      exact Cert.Reference4Ideal.Hand.ref_p _ _ _

/-- The frame of the recurrent block's output over the machine's floats. -/
theorem kernel5_quiescent : @Cert.quiescent_Kernel5 Cert.Kernel5.Gen.facts := fun m g _ =>
  Cert.Kernel5.Gen.frame (F := Bits) m g

/-- The frame of the recurrent block's output over the extended reals. -/
theorem kernel5Ideal_quiescent : @Cert.quiescent_Kernel5Ideal Cert.Kernel5Ideal.Gen.facts := fun m g _ =>
  Cert.Kernel5Ideal.Gen.frame (F := Ideal) m g

/-- The frame of the reference of the recurrent block's output over the extended reals. -/
theorem reference5_quiescent : @Cert.quiescent_Reference5Ideal Cert.Reference5Ideal.Gen.facts := fun m g _ =>
  (θ_run Cert.Reference5Ideal.defs _ _).mono (fun r h => ⟨fun c => (h c).2, sem_eq_zero_of_no_sems (by decide) r.2⟩)
    (Cert.Reference5Ideal.Value.run (F := Ideal) m g)

/-- The packed words of the recurrent block's output, each by its rule. -/
theorem preserves5 : Cert.preserves_Kernel5_Kernel5Ideal :=
  ⟨IdealRules.bf16_pair.bufferStatement _ _, IdealRules.bf16_pair.bufferStatement _ _, IdealRules.bf16_pair.statement _ _,
    IdealRules.bf16_pack.statement _⟩

/-- The kernel and the reference of the recurrent block's output compute the same extended reals. -/
theorem same_value5 : @Cert.algebraic_Kernel5Ideal_Reference5Ideal Cert.Kernel5Ideal.Gen.facts Cert.Reference5Ideal.Gen.facts :=
  fun m g m' g' _ hagree => by
    refine ⟨Cert.Kernel5Ideal.Hand.resA m, Cert.Kernel5Ideal.Hand.value_run m g, ?_⟩
    refine (θ_run Cert.Reference5Ideal.defs _ _).mono (fun r h c => ⟨?_, (h c).2⟩) (Cert.Reference5Ideal.Value.run (F := Ideal) m' g')
    rw [(h c).1, Cert.Reference5Ideal.Read.val_main_v26_eq, (hagree c).1, (hagree c).2.1, (hagree c).2.2.1, (hagree c).2.2.2.1, (hagree c).2.2.2.2.1,
      (hagree c).2.2.2.2.2.1]
    exact Cert.Reference5Ideal.Hand.ref_result _ _ _ _ _ _

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts, Cert.Pre_finite.Hand.facts,
    kernel_quiescent, kernelIdeal_quiescent, fun m g _ => kernelIdeal_quiescent m g trivial, reference_quiescent,
    fun m g _ => reference_quiescent m g trivial, kernel2_quiescent, kernel2Ideal_quiescent, reference2_quiescent, kernel3_quiescent,
    kernel3Ideal_quiescent, reference3_quiescent, kernel4_quiescent, kernel4Ideal_quiescent, reference4_quiescent, kernel5_quiescent, kernel5Ideal_quiescent,
    reference5_quiescent, trivial, same_value, trivial, same_value2, trivial, same_value3, trivial, same_value4, preserves5, same_value5⟩

end Cert.Proof

end
